-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Moe [hPre_tables : Cert.Pre_tables.Facts] (m : (ℓ : Loc Cert.Moe.nD Cert.Moe.τ Cert.Moe.sig) → Buf (Elt Bits) ℓ) : Prop :=
  ∀ c : Dev Cert.Moe.nD,
    (Cert.Pre_tables.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6))) = (fun _ => 1#1)

def Pre_MoeIdeal [hPre_tables : Cert.Pre_tables.Facts] (m : (ℓ : Loc Cert.MoeIdeal.nD Cert.MoeIdeal.τ Cert.MoeIdeal.sig) → Buf (Elt Ideal) ℓ) : Prop :=
  ∀ c : Dev Cert.MoeIdeal.nD,
    (Cert.Pre_tables.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))) = (fun _ => 1#1)

def Pre_MoeRefIdeal [hPre_tables : Cert.Pre_tables.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_tables.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def Pre_VProj (m : (ℓ : Loc Cert.VProj.nD Cert.VProj.τ Cert.VProj.sig) → Buf (Elt Bits) ℓ) : Prop :=
  True

def Pre_VProjIdeal (m : (ℓ : Loc Cert.VProjIdeal.nD Cert.VProjIdeal.τ Cert.VProjIdeal.sig) → Buf (Elt Ideal) ℓ) : Prop :=
  True

def Pre_VProjRefIdeal (m : (ℓ : Loc Cert.VProjRefIdeal.nD Cert.VProjRefIdeal.τ Cert.VProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_RopeQ (m : (ℓ : Loc Cert.RopeQ.nD Cert.RopeQ.τ Cert.RopeQ.sig) → Buf (Elt Bits) ℓ) : Prop :=
  True

def Pre_RopeQIdeal (m : (ℓ : Loc Cert.RopeQIdeal.nD Cert.RopeQIdeal.τ Cert.RopeQIdeal.sig) → Buf (Elt Ideal) ℓ) : Prop :=
  True

def Pre_RopeQRefIdeal (m : (ℓ : Loc Cert.RopeQRefIdeal.nD Cert.RopeQRefIdeal.τ Cert.RopeQRefIdeal.sig) → Buf (Elt Ideal) ℓ) : Prop :=
  True

def Pre_RopeK (m : (ℓ : Loc Cert.RopeK.nD Cert.RopeK.τ Cert.RopeK.sig) → Buf (Elt Bits) ℓ) : Prop :=
  True

def Pre_RopeKIdeal (m : (ℓ : Loc Cert.RopeKIdeal.nD Cert.RopeKIdeal.τ Cert.RopeKIdeal.sig) → Buf (Elt Ideal) ℓ) : Prop :=
  True

def Pre_RopeKRefIdeal (m : (ℓ : Loc Cert.RopeKRefIdeal.nD Cert.RopeKRefIdeal.τ Cert.RopeKRefIdeal.sig) → Buf (Elt Ideal) ℓ) : Prop :=
  True

def Pre_RopeIx (m : (ℓ : Loc Cert.RopeIx.nD Cert.RopeIx.τ Cert.RopeIx.sig) → Buf (Elt Bits) ℓ) : Prop :=
  True

def Pre_RopeIxIdeal (m : (ℓ : Loc Cert.RopeIxIdeal.nD Cert.RopeIxIdeal.τ Cert.RopeIxIdeal.sig) → Buf (Elt Ideal) ℓ) : Prop :=
  True

def Pre_RopeIxRefIdeal (m : (ℓ : Loc Cert.RopeIxRefIdeal.nD Cert.RopeIxRefIdeal.τ Cert.RopeIxRefIdeal.sig) → Buf (Elt Ideal) ℓ) : Prop :=
  True

def Pre_RopeKix (m : (ℓ : Loc Cert.RopeKix.nD Cert.RopeKix.τ Cert.RopeKix.sig) → Buf (Elt Bits) ℓ) : Prop :=
  True

def Pre_RopeKixIdeal (m : (ℓ : Loc Cert.RopeKixIdeal.nD Cert.RopeKixIdeal.τ Cert.RopeKixIdeal.sig) → Buf (Elt Ideal) ℓ) : Prop :=
  True

def Pre_RopeKixRefIdeal (m : (ℓ : Loc Cert.RopeKixRefIdeal.nD Cert.RopeKixRefIdeal.τ Cert.RopeKixRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_finite [hPre_finite : Cert.Pre_finite.Facts] (m : (ℓ : Loc Cert.RouterIdeal.nD Cert.RouterIdeal.τ Cert.RouterIdeal.sig) → Buf (Elt Ideal) ℓ) : Prop :=
  ∀ c : Dev Cert.RouterIdeal.nD,
    (Cert.Pre_finite.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1))) = (fun _ => 1#1)

def Pre_RouterRefIdeal (m : (ℓ : Loc Cert.RouterRefIdeal.nD Cert.RouterRefIdeal.τ Cert.RouterRefIdeal.sig) → Buf (Elt Ideal) ℓ) : Prop :=
  True

def Pre_RouterRefIdeal_finite [hPre_finite : Cert.Pre_finite.Facts] (m : (ℓ : Loc Cert.RouterRefIdeal.nD Cert.RouterRefIdeal.τ Cert.RouterRefIdeal.sig) → Buf (Elt Ideal) ℓ) : Prop :=
  ∀ c : Dev Cert.RouterRefIdeal.nD,
    (Cert.Pre_finite.fn (F := Ideal) (m ((c.tc : Thread Cert.RouterRefIdeal.nD Cert.RouterRefIdeal.τ).loc Cert.RouterRefIdeal.main_arg0)) (m ((c.tc : Thread Cert.RouterRefIdeal.nD Cert.RouterRefIdeal.τ).loc Cert.RouterRefIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Moe [hMoe : Cert.Moe.Facts] [hPre_tables : Cert.Pre_tables.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6))
      ∧ r.2.sem = fun _ => 0)

def quiescent_MoeIdeal [hMoeIdeal : Cert.MoeIdeal.Facts] [hPre_tables : Cert.Pre_tables.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeRefIdeal [hMoeRefIdeal : Cert.MoeRefIdeal.Facts] [hPre_tables : Cert.Pre_tables.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0)
      ∧ r.2.mem ((c.tc : Thread Cert.SmallRefIdeal.nD Cert.SmallRefIdeal.τ).loc Cert.SmallRefIdeal.main_arg1) = m ((c.tc : Thread Cert.SmallRefIdeal.nD Cert.SmallRefIdeal.τ).loc Cert.SmallRefIdeal.main_arg1))
      ∧ r.2.sem = fun _ => 0)

def quiescent_VProj [hVProj : Cert.VProj.Facts] : Prop :=
  ∀ (m : (ℓ : Loc Cert.VProj.nD Cert.VProj.τ Cert.VProj.sig) → Buf (Elt Bits) ℓ) (g : Dev Cert.VProj.nD → PrngReg), Pre_VProj m →
    θ_run (Cert.VProj.defs (F := Bits)) (onTc (τ := Cert.VProj.τ) (Cert.VProj.main (F := Bits))) ⟨m, fun _ => 0, g⟩ (fun r => (∀ c : Dev Cert.VProj.nD,
      r.2.mem ((c.tc : Thread Cert.VProj.nD Cert.VProj.τ).loc Cert.VProj.main_arg0) = m ((c.tc : Thread Cert.VProj.nD Cert.VProj.τ).loc Cert.VProj.main_arg0)
      ∧ r.2.mem ((c.tc : Thread Cert.VProj.nD Cert.VProj.τ).loc Cert.VProj.main_arg1) = m ((c.tc : Thread Cert.VProj.nD Cert.VProj.τ).loc Cert.VProj.main_arg1))
      ∧ r.2.sem = fun _ => 0)

def quiescent_VProjIdeal [hVProjIdeal : Cert.VProjIdeal.Facts] : Prop :=
  ∀ (m : (ℓ : Loc Cert.VProjIdeal.nD Cert.VProjIdeal.τ Cert.VProjIdeal.sig) → Buf (Elt Ideal) ℓ) (g : Dev Cert.VProjIdeal.nD → PrngReg), Pre_VProjIdeal m →
    θ_run (Cert.VProjIdeal.defs (F := Ideal)) (onTc (τ := Cert.VProjIdeal.τ) (Cert.VProjIdeal.main (F := Ideal))) ⟨m, fun _ => 0, g⟩ (fun r => (∀ c : Dev Cert.VProjIdeal.nD,
      r.2.mem ((c.tc : Thread Cert.VProjIdeal.nD Cert.VProjIdeal.τ).loc Cert.VProjIdeal.main_arg0) = m ((c.tc : Thread Cert.VProjIdeal.nD Cert.VProjIdeal.τ).loc Cert.VProjIdeal.main_arg0)
      ∧ r.2.mem ((c.tc : Thread Cert.VProjIdeal.nD Cert.VProjIdeal.τ).loc Cert.VProjIdeal.main_arg1) = m ((c.tc : Thread Cert.VProjIdeal.nD Cert.VProjIdeal.τ).loc Cert.VProjIdeal.main_arg1))
      ∧ r.2.sem = fun _ => 0)

def quiescent_VProjRefIdeal [hVProjRefIdeal : Cert.VProjRefIdeal.Facts] : Prop :=
  ∀ (m : (ℓ : Loc Cert.VProjRefIdeal.nD Cert.VProjRefIdeal.τ Cert.VProjRefIdeal.sig) → Buf (Elt Ideal) ℓ) (g : Dev Cert.VProjRefIdeal.nD → PrngReg), Pre_VProjRefIdeal m →
    θ_run (Cert.VProjRefIdeal.defs (F := Ideal)) (onTc (τ := Cert.VProjRefIdeal.τ) (Cert.VProjRefIdeal.main (F := Ideal))) ⟨m, fun _ => 0, g⟩ (fun r => (∀ c : Dev Cert.VProjRefIdeal.nD,
      r.2.mem ((c.tc : Thread Cert.VProjRefIdeal.nD Cert.VProjRefIdeal.τ).loc Cert.VProjRefIdeal.main_arg0) = m ((c.tc : Thread Cert.VProjRefIdeal.nD Cert.VProjRefIdeal.τ).loc Cert.VProjRefIdeal.main_arg0)
      ∧ r.2.mem ((c.tc : Thread Cert.VProjRefIdeal.nD Cert.VProjRefIdeal.τ).loc Cert.VProjRefIdeal.main_arg1) = m ((c.tc : Thread Cert.VProjRefIdeal.nD Cert.VProjRefIdeal.τ).loc Cert.VProjRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_RopeQ [hRopeQ : Cert.RopeQ.Facts] : Prop :=
  ∀ (m : (ℓ : Loc Cert.RopeQ.nD Cert.RopeQ.τ Cert.RopeQ.sig) → Buf (Elt Bits) ℓ) (g : Dev Cert.RopeQ.nD → PrngReg), Pre_RopeQ m →
    θ_run (Cert.RopeQ.defs (F := Bits)) (onTc (τ := Cert.RopeQ.τ) (Cert.RopeQ.main (F := Bits))) ⟨m, fun _ => 0, g⟩ (fun r => (∀ c : Dev Cert.RopeQ.nD,
      r.2.mem ((c.tc : Thread Cert.RopeQ.nD Cert.RopeQ.τ).loc Cert.RopeQ.main_arg0) = m ((c.tc : Thread Cert.RopeQ.nD Cert.RopeQ.τ).loc Cert.RopeQ.main_arg0)
      ∧ r.2.mem ((c.tc : Thread Cert.RopeQ.nD Cert.RopeQ.τ).loc Cert.RopeQ.main_arg1) = m ((c.tc : Thread Cert.RopeQ.nD Cert.RopeQ.τ).loc Cert.RopeQ.main_arg1)
      ∧ r.2.mem ((c.tc : Thread Cert.RopeQ.nD Cert.RopeQ.τ).loc Cert.RopeQ.main_arg2) = m ((c.tc : Thread Cert.RopeQ.nD Cert.RopeQ.τ).loc Cert.RopeQ.main_arg2))
      ∧ r.2.sem = fun _ => 0)

def quiescent_RopeQIdeal [hRopeQIdeal : Cert.RopeQIdeal.Facts] : Prop :=
  ∀ (m : (ℓ : Loc Cert.RopeQIdeal.nD Cert.RopeQIdeal.τ Cert.RopeQIdeal.sig) → Buf (Elt Ideal) ℓ) (g : Dev Cert.RopeQIdeal.nD → PrngReg), Pre_RopeQIdeal m →
    θ_run (Cert.RopeQIdeal.defs (F := Ideal)) (onTc (τ := Cert.RopeQIdeal.τ) (Cert.RopeQIdeal.main (F := Ideal))) ⟨m, fun _ => 0, g⟩ (fun r => (∀ c : Dev Cert.RopeQIdeal.nD,
      r.2.mem ((c.tc : Thread Cert.RopeQIdeal.nD Cert.RopeQIdeal.τ).loc Cert.RopeQIdeal.main_arg0) = m ((c.tc : Thread Cert.RopeQIdeal.nD Cert.RopeQIdeal.τ).loc Cert.RopeQIdeal.main_arg0)
      ∧ r.2.mem ((c.tc : Thread Cert.RopeQIdeal.nD Cert.RopeQIdeal.τ).loc Cert.RopeQIdeal.main_arg1) = m ((c.tc : Thread Cert.RopeQIdeal.nD Cert.RopeQIdeal.τ).loc Cert.RopeQIdeal.main_arg1)
      ∧ r.2.mem ((c.tc : Thread Cert.RopeQIdeal.nD Cert.RopeQIdeal.τ).loc Cert.RopeQIdeal.main_arg2) = m ((c.tc : Thread Cert.RopeQIdeal.nD Cert.RopeQIdeal.τ).loc Cert.RopeQIdeal.main_arg2))
      ∧ r.2.sem = fun _ => 0)

def quiescent_RopeQRefIdeal [hRopeQRefIdeal : Cert.RopeQRefIdeal.Facts] : Prop :=
  ∀ (m : (ℓ : Loc Cert.RopeQRefIdeal.nD Cert.RopeQRefIdeal.τ Cert.RopeQRefIdeal.sig) → Buf (Elt Ideal) ℓ) (g : Dev Cert.RopeQRefIdeal.nD → PrngReg), Pre_RopeQRefIdeal m →
    θ_run (Cert.RopeQRefIdeal.defs (F := Ideal)) (onTc (τ := Cert.RopeQRefIdeal.τ) (Cert.RopeQRefIdeal.main (F := Ideal))) ⟨m, fun _ => 0, g⟩ (fun r => (∀ c : Dev Cert.RopeQRefIdeal.nD,
      r.2.mem ((c.tc : Thread Cert.RopeQRefIdeal.nD Cert.RopeQRefIdeal.τ).loc Cert.RopeQRefIdeal.main_arg0) = m ((c.tc : Thread Cert.RopeQRefIdeal.nD Cert.RopeQRefIdeal.τ).loc Cert.RopeQRefIdeal.main_arg0)
      ∧ r.2.mem ((c.tc : Thread Cert.RopeQRefIdeal.nD Cert.RopeQRefIdeal.τ).loc Cert.RopeQRefIdeal.main_arg1) = m ((c.tc : Thread Cert.RopeQRefIdeal.nD Cert.RopeQRefIdeal.τ).loc Cert.RopeQRefIdeal.main_arg1)
      ∧ r.2.mem ((c.tc : Thread Cert.RopeQRefIdeal.nD Cert.RopeQRefIdeal.τ).loc Cert.RopeQRefIdeal.main_arg2) = m ((c.tc : Thread Cert.RopeQRefIdeal.nD Cert.RopeQRefIdeal.τ).loc Cert.RopeQRefIdeal.main_arg2))
      ∧ r.2.sem = fun _ => 0)

def quiescent_RopeK [hRopeK : Cert.RopeK.Facts] : Prop :=
  ∀ (m : (ℓ : Loc Cert.RopeK.nD Cert.RopeK.τ Cert.RopeK.sig) → Buf (Elt Bits) ℓ) (g : Dev Cert.RopeK.nD → PrngReg), Pre_RopeK m →
    θ_run (Cert.RopeK.defs (F := Bits)) (onTc (τ := Cert.RopeK.τ) (Cert.RopeK.main (F := Bits))) ⟨m, fun _ => 0, g⟩ (fun r => (∀ c : Dev Cert.RopeK.nD,
      r.2.mem ((c.tc : Thread Cert.RopeK.nD Cert.RopeK.τ).loc Cert.RopeK.main_arg0) = m ((c.tc : Thread Cert.RopeK.nD Cert.RopeK.τ).loc Cert.RopeK.main_arg0)
      ∧ r.2.mem ((c.tc : Thread Cert.RopeK.nD Cert.RopeK.τ).loc Cert.RopeK.main_arg1) = m ((c.tc : Thread Cert.RopeK.nD Cert.RopeK.τ).loc Cert.RopeK.main_arg1)
      ∧ r.2.mem ((c.tc : Thread Cert.RopeK.nD Cert.RopeK.τ).loc Cert.RopeK.main_arg2) = m ((c.tc : Thread Cert.RopeK.nD Cert.RopeK.τ).loc Cert.RopeK.main_arg2))
      ∧ r.2.sem = fun _ => 0)

def quiescent_RopeKIdeal [hRopeKIdeal : Cert.RopeKIdeal.Facts] : Prop :=
  ∀ (m : (ℓ : Loc Cert.RopeKIdeal.nD Cert.RopeKIdeal.τ Cert.RopeKIdeal.sig) → Buf (Elt Ideal) ℓ) (g : Dev Cert.RopeKIdeal.nD → PrngReg), Pre_RopeKIdeal m →
    θ_run (Cert.RopeKIdeal.defs (F := Ideal)) (onTc (τ := Cert.RopeKIdeal.τ) (Cert.RopeKIdeal.main (F := Ideal))) ⟨m, fun _ => 0, g⟩ (fun r => (∀ c : Dev Cert.RopeKIdeal.nD,
      r.2.mem ((c.tc : Thread Cert.RopeKIdeal.nD Cert.RopeKIdeal.τ).loc Cert.RopeKIdeal.main_arg0) = m ((c.tc : Thread Cert.RopeKIdeal.nD Cert.RopeKIdeal.τ).loc Cert.RopeKIdeal.main_arg0)
      ∧ r.2.mem ((c.tc : Thread Cert.RopeKIdeal.nD Cert.RopeKIdeal.τ).loc Cert.RopeKIdeal.main_arg1) = m ((c.tc : Thread Cert.RopeKIdeal.nD Cert.RopeKIdeal.τ).loc Cert.RopeKIdeal.main_arg1)
      ∧ r.2.mem ((c.tc : Thread Cert.RopeKIdeal.nD Cert.RopeKIdeal.τ).loc Cert.RopeKIdeal.main_arg2) = m ((c.tc : Thread Cert.RopeKIdeal.nD Cert.RopeKIdeal.τ).loc Cert.RopeKIdeal.main_arg2))
      ∧ r.2.sem = fun _ => 0)

def quiescent_RopeKRefIdeal [hRopeKRefIdeal : Cert.RopeKRefIdeal.Facts] : Prop :=
  ∀ (m : (ℓ : Loc Cert.RopeKRefIdeal.nD Cert.RopeKRefIdeal.τ Cert.RopeKRefIdeal.sig) → Buf (Elt Ideal) ℓ) (g : Dev Cert.RopeKRefIdeal.nD → PrngReg), Pre_RopeKRefIdeal m →
    θ_run (Cert.RopeKRefIdeal.defs (F := Ideal)) (onTc (τ := Cert.RopeKRefIdeal.τ) (Cert.RopeKRefIdeal.main (F := Ideal))) ⟨m, fun _ => 0, g⟩ (fun r => (∀ c : Dev Cert.RopeKRefIdeal.nD,
      r.2.mem ((c.tc : Thread Cert.RopeKRefIdeal.nD Cert.RopeKRefIdeal.τ).loc Cert.RopeKRefIdeal.main_arg0) = m ((c.tc : Thread Cert.RopeKRefIdeal.nD Cert.RopeKRefIdeal.τ).loc Cert.RopeKRefIdeal.main_arg0)
      ∧ r.2.mem ((c.tc : Thread Cert.RopeKRefIdeal.nD Cert.RopeKRefIdeal.τ).loc Cert.RopeKRefIdeal.main_arg1) = m ((c.tc : Thread Cert.RopeKRefIdeal.nD Cert.RopeKRefIdeal.τ).loc Cert.RopeKRefIdeal.main_arg1)
      ∧ r.2.mem ((c.tc : Thread Cert.RopeKRefIdeal.nD Cert.RopeKRefIdeal.τ).loc Cert.RopeKRefIdeal.main_arg2) = m ((c.tc : Thread Cert.RopeKRefIdeal.nD Cert.RopeKRefIdeal.τ).loc Cert.RopeKRefIdeal.main_arg2))
      ∧ r.2.sem = fun _ => 0)

def quiescent_RopeIx [hRopeIx : Cert.RopeIx.Facts] : Prop :=
  ∀ (m : (ℓ : Loc Cert.RopeIx.nD Cert.RopeIx.τ Cert.RopeIx.sig) → Buf (Elt Bits) ℓ) (g : Dev Cert.RopeIx.nD → PrngReg), Pre_RopeIx m →
    θ_run (Cert.RopeIx.defs (F := Bits)) (onTc (τ := Cert.RopeIx.τ) (Cert.RopeIx.main (F := Bits))) ⟨m, fun _ => 0, g⟩ (fun r => (∀ c : Dev Cert.RopeIx.nD,
      r.2.mem ((c.tc : Thread Cert.RopeIx.nD Cert.RopeIx.τ).loc Cert.RopeIx.main_arg0) = m ((c.tc : Thread Cert.RopeIx.nD Cert.RopeIx.τ).loc Cert.RopeIx.main_arg0)
      ∧ r.2.mem ((c.tc : Thread Cert.RopeIx.nD Cert.RopeIx.τ).loc Cert.RopeIx.main_arg1) = m ((c.tc : Thread Cert.RopeIx.nD Cert.RopeIx.τ).loc Cert.RopeIx.main_arg1)
      ∧ r.2.mem ((c.tc : Thread Cert.RopeIx.nD Cert.RopeIx.τ).loc Cert.RopeIx.main_arg2) = m ((c.tc : Thread Cert.RopeIx.nD Cert.RopeIx.τ).loc Cert.RopeIx.main_arg2))
      ∧ r.2.sem = fun _ => 0)

def quiescent_RopeIxIdeal [hRopeIxIdeal : Cert.RopeIxIdeal.Facts] : Prop :=
  ∀ (m : (ℓ : Loc Cert.RopeIxIdeal.nD Cert.RopeIxIdeal.τ Cert.RopeIxIdeal.sig) → Buf (Elt Ideal) ℓ) (g : Dev Cert.RopeIxIdeal.nD → PrngReg), Pre_RopeIxIdeal m →
    θ_run (Cert.RopeIxIdeal.defs (F := Ideal)) (onTc (τ := Cert.RopeIxIdeal.τ) (Cert.RopeIxIdeal.main (F := Ideal))) ⟨m, fun _ => 0, g⟩ (fun r => (∀ c : Dev Cert.RopeIxIdeal.nD,
      r.2.mem ((c.tc : Thread Cert.RopeIxIdeal.nD Cert.RopeIxIdeal.τ).loc Cert.RopeIxIdeal.main_arg0) = m ((c.tc : Thread Cert.RopeIxIdeal.nD Cert.RopeIxIdeal.τ).loc Cert.RopeIxIdeal.main_arg0)
      ∧ r.2.mem ((c.tc : Thread Cert.RopeIxIdeal.nD Cert.RopeIxIdeal.τ).loc Cert.RopeIxIdeal.main_arg1) = m ((c.tc : Thread Cert.RopeIxIdeal.nD Cert.RopeIxIdeal.τ).loc Cert.RopeIxIdeal.main_arg1)
      ∧ r.2.mem ((c.tc : Thread Cert.RopeIxIdeal.nD Cert.RopeIxIdeal.τ).loc Cert.RopeIxIdeal.main_arg2) = m ((c.tc : Thread Cert.RopeIxIdeal.nD Cert.RopeIxIdeal.τ).loc Cert.RopeIxIdeal.main_arg2))
      ∧ r.2.sem = fun _ => 0)

def quiescent_RopeIxRefIdeal [hRopeIxRefIdeal : Cert.RopeIxRefIdeal.Facts] : Prop :=
  ∀ (m : (ℓ : Loc Cert.RopeIxRefIdeal.nD Cert.RopeIxRefIdeal.τ Cert.RopeIxRefIdeal.sig) → Buf (Elt Ideal) ℓ) (g : Dev Cert.RopeIxRefIdeal.nD → PrngReg), Pre_RopeIxRefIdeal m →
    θ_run (Cert.RopeIxRefIdeal.defs (F := Ideal)) (onTc (τ := Cert.RopeIxRefIdeal.τ) (Cert.RopeIxRefIdeal.main (F := Ideal))) ⟨m, fun _ => 0, g⟩ (fun r => (∀ c : Dev Cert.RopeIxRefIdeal.nD,
      r.2.mem ((c.tc : Thread Cert.RopeIxRefIdeal.nD Cert.RopeIxRefIdeal.τ).loc Cert.RopeIxRefIdeal.main_arg0) = m ((c.tc : Thread Cert.RopeIxRefIdeal.nD Cert.RopeIxRefIdeal.τ).loc Cert.RopeIxRefIdeal.main_arg0)
      ∧ r.2.mem ((c.tc : Thread Cert.RopeIxRefIdeal.nD Cert.RopeIxRefIdeal.τ).loc Cert.RopeIxRefIdeal.main_arg1) = m ((c.tc : Thread Cert.RopeIxRefIdeal.nD Cert.RopeIxRefIdeal.τ).loc Cert.RopeIxRefIdeal.main_arg1)
      ∧ r.2.mem ((c.tc : Thread Cert.RopeIxRefIdeal.nD Cert.RopeIxRefIdeal.τ).loc Cert.RopeIxRefIdeal.main_arg2) = m ((c.tc : Thread Cert.RopeIxRefIdeal.nD Cert.RopeIxRefIdeal.τ).loc Cert.RopeIxRefIdeal.main_arg2))
      ∧ r.2.sem = fun _ => 0)

def quiescent_RopeKix [hRopeKix : Cert.RopeKix.Facts] : Prop :=
  ∀ (m : (ℓ : Loc Cert.RopeKix.nD Cert.RopeKix.τ Cert.RopeKix.sig) → Buf (Elt Bits) ℓ) (g : Dev Cert.RopeKix.nD → PrngReg), Pre_RopeKix m →
    θ_run (Cert.RopeKix.defs (F := Bits)) (onTc (τ := Cert.RopeKix.τ) (Cert.RopeKix.main (F := Bits))) ⟨m, fun _ => 0, g⟩ (fun r => (∀ c : Dev Cert.RopeKix.nD,
      r.2.mem ((c.tc : Thread Cert.RopeKix.nD Cert.RopeKix.τ).loc Cert.RopeKix.main_arg0) = m ((c.tc : Thread Cert.RopeKix.nD Cert.RopeKix.τ).loc Cert.RopeKix.main_arg0)
      ∧ r.2.mem ((c.tc : Thread Cert.RopeKix.nD Cert.RopeKix.τ).loc Cert.RopeKix.main_arg1) = m ((c.tc : Thread Cert.RopeKix.nD Cert.RopeKix.τ).loc Cert.RopeKix.main_arg1))
      ∧ r.2.sem = fun _ => 0)

def quiescent_RopeKixIdeal [hRopeKixIdeal : Cert.RopeKixIdeal.Facts] : Prop :=
  ∀ (m : (ℓ : Loc Cert.RopeKixIdeal.nD Cert.RopeKixIdeal.τ Cert.RopeKixIdeal.sig) → Buf (Elt Ideal) ℓ) (g : Dev Cert.RopeKixIdeal.nD → PrngReg), Pre_RopeKixIdeal m →
    θ_run (Cert.RopeKixIdeal.defs (F := Ideal)) (onTc (τ := Cert.RopeKixIdeal.τ) (Cert.RopeKixIdeal.main (F := Ideal))) ⟨m, fun _ => 0, g⟩ (fun r => (∀ c : Dev Cert.RopeKixIdeal.nD,
      r.2.mem ((c.tc : Thread Cert.RopeKixIdeal.nD Cert.RopeKixIdeal.τ).loc Cert.RopeKixIdeal.main_arg0) = m ((c.tc : Thread Cert.RopeKixIdeal.nD Cert.RopeKixIdeal.τ).loc Cert.RopeKixIdeal.main_arg0)
      ∧ r.2.mem ((c.tc : Thread Cert.RopeKixIdeal.nD Cert.RopeKixIdeal.τ).loc Cert.RopeKixIdeal.main_arg1) = m ((c.tc : Thread Cert.RopeKixIdeal.nD Cert.RopeKixIdeal.τ).loc Cert.RopeKixIdeal.main_arg1))
      ∧ r.2.sem = fun _ => 0)

def quiescent_RopeKixRefIdeal [hRopeKixRefIdeal : Cert.RopeKixRefIdeal.Facts] : Prop :=
  ∀ (m : (ℓ : Loc Cert.RopeKixRefIdeal.nD Cert.RopeKixRefIdeal.τ Cert.RopeKixRefIdeal.sig) → Buf (Elt Ideal) ℓ) (g : Dev Cert.RopeKixRefIdeal.nD → PrngReg), Pre_RopeKixRefIdeal m →
    θ_run (Cert.RopeKixRefIdeal.defs (F := Ideal)) (onTc (τ := Cert.RopeKixRefIdeal.τ) (Cert.RopeKixRefIdeal.main (F := Ideal))) ⟨m, fun _ => 0, g⟩ (fun r => (∀ c : Dev Cert.RopeKixRefIdeal.nD,
      r.2.mem ((c.tc : Thread Cert.RopeKixRefIdeal.nD Cert.RopeKixRefIdeal.τ).loc Cert.RopeKixRefIdeal.main_arg0) = m ((c.tc : Thread Cert.RopeKixRefIdeal.nD Cert.RopeKixRefIdeal.τ).loc Cert.RopeKixRefIdeal.main_arg0)
      ∧ r.2.mem ((c.tc : Thread Cert.RopeKixRefIdeal.nD Cert.RopeKixRefIdeal.τ).loc Cert.RopeKixRefIdeal.main_arg1) = m ((c.tc : Thread Cert.RopeKixRefIdeal.nD Cert.RopeKixRefIdeal.τ).loc Cert.RopeKixRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1))
      ∧ r.2.sem = fun _ => 0)

def quiescent_RouterIdeal_pre_finite [hRouterIdeal : Cert.RouterIdeal.Facts] [hPre_finite : Cert.Pre_finite.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_finite m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1))
      ∧ r.2.sem = fun _ => 0)

def quiescent_RouterRefIdeal [hRouterRefIdeal : Cert.RouterRefIdeal.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1))
      ∧ r.2.sem = fun _ => 0)

def quiescent_RouterRefIdeal_pre_finite [hRouterRefIdeal : Cert.RouterRefIdeal.Facts] [hPre_finite : Cert.Pre_finite.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal_finite m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v1_0)) (v1 : (c : Dev Cert.FfnIdeal.nD) → Buf (Elt Ideal) ((c.tc : Thread Cert.FfnIdeal.nD Cert.FfnIdeal.τ).loc Cert.FfnIdeal.main_v1_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v1_0) = v0 c
          ∧ r.2.mem ((c.tc : Thread Cert.FfnIdeal.nD Cert.FfnIdeal.τ).loc Cert.FfnIdeal.main_v1_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v9) = v0 c
          ∧ r.2.mem ((c.tc : Thread Cert.FfnRefIdeal.nD Cert.FfnRefIdeal.τ).loc Cert.FfnRefIdeal.main_v23) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Moe_MoeIdeal : Prop :=
  True

def algebraic_MoeIdeal_MoeRefIdeal [hMoeIdeal : Cert.MoeIdeal.Facts] [hMoeRefIdeal : Cert.MoeRefIdeal.Facts] [hPre_tables : Cert.Pre_tables.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)) →
    ∃ (v0 : (c : Dev Cert.MoeIdeal.nD) → Buf (Elt Ideal) ((c.tc : Thread Cert.MoeIdeal.nD Cert.MoeIdeal.τ).loc Cert.MoeIdeal.main_v0)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v0) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v40) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v2) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_Small_SmallIdeal : Prop :=
  True

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m' ((c.tc : Thread Cert.SmallRefIdeal.nD Cert.SmallRefIdeal.τ).loc Cert.SmallRefIdeal.main_arg0) = m ((c.tc : Thread Cert.SmallIdeal.nD Cert.SmallIdeal.τ).loc Cert.SmallIdeal.main_arg0)
      ∧ m' ((c.tc : Thread Cert.SmallRefIdeal.nD Cert.SmallRefIdeal.τ).loc Cert.SmallRefIdeal.main_arg1) = m ((c.tc : Thread Cert.SmallIdeal.nD Cert.SmallIdeal.τ).loc Cert.SmallIdeal.main_arg1)) →
    ∃ (v0 : (c : Dev Cert.SmallIdeal.nD) → Buf (Elt Ideal) ((c.tc : Thread Cert.SmallIdeal.nD Cert.SmallIdeal.τ).loc Cert.SmallIdeal.main_v0)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v0) = v0 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1))
      ∧ θ_run (Cert.SmallRefIdeal.defs (F := Ideal)) (onTc (τ := Cert.SmallRefIdeal.τ) (Cert.SmallRefIdeal.main (F := Ideal))) ⟨m', fun _ => 0, g'⟩ (fun r => ∀ c : Dev Cert.SmallRefIdeal.nD,
          r.2.mem ((c.tc : Thread Cert.SmallRefIdeal.nD Cert.SmallRefIdeal.τ).loc Cert.SmallRefIdeal.main_v2) = v0 c
          ∧ r.2.mem ((c.tc : Thread Cert.SmallRefIdeal.nD Cert.SmallRefIdeal.τ).loc Cert.SmallRefIdeal.main_arg0) = m' ((c.tc : Thread Cert.SmallRefIdeal.nD Cert.SmallRefIdeal.τ).loc Cert.SmallRefIdeal.main_arg0)
          ∧ r.2.mem ((c.tc : Thread Cert.SmallRefIdeal.nD Cert.SmallRefIdeal.τ).loc Cert.SmallRefIdeal.main_arg1) = m' ((c.tc : Thread Cert.SmallRefIdeal.nD Cert.SmallRefIdeal.τ).loc Cert.SmallRefIdeal.main_arg1))

def preserves_VProj_VProjIdeal : Prop :=
  True

def algebraic_VProjIdeal_VProjRefIdeal [hVProjIdeal : Cert.VProjIdeal.Facts] [hVProjRefIdeal : Cert.VProjRefIdeal.Facts] : Prop :=
  ∀ (m : (ℓ : Loc Cert.VProjIdeal.nD Cert.VProjIdeal.τ Cert.VProjIdeal.sig) → Buf (Elt Ideal) ℓ) (g : Dev Cert.VProjIdeal.nD → PrngReg)
    (m' : (ℓ : Loc Cert.VProjRefIdeal.nD Cert.VProjRefIdeal.τ Cert.VProjRefIdeal.sig) → Buf (Elt Ideal) ℓ) (g' : Dev Cert.VProjRefIdeal.nD → PrngReg), Pre_VProjIdeal m →
    (∀ c : Dev Cert.VProjIdeal.nD,
      m' ((c.tc : Thread Cert.VProjRefIdeal.nD Cert.VProjRefIdeal.τ).loc Cert.VProjRefIdeal.main_arg0) = m ((c.tc : Thread Cert.VProjIdeal.nD Cert.VProjIdeal.τ).loc Cert.VProjIdeal.main_arg0)
      ∧ m' ((c.tc : Thread Cert.VProjRefIdeal.nD Cert.VProjRefIdeal.τ).loc Cert.VProjRefIdeal.main_arg1) = m ((c.tc : Thread Cert.VProjIdeal.nD Cert.VProjIdeal.τ).loc Cert.VProjIdeal.main_arg1)) →
    ∃ (v0 : (c : Dev Cert.VProjIdeal.nD) → Buf (Elt Ideal) ((c.tc : Thread Cert.VProjIdeal.nD Cert.VProjIdeal.τ).loc Cert.VProjIdeal.main_v0)),
      θ_run (Cert.VProjIdeal.defs (F := Ideal)) (onTc (τ := Cert.VProjIdeal.τ) (Cert.VProjIdeal.main (F := Ideal))) ⟨m, fun _ => 0, g⟩ (fun r => ∀ c : Dev Cert.VProjIdeal.nD,
          r.2.mem ((c.tc : Thread Cert.VProjIdeal.nD Cert.VProjIdeal.τ).loc Cert.VProjIdeal.main_v0) = v0 c
          ∧ r.2.mem ((c.tc : Thread Cert.VProjIdeal.nD Cert.VProjIdeal.τ).loc Cert.VProjIdeal.main_arg0) = m ((c.tc : Thread Cert.VProjIdeal.nD Cert.VProjIdeal.τ).loc Cert.VProjIdeal.main_arg0)
          ∧ r.2.mem ((c.tc : Thread Cert.VProjIdeal.nD Cert.VProjIdeal.τ).loc Cert.VProjIdeal.main_arg1) = m ((c.tc : Thread Cert.VProjIdeal.nD Cert.VProjIdeal.τ).loc Cert.VProjIdeal.main_arg1))
      ∧ θ_run (Cert.VProjRefIdeal.defs (F := Ideal)) (onTc (τ := Cert.VProjRefIdeal.τ) (Cert.VProjRefIdeal.main (F := Ideal))) ⟨m', fun _ => 0, g'⟩ (fun r => ∀ c : Dev Cert.VProjRefIdeal.nD,
          r.2.mem ((c.tc : Thread Cert.VProjRefIdeal.nD Cert.VProjRefIdeal.τ).loc Cert.VProjRefIdeal.main_v3) = v0 c
          ∧ r.2.mem ((c.tc : Thread Cert.VProjRefIdeal.nD Cert.VProjRefIdeal.τ).loc Cert.VProjRefIdeal.main_arg0) = m' ((c.tc : Thread Cert.VProjRefIdeal.nD Cert.VProjRefIdeal.τ).loc Cert.VProjRefIdeal.main_arg0)
          ∧ r.2.mem ((c.tc : Thread Cert.VProjRefIdeal.nD Cert.VProjRefIdeal.τ).loc Cert.VProjRefIdeal.main_arg1) = m' ((c.tc : Thread Cert.VProjRefIdeal.nD Cert.VProjRefIdeal.τ).loc Cert.VProjRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v1_0)) (v1 : (c : Dev Cert.MergeIdeal.nD) → Buf (Elt Ideal) ((c.tc : Thread Cert.MergeIdeal.nD Cert.MergeIdeal.τ).loc Cert.MergeIdeal.main_v1_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v1_0) = v0 c
          ∧ r.2.mem ((c.tc : Thread Cert.MergeIdeal.nD Cert.MergeIdeal.τ).loc Cert.MergeIdeal.main_v1_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v25) = v0 c
          ∧ r.2.mem ((c.tc : Thread Cert.MergeRefIdeal.nD Cert.MergeRefIdeal.τ).loc Cert.MergeRefIdeal.main_v39) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_RopeQ_RopeQIdeal : Prop :=
  True

def algebraic_RopeQIdeal_RopeQRefIdeal [hRopeQIdeal : Cert.RopeQIdeal.Facts] [hRopeQRefIdeal : Cert.RopeQRefIdeal.Facts] : Prop :=
  ∀ (m : (ℓ : Loc Cert.RopeQIdeal.nD Cert.RopeQIdeal.τ Cert.RopeQIdeal.sig) → Buf (Elt Ideal) ℓ) (g : Dev Cert.RopeQIdeal.nD → PrngReg)
    (m' : (ℓ : Loc Cert.RopeQRefIdeal.nD Cert.RopeQRefIdeal.τ Cert.RopeQRefIdeal.sig) → Buf (Elt Ideal) ℓ) (g' : Dev Cert.RopeQRefIdeal.nD → PrngReg), Pre_RopeQIdeal m →
    (∀ c : Dev Cert.RopeQIdeal.nD,
      m' ((c.tc : Thread Cert.RopeQRefIdeal.nD Cert.RopeQRefIdeal.τ).loc Cert.RopeQRefIdeal.main_arg0) = m ((c.tc : Thread Cert.RopeQIdeal.nD Cert.RopeQIdeal.τ).loc Cert.RopeQIdeal.main_arg0)
      ∧ m' ((c.tc : Thread Cert.RopeQRefIdeal.nD Cert.RopeQRefIdeal.τ).loc Cert.RopeQRefIdeal.main_arg1) = m ((c.tc : Thread Cert.RopeQIdeal.nD Cert.RopeQIdeal.τ).loc Cert.RopeQIdeal.main_arg1)
      ∧ m' ((c.tc : Thread Cert.RopeQRefIdeal.nD Cert.RopeQRefIdeal.τ).loc Cert.RopeQRefIdeal.main_arg2) = m ((c.tc : Thread Cert.RopeQIdeal.nD Cert.RopeQIdeal.τ).loc Cert.RopeQIdeal.main_arg2)) →
    ∃ (v0 : (c : Dev Cert.RopeQIdeal.nD) → Buf (Elt Ideal) ((c.tc : Thread Cert.RopeQIdeal.nD Cert.RopeQIdeal.τ).loc Cert.RopeQIdeal.main_v26)),
      θ_run (Cert.RopeQIdeal.defs (F := Ideal)) (onTc (τ := Cert.RopeQIdeal.τ) (Cert.RopeQIdeal.main (F := Ideal))) ⟨m, fun _ => 0, g⟩ (fun r => ∀ c : Dev Cert.RopeQIdeal.nD,
          r.2.mem ((c.tc : Thread Cert.RopeQIdeal.nD Cert.RopeQIdeal.τ).loc Cert.RopeQIdeal.main_v26) = v0 c
          ∧ r.2.mem ((c.tc : Thread Cert.RopeQIdeal.nD Cert.RopeQIdeal.τ).loc Cert.RopeQIdeal.main_arg0) = m ((c.tc : Thread Cert.RopeQIdeal.nD Cert.RopeQIdeal.τ).loc Cert.RopeQIdeal.main_arg0)
          ∧ r.2.mem ((c.tc : Thread Cert.RopeQIdeal.nD Cert.RopeQIdeal.τ).loc Cert.RopeQIdeal.main_arg1) = m ((c.tc : Thread Cert.RopeQIdeal.nD Cert.RopeQIdeal.τ).loc Cert.RopeQIdeal.main_arg1)
          ∧ r.2.mem ((c.tc : Thread Cert.RopeQIdeal.nD Cert.RopeQIdeal.τ).loc Cert.RopeQIdeal.main_arg2) = m ((c.tc : Thread Cert.RopeQIdeal.nD Cert.RopeQIdeal.τ).loc Cert.RopeQIdeal.main_arg2))
      ∧ θ_run (Cert.RopeQRefIdeal.defs (F := Ideal)) (onTc (τ := Cert.RopeQRefIdeal.τ) (Cert.RopeQRefIdeal.main (F := Ideal))) ⟨m', fun _ => 0, g'⟩ (fun r => ∀ c : Dev Cert.RopeQRefIdeal.nD,
          r.2.mem ((c.tc : Thread Cert.RopeQRefIdeal.nD Cert.RopeQRefIdeal.τ).loc Cert.RopeQRefIdeal.main_v41) = v0 c
          ∧ r.2.mem ((c.tc : Thread Cert.RopeQRefIdeal.nD Cert.RopeQRefIdeal.τ).loc Cert.RopeQRefIdeal.main_arg0) = m' ((c.tc : Thread Cert.RopeQRefIdeal.nD Cert.RopeQRefIdeal.τ).loc Cert.RopeQRefIdeal.main_arg0)
          ∧ r.2.mem ((c.tc : Thread Cert.RopeQRefIdeal.nD Cert.RopeQRefIdeal.τ).loc Cert.RopeQRefIdeal.main_arg1) = m' ((c.tc : Thread Cert.RopeQRefIdeal.nD Cert.RopeQRefIdeal.τ).loc Cert.RopeQRefIdeal.main_arg1)
          ∧ r.2.mem ((c.tc : Thread Cert.RopeQRefIdeal.nD Cert.RopeQRefIdeal.τ).loc Cert.RopeQRefIdeal.main_arg2) = m' ((c.tc : Thread Cert.RopeQRefIdeal.nD Cert.RopeQRefIdeal.τ).loc Cert.RopeQRefIdeal.main_arg2))

def preserves_RopeK_RopeKIdeal : Prop :=
  True

def algebraic_RopeKIdeal_RopeKRefIdeal [hRopeKIdeal : Cert.RopeKIdeal.Facts] [hRopeKRefIdeal : Cert.RopeKRefIdeal.Facts] : Prop :=
  ∀ (m : (ℓ : Loc Cert.RopeKIdeal.nD Cert.RopeKIdeal.τ Cert.RopeKIdeal.sig) → Buf (Elt Ideal) ℓ) (g : Dev Cert.RopeKIdeal.nD → PrngReg)
    (m' : (ℓ : Loc Cert.RopeKRefIdeal.nD Cert.RopeKRefIdeal.τ Cert.RopeKRefIdeal.sig) → Buf (Elt Ideal) ℓ) (g' : Dev Cert.RopeKRefIdeal.nD → PrngReg), Pre_RopeKIdeal m →
    (∀ c : Dev Cert.RopeKIdeal.nD,
      m' ((c.tc : Thread Cert.RopeKRefIdeal.nD Cert.RopeKRefIdeal.τ).loc Cert.RopeKRefIdeal.main_arg0) = m ((c.tc : Thread Cert.RopeKIdeal.nD Cert.RopeKIdeal.τ).loc Cert.RopeKIdeal.main_arg0)
      ∧ m' ((c.tc : Thread Cert.RopeKRefIdeal.nD Cert.RopeKRefIdeal.τ).loc Cert.RopeKRefIdeal.main_arg1) = m ((c.tc : Thread Cert.RopeKIdeal.nD Cert.RopeKIdeal.τ).loc Cert.RopeKIdeal.main_arg1)
      ∧ m' ((c.tc : Thread Cert.RopeKRefIdeal.nD Cert.RopeKRefIdeal.τ).loc Cert.RopeKRefIdeal.main_arg2) = m ((c.tc : Thread Cert.RopeKIdeal.nD Cert.RopeKIdeal.τ).loc Cert.RopeKIdeal.main_arg2)) →
    ∃ (v0 : (c : Dev Cert.RopeKIdeal.nD) → Buf (Elt Ideal) ((c.tc : Thread Cert.RopeKIdeal.nD Cert.RopeKIdeal.τ).loc Cert.RopeKIdeal.main_v26)),
      θ_run (Cert.RopeKIdeal.defs (F := Ideal)) (onTc (τ := Cert.RopeKIdeal.τ) (Cert.RopeKIdeal.main (F := Ideal))) ⟨m, fun _ => 0, g⟩ (fun r => ∀ c : Dev Cert.RopeKIdeal.nD,
          r.2.mem ((c.tc : Thread Cert.RopeKIdeal.nD Cert.RopeKIdeal.τ).loc Cert.RopeKIdeal.main_v26) = v0 c
          ∧ r.2.mem ((c.tc : Thread Cert.RopeKIdeal.nD Cert.RopeKIdeal.τ).loc Cert.RopeKIdeal.main_arg0) = m ((c.tc : Thread Cert.RopeKIdeal.nD Cert.RopeKIdeal.τ).loc Cert.RopeKIdeal.main_arg0)
          ∧ r.2.mem ((c.tc : Thread Cert.RopeKIdeal.nD Cert.RopeKIdeal.τ).loc Cert.RopeKIdeal.main_arg1) = m ((c.tc : Thread Cert.RopeKIdeal.nD Cert.RopeKIdeal.τ).loc Cert.RopeKIdeal.main_arg1)
          ∧ r.2.mem ((c.tc : Thread Cert.RopeKIdeal.nD Cert.RopeKIdeal.τ).loc Cert.RopeKIdeal.main_arg2) = m ((c.tc : Thread Cert.RopeKIdeal.nD Cert.RopeKIdeal.τ).loc Cert.RopeKIdeal.main_arg2))
      ∧ θ_run (Cert.RopeKRefIdeal.defs (F := Ideal)) (onTc (τ := Cert.RopeKRefIdeal.τ) (Cert.RopeKRefIdeal.main (F := Ideal))) ⟨m', fun _ => 0, g'⟩ (fun r => ∀ c : Dev Cert.RopeKRefIdeal.nD,
          r.2.mem ((c.tc : Thread Cert.RopeKRefIdeal.nD Cert.RopeKRefIdeal.τ).loc Cert.RopeKRefIdeal.main_v39) = v0 c
          ∧ r.2.mem ((c.tc : Thread Cert.RopeKRefIdeal.nD Cert.RopeKRefIdeal.τ).loc Cert.RopeKRefIdeal.main_arg0) = m' ((c.tc : Thread Cert.RopeKRefIdeal.nD Cert.RopeKRefIdeal.τ).loc Cert.RopeKRefIdeal.main_arg0)
          ∧ r.2.mem ((c.tc : Thread Cert.RopeKRefIdeal.nD Cert.RopeKRefIdeal.τ).loc Cert.RopeKRefIdeal.main_arg1) = m' ((c.tc : Thread Cert.RopeKRefIdeal.nD Cert.RopeKRefIdeal.τ).loc Cert.RopeKRefIdeal.main_arg1)
          ∧ r.2.mem ((c.tc : Thread Cert.RopeKRefIdeal.nD Cert.RopeKRefIdeal.τ).loc Cert.RopeKRefIdeal.main_arg2) = m' ((c.tc : Thread Cert.RopeKRefIdeal.nD Cert.RopeKRefIdeal.τ).loc Cert.RopeKRefIdeal.main_arg2))

def preserves_RopeIx_RopeIxIdeal : Prop :=
  True

def algebraic_RopeIxIdeal_RopeIxRefIdeal [hRopeIxIdeal : Cert.RopeIxIdeal.Facts] [hRopeIxRefIdeal : Cert.RopeIxRefIdeal.Facts] : Prop :=
  ∀ (m : (ℓ : Loc Cert.RopeIxIdeal.nD Cert.RopeIxIdeal.τ Cert.RopeIxIdeal.sig) → Buf (Elt Ideal) ℓ) (g : Dev Cert.RopeIxIdeal.nD → PrngReg)
    (m' : (ℓ : Loc Cert.RopeIxRefIdeal.nD Cert.RopeIxRefIdeal.τ Cert.RopeIxRefIdeal.sig) → Buf (Elt Ideal) ℓ) (g' : Dev Cert.RopeIxRefIdeal.nD → PrngReg), Pre_RopeIxIdeal m →
    (∀ c : Dev Cert.RopeIxIdeal.nD,
      m' ((c.tc : Thread Cert.RopeIxRefIdeal.nD Cert.RopeIxRefIdeal.τ).loc Cert.RopeIxRefIdeal.main_arg0) = m ((c.tc : Thread Cert.RopeIxIdeal.nD Cert.RopeIxIdeal.τ).loc Cert.RopeIxIdeal.main_arg0)
      ∧ m' ((c.tc : Thread Cert.RopeIxRefIdeal.nD Cert.RopeIxRefIdeal.τ).loc Cert.RopeIxRefIdeal.main_arg1) = m ((c.tc : Thread Cert.RopeIxIdeal.nD Cert.RopeIxIdeal.τ).loc Cert.RopeIxIdeal.main_arg1)
      ∧ m' ((c.tc : Thread Cert.RopeIxRefIdeal.nD Cert.RopeIxRefIdeal.τ).loc Cert.RopeIxRefIdeal.main_arg2) = m ((c.tc : Thread Cert.RopeIxIdeal.nD Cert.RopeIxIdeal.τ).loc Cert.RopeIxIdeal.main_arg2)) →
    ∃ (v0 : (c : Dev Cert.RopeIxIdeal.nD) → Buf (Elt Ideal) ((c.tc : Thread Cert.RopeIxIdeal.nD Cert.RopeIxIdeal.τ).loc Cert.RopeIxIdeal.main_v26)),
      θ_run (Cert.RopeIxIdeal.defs (F := Ideal)) (onTc (τ := Cert.RopeIxIdeal.τ) (Cert.RopeIxIdeal.main (F := Ideal))) ⟨m, fun _ => 0, g⟩ (fun r => ∀ c : Dev Cert.RopeIxIdeal.nD,
          r.2.mem ((c.tc : Thread Cert.RopeIxIdeal.nD Cert.RopeIxIdeal.τ).loc Cert.RopeIxIdeal.main_v26) = v0 c
          ∧ r.2.mem ((c.tc : Thread Cert.RopeIxIdeal.nD Cert.RopeIxIdeal.τ).loc Cert.RopeIxIdeal.main_arg0) = m ((c.tc : Thread Cert.RopeIxIdeal.nD Cert.RopeIxIdeal.τ).loc Cert.RopeIxIdeal.main_arg0)
          ∧ r.2.mem ((c.tc : Thread Cert.RopeIxIdeal.nD Cert.RopeIxIdeal.τ).loc Cert.RopeIxIdeal.main_arg1) = m ((c.tc : Thread Cert.RopeIxIdeal.nD Cert.RopeIxIdeal.τ).loc Cert.RopeIxIdeal.main_arg1)
          ∧ r.2.mem ((c.tc : Thread Cert.RopeIxIdeal.nD Cert.RopeIxIdeal.τ).loc Cert.RopeIxIdeal.main_arg2) = m ((c.tc : Thread Cert.RopeIxIdeal.nD Cert.RopeIxIdeal.τ).loc Cert.RopeIxIdeal.main_arg2))
      ∧ θ_run (Cert.RopeIxRefIdeal.defs (F := Ideal)) (onTc (τ := Cert.RopeIxRefIdeal.τ) (Cert.RopeIxRefIdeal.main (F := Ideal))) ⟨m', fun _ => 0, g'⟩ (fun r => ∀ c : Dev Cert.RopeIxRefIdeal.nD,
          r.2.mem ((c.tc : Thread Cert.RopeIxRefIdeal.nD Cert.RopeIxRefIdeal.τ).loc Cert.RopeIxRefIdeal.main_v39) = v0 c
          ∧ r.2.mem ((c.tc : Thread Cert.RopeIxRefIdeal.nD Cert.RopeIxRefIdeal.τ).loc Cert.RopeIxRefIdeal.main_arg0) = m' ((c.tc : Thread Cert.RopeIxRefIdeal.nD Cert.RopeIxRefIdeal.τ).loc Cert.RopeIxRefIdeal.main_arg0)
          ∧ r.2.mem ((c.tc : Thread Cert.RopeIxRefIdeal.nD Cert.RopeIxRefIdeal.τ).loc Cert.RopeIxRefIdeal.main_arg1) = m' ((c.tc : Thread Cert.RopeIxRefIdeal.nD Cert.RopeIxRefIdeal.τ).loc Cert.RopeIxRefIdeal.main_arg1)
          ∧ r.2.mem ((c.tc : Thread Cert.RopeIxRefIdeal.nD Cert.RopeIxRefIdeal.τ).loc Cert.RopeIxRefIdeal.main_arg2) = m' ((c.tc : Thread Cert.RopeIxRefIdeal.nD Cert.RopeIxRefIdeal.τ).loc Cert.RopeIxRefIdeal.main_arg2))

def preserves_RopeKix_RopeKixIdeal : Prop :=
  True

def algebraic_RopeKixIdeal_RopeKixRefIdeal [hRopeKixIdeal : Cert.RopeKixIdeal.Facts] [hRopeKixRefIdeal : Cert.RopeKixRefIdeal.Facts] : Prop :=
  ∀ (m : (ℓ : Loc Cert.RopeKixIdeal.nD Cert.RopeKixIdeal.τ Cert.RopeKixIdeal.sig) → Buf (Elt Ideal) ℓ) (g : Dev Cert.RopeKixIdeal.nD → PrngReg)
    (m' : (ℓ : Loc Cert.RopeKixRefIdeal.nD Cert.RopeKixRefIdeal.τ Cert.RopeKixRefIdeal.sig) → Buf (Elt Ideal) ℓ) (g' : Dev Cert.RopeKixRefIdeal.nD → PrngReg), Pre_RopeKixIdeal m →
    (∀ c : Dev Cert.RopeKixIdeal.nD,
      m' ((c.tc : Thread Cert.RopeKixRefIdeal.nD Cert.RopeKixRefIdeal.τ).loc Cert.RopeKixRefIdeal.main_arg0) = m ((c.tc : Thread Cert.RopeKixIdeal.nD Cert.RopeKixIdeal.τ).loc Cert.RopeKixIdeal.main_arg0)
      ∧ m' ((c.tc : Thread Cert.RopeKixRefIdeal.nD Cert.RopeKixRefIdeal.τ).loc Cert.RopeKixRefIdeal.main_arg1) = m ((c.tc : Thread Cert.RopeKixIdeal.nD Cert.RopeKixIdeal.τ).loc Cert.RopeKixIdeal.main_arg1)) →
    ∃ (v0 : (c : Dev Cert.RopeKixIdeal.nD) → Buf (Elt Ideal) ((c.tc : Thread Cert.RopeKixIdeal.nD Cert.RopeKixIdeal.τ).loc Cert.RopeKixIdeal.main_v26_0)) (v1 : (c : Dev Cert.RopeKixIdeal.nD) → Buf (Elt Ideal) ((c.tc : Thread Cert.RopeKixIdeal.nD Cert.RopeKixIdeal.τ).loc Cert.RopeKixIdeal.main_v26_1)),
      θ_run (Cert.RopeKixIdeal.defs (F := Ideal)) (onTc (τ := Cert.RopeKixIdeal.τ) (Cert.RopeKixIdeal.main (F := Ideal))) ⟨m, fun _ => 0, g⟩ (fun r => ∀ c : Dev Cert.RopeKixIdeal.nD,
          r.2.mem ((c.tc : Thread Cert.RopeKixIdeal.nD Cert.RopeKixIdeal.τ).loc Cert.RopeKixIdeal.main_v26_0) = v0 c
          ∧ r.2.mem ((c.tc : Thread Cert.RopeKixIdeal.nD Cert.RopeKixIdeal.τ).loc Cert.RopeKixIdeal.main_v26_1) = v1 c
          ∧ r.2.mem ((c.tc : Thread Cert.RopeKixIdeal.nD Cert.RopeKixIdeal.τ).loc Cert.RopeKixIdeal.main_arg0) = m ((c.tc : Thread Cert.RopeKixIdeal.nD Cert.RopeKixIdeal.τ).loc Cert.RopeKixIdeal.main_arg0)
          ∧ r.2.mem ((c.tc : Thread Cert.RopeKixIdeal.nD Cert.RopeKixIdeal.τ).loc Cert.RopeKixIdeal.main_arg1) = m ((c.tc : Thread Cert.RopeKixIdeal.nD Cert.RopeKixIdeal.τ).loc Cert.RopeKixIdeal.main_arg1))
      ∧ θ_run (Cert.RopeKixRefIdeal.defs (F := Ideal)) (onTc (τ := Cert.RopeKixRefIdeal.τ) (Cert.RopeKixRefIdeal.main (F := Ideal))) ⟨m', fun _ => 0, g'⟩ (fun r => ∀ c : Dev Cert.RopeKixRefIdeal.nD,
          r.2.mem ((c.tc : Thread Cert.RopeKixRefIdeal.nD Cert.RopeKixRefIdeal.τ).loc Cert.RopeKixRefIdeal.main_v34) = v0 c
          ∧ r.2.mem ((c.tc : Thread Cert.RopeKixRefIdeal.nD Cert.RopeKixRefIdeal.τ).loc Cert.RopeKixRefIdeal.main_v36) = v1 c
          ∧ r.2.mem ((c.tc : Thread Cert.RopeKixRefIdeal.nD Cert.RopeKixRefIdeal.τ).loc Cert.RopeKixRefIdeal.main_arg0) = m' ((c.tc : Thread Cert.RopeKixRefIdeal.nD Cert.RopeKixRefIdeal.τ).loc Cert.RopeKixRefIdeal.main_arg0)
          ∧ r.2.mem ((c.tc : Thread Cert.RopeKixRefIdeal.nD Cert.RopeKixRefIdeal.τ).loc Cert.RopeKixRefIdeal.main_arg1) = m' ((c.tc : Thread Cert.RopeKixRefIdeal.nD Cert.RopeKixRefIdeal.τ).loc Cert.RopeKixRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Router_RouterIdeal : Prop :=
  True

def algebraic_RouterIdeal_RouterRefIdeal_pre_finite [hRouterIdeal : Cert.RouterIdeal.Facts] [hRouterRefIdeal : Cert.RouterRefIdeal.Facts] [hPre_finite : Cert.Pre_finite.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterRefIdeal.nD Cert.RouterRefIdeal.τ Cert.RouterRefIdeal.sig) → Buf (Elt Ideal) ℓ) (g' : Dev Cert.RouterRefIdeal.nD → PrngReg), Pre_RouterIdeal_finite m →
    (∀ c : Dev Cert.RouterIdeal.nD,
      m' ((c.tc : Thread Cert.RouterRefIdeal.nD Cert.RouterRefIdeal.τ).loc Cert.RouterRefIdeal.main_arg0) = m ((c.tc : Thread Cert.RouterIdeal.nD Cert.RouterIdeal.τ).loc Cert.RouterIdeal.main_arg0)
      ∧ m' ((c.tc : Thread Cert.RouterRefIdeal.nD Cert.RouterRefIdeal.τ).loc Cert.RouterRefIdeal.main_arg1) = m ((c.tc : Thread Cert.RouterIdeal.nD Cert.RouterIdeal.τ).loc Cert.RouterIdeal.main_arg1)) →
    ∃ (v0 : (c : Dev Cert.RouterIdeal.nD) → Buf (Elt Ideal) ((c.tc : Thread Cert.RouterIdeal.nD Cert.RouterIdeal.τ).loc Cert.RouterIdeal.main_v3_0)) (v1 : (c : Dev Cert.RouterIdeal.nD) → Buf (Elt Ideal) ((c.tc : Thread Cert.RouterIdeal.nD Cert.RouterIdeal.τ).loc Cert.RouterIdeal.main_v3_1)) (v2 : (c : Dev Cert.RouterIdeal.nD) → Buf (Elt Ideal) ((c.tc : Thread Cert.RouterIdeal.nD Cert.RouterIdeal.τ).loc Cert.RouterIdeal.main_v3_2)) (v3 : (c : Dev Cert.RouterIdeal.nD) → Buf (Elt Ideal) ((c.tc : Thread Cert.RouterIdeal.nD Cert.RouterIdeal.τ).loc Cert.RouterIdeal.main_v3_3)) (v4 : (c : Dev Cert.RouterIdeal.nD) → Buf (Elt Ideal) ((c.tc : Thread Cert.RouterIdeal.nD Cert.RouterIdeal.τ).loc Cert.RouterIdeal.main_v3_4)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v3_0) = v0 c
          ∧ r.2.mem ((c.tc : Thread Cert.RouterIdeal.nD Cert.RouterIdeal.τ).loc Cert.RouterIdeal.main_v3_1) = v1 c
          ∧ r.2.mem ((c.tc : Thread Cert.RouterIdeal.nD Cert.RouterIdeal.τ).loc Cert.RouterIdeal.main_v3_2) = v2 c
          ∧ r.2.mem ((c.tc : Thread Cert.RouterIdeal.nD Cert.RouterIdeal.τ).loc Cert.RouterIdeal.main_v3_3) = v3 c
          ∧ r.2.mem ((c.tc : Thread Cert.RouterIdeal.nD Cert.RouterIdeal.τ).loc Cert.RouterIdeal.main_v3_4) = v4 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1))
      ∧ θ_run (Cert.RouterRefIdeal.defs (F := Ideal)) (onTc (τ := Cert.RouterRefIdeal.τ) (Cert.RouterRefIdeal.main (F := Ideal))) ⟨m', fun _ => 0, g'⟩ (fun r => ∀ c : Dev Cert.RouterRefIdeal.nD,
          r.2.mem ((c.tc : Thread Cert.RouterRefIdeal.nD Cert.RouterRefIdeal.τ).loc Cert.RouterRefIdeal.main_v18) = v0 c
          ∧ r.2.mem ((c.tc : Thread Cert.RouterRefIdeal.nD Cert.RouterRefIdeal.τ).loc Cert.RouterRefIdeal.main_v22) = v1 c
          ∧ r.2.mem ((c.tc : Thread Cert.RouterRefIdeal.nD Cert.RouterRefIdeal.τ).loc Cert.RouterRefIdeal.main_v24) = v2 c
          ∧ r.2.mem ((c.tc : Thread Cert.RouterRefIdeal.nD Cert.RouterRefIdeal.τ).loc Cert.RouterRefIdeal.main_v25) = v3 c
          ∧ r.2.mem ((c.tc : Thread Cert.RouterRefIdeal.nD Cert.RouterRefIdeal.τ).loc Cert.RouterRefIdeal.main_v28) = v4 c
          ∧ r.2.mem ((c.tc : Thread Cert.RouterRefIdeal.nD Cert.RouterRefIdeal.τ).loc Cert.RouterRefIdeal.main_arg0) = m' ((c.tc : Thread Cert.RouterRefIdeal.nD Cert.RouterRefIdeal.τ).loc Cert.RouterRefIdeal.main_arg0)
          ∧ r.2.mem ((c.tc : Thread Cert.RouterRefIdeal.nD Cert.RouterRefIdeal.τ).loc Cert.RouterRefIdeal.main_arg1) = m' ((c.tc : Thread Cert.RouterRefIdeal.nD Cert.RouterRefIdeal.τ).loc Cert.RouterRefIdeal.main_arg1))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hMoe : Cert.Moe.Facts) (hMoeIdeal : Cert.MoeIdeal.Facts) (hMoeRefIdeal : Cert.MoeRefIdeal.Facts) (hInProj : Cert.InProj.Facts) (hInProjIdeal : Cert.InProjIdeal.Facts) (hInProjRefIdeal : Cert.InProjRefIdeal.Facts) (hSmall : Cert.Small.Facts) (hSmallIdeal : Cert.SmallIdeal.Facts) (hSmallRefIdeal : Cert.SmallRefIdeal.Facts) (hVProj : Cert.VProj.Facts) (hVProjIdeal : Cert.VProjIdeal.Facts) (hVProjRefIdeal : Cert.VProjRefIdeal.Facts) (hMerge : Cert.Merge.Facts) (hMergeIdeal : Cert.MergeIdeal.Facts) (hMergeRefIdeal : Cert.MergeRefIdeal.Facts) (hRopeQ : Cert.RopeQ.Facts) (hRopeQIdeal : Cert.RopeQIdeal.Facts) (hRopeQRefIdeal : Cert.RopeQRefIdeal.Facts) (hRopeK : Cert.RopeK.Facts) (hRopeKIdeal : Cert.RopeKIdeal.Facts) (hRopeKRefIdeal : Cert.RopeKRefIdeal.Facts) (hRopeIx : Cert.RopeIx.Facts) (hRopeIxIdeal : Cert.RopeIxIdeal.Facts) (hRopeIxRefIdeal : Cert.RopeIxRefIdeal.Facts) (hRopeKix : Cert.RopeKix.Facts) (hRopeKixIdeal : Cert.RopeKixIdeal.Facts) (hRopeKixRefIdeal : Cert.RopeKixRefIdeal.Facts) (hNorm : Cert.Norm.Facts) (hNormIdeal : Cert.NormIdeal.Facts) (hNormRefIdeal : Cert.NormRefIdeal.Facts) (hRouter : Cert.Router.Facts) (hRouterIdeal : Cert.RouterIdeal.Facts) (hRouterRefIdeal : Cert.RouterRefIdeal.Facts) (hPre_tables : Cert.Pre_tables.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnRefIdeal (hFfnRefIdeal := hFfnRefIdeal)
    ∧ quiescent_Moe (hMoe := hMoe) (hPre_tables := hPre_tables)
    ∧ quiescent_MoeIdeal (hMoeIdeal := hMoeIdeal) (hPre_tables := hPre_tables)
    ∧ quiescent_MoeRefIdeal (hMoeRefIdeal := hMoeRefIdeal) (hPre_tables := hPre_tables)
    ∧ quiescent_InProj (hInProj := hInProj)
    ∧ quiescent_InProjIdeal (hInProjIdeal := hInProjIdeal)
    ∧ quiescent_InProjRefIdeal (hInProjRefIdeal := hInProjRefIdeal)
    ∧ quiescent_Small (hSmall := hSmall)
    ∧ quiescent_SmallIdeal (hSmallIdeal := hSmallIdeal)
    ∧ quiescent_SmallRefIdeal (hSmallRefIdeal := hSmallRefIdeal)
    ∧ quiescent_VProj (hVProj := hVProj)
    ∧ quiescent_VProjIdeal (hVProjIdeal := hVProjIdeal)
    ∧ quiescent_VProjRefIdeal (hVProjRefIdeal := hVProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_RopeQ (hRopeQ := hRopeQ)
    ∧ quiescent_RopeQIdeal (hRopeQIdeal := hRopeQIdeal)
    ∧ quiescent_RopeQRefIdeal (hRopeQRefIdeal := hRopeQRefIdeal)
    ∧ quiescent_RopeK (hRopeK := hRopeK)
    ∧ quiescent_RopeKIdeal (hRopeKIdeal := hRopeKIdeal)
    ∧ quiescent_RopeKRefIdeal (hRopeKRefIdeal := hRopeKRefIdeal)
    ∧ quiescent_RopeIx (hRopeIx := hRopeIx)
    ∧ quiescent_RopeIxIdeal (hRopeIxIdeal := hRopeIxIdeal)
    ∧ quiescent_RopeIxRefIdeal (hRopeIxRefIdeal := hRopeIxRefIdeal)
    ∧ quiescent_RopeKix (hRopeKix := hRopeKix)
    ∧ quiescent_RopeKixIdeal (hRopeKixIdeal := hRopeKixIdeal)
    ∧ quiescent_RopeKixRefIdeal (hRopeKixRefIdeal := hRopeKixRefIdeal)
    ∧ quiescent_Norm (hNorm := hNorm)
    ∧ quiescent_NormIdeal (hNormIdeal := hNormIdeal)
    ∧ quiescent_NormRefIdeal (hNormRefIdeal := hNormRefIdeal)
    ∧ quiescent_Router (hRouter := hRouter)
    ∧ quiescent_RouterIdeal (hRouterIdeal := hRouterIdeal)
    ∧ quiescent_RouterIdeal_pre_finite (hRouterIdeal := hRouterIdeal) (hPre_finite := hPre_finite)
    ∧ quiescent_RouterRefIdeal (hRouterRefIdeal := hRouterRefIdeal)
    ∧ quiescent_RouterRefIdeal_pre_finite (hRouterRefIdeal := hRouterRefIdeal) (hPre_finite := hPre_finite)
    ∧ preserves_Kernel_KernelIdeal
    ∧ algebraic_KernelIdeal_ReferenceIdeal (hKernelIdeal := hKernelIdeal) (hReferenceIdeal := hReferenceIdeal)
    ∧ preserves_Ffn_FfnIdeal
    ∧ algebraic_FfnIdeal_FfnRefIdeal (hFfnIdeal := hFfnIdeal) (hFfnRefIdeal := hFfnRefIdeal)
    ∧ preserves_Moe_MoeIdeal
    ∧ algebraic_MoeIdeal_MoeRefIdeal (hMoeIdeal := hMoeIdeal) (hMoeRefIdeal := hMoeRefIdeal) (hPre_tables := hPre_tables)
    ∧ preserves_InProj_InProjIdeal
    ∧ algebraic_InProjIdeal_InProjRefIdeal (hInProjIdeal := hInProjIdeal) (hInProjRefIdeal := hInProjRefIdeal)
    ∧ preserves_Small_SmallIdeal
    ∧ algebraic_SmallIdeal_SmallRefIdeal (hSmallIdeal := hSmallIdeal) (hSmallRefIdeal := hSmallRefIdeal)
    ∧ preserves_VProj_VProjIdeal
    ∧ algebraic_VProjIdeal_VProjRefIdeal (hVProjIdeal := hVProjIdeal) (hVProjRefIdeal := hVProjRefIdeal)
    ∧ preserves_Merge_MergeIdeal
    ∧ algebraic_MergeIdeal_MergeRefIdeal (hMergeIdeal := hMergeIdeal) (hMergeRefIdeal := hMergeRefIdeal)
    ∧ preserves_RopeQ_RopeQIdeal
    ∧ algebraic_RopeQIdeal_RopeQRefIdeal (hRopeQIdeal := hRopeQIdeal) (hRopeQRefIdeal := hRopeQRefIdeal)
    ∧ preserves_RopeK_RopeKIdeal
    ∧ algebraic_RopeKIdeal_RopeKRefIdeal (hRopeKIdeal := hRopeKIdeal) (hRopeKRefIdeal := hRopeKRefIdeal)
    ∧ preserves_RopeIx_RopeIxIdeal
    ∧ algebraic_RopeIxIdeal_RopeIxRefIdeal (hRopeIxIdeal := hRopeIxIdeal) (hRopeIxRefIdeal := hRopeIxRefIdeal)
    ∧ preserves_RopeKix_RopeKixIdeal
    ∧ algebraic_RopeKixIdeal_RopeKixRefIdeal (hRopeKixIdeal := hRopeKixIdeal) (hRopeKixRefIdeal := hRopeKixRefIdeal)
    ∧ preserves_Norm_NormIdeal
    ∧ algebraic_NormIdeal_NormRefIdeal (hNormIdeal := hNormIdeal) (hNormRefIdeal := hNormRefIdeal)
    ∧ preserves_Router_RouterIdeal
    ∧ algebraic_RouterIdeal_RouterRefIdeal_pre_finite (hRouterIdeal := hRouterIdeal) (hRouterRefIdeal := hRouterRefIdeal) (hPre_finite := hPre_finite)
-- ==== Pre_finite.lean ====
abbrev S8192x2048 : Shape := ⟨2, ![8192, 2048]⟩
abbrev S2048x8 : Shape := ⟨2, ![2048, 8]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x8 : S_.BroadcastsInDim S2048x8 (![] : Fin 0 → Fin S2048x8.rank)
  reducesTo_S2048x8_S_d0_1 : S2048x8.ReducesTo [0, 1] S_

variable [Facts]

def fn {F : FTy → Type} [FloatOps F] (main_arg0 : FVec F S8192x2048 .bf16) (main_arg1 : FVec F S2048x8 .bf16) : IVec S_ 1 :=
  let main_cst : FVec F S_ .bf16 := constant S_ .bf16 0x7F80#16
  let main_v0 : FVec F S_ .bf16 := Host.negf main_cst
  let main_v1 : FVec F S8192x2048 .bf16 := broadcastInDim S8192x2048 ![] bcast_S_S8192x2048 main_v0
  let main_v2 : IVec S8192x2048 1 := cmpf .olt main_v1 main_arg0
  let main_cst_0 : FVec F S_ .bf16 := constant S_ .bf16 0x7F80#16
  let main_v3 : FVec F S8192x2048 .bf16 := broadcastInDim S8192x2048 ![] bcast_S_S8192x2048 main_cst_0
  let main_v4 : IVec S8192x2048 1 := cmpf .olt main_arg0 main_v3
  let main_v5 : IVec S8192x2048 1 := andi main_v2 main_v4
  let main_c : IVec S_ 1 := constantI S_ 1 1#1
  let main_v6 : IVec S_ 1 := (fun x v => Host.reduce IntOp.andi x v reducesTo_S8192x2048_S_d0_1 h_S_) main_v5 main_c
  let main_cst_1 : FVec F S_ .bf16 := constant S_ .bf16 0x7F80#16
  let main_v7 : FVec F S_ .bf16 := Host.negf main_cst_1
  let main_v8 : FVec F S2048x8 .bf16 := broadcastInDim S2048x8 ![] bcast_S_S2048x8 main_v7
  let main_v9 : IVec S2048x8 1 := cmpf .olt main_v8 main_arg1
  let main_cst_2 : FVec F S_ .bf16 := constant S_ .bf16 0x7F80#16
  let main_v10 : FVec F S2048x8 .bf16 := broadcastInDim S2048x8 ![] bcast_S_S2048x8 main_cst_2
  let main_v11 : IVec S2048x8 1 := cmpf .olt main_arg1 main_v10
  let main_v12 : IVec S2048x8 1 := andi main_v9 main_v11
  let main_c_3 : IVec S_ 1 := constantI S_ 1 1#1
  let main_v13 : IVec S_ 1 := (fun x v => Host.reduce IntOp.andi x v reducesTo_S2048x8_S_d0_1 h_S_) main_v12 main_c_3
  let main_v14 : IVec S_ 1 := andi main_v6 main_v13
  main_v14
-- ==== Pre_tables.lean ====
abbrev S40 : Shape := ⟨1, ![40]⟩
abbrev S1 : Shape := ⟨1, ![1]⟩
abbrev S20480x2048 : Shape := ⟨2, ![20480, 2048]⟩
abbrev S1x2048 : Shape := ⟨2, ![1, 2048]⟩
abbrev S8x2048x2816 : Shape := ⟨3, ![8, 2048, 2816]⟩
abbrev S8x2816x2048 : Shape := ⟨3, ![8, 2816, 2048]⟩
abbrev S_ : Shape := ⟨0, ![]⟩

class Facts : Prop where
  bcast_S_S40 : S_.BroadcastsInDim S40 (![] : Fin 0 → Fin S40.rank)
  reducesTo_S40_S_d0 : S40.ReducesTo [0] S_
  h_S_ : 0 < S_.numel
  shapeCasts_S1_S_ : S1.ShapeCasts S_

variable [Facts]

def fn {F : FTy → Type} [FloatOps F] (main_arg0 : IVec S40 32) (main_arg1 : IVec S1 32) (main_arg2 : FVec F S20480x2048 .f32) (main_arg3 : FVec F S1x2048 .f32) (main_arg4 : FVec F S8x2048x2816 .bf16) (main_arg5 : FVec F S8x2048x2816 .bf16) (main_arg6 : FVec F S8x2816x2048 .bf16) : IVec S_ 1 :=
  let main_c : IVec S_ 32 := constantI S_ 32 0#32
  let main_v0 : IVec S40 32 := broadcastInDim S40 ![] bcast_S_S40 main_c
  let main_v1 : IVec S40 1 := cmpi .sge main_arg0 main_v0
  let main_c_0 : IVec S_ 32 := constantI S_ 32 8#32
  let main_v2 : IVec S40 32 := broadcastInDim S40 ![] bcast_S_S40 main_c_0
  let main_v3 : IVec S40 1 := cmpi .slt main_arg0 main_v2
  let main_v4 : IVec S40 1 := andi main_v1 main_v3
  let main_c_1 : IVec S_ 1 := constantI S_ 1 1#1
  let main_v5 : IVec S_ 1 := (fun x v => Host.reduce IntOp.andi x v reducesTo_S40_S_d0 h_S_) main_v4 main_c_1
  let main_v6 : IVec S_ 32 := shapeCast S_ main_arg1 shapeCasts_S1_S_
  let main_c_2 : IVec S_ 32 := constantI S_ 32 1#32
  let main_v7 : IVec S_ 1 := cmpi .sge main_v6 main_c_2
  let main_v8 : IVec S_ 1 := andi main_v5 main_v7
  main_v8
-- ==== Kernel.lean ====
abbrev S8192x1024 : Shape := ⟨2, ![8192, 1024]⟩
abbrev S8192x512 : Shape := ⟨2, ![8192, 512]⟩
abbrev S1024x128 : Shape := ⟨2, ![1024, 128]⟩
abbrev S8192x8192 : Shape := ⟨2, ![8192, 8192]⟩
abbrev S128 : Shape := ⟨1, ![128]⟩
abbrev S1x128 : Shape := ⟨2, ![1, 128]⟩
abbrev S64x1024 : Shape := ⟨2, ![64, 1024]⟩
abbrev S64x512 : Shape := ⟨2, ![64, 512]⟩
abbrev S8x128 : Shape := ⟨2, ![8, 128]⟩
abbrev S8x128x128 : Shape := ⟨3, ![8, 128, 128]⟩
abbrev S1x128x128 : Shape := ⟨3, ![1, 128, 128]⟩
abbrev S128x128 : Shape := ⟨2, ![128, 128]⟩
abbrev S64x128 : Shape := ⟨2, ![64, 128]⟩
abbrev S64x64 : Shape := ⟨2, ![64, 64]⟩
abbrev S64 : Shape := ⟨1, ![64]⟩
abbrev S64x1 : Shape := ⟨2, ![64, 1]⟩

abbrev nBuf : Space → Nat
  | .hbm => 10
  | .vmem => 18
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .f32⟩
  | .hbm, ⟨4, _⟩ => ⟨S8192x512, .bf16⟩
  | .hbm, ⟨5, _⟩ => ⟨S1024x128, .f32⟩
  | .hbm, ⟨6, _⟩ => ⟨S8192x8192, .f32⟩
  | .hbm, ⟨7, _⟩ => ⟨S128, .f32⟩
  | .hbm, ⟨8, _⟩ => ⟨S1x128, .f32⟩
  | .hbm, ⟨9, _⟩ => ⟨S8192x1024, .bf16⟩
  | .local _ .vmem, ⟨0, _⟩ => ⟨S64x1024, .bf16⟩
  | .local _ .vmem, ⟨1, _⟩ => ⟨S64x1024, .bf16⟩
  | .local _ .vmem, ⟨2, _⟩ => ⟨S64x1024, .bf16⟩
  | .local _ .vmem, ⟨3, _⟩ => ⟨S64x1024, .bf16⟩
  | .local _ .vmem, ⟨4, _⟩ => ⟨S64x1024, .bf16⟩
  | .local _ .vmem, ⟨5, _⟩ => ⟨S64x1024, .bf16⟩
  | .local _ .vmem, ⟨6, _⟩ => ⟨S64x1024, .f32⟩
  | .local _ .vmem, ⟨7, _⟩ => ⟨S64x1024, .f32⟩
  | .local _ .vmem, ⟨8, _⟩ => ⟨S64x512, .bf16⟩
  | .local _ .vmem, ⟨9, _⟩ => ⟨S64x512, .bf16⟩
  | .local _ .vmem, ⟨10, _⟩ => ⟨S8x128, .f32⟩
  | .local _ .vmem, ⟨11, _⟩ => ⟨S8x128, .f32⟩
  | .local _ .vmem, ⟨12, _⟩ => ⟨S64x1024, .f32⟩
  | .local _ .vmem, ⟨13, _⟩ => ⟨S64x1024, .f32⟩
  | .local _ .vmem, ⟨14, _⟩ => ⟨S1x128, .f32⟩
  | .local _ .vmem, ⟨15, _⟩ => ⟨S64x1024, .bf16⟩
  | .local _ .vmem, ⟨16, _⟩ => ⟨S64x1024, .bf16⟩
  | .local _ .vmem, ⟨17, _⟩ => ⟨S8x128x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S64x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S8192x1024 : Shape := ⟨2, ![8192, 1024]⟩
abbrev S8192x512 : Shape := ⟨2, ![8192, 512]⟩
abbrev S1024x128 : Shape := ⟨2, ![1024, 128]⟩
abbrev S8192x8192 : Shape := ⟨2, ![8192, 8192]⟩
abbrev S128 : Shape := ⟨1, ![128]⟩
abbrev S1x128x64x8x128 : Shape := ⟨5, ![1, 128, 64, 8, 128]⟩
abbrev S128x1x8x64x128 : Shape := ⟨5, ![128, 1, 8, 64, 128]⟩
abbrev S1x128x64x8x64 : Shape := ⟨5, ![1, 128, 64, 8, 64]⟩
abbrev S128x1x8x64x64 : Shape := ⟨5, ![128, 1, 8, 64, 64]⟩
abbrev S128x1x8x128 : Shape := ⟨4, ![128, 1, 8, 128]⟩
abbrev S_ : Shape := ⟨0, ![]⟩
abbrev S1x8x128x128 : Shape := ⟨4, ![1, 8, 128, 128]⟩
abbrev S1x1x8x64x128 : Shape := ⟨5, ![1, 1, 8, 64, 128]⟩
abbrev S1x8x64x128 : Shape := ⟨4, ![1, 8, 64, 128]⟩
abbrev S1x1x8x64x64 : Shape := ⟨5, ![1, 1, 8, 64, 64]⟩
abbrev S1x8x64x64 : Shape := ⟨4, ![1, 8, 64, 64]⟩
abbrev S1x1x8x128 : Shape := ⟨4, ![1, 1, 8, 128]⟩
abbrev S1x8x128 : Shape := ⟨3, ![1, 8, 128]⟩
abbrev S1x8x1x128 : Shape := ⟨4, ![1, 8, 1, 128]⟩
abbrev S1x8192x8x128 : Shape := ⟨4, ![1, 8192, 8, 128]⟩
abbrev S1x8192x8 : Shape := ⟨3, ![1, 8192, 8]⟩
abbrev S1x8192x8x1 : Shape := ⟨4, ![1, 8192, 8, 1]⟩
abbrev S1x1x1x128 : Shape := ⟨4, ![1, 1, 1, 128]⟩

abbrev nBuf : Space → Nat
  | .hbm => 124
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .f32⟩
  | .hbm, ⟨4, _⟩ => ⟨S8192x512, .bf16⟩
  | .hbm, ⟨5, _⟩ => ⟨S1024x128, .f32⟩
  | .hbm, ⟨6, _⟩ => ⟨S8192x8192, .f32⟩
  | .hbm, ⟨7, _⟩ => ⟨S128, .f32⟩
  | .hbm, ⟨8, _⟩ => ⟨S8192x1024, .f32⟩
  | .hbm, ⟨9, _⟩ => ⟨S1x128x64x8x128, .f32⟩
  | .hbm, ⟨10, _⟩ => ⟨S128x1x8x64x128, .f32⟩
  | .hbm, ⟨11, _⟩ => ⟨S8192x1024, .f32⟩
  | .hbm, ⟨12, _⟩ => ⟨S1x128x64x8x128, .f32⟩
  | .hbm, ⟨13, _⟩ => ⟨S128x1x8x64x128, .f32⟩
  | .hbm, ⟨14, _⟩ => ⟨S8192x1024, .f32⟩
  | .hbm, ⟨15, _⟩ => ⟨S1x128x64x8x128, .f32⟩
  | .hbm, ⟨16, _⟩ => ⟨S128x1x8x64x128, .f32⟩
  | .hbm, ⟨17, _⟩ => ⟨S1x128x64x8x128, .f32⟩
  | .hbm, ⟨18, _⟩ => ⟨S128x1x8x64x128, .f32⟩
  | .hbm, ⟨19, _⟩ => ⟨S8192x512, .f32⟩
  | .hbm, ⟨20, _⟩ => ⟨S1x128x64x8x64, .f32⟩
  | .hbm, ⟨21, _⟩ => ⟨S128x1x8x64x64, .f32⟩
  | .hbm, ⟨22, _⟩ => ⟨S128x1x8x128, .f32⟩
  | .hbm, ⟨23, _⟩ => ⟨S_, .f32⟩
  | .hbm, ⟨24, _⟩ => ⟨S1x8x128x128, .f32⟩
  | .hbm, ⟨25, _⟩ => ⟨S_, .f32⟩
  | .hbm, ⟨26, _⟩ => ⟨S128x1x8x64x128, .f32⟩
  | .hbm, ⟨27, _⟩ => ⟨S_, .i32⟩
  | .hbm, ⟨28, _⟩ => ⟨S128x1x8x64x128, .f32⟩
  | .hbm, ⟨29, _⟩ => ⟨S128x1x8x64x128, .f32⟩
  | .hbm, ⟨30, _⟩ => ⟨S128x1x8x64x128, .f32⟩
  | .hbm, ⟨31, _⟩ => ⟨S128x1x8x64x128, .f32⟩
  | .hbm, ⟨32, _⟩ => ⟨S128x1x8x64x64, .f32⟩
  | .hbm, ⟨33, _⟩ => ⟨S128x1x8x128, .f32⟩
  | .hbm, ⟨34, _⟩ => ⟨S_, .i32⟩
  | .hbm, ⟨35, _⟩ => ⟨S1x8x128x128, .f32⟩
  | .hbm, ⟨36, _⟩ => ⟨S128x1x8x64x128, .f32⟩
  | .hbm, ⟨37, _⟩ => ⟨S_, .i32⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S1x1x8x64x128, .f32⟩
  | .hbm, ⟨44, _⟩ => ⟨S1x8x64x128, .f32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S1x1x8x64x128, .f32⟩
  | .hbm, ⟨50, _⟩ => ⟨S1x8x64x128, .f32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S1x1x8x64x128, .f32⟩
  | .hbm, ⟨56, _⟩ => ⟨S1x8x64x128, .f32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S1x1x8x64x128, .f32⟩
  | .hbm, ⟨62, _⟩ => ⟨S1x8x64x128, .f32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S1x1x8x64x64, .f32⟩
  | .hbm, ⟨68, _⟩ => ⟨S1x8x64x64, .f32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S1x1x8x128, .f32⟩
  | .hbm, ⟨73, _⟩ => ⟨S1x8x128, .f32⟩
  | .hbm, ⟨74, _⟩ => ⟨S1x8x64x128, .f32⟩
  | .hbm, ⟨75, _⟩ => ⟨S1x8x64x128, .f32⟩
  | .hbm, ⟨76, _⟩ => ⟨S1x8x64x128, .f32⟩
  | .hbm, ⟨77, _⟩ => ⟨S1x8x64x128, .f32⟩
  | .hbm, ⟨78, _⟩ => ⟨S1x8x64x128, .f32⟩
  | .hbm, ⟨79, _⟩ => ⟨S1x8x1x128, .f32⟩
  | .hbm, ⟨80, _⟩ => ⟨S1x8x128x128, .f32⟩
  | .hbm, ⟨81, _⟩ => ⟨S1x8x128x128, .f32⟩
  | .hbm, ⟨82, _⟩ => ⟨S1x8x128x128, .f32⟩
  | .hbm, ⟨83, _⟩ => ⟨S1x8x128x128, .f32⟩
  | .hbm, ⟨84, _⟩ => ⟨S1x1x8x64x128, .f32⟩
  | .hbm, ⟨85, _⟩ => ⟨S_, .i32⟩
  | .hbm, ⟨86, _⟩ => ⟨S_, .i32⟩
  | .hbm, ⟨87, _⟩ => ⟨S_, .i32⟩
  | .hbm, ⟨88, _⟩ => ⟨S_, .i32⟩
  | .hbm, ⟨89, _⟩ => ⟨S128x1x8x64x128, .f32⟩
  | .hbm, ⟨90, _⟩ => ⟨S_, .i32⟩
  | .hbm, ⟨91, _⟩ => ⟨S_, .i32⟩
  | .hbm, ⟨92, _⟩ => ⟨S1x128x64x8x128, .f32⟩
  | .hbm, ⟨93, _⟩ => ⟨S1x8192x8x128, .f32⟩
  | .hbm, ⟨94, _⟩ => ⟨S1x8192x8x128, .f32⟩
  | .hbm, ⟨95, _⟩ => ⟨S_, .f32⟩
  | .hbm, ⟨96, _⟩ => ⟨S1x8192x8, .f32⟩
  | .hbm, ⟨97, _⟩ => ⟨S1x8192x8x1, .f32⟩
  | .hbm, ⟨98, _⟩ => ⟨S_, .f32⟩
  | .hbm, ⟨99, _⟩ => ⟨S1x8192x8x1, .f32⟩
  | .hbm, ⟨100, _⟩ => ⟨S1x8192x8x1, .f32⟩
  | .hbm, ⟨101, _⟩ => ⟨S_, .f32⟩
  | .hbm, ⟨102, _⟩ => ⟨S1x8192x8x1, .f32⟩
  | .hbm, ⟨103, _⟩ => ⟨S1x8192x8x1, .f32⟩
  | .hbm, ⟨104, _⟩ => ⟨S1x8192x8x1, .f32⟩
  | .hbm, ⟨105, _⟩ => ⟨S1x8192x8x128, .f32⟩
  | .hbm, ⟨106, _⟩ => ⟨S1x8192x8x128, .f32⟩
  | .hbm, ⟨107, _⟩ => ⟨S1x1x1x128, .f32⟩
  | .hbm, ⟨108, _⟩ => ⟨S1x8192x8x128, .f32⟩
  | .hbm, ⟨109, _⟩ => ⟨S1x8192x8x128, .f32⟩
  | .hbm, ⟨110, _⟩ => ⟨S8192x1024, .f32⟩
  | .hbm, ⟨111, _⟩ => ⟨S1x8192x8x128, .f32⟩
  | .hbm, ⟨112, _⟩ => ⟨S1x8192x8x128, .f32⟩
  | .hbm, ⟨113, _⟩ => ⟨S1x8192x8x128, .f32⟩
  | .hbm, ⟨114, _⟩ => ⟨S_, .f32⟩
  | .hbm, ⟨115, _⟩ => ⟨S1x8192x8x128, .f32⟩
  | .hbm, ⟨116, _⟩ => ⟨S1x8192x8x128, .f32⟩
  | .hbm, ⟨117, _⟩ => ⟨S_, .f32⟩
  | .hbm, ⟨118, _⟩ => ⟨S1x8192x8x128, .f32⟩
  | .hbm, ⟨119, _⟩ => ⟨S1x8192x8x128, .f32⟩
  | .hbm, ⟨120, _⟩ => ⟨S1x8192x8x128, .f32⟩
  | .hbm, ⟨121, _⟩ => ⟨S1x8192x8x128, .f32⟩
  | .hbm, ⟨122, _⟩ => ⟨S8192x1024, .f32⟩
  | .hbm, ⟨123, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_c : Ref sig .tc := ⟨.hbm, 27, rfl⟩
abbrev main_v17_0 : Ref sig .tc := ⟨.hbm, 28, rfl⟩
abbrev main_v17_1 : Ref sig .tc := ⟨.hbm, 29, rfl⟩
abbrev main_v17_2 : Ref sig .tc := ⟨.hbm, 30, rfl⟩
abbrev main_v17_3 : Ref sig .tc := ⟨.hbm, 31, rfl⟩
abbrev main_v17_4 : Ref sig .tc := ⟨.hbm, 32, rfl⟩
abbrev main_v17_5 : Ref sig .tc := ⟨.hbm, 33, rfl⟩
abbrev main_v17_6 : Ref sig .tc := ⟨.hbm, 34, rfl⟩
abbrev main_v17_7 : Ref sig .tc := ⟨.hbm, 35, rfl⟩
abbrev main_v17_8 : Ref sig .tc := ⟨.hbm, 36, rfl⟩
abbrev main_while0c_c_12 : Ref sig .tc := ⟨.hbm, 37, rfl⟩
abbrev main_while0c_v39 : Ref sig .tc := ⟨.hbm, 38, rfl⟩
abbrev main_while0b_call0_c : Ref sig .tc := ⟨.hbm, 39, rfl⟩
abbrev main_while0b_call0_c_0 : Ref sig .tc := ⟨.hbm, 40, rfl⟩
abbrev main_while0b_call0_c_1 : Ref sig .tc := ⟨.hbm, 41, rfl⟩
abbrev main_while0b_call0_c_2 : Ref sig .tc := ⟨.hbm, 42, rfl⟩
abbrev main_while0b_call0_v0 : Ref sig .tc := ⟨.hbm, 43, rfl⟩
abbrev main_while0b_v39 : Ref sig .tc := ⟨.hbm, 44, rfl⟩
abbrev main_while0b_call1_c : Ref sig .tc := ⟨.hbm, 45, rfl⟩
abbrev main_while0b_call1_c_0 : Ref sig .tc := ⟨.hbm, 46, rfl⟩
abbrev main_while0b_call1_c_1 : Ref sig .tc := ⟨.hbm, 47, rfl⟩
abbrev main_while0b_call1_c_2 : Ref sig .tc := ⟨.hbm, 48, rfl⟩
abbrev main_while0b_call1_v0 : Ref sig .tc := ⟨.hbm, 49, rfl⟩
abbrev main_while0b_v40 : Ref sig .tc := ⟨.hbm, 50, rfl⟩
abbrev main_while0b_call2_c : Ref sig .tc := ⟨.hbm, 51, rfl⟩
abbrev main_while0b_call2_c_0 : Ref sig .tc := ⟨.hbm, 52, rfl⟩
abbrev main_while0b_call2_c_1 : Ref sig .tc := ⟨.hbm, 53, rfl⟩
abbrev main_while0b_call2_c_2 : Ref sig .tc := ⟨.hbm, 54, rfl⟩
abbrev main_while0b_call2_v0 : Ref sig .tc := ⟨.hbm, 55, rfl⟩
abbrev main_while0b_v41 : Ref sig .tc := ⟨.hbm, 56, rfl⟩
abbrev main_while0b_call3_c : Ref sig .tc := ⟨.hbm, 57, rfl⟩
abbrev main_while0b_call3_c_0 : Ref sig .tc := ⟨.hbm, 58, rfl⟩
abbrev main_while0b_call3_c_1 : Ref sig .tc := ⟨.hbm, 59, rfl⟩
abbrev main_while0b_call3_c_2 : Ref sig .tc := ⟨.hbm, 60, rfl⟩
abbrev main_while0b_call3_v0 : Ref sig .tc := ⟨.hbm, 61, rfl⟩
abbrev main_while0b_v42 : Ref sig .tc := ⟨.hbm, 62, rfl⟩
abbrev main_while0b_call4_c : Ref sig .tc := ⟨.hbm, 63, rfl⟩
abbrev main_while0b_call4_c_0 : Ref sig .tc := ⟨.hbm, 64, rfl⟩
abbrev main_while0b_call4_c_1 : Ref sig .tc := ⟨.hbm, 65, rfl⟩
abbrev main_while0b_call4_c_2 : Ref sig .tc := ⟨.hbm, 66, rfl⟩
abbrev main_while0b_call4_v0 : Ref sig .tc := ⟨.hbm, 67, rfl⟩
abbrev main_while0b_v43 : Ref sig .tc := ⟨.hbm, 68, rfl⟩
abbrev main_while0b_call5_c : Ref sig .tc := ⟨.hbm, 69, rfl⟩
abbrev main_while0b_call5_c_0 : Ref sig .tc := ⟨.hbm, 70, rfl⟩
abbrev main_while0b_call5_c_1 : Ref sig .tc := ⟨.hbm, 71, rfl⟩
abbrev main_while0b_call5_v0 : Ref sig .tc := ⟨.hbm, 72, rfl⟩
abbrev main_while0b_v44 : Ref sig .tc := ⟨.hbm, 73, rfl⟩
abbrev main_while0b_v45 : Ref sig .tc := ⟨.hbm, 74, rfl⟩
abbrev main_while0b_v46 : Ref sig .tc := ⟨.hbm, 75, rfl⟩
abbrev main_while0b_v47 : Ref sig .tc := ⟨.hbm, 76, rfl⟩
abbrev main_while0b_v48 : Ref sig .tc := ⟨.hbm, 77, rfl⟩
abbrev main_while0b_v49 : Ref sig .tc := ⟨.hbm, 78, rfl⟩
abbrev main_while0b_v50 : Ref sig .tc := ⟨.hbm, 79, rfl⟩
abbrev main_while0b_v51 : Ref sig .tc := ⟨.hbm, 80, rfl⟩
abbrev main_while0b_v52 : Ref sig .tc := ⟨.hbm, 81, rfl⟩
abbrev main_while0b_v53 : Ref sig .tc := ⟨.hbm, 82, rfl⟩
abbrev main_while0b_v54 : Ref sig .tc := ⟨.hbm, 83, rfl⟩
abbrev main_while0b_call6_v0 : Ref sig .tc := ⟨.hbm, 84, rfl⟩
abbrev main_while0b_call6_c : Ref sig .tc := ⟨.hbm, 85, rfl⟩
abbrev main_while0b_call6_c_0 : Ref sig .tc := ⟨.hbm, 86, rfl⟩
abbrev main_while0b_call6_c_1 : Ref sig .tc := ⟨.hbm, 87, rfl⟩
abbrev main_while0b_call6_c_2 : Ref sig .tc := ⟨.hbm, 88, rfl⟩
abbrev main_while0b_v55 : Ref sig .tc := ⟨.hbm, 89, rfl⟩
abbrev main_while0b_c_12 : Ref sig .tc := ⟨.hbm, 90, rfl⟩
abbrev main_while0b_v56 : Ref sig .tc := ⟨.hbm, 91, rfl⟩
abbrev main_v18 : Ref sig .tc := ⟨.hbm, 92, rfl⟩
abbrev main_v19 : Ref sig .tc := ⟨.hbm, 93, rfl⟩
abbrev main_v20 : Ref sig .tc := ⟨.hbm, 94, rfl⟩
abbrev main_cst_1 : Ref sig .tc := ⟨.hbm, 95, rfl⟩
abbrev main_v21 : Ref sig .tc := ⟨.hbm, 96, rfl⟩
abbrev main_v22 : Ref sig .tc := ⟨.hbm, 97, rfl⟩
abbrev main_cst_2 : Ref sig .tc := ⟨.hbm, 98, rfl⟩
abbrev main_v23 : Ref sig .tc := ⟨.hbm, 99, rfl⟩
abbrev main_v24 : Ref sig .tc := ⟨.hbm, 100, rfl⟩
abbrev main_cst_3 : Ref sig .tc := ⟨.hbm, 101, rfl⟩
abbrev main_v25 : Ref sig .tc := ⟨.hbm, 102, rfl⟩
abbrev main_v26 : Ref sig .tc := ⟨.hbm, 103, rfl⟩
abbrev main_v27 : Ref sig .tc := ⟨.hbm, 104, rfl⟩
abbrev main_v28 : Ref sig .tc := ⟨.hbm, 105, rfl⟩
abbrev main_v29 : Ref sig .tc := ⟨.hbm, 106, rfl⟩
abbrev main_v30 : Ref sig .tc := ⟨.hbm, 107, rfl⟩
abbrev main_v31 : Ref sig .tc := ⟨.hbm, 108, rfl⟩
abbrev main_v32 : Ref sig .tc := ⟨.hbm, 109, rfl⟩
abbrev main_v33 : Ref sig .tc := ⟨.hbm, 110, rfl⟩
abbrev main_v34 : Ref sig .tc := ⟨.hbm, 111, rfl⟩
abbrev main_call7_v0 : Ref sig .tc := ⟨.hbm, 112, rfl⟩
abbrev main_call7_v1 : Ref sig .tc := ⟨.hbm, 113, rfl⟩
abbrev main_call7_cst : Ref sig .tc := ⟨.hbm, 114, rfl⟩
abbrev main_call7_v2 : Ref sig .tc := ⟨.hbm, 115, rfl⟩
abbrev main_call7_v3 : Ref sig .tc := ⟨.hbm, 116, rfl⟩
abbrev main_call7_cst_0 : Ref sig .tc := ⟨.hbm, 117, rfl⟩
abbrev main_call7_v4 : Ref sig .tc := ⟨.hbm, 118, rfl⟩
abbrev main_call7_v5 : Ref sig .tc := ⟨.hbm, 119, rfl⟩
abbrev main_v35 : Ref sig .tc := ⟨.hbm, 120, rfl⟩
abbrev main_v36 : Ref sig .tc := ⟨.hbm, 121, rfl⟩
abbrev main_v37 : Ref sig .tc := ⟨.hbm, 122, rfl⟩
abbrev main_v38 : Ref sig .tc := ⟨.hbm, 123, rfl⟩

abbrev nD : Nat := 1
abbrev τ : Topo := Topo.v7x

variable {F : FTy → Type} [FloatOps F]

abbrev main_while0_count : Scf.Loop 32 := ⟨0#32, 128#32, 1#32⟩
-- ==== Ffn.lean ====
abbrev S8192x2048 : Shape := ⟨2, ![8192, 2048]⟩
abbrev S2048x5632 : Shape := ⟨2, ![2048, 5632]⟩
abbrev S5632x2048 : Shape := ⟨2, ![5632, 2048]⟩
abbrev S2048 : Shape := ⟨1, ![2048]⟩
abbrev S1x2048 : Shape := ⟨2, ![1, 2048]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 9
  | .vmem => 15
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S2048, .f32⟩
  | .hbm, ⟨6, _⟩ => ⟨S1x2048, .f32⟩
  | .hbm, ⟨7, _⟩ => ⟨S8192x2048, .f32⟩
  | .hbm, ⟨8, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x2048, .bf16⟩
  | .local _ .vmem, ⟨9, _⟩ => ⟨S512x2048, .bf16⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v24 : BitVec 1 := Scalar.cmpi .eq arg1 c10_i32
  let v25 : BitVec 32 := Scalar.extui v24
  let c0_i32_17 : BitVec 32 := 0#32
  let v26 : BitVec 1 := Scalar.cmpi .ne v25 c0_i32_17
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== FfnRefIdeal.lean ====
abbrev S8192x2048 : Shape := ⟨2, ![8192, 2048]⟩
abbrev S2048x5632 : Shape := ⟨2, ![2048, 5632]⟩
abbrev S5632x2048 : Shape := ⟨2, ![5632, 2048]⟩
abbrev S2048 : Shape := ⟨1, ![2048]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S2048, .f32⟩
  | .hbm, ⟨6, _⟩ => ⟨S8192x2048, .f32⟩
  | .hbm, ⟨7, _⟩ => ⟨S2048x5632, .f32⟩
  | .hbm, ⟨8, _⟩ => ⟨S2048x5632, .f32⟩
  | .hbm, ⟨9, _⟩ => ⟨S5632x2048, .f32⟩
  | .hbm, ⟨10, _⟩ => ⟨S8192x5632, .f32⟩
  | .hbm, ⟨11, _⟩ => ⟨S8192x5632, .f32⟩
  | .hbm, ⟨12, _⟩ => ⟨S8192x5632, .f32⟩
  | .hbm, ⟨13, _⟩ => ⟨S_, .f32⟩
  | .hbm, ⟨14, _⟩ => ⟨S8192x5632, .f32⟩
  | .hbm, ⟨15, _⟩ => ⟨S8192x5632, .f32⟩
  | .hbm, ⟨16, _⟩ => ⟨S_, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x2048, .f32⟩
  | .hbm, ⟨36, _⟩ => ⟨S8192x2048, .f32⟩
  | .hbm, ⟨37, _⟩ => ⟨S1x2048, .f32⟩
  | .hbm, ⟨38, _⟩ => ⟨S8192x2048, .f32⟩
  | .hbm, ⟨39, _⟩ => ⟨S8192x2048, .f32⟩
  | .hbm, ⟨40, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩

abbrev nD : Nat := 1
abbrev τ : Topo := Topo.v7x

variable {F : FTy → Type} [FloatOps F]
-- ==== Moe.lean ====
abbrev S40 : Shape := ⟨1, ![40]⟩
abbrev S1 : Shape := ⟨1, ![1]⟩
abbrev S20480x2048 : Shape := ⟨2, ![20480, 2048]⟩
abbrev S1x2048 : Shape := ⟨2, ![1, 2048]⟩
abbrev S8x2048x2816 : Shape := ⟨3, ![8, 2048, 2816]⟩
abbrev S8x2816x2048 : Shape := ⟨3, ![8, 2816, 2048]⟩
abbrev S512x2048 : Shape := ⟨2, ![512, 2048]⟩
abbrev S1x2048x256 : Shape := ⟨3, ![1, 2048, 256]⟩
abbrev S1x256x2048 : Shape := ⟨3, ![1, 256, 2048]⟩
abbrev S512 : Shape := ⟨1, ![512]⟩
abbrev S512x1 : Shape := ⟨2, ![512, 1]⟩
abbrev S2048x256 : Shape := ⟨2, ![2048, 256]⟩
abbrev S512x256 : Shape := ⟨2, ![512, 256]⟩
abbrev S256x2048 : Shape := ⟨2, ![256, 2048]⟩

abbrev nBuf : Space → Nat
  | .hbm => 6
  | .vmem => 13
  | .smem => 2
  | _ => 0

abbrev bufTy : (tb : Table) → Fin (tcTables nBuf tb) → BufTy
  | .hbm, ⟨0, _⟩ => ⟨S20480x2048, .f32⟩
  | .hbm, ⟨1, _⟩ => ⟨S1x2048, .f32⟩
  | .hbm, ⟨2, _⟩ => ⟨S8x2048x2816, .bf16⟩
  | .hbm, ⟨3, _⟩ => ⟨S8x2048x2816, .bf16⟩
  | .hbm, ⟨4, _⟩ => ⟨S8x2816x2048, .bf16⟩
  | .hbm, ⟨5, _⟩ => ⟨S20480x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x256, .bf16⟩
  | .local _ .vmem, ⟨7, _⟩ => ⟨S1x256x2048, .bf16⟩
  | .local _ .vmem, ⟨8, _⟩ => ⟨S1x256x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .f32⟩
  | .local _ .smem, ⟨0, _⟩ => ⟨S40, .i32⟩
  | .local _ .smem, ⟨1, _⟩ => ⟨S1, .i32⟩
  | _, _ => ⟨S20480x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![40, 11], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) : BitVec 1 :=
  let arg1 : BitVec 32 := BitVec.ofNat 32 (i 1).val
  let c10_i32 : BitVec 32 := 10#32
  let v38 : BitVec 1 := Scalar.cmpi .eq arg1 c10_i32
  let v39 : BitVec 32 := Scalar.extui v38
  let c0_i32_25 : BitVec 32 := 0#32
  let v40 : BitVec 1 := Scalar.cmpi .ne v39 c0_i32_25
  v40

def k0_cond4 (i : grid0.Coords) (v4 : BitVec 32) : BitVec 1 :=
  let arg0 : BitVec 32 := BitVec.ofNat 32 (i 0).val
  let v5 : BitVec 1 := Scalar.cmpi .sge arg0 v4
  let arg1 : BitVec 32 := BitVec.ofNat 32 (i 1).val
  let c0_i32_1 : BitVec 32 := 0#32
  let v6 : BitVec 1 := Scalar.cmpi .eq arg1 c0_i32_1
  let v7 : BitVec 1 := Scalar.andi v5 v6
  let v8 : BitVec 32 := Scalar.extui v7
  let c0_i32_2 : BitVec 32 := 0#32
  let v9 : BitVec 1 := Scalar.cmpi .ne v8 c0_i32_2
  v9

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c10_i32 : BitVec 32 := 10#32
  let v4 : BitVec 32 := Scalar.select v3 arg1 c10_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c10_i32 : BitVec 32 := 10#32
  let v4 : BitVec 32 := Scalar.select v3 arg1 c10_i32
  let c0_i32 : BitVec 32 := 0#32
  let c0_i32_0 : BitVec 32 := 0#32
  ![v1.toNat, c0_i32.toNat, v4.toNat]

def cc0_transform_4 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c10_i32 : BitVec 32 := 10#32
  let v4 : BitVec 32 := Scalar.select v3 arg1 c10_i32
  let c0_i32 : BitVec 32 := 0#32
  let c0_i32_0 : BitVec 32 := 0#32
  ![v1.toNat, v4.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MoeRefIdeal.lean ====
abbrev S40 : Shape := ⟨1, ![40]⟩
abbrev S1 : Shape := ⟨1, ![1]⟩
abbrev S20480x2048 : Shape := ⟨2, ![20480, 2048]⟩
abbrev S1x2048 : Shape := ⟨2, ![1, 2048]⟩
abbrev S8x2048x2816 : Shape := ⟨3, ![8, 2048, 2816]⟩
abbrev S8x2816x2048 : Shape := ⟨3, ![8, 2816, 2048]⟩
abbrev S20480 : Shape := ⟨1, ![20480]⟩
abbrev S_ : Shape := ⟨0, ![]⟩
abbrev S40x512 : Shape := ⟨2, ![40, 512]⟩
abbrev S20480x1 : Shape := ⟨2, ![20480, 1]⟩
abbrev S8x2816x20480 : Shape := ⟨3, ![8, 2816, 20480]⟩
abbrev S8x20480x2816 : Shape := ⟨3, ![8, 20480, 2816]⟩
abbrev S8x20480x2048 : Shape := ⟨3, ![8, 20480, 2048]⟩
abbrev S1x20480 : Shape := ⟨2, ![1, 20480]⟩
abbrev S8 : Shape := ⟨1, ![8]⟩
abbrev S8x1 : Shape := ⟨2, ![8, 1]⟩
abbrev S8x20480 : Shape := ⟨2, ![8, 20480]⟩
abbrev S8x20480x1 : Shape := ⟨3, ![8, 20480, 1]⟩

abbrev nBuf : Space → Nat
  | .hbm => 81
  | .vmem => 0
  | .smem => 0
  | _ => 0

abbrev bufTy : (tb : Table) → Fin (tcTables nBuf tb) → BufTy
  | .hbm, ⟨0, _⟩ => ⟨S40, .i32⟩
  | .hbm, ⟨1, _⟩ => ⟨S1, .i32⟩
  | .hbm, ⟨2, _⟩ => ⟨S20480x2048, .f32⟩
  | .hbm, ⟨3, _⟩ => ⟨S1x2048, .f32⟩
  | .hbm, ⟨4, _⟩ => ⟨S8x2048x2816, .bf16⟩
  | .hbm, ⟨5, _⟩ => ⟨S8x2048x2816, .bf16⟩
  | .hbm, ⟨6, _⟩ => ⟨S8x2816x2048, .bf16⟩
  | .hbm, ⟨7, _⟩ => ⟨S8x2048x2816, .f32⟩
  | .hbm, ⟨8, _⟩ => ⟨S8x2048x2816, .f32⟩
  | .hbm, ⟨9, _⟩ => ⟨S8x2816x2048, .f32⟩
  | .hbm, ⟨10, _⟩ => ⟨S20480, .i32⟩
  | .hbm, ⟨11, _⟩ => ⟨S_, .i32⟩
  | .hbm, ⟨12, _⟩ => ⟨S_, .i32⟩
  | .hbm, ⟨13, _⟩ => ⟨S20480, .i32⟩
  | .hbm, ⟨14, _⟩ => ⟨S20480, .i32⟩
  | .hbm, ⟨15, _⟩ => ⟨S20480, .i32⟩
  | .hbm, ⟨16, _⟩ => ⟨S_, .i32⟩
  | .hbm, ⟨17, _⟩ => ⟨S20480, .i32⟩
  | .hbm, ⟨18, _⟩ => ⟨S20480, .i1⟩
  | .hbm, ⟨19, _⟩ => ⟨S20480, .i32⟩
  | .hbm, ⟨20, _⟩ => ⟨S20480, .i32⟩
  | .hbm, ⟨21, _⟩ => ⟨S_, .i32⟩
  | .hbm, ⟨22, _⟩ => ⟨S20480, .i32⟩
  | .hbm, ⟨23, _⟩ => ⟨S20480, .i1⟩
  | .hbm, ⟨24, _⟩ => ⟨S20480, .i1⟩
  | .hbm, ⟨25, _⟩ => ⟨S_, .i32⟩
  | .hbm, ⟨26, _⟩ => ⟨S20480, .i32⟩
  | .hbm, ⟨27, _⟩ => ⟨S20480, .i32⟩
  | .hbm, ⟨28, _⟩ => ⟨S20480, .i32⟩
  | .hbm, ⟨29, _⟩ => ⟨S40x512, .i32⟩
  | .hbm, ⟨30, _⟩ => ⟨S20480, .i32⟩
  | .hbm, ⟨31, _⟩ => ⟨S20480x2048, .f32⟩
  | .hbm, ⟨32, _⟩ => ⟨S_, .f32⟩
  | .hbm, ⟨33, _⟩ => ⟨S20480, .f32⟩
  | .hbm, ⟨34, _⟩ => ⟨S20480x1, .f32⟩
  | .hbm, ⟨35, _⟩ => ⟨S_, .f32⟩
  | .hbm, ⟨36, _⟩ => ⟨S20480x1, .f32⟩
  | .hbm, ⟨37, _⟩ => ⟨S20480x1, .f32⟩
  | .hbm, ⟨38, _⟩ => ⟨S_, .f32⟩
  | .hbm, ⟨39, _⟩ => ⟨S20480x1, .f32⟩
  | .hbm, ⟨40, _⟩ => ⟨S20480x1, .f32⟩
  | .hbm, ⟨41, _⟩ => ⟨S20480x1, .f32⟩
  | .hbm, ⟨42, _⟩ => ⟨S20480x2048, .f32⟩
  | .hbm, ⟨43, _⟩ => ⟨S20480x2048, .f32⟩
  | .hbm, ⟨44, _⟩ => ⟨S20480x2048, .f32⟩
  | .hbm, ⟨45, _⟩ => ⟨S20480x2048, .f32⟩
  | .hbm, ⟨46, _⟩ => ⟨S8x2816x20480, .f32⟩
  | .hbm, ⟨47, _⟩ => ⟨S8x20480x2816, .f32⟩
  | .hbm, ⟨48, _⟩ => ⟨S8x20480x2816, .f32⟩
  | .hbm, ⟨49, _⟩ => ⟨S8x20480x2816, .f32⟩
  | .hbm, ⟨50, _⟩ => ⟨S_, .f32⟩
  | .hbm, ⟨51, _⟩ => ⟨S8x20480x2816, .f32⟩
  | .hbm, ⟨52, _⟩ => ⟨S8x20480x2816, .f32⟩
  | .hbm, ⟨53, _⟩ => ⟨S_, .f32⟩
  | .hbm, ⟨54, _⟩ => ⟨S8x20480x2816, .f32⟩
  | .hbm, ⟨55, _⟩ => ⟨S8x20480x2816, .f32⟩
  | .hbm, ⟨56, _⟩ => ⟨S8x20480x2816, .f32⟩
  | .hbm, ⟨57, _⟩ => ⟨S8x2816x20480, .f32⟩
  | .hbm, ⟨58, _⟩ => ⟨S8x20480x2816, .f32⟩
  | .hbm, ⟨59, _⟩ => ⟨S8x20480x2816, .f32⟩
  | .hbm, ⟨60, _⟩ => ⟨S8x20480x2048, .f32⟩
  | .hbm, ⟨61, _⟩ => ⟨S1x20480, .i32⟩
  | .hbm, ⟨62, _⟩ => ⟨S8, .i32⟩
  | .hbm, ⟨63, _⟩ => ⟨S8x1, .i32⟩
  | .hbm, ⟨64, _⟩ => ⟨S8x20480, .i32⟩
  | .hbm, ⟨65, _⟩ => ⟨S8x20480, .i32⟩
  | .hbm, ⟨66, _⟩ => ⟨S8x20480, .i1⟩
  | .hbm, ⟨67, _⟩ => ⟨S_, .i32⟩
  | .hbm, ⟨68, _⟩ => ⟨S20480, .i32⟩
  | .hbm, ⟨69, _⟩ => ⟨S20480, .i1⟩
  | .hbm, ⟨70, _⟩ => ⟨S1x20480, .i1⟩
  | .hbm, ⟨71, _⟩ => ⟨S8x20480, .i1⟩
  | .hbm, ⟨72, _⟩ => ⟨S8x20480, .i1⟩
  | .hbm, ⟨73, _⟩ => ⟨S8x20480x1, .i1⟩
  | .hbm, ⟨74, _⟩ => ⟨S_, .f32⟩
  | .hbm, ⟨75, _⟩ => ⟨S_, .f32⟩
  | .hbm, ⟨76, _⟩ => ⟨S8x20480x2048, .i1⟩
  | .hbm, ⟨77, _⟩ => ⟨S8x20480x2048, .f32⟩
  | .hbm, ⟨78, _⟩ => ⟨S8x20480x2048, .f32⟩
  | .hbm, ⟨79, _⟩ => ⟨S_, .f32⟩
  | .hbm, ⟨80, _⟩ => ⟨S20480x2048, .f32⟩
  | _, _ => ⟨S40, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst : Ref sig .tc := ⟨.hbm, 32, rfl⟩
abbrev main_v8 : Ref sig .tc := ⟨.hbm, 33, rfl⟩
abbrev main_v9 : Ref sig .tc := ⟨.hbm, 34, rfl⟩
abbrev main_cst_0 : Ref sig .tc := ⟨.hbm, 35, rfl⟩
abbrev main_v10 : Ref sig .tc := ⟨.hbm, 36, rfl⟩
abbrev main_v11 : Ref sig .tc := ⟨.hbm, 37, rfl⟩
abbrev main_cst_1 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_call1_v0 : Ref sig .tc := ⟨.hbm, 48, rfl⟩
abbrev main_call1_v1 : Ref sig .tc := ⟨.hbm, 49, rfl⟩
abbrev main_call1_cst : Ref sig .tc := ⟨.hbm, 50, rfl⟩
abbrev main_call1_v2 : Ref sig .tc := ⟨.hbm, 51, rfl⟩
abbrev main_call1_v3 : Ref sig .tc := ⟨.hbm, 52, rfl⟩
abbrev main_call1_cst_0 : Ref sig .tc := ⟨.hbm, 53, rfl⟩
abbrev main_call1_v4 : Ref sig .tc := ⟨.hbm, 54, rfl⟩
abbrev main_call1_v5 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_cst_2 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_v39 : Ref sig .tc := ⟨.hbm, 78, rfl⟩
abbrev main_cst_3 : Ref sig .tc := ⟨.hbm, 79, rfl⟩
abbrev main_v40 : Ref sig .tc := ⟨.hbm, 80, rfl⟩

abbrev nD : Nat := 1
abbrev τ : Topo := Topo.v7x

variable {F : FTy → Type} [FloatOps F]
-- ==== InProj.lean ====
abbrev S8192x2048 : Shape := ⟨2, ![8192, 2048]⟩
abbrev S2048x8192 : Shape := ⟨2, ![2048, 8192]⟩
abbrev S8192x8192 : Shape := ⟨2, ![8192, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192x8192, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S8192x2048 : Shape := ⟨2, ![8192, 2048]⟩
abbrev S2048x8192 : Shape := ⟨2, ![2048, 8192]⟩
abbrev S8192x8192 : Shape := ⟨2, ![8192, 8192]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192x2048, .f32⟩
  | .hbm, ⟨3, _⟩ => ⟨S2048x8192, .f32⟩
  | .hbm, ⟨4, _⟩ => ⟨S8192x8192, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Small.lean ====
abbrev S8192x2048 : Shape := ⟨2, ![8192, 2048]⟩
abbrev S2048x128 : Shape := ⟨2, ![2048, 128]⟩
abbrev S8192x128 : Shape := ⟨2, ![8192, 128]⟩
abbrev S1024x2048 : Shape := ⟨2, ![1024, 2048]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x128, .bf16⟩
  | .hbm, ⟨2, _⟩ => ⟨S8192x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .f32⟩
  | .local _ .vmem, ⟨4, _⟩ => ⟨S1024x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SmallRefIdeal.lean ====
abbrev S8192x2048 : Shape := ⟨2, ![8192, 2048]⟩
abbrev S2048x128 : Shape := ⟨2, ![2048, 128]⟩
abbrev S8192x128 : Shape := ⟨2, ![8192, 128]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x128, .bf16⟩
  | .hbm, ⟨2, _⟩ => ⟨S8192x2048, .f32⟩
  | .hbm, ⟨3, _⟩ => ⟨S2048x128, .f32⟩
  | .hbm, ⟨4, _⟩ => ⟨S8192x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== VProj.lean ====
abbrev S8192x2048 : Shape := ⟨2, ![8192, 2048]⟩
abbrev S2048x1024 : Shape := ⟨2, ![2048, 1024]⟩
abbrev S8192x1024 : Shape := ⟨2, ![8192, 1024]⟩
abbrev S512x2048 : Shape := ⟨2, ![512, 2048]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== VProjRefIdeal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x2048, .f32⟩
  | .hbm, ⟨3, _⟩ => ⟨S2048x1024, .f32⟩
  | .hbm, ⟨4, _⟩ => ⟨S8192x1024, .f32⟩
  | .hbm, ⟨5, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Merge.lean ====
abbrev S8192x1024 : Shape := ⟨2, ![8192, 1024]⟩
abbrev S1024x2048 : Shape := ⟨2, ![1024, 2048]⟩
abbrev S8192x8192 : Shape := ⟨2, ![8192, 8192]⟩
abbrev S2048x2048 : Shape := ⟨2, ![2048, 2048]⟩
abbrev S8192x2048 : Shape := ⟨2, ![8192, 2048]⟩
abbrev S2048 : Shape := ⟨1, ![2048]⟩
abbrev S1x2048 : Shape := ⟨2, ![1, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 11
  | .vmem => 18
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x2048, .bf16⟩
  | .hbm, ⟨3, _⟩ => ⟨S1024x2048, .bf16⟩
  | .hbm, ⟨4, _⟩ => ⟨S8192x8192, .f32⟩
  | .hbm, ⟨5, _⟩ => ⟨S2048x2048, .bf16⟩
  | .hbm, ⟨6, _⟩ => ⟨S8192x2048, .f32⟩
  | .hbm, ⟨7, _⟩ => ⟨S2048, .f32⟩
  | .hbm, ⟨8, _⟩ => ⟨S1x2048, .f32⟩
  | .hbm, ⟨9, _⟩ => ⟨S8192x2048, .f32⟩
  | .hbm, ⟨10, _⟩ => ⟨S8192x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x2048, .bf16⟩
  | .local _ .vmem, ⟨5, _⟩ => ⟨S1024x2048, .bf16⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S2048x2048, .bf16⟩
  | .local _ .vmem, ⟨11, _⟩ => ⟨S256x2048, .f32⟩
  | .local _ .vmem, ⟨12, _⟩ => ⟨S256x2048, .f32⟩
  | .local _ .vmem, ⟨13, _⟩ => ⟨S1x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .bf16⟩
  | .local _ .vmem, ⟨17, _⟩ => ⟨S256x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeRefIdeal.lean ====
abbrev S8192x1024 : Shape := ⟨2, ![8192, 1024]⟩
abbrev S1024x2048 : Shape := ⟨2, ![1024, 2048]⟩
abbrev S8192x8192 : Shape := ⟨2, ![8192, 8192]⟩
abbrev S2048x2048 : Shape := ⟨2, ![2048, 2048]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x2048, .bf16⟩
  | .hbm, ⟨3, _⟩ => ⟨S1024x2048, .bf16⟩
  | .hbm, ⟨4, _⟩ => ⟨S8192x8192, .f32⟩
  | .hbm, ⟨5, _⟩ => ⟨S2048x2048, .bf16⟩
  | .hbm, ⟨6, _⟩ => ⟨S8192x2048, .f32⟩
  | .hbm, ⟨7, _⟩ => ⟨S2048, .f32⟩
  | .hbm, ⟨8, _⟩ => ⟨S8192x1024, .f32⟩
  | .hbm, ⟨9, _⟩ => ⟨S8192x1024, .f32⟩
  | .hbm, ⟨10, _⟩ => ⟨S1024x2048, .f32⟩
  | .hbm, ⟨11, _⟩ => ⟨S1024x2048, .f32⟩
  | .hbm, ⟨12, _⟩ => ⟨S2048x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S8192x1, .f32⟩
  | .hbm, ⟨49, _⟩ => ⟨S8192x2048, .f32⟩
  | .hbm, ⟨50, _⟩ => ⟨S8192x2048, .f32⟩
  | .hbm, ⟨51, _⟩ => ⟨S1x2048, .f32⟩
  | .hbm, ⟨52, _⟩ => ⟨S8192x2048, .f32⟩
  | .hbm, ⟨53, _⟩ => ⟨S8192x2048, .f32⟩
  | .hbm, ⟨54, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== RopeQ.lean ====
abbrev S8192x2048 : Shape := ⟨2, ![8192, 2048]⟩
abbrev S2048x4096 : Shape := ⟨2, ![2048, 4096]⟩
abbrev S8192 : Shape := ⟨1, ![8192]⟩
abbrev S64 : Shape := ⟨1, ![64]⟩
abbrev S_ : Shape := ⟨0, ![]⟩
abbrev S8192x1 : Shape := ⟨2, ![8192, 1]⟩
abbrev S1x64 : Shape := ⟨2, ![1, 64]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S1x8192x1x128 : Shape := ⟨4, ![1, 8192, 1, 128]⟩
abbrev S8192x1024 : Shape := ⟨2, ![8192, 1024]⟩
abbrev S1024x2048 : Shape := ⟨2, ![1024, 2048]⟩
abbrev S2048x1024 : Shape := ⟨2, ![2048, 1024]⟩
abbrev S1024x128 : Shape := ⟨2, ![1024, 128]⟩
abbrev S1024x1024 : Shape := ⟨2, ![1024, 1024]⟩

abbrev nBuf : Space → Nat
  | .hbm => 34
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .bf16⟩
  | .hbm, ⟨2, _⟩ => ⟨S8192, .i32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S8192, .f32⟩
  | .hbm, ⟨18, _⟩ => ⟨S8192x1, .f32⟩
  | .hbm, ⟨19, _⟩ => ⟨S1x64, .f32⟩
  | .hbm, ⟨20, _⟩ => ⟨S8192x64, .f32⟩
  | .hbm, ⟨21, _⟩ => ⟨S8192x64, .f32⟩
  | .hbm, ⟨22, _⟩ => ⟨S8192x64, .f32⟩
  | .hbm, ⟨23, _⟩ => ⟨S8192x64, .f32⟩
  | .hbm, ⟨24, _⟩ => ⟨S8192x64, .f32⟩
  | .hbm, ⟨25, _⟩ => ⟨S1x8192x1x64, .f32⟩
  | .hbm, ⟨26, _⟩ => ⟨S1x8192x2x64, .f32⟩
  | .hbm, ⟨27, _⟩ => ⟨S8192x128, .f32⟩
  | .hbm, ⟨28, _⟩ => ⟨S8192x64, .f32⟩
  | .hbm, ⟨29, _⟩ => ⟨S8192x128, .f32⟩
  | .hbm, ⟨30, _⟩ => ⟨S1x8192x1x128, .f32⟩
  | .hbm, ⟨31, _⟩ => ⟨S1x8192x1x128, .f32⟩
  | .hbm, ⟨32, _⟩ => ⟨S8192x128, .f32⟩
  | .hbm, ⟨33, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x1024, .bf16⟩
  | .local _ .vmem, ⟨8, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RopeQRefIdeal.lean ====
abbrev S8192x2048 : Shape := ⟨2, ![8192, 2048]⟩
abbrev S2048x4096 : Shape := ⟨2, ![2048, 4096]⟩
abbrev S8192 : Shape := ⟨1, ![8192]⟩
abbrev S2048x1024 : Shape := ⟨2, ![2048, 1024]⟩
abbrev S8192x1024 : Shape := ⟨2, ![8192, 1024]⟩
abbrev S64 : Shape := ⟨1, ![64]⟩
abbrev S_ : Shape := ⟨0, ![]⟩
abbrev S8192x1 : Shape := ⟨2, ![8192, 1]⟩
abbrev S1x64 : Shape := ⟨2, ![1, 64]⟩
abbrev S8192x64 : Shape := ⟨2, ![8192, 64]⟩
abbrev S8192x1x64 : Shape := ⟨3, ![8192, 1, 64]⟩
abbrev S8192x8x128 : Shape := ⟨3, ![8192, 8, 128]⟩
abbrev S8192x8x64 : Shape := ⟨3, ![8192, 8, 64]⟩

abbrev nBuf : Space → Nat
  | .hbm => 50
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .bf16⟩
  | .hbm, ⟨2, _⟩ => ⟨S8192, .i32⟩
  | .hbm, ⟨3, _⟩ => ⟨S8192x2048, .f32⟩
  | .hbm, ⟨4, _⟩ => ⟨S2048x1024, .bf16⟩
  | .hbm, ⟨5, _⟩ => ⟨S2048x1024, .f32⟩
  | .hbm, ⟨6, _⟩ => ⟨S8192x1024, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S8192, .f32⟩
  | .hbm, ⟨22, _⟩ => ⟨S8192x1, .f32⟩
  | .hbm, ⟨23, _⟩ => ⟨S1x64, .f32⟩
  | .hbm, ⟨24, _⟩ => ⟨S8192x64, .f32⟩
  | .hbm, ⟨25, _⟩ => ⟨S8192x64, .f32⟩
  | .hbm, ⟨26, _⟩ => ⟨S8192x64, .f32⟩
  | .hbm, ⟨27, _⟩ => ⟨S8192x64, .f32⟩
  | .hbm, ⟨28, _⟩ => ⟨S8192x1x64, .f32⟩
  | .hbm, ⟨29, _⟩ => ⟨S8192x64, .f32⟩
  | .hbm, ⟨30, _⟩ => ⟨S8192x1x64, .f32⟩
  | .hbm, ⟨31, _⟩ => ⟨S8192x8x128, .f32⟩
  | .hbm, ⟨32, _⟩ => ⟨S8192x8x64, .f32⟩
  | .hbm, ⟨33, _⟩ => ⟨S8192x8x64, .f32⟩
  | .hbm, ⟨34, _⟩ => ⟨S8192x8x64, .f32⟩
  | .hbm, ⟨35, _⟩ => ⟨S8192x8x64, .f32⟩
  | .hbm, ⟨36, _⟩ => ⟨S8192x8x64, .f32⟩
  | .hbm, ⟨37, _⟩ => ⟨S8192x8x64, .f32⟩
  | .hbm, ⟨38, _⟩ => ⟨S8192x8x64, .f32⟩
  | .hbm, ⟨39, _⟩ => ⟨S8192x8x64, .f32⟩
  | .hbm, ⟨40, _⟩ => ⟨S8192x8x64, .f32⟩
  | .hbm, ⟨41, _⟩ => ⟨S8192x8x64, .f32⟩
  | .hbm, ⟨42, _⟩ => ⟨S8192x8x64, .f32⟩
  | .hbm, ⟨43, _⟩ => ⟨S8192x8x64, .f32⟩
  | .hbm, ⟨44, _⟩ => ⟨S8192x8x128, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_3 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩

abbrev nD : Nat := 1
abbrev τ : Topo := Topo.v7x

variable {F : FTy → Type} [FloatOps F]
-- ==== RopeK.lean ====
abbrev S8192x2048 : Shape := ⟨2, ![8192, 2048]⟩
abbrev S2048x4096 : Shape := ⟨2, ![2048, 4096]⟩
abbrev S8192 : Shape := ⟨1, ![8192]⟩
abbrev S64 : Shape := ⟨1, ![64]⟩
abbrev S_ : Shape := ⟨0, ![]⟩
abbrev S8192x1 : Shape := ⟨2, ![8192, 1]⟩
abbrev S1x64 : Shape := ⟨2, ![1, 64]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S1x8192x1x128 : Shape := ⟨4, ![1, 8192, 1, 128]⟩
abbrev S8192x1024 : Shape := ⟨2, ![8192, 1024]⟩
abbrev S1024x2048 : Shape := ⟨2, ![1024, 2048]⟩
abbrev S2048x1024 : Shape := ⟨2, ![2048, 1024]⟩
abbrev S1024x128 : Shape := ⟨2, ![1024, 128]⟩
abbrev S1024x1024 : Shape := ⟨2, ![1024, 1024]⟩

abbrev nBuf : Space → Nat
  | .hbm => 34
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .bf16⟩
  | .hbm, ⟨2, _⟩ => ⟨S8192, .i32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S8192, .f32⟩
  | .hbm, ⟨18, _⟩ => ⟨S8192x1, .f32⟩
  | .hbm, ⟨19, _⟩ => ⟨S1x64, .f32⟩
  | .hbm, ⟨20, _⟩ => ⟨S8192x64, .f32⟩
  | .hbm, ⟨21, _⟩ => ⟨S8192x64, .f32⟩
  | .hbm, ⟨22, _⟩ => ⟨S8192x64, .f32⟩
  | .hbm, ⟨23, _⟩ => ⟨S8192x64, .f32⟩
  | .hbm, ⟨24, _⟩ => ⟨S8192x64, .f32⟩
  | .hbm, ⟨25, _⟩ => ⟨S1x8192x1x64, .f32⟩
  | .hbm, ⟨26, _⟩ => ⟨S1x8192x2x64, .f32⟩
  | .hbm, ⟨27, _⟩ => ⟨S8192x128, .f32⟩
  | .hbm, ⟨28, _⟩ => ⟨S8192x64, .f32⟩
  | .hbm, ⟨29, _⟩ => ⟨S8192x128, .f32⟩
  | .hbm, ⟨30, _⟩ => ⟨S1x8192x1x128, .f32⟩
  | .hbm, ⟨31, _⟩ => ⟨S1x8192x1x128, .f32⟩
  | .hbm, ⟨32, _⟩ => ⟨S8192x128, .f32⟩
  | .hbm, ⟨33, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x1024, .bf16⟩
  | .local _ .vmem, ⟨8, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RopeKRefIdeal.lean ====
abbrev S8192x2048 : Shape := ⟨2, ![8192, 2048]⟩
abbrev S2048x4096 : Shape := ⟨2, ![2048, 4096]⟩
abbrev S8192 : Shape := ⟨1, ![8192]⟩
abbrev S2048x1024 : Shape := ⟨2, ![2048, 1024]⟩
abbrev S8192x1024 : Shape := ⟨2, ![8192, 1024]⟩
abbrev S64 : Shape := ⟨1, ![64]⟩
abbrev S_ : Shape := ⟨0, ![]⟩
abbrev S8192x1 : Shape := ⟨2, ![8192, 1]⟩
abbrev S1x64 : Shape := ⟨2, ![1, 64]⟩
abbrev S8192x64 : Shape := ⟨2, ![8192, 64]⟩
abbrev S8192x1x64 : Shape := ⟨3, ![8192, 1, 64]⟩
abbrev S8192x8x128 : Shape := ⟨3, ![8192, 8, 128]⟩
abbrev S8192x8x64 : Shape := ⟨3, ![8192, 8, 64]⟩

abbrev nBuf : Space → Nat
  | .hbm => 47
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .bf16⟩
  | .hbm, ⟨2, _⟩ => ⟨S8192, .i32⟩
  | .hbm, ⟨3, _⟩ => ⟨S8192x2048, .f32⟩
  | .hbm, ⟨4, _⟩ => ⟨S2048x1024, .bf16⟩
  | .hbm, ⟨5, _⟩ => ⟨S2048x1024, .f32⟩
  | .hbm, ⟨6, _⟩ => ⟨S8192x1024, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S8192, .f32⟩
  | .hbm, ⟨22, _⟩ => ⟨S8192x1, .f32⟩
  | .hbm, ⟨23, _⟩ => ⟨S1x64, .f32⟩
  | .hbm, ⟨24, _⟩ => ⟨S8192x64, .f32⟩
  | .hbm, ⟨25, _⟩ => ⟨S8192x64, .f32⟩
  | .hbm, ⟨26, _⟩ => ⟨S8192x64, .f32⟩
  | .hbm, ⟨27, _⟩ => ⟨S8192x64, .f32⟩
  | .hbm, ⟨28, _⟩ => ⟨S8192x1x64, .f32⟩
  | .hbm, ⟨29, _⟩ => ⟨S8192x64, .f32⟩
  | .hbm, ⟨30, _⟩ => ⟨S8192x1x64, .f32⟩
  | .hbm, ⟨31, _⟩ => ⟨S8192x8x128, .f32⟩
  | .hbm, ⟨32, _⟩ => ⟨S8192x8x64, .f32⟩
  | .hbm, ⟨33, _⟩ => ⟨S8192x8x64, .f32⟩
  | .hbm, ⟨34, _⟩ => ⟨S8192x8x64, .f32⟩
  | .hbm, ⟨35, _⟩ => ⟨S8192x8x64, .f32⟩
  | .hbm, ⟨36, _⟩ => ⟨S8192x8x64, .f32⟩
  | .hbm, ⟨37, _⟩ => ⟨S8192x8x64, .f32⟩
  | .hbm, ⟨38, _⟩ => ⟨S8192x8x64, .f32⟩
  | .hbm, ⟨39, _⟩ => ⟨S8192x8x64, .f32⟩
  | .hbm, ⟨40, _⟩ => ⟨S8192x8x64, .f32⟩
  | .hbm, ⟨41, _⟩ => ⟨S8192x8x64, .f32⟩
  | .hbm, ⟨42, _⟩ => ⟨S8192x8x64, .f32⟩
  | .hbm, ⟨43, _⟩ => ⟨S8192x8x64, .f32⟩
  | .hbm, ⟨44, _⟩ => ⟨S8192x8x128, .f32⟩
  | .hbm, ⟨45, _⟩ => ⟨S8192x1024, .f32⟩
  | .hbm, ⟨46, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩

abbrev nD : Nat := 1
abbrev τ : Topo := Topo.v7x

variable {F : FTy → Type} [FloatOps F]
-- ==== RopeIx.lean ====
abbrev S8192x2048 : Shape := ⟨2, ![8192, 2048]⟩
abbrev S2048x4096 : Shape := ⟨2, ![2048, 4096]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x1024 : Shape := ⟨2, ![8192, 1024]⟩
abbrev S1024x2048 : Shape := ⟨2, ![1024, 2048]⟩
abbrev S2048x1024 : Shape := ⟨2, ![2048, 1024]⟩
abbrev S1024x128 : Shape := ⟨2, ![1024, 128]⟩
abbrev S1024x1024 : Shape := ⟨2, ![1024, 1024]⟩

abbrev nBuf : Space → Nat
  | .hbm => 34
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .bf16⟩
  | .hbm, ⟨2, _⟩ => ⟨S8192, .i32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S8192, .f32⟩
  | .hbm, ⟨18, _⟩ => ⟨S8192x1, .f32⟩
  | .hbm, ⟨19, _⟩ => ⟨S1x32, .f32⟩
  | .hbm, ⟨20, _⟩ => ⟨S8192x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S1x8192x1x32, .f32⟩
  | .hbm, ⟨26, _⟩ => ⟨S1x8192x4x32, .f32⟩
  | .hbm, ⟨27, _⟩ => ⟨S8192x128, .f32⟩
  | .hbm, ⟨28, _⟩ => ⟨S8192x32, .f32⟩
  | .hbm, ⟨29, _⟩ => ⟨S8192x64, .f32⟩
  | .hbm, ⟨30, _⟩ => ⟨S1x8192x1x64, .f32⟩
  | .hbm, ⟨31, _⟩ => ⟨S1x8192x2x64, .f32⟩
  | .hbm, ⟨32, _⟩ => ⟨S8192x128, .f32⟩
  | .hbm, ⟨33, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x1024, .bf16⟩
  | .local _ .vmem, ⟨8, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RopeIxRefIdeal.lean ====
abbrev S8192x2048 : Shape := ⟨2, ![8192, 2048]⟩
abbrev S2048x4096 : Shape := ⟨2, ![2048, 4096]⟩
abbrev S8192 : Shape := ⟨1, ![8192]⟩
abbrev S2048x1024 : Shape := ⟨2, ![2048, 1024]⟩
abbrev S8192x1024 : Shape := ⟨2, ![8192, 1024]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S8192x16x64 : Shape := ⟨3, ![8192, 16, 64]⟩
abbrev S8192x16x32 : Shape := ⟨3, ![8192, 16, 32]⟩

abbrev nBuf : Space → Nat
  | .hbm => 47
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .bf16⟩
  | .hbm, ⟨2, _⟩ => ⟨S8192, .i32⟩
  | .hbm, ⟨3, _⟩ => ⟨S8192x2048, .f32⟩
  | .hbm, ⟨4, _⟩ => ⟨S2048x1024, .bf16⟩
  | .hbm, ⟨5, _⟩ => ⟨S2048x1024, .f32⟩
  | .hbm, ⟨6, _⟩ => ⟨S8192x1024, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S8192, .f32⟩
  | .hbm, ⟨22, _⟩ => ⟨S8192x1, .f32⟩
  | .hbm, ⟨23, _⟩ => ⟨S1x32, .f32⟩
  | .hbm, ⟨24, _⟩ => ⟨S8192x32, .f32⟩
  | .hbm, ⟨25, _⟩ => ⟨S8192x32, .f32⟩
  | .hbm, ⟨26, _⟩ => ⟨S8192x32, .f32⟩
  | .hbm, ⟨27, _⟩ => ⟨S8192x32, .f32⟩
  | .hbm, ⟨28, _⟩ => ⟨S8192x1x32, .f32⟩
  | .hbm, ⟨29, _⟩ => ⟨S8192x32, .f32⟩
  | .hbm, ⟨30, _⟩ => ⟨S8192x1x32, .f32⟩
  | .hbm, ⟨31, _⟩ => ⟨S8192x16x64, .f32⟩
  | .hbm, ⟨32, _⟩ => ⟨S8192x16x32, .f32⟩
  | .hbm, ⟨33, _⟩ => ⟨S8192x16x32, .f32⟩
  | .hbm, ⟨34, _⟩ => ⟨S8192x16x32, .f32⟩
  | .hbm, ⟨35, _⟩ => ⟨S8192x16x32, .f32⟩
  | .hbm, ⟨36, _⟩ => ⟨S8192x16x32, .f32⟩
  | .hbm, ⟨37, _⟩ => ⟨S8192x16x32, .f32⟩
  | .hbm, ⟨38, _⟩ => ⟨S8192x16x32, .f32⟩
  | .hbm, ⟨39, _⟩ => ⟨S8192x16x32, .f32⟩
  | .hbm, ⟨40, _⟩ => ⟨S8192x16x32, .f32⟩
  | .hbm, ⟨41, _⟩ => ⟨S8192x16x32, .f32⟩
  | .hbm, ⟨42, _⟩ => ⟨S8192x16x32, .f32⟩
  | .hbm, ⟨43, _⟩ => ⟨S8192x16x32, .f32⟩
  | .hbm, ⟨44, _⟩ => ⟨S8192x16x64, .f32⟩
  | .hbm, ⟨45, _⟩ => ⟨S8192x1024, .f32⟩
  | .hbm, ⟨46, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩

abbrev nD : Nat := 1
abbrev τ : Topo := Topo.v7x

variable {F : FTy → Type} [FloatOps F]
-- ==== RopeKix.lean ====
abbrev S8192x128 : Shape := ⟨2, ![8192, 128]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S512x128 : Shape := ⟨2, ![512, 128]⟩

abbrev nBuf : Space → Nat
  | .hbm => 34
  | .vmem => 10
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S8192, .f32⟩
  | .hbm, ⟨17, _⟩ => ⟨S8192x1, .f32⟩
  | .hbm, ⟨18, _⟩ => ⟨S1x32, .f32⟩
  | .hbm, ⟨19, _⟩ => ⟨S8192x32, .f32⟩
  | .hbm, ⟨20, _⟩ => ⟨S8192x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S1x8192x1x32, .f32⟩
  | .hbm, ⟨25, _⟩ => ⟨S1x8192x4x32, .f32⟩
  | .hbm, ⟨26, _⟩ => ⟨S8192x128, .f32⟩
  | .hbm, ⟨27, _⟩ => ⟨S8192x32, .f32⟩
  | .hbm, ⟨28, _⟩ => ⟨S8192x64, .f32⟩
  | .hbm, ⟨29, _⟩ => ⟨S1x8192x1x64, .f32⟩
  | .hbm, ⟨30, _⟩ => ⟨S1x8192x2x64, .f32⟩
  | .hbm, ⟨31, _⟩ => ⟨S8192x128, .f32⟩
  | .hbm, ⟨32, _⟩ => ⟨S8192x128, .bf16⟩
  | .hbm, ⟨33, _⟩ => ⟨S8192x128, .bf16⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .bf16⟩
  | .local _ .vmem, ⟨7, _⟩ => ⟨S512x128, .bf16⟩
  | .local _ .vmem, ⟨8, _⟩ => ⟨S512x128, .bf16⟩
  | .local _ .vmem, ⟨9, _⟩ => ⟨S512x128, .bf16⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26_0 : Ref sig .tc := ⟨.hbm, 32, rfl⟩
abbrev main_v26_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RopeKixRefIdeal.lean ====
abbrev S8192x128 : Shape := ⟨2, ![8192, 128]⟩
abbrev S8192 : Shape := ⟨1, ![8192]⟩
abbrev S8192x64 : Shape := ⟨2, ![8192, 64]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S8192x1x64 : Shape := ⟨3, ![8192, 1, 64]⟩

abbrev nBuf : Space → Nat
  | .hbm => 44
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x64, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S8192, .f32⟩
  | .hbm, ⟨18, _⟩ => ⟨S8192x1, .f32⟩
  | .hbm, ⟨19, _⟩ => ⟨S1x32, .f32⟩
  | .hbm, ⟨20, _⟩ => ⟨S8192x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S8192x1x32, .f32⟩
  | .hbm, ⟨25, _⟩ => ⟨S8192x32, .f32⟩
  | .hbm, ⟨26, _⟩ => ⟨S8192x1x32, .f32⟩
  | .hbm, ⟨27, _⟩ => ⟨S8192x1x64, .f32⟩
  | .hbm, ⟨28, _⟩ => ⟨S8192x1x32, .f32⟩
  | .hbm, ⟨29, _⟩ => ⟨S8192x1x32, .f32⟩
  | .hbm, ⟨30, _⟩ => ⟨S8192x1x32, .f32⟩
  | .hbm, ⟨31, _⟩ => ⟨S8192x1x32, .f32⟩
  | .hbm, ⟨32, _⟩ => ⟨S8192x1x32, .f32⟩
  | .hbm, ⟨33, _⟩ => ⟨S8192x1x32, .f32⟩
  | .hbm, ⟨34, _⟩ => ⟨S8192x1x32, .f32⟩
  | .hbm, ⟨35, _⟩ => ⟨S8192x1x32, .f32⟩
  | .hbm, ⟨36, _⟩ => ⟨S8192x1x64, .f32⟩
  | .hbm, ⟨37, _⟩ => ⟨S8192x64, .f32⟩
  | .hbm, ⟨38, _⟩ => ⟨S_, .f32⟩
  | .hbm, ⟨39, _⟩ => ⟨S8192x64, .f32⟩
  | .hbm, ⟨40, _⟩ => ⟨S8192x128, .f32⟩
  | .hbm, ⟨41, _⟩ => ⟨S8192x128, .bf16⟩
  | .hbm, ⟨42, _⟩ => ⟨S8192x128, .f32⟩
  | .hbm, ⟨43, _⟩ => ⟨S8192x128, .bf16⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_3 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩

abbrev nD : Nat := 1
abbrev τ : Topo := Topo.v7x

variable {F : FTy → Type} [FloatOps F]
-- ==== Norm.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Router.lean ====
abbrev S8192x2048 : Shape := ⟨2, ![8192, 2048]⟩
abbrev S2048x8 : Shape := ⟨2, ![2048, 8]⟩
abbrev S_ : Shape := ⟨0, ![]⟩
abbrev S2048x128 : Shape := ⟨2, ![2048, 128]⟩
abbrev S1 : Shape := ⟨1, ![1]⟩
abbrev S8192x128 : Shape := ⟨2, ![8192, 128]⟩
abbrev S8x128 : Shape := ⟨2, ![8, 128]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩
abbrev S512x512 : Shape := ⟨2, ![512, 512]⟩
abbrev S1x128 : Shape := ⟨2, ![1, 128]⟩
abbrev S128 : Shape := ⟨1, ![128]⟩

abbrev nBuf : Space → Nat
  | .hbm => 12
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S2048x8, .bf16⟩
  | .hbm, ⟨2, _⟩ => ⟨S_, .bf16⟩
  | .hbm, ⟨3, _⟩ => ⟨S2048x128, .bf16⟩
  | .hbm, ⟨4, _⟩ => ⟨S_, .i32⟩
  | .hbm, ⟨5, _⟩ => ⟨S1, .i32⟩
  | .hbm, ⟨6, _⟩ => ⟨S2048x128, .bf16⟩
  | .hbm, ⟨7, _⟩ => ⟨S8192x128, .f32⟩
  | .hbm, ⟨8, _⟩ => ⟨S8192x128, .f32⟩
  | .hbm, ⟨9, _⟩ => ⟨S8192x128, .f32⟩
  | .hbm, ⟨10, _⟩ => ⟨S8192x128, .f32⟩
  | .hbm, ⟨11, _⟩ => ⟨S8x128, .f32⟩
  | .local _ .vmem, ⟨0, _⟩ => ⟨S512x2048, .bf16⟩
  | .local _ .vmem, ⟨1, _⟩ => ⟨S512x2048, .bf16⟩
  | .local _ .vmem, ⟨2, _⟩ => ⟨S2048x128, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S8x128, .f32⟩
  | .local _ .vmem, ⟨12, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RouterRefIdeal.lean ====
abbrev S8192x2048 : Shape := ⟨2, ![8192, 2048]⟩
abbrev S2048x8 : Shape := ⟨2, ![2048, 8]⟩
abbrev S8192x8 : Shape := ⟨2, ![8192, 8]⟩
abbrev S8192x2 : Shape := ⟨2, ![8192, 2]⟩
abbrev S_ : Shape := ⟨0, ![]⟩
abbrev S8192 : Shape := ⟨1, ![8192]⟩
abbrev S8192x1 : Shape := ⟨2, ![8192, 1]⟩
abbrev S8192x2x1 : Shape := ⟨3, ![8192, 2, 1]⟩
abbrev S1x1x128 : Shape := ⟨3, ![1, 1, 128]⟩
abbrev S8192x2x128 : Shape := ⟨3, ![8192, 2, 128]⟩
abbrev S8192x128 : Shape := ⟨2, ![8192, 128]⟩
abbrev S8192x1x128 : Shape := ⟨3, ![8192, 1, 128]⟩
abbrev S1x128 : Shape := ⟨2, ![1, 128]⟩
abbrev S128 : Shape := ⟨1, ![128]⟩
abbrev S8x128 : Shape := ⟨2, ![8, 128]⟩

abbrev nBuf : Space → Nat
  | .hbm => 45
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8, .bf16⟩
  | .hbm, ⟨2, _⟩ => ⟨S8192x2048, .f32⟩
  | .hbm, ⟨3, _⟩ => ⟨S2048x8, .f32⟩
  | .hbm, ⟨4, _⟩ => ⟨S8192x8, .f32⟩
  | .hbm, ⟨5, _⟩ => ⟨S8192x2, .f32⟩
  | .hbm, ⟨6, _⟩ => ⟨S8192x2, .i32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S8192x1, .f32⟩
  | .hbm, ⟨13, _⟩ => ⟨S8192x2, .f32⟩
  | .hbm, ⟨14, _⟩ => ⟨S8192x2, .f32⟩
  | .hbm, ⟨15, _⟩ => ⟨S8192x2, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S8192x2, .f32⟩
  | .hbm, ⟨20, _⟩ => ⟨S8192x2, .f32⟩
  | .hbm, ⟨21, _⟩ => ⟨S8192x2x1, .i32⟩
  | .hbm, ⟨22, _⟩ => ⟨S1x1x128, .i32⟩
  | .hbm, ⟨23, _⟩ => ⟨S8192x2x128, .i32⟩
  | .hbm, ⟨24, _⟩ => ⟨S8192x2x128, .i32⟩
  | .hbm, ⟨25, _⟩ => ⟨S8192x2x128, .i1⟩
  | .hbm, ⟨26, _⟩ => ⟨S8192x2x128, .f32⟩
  | .hbm, ⟨27, _⟩ => ⟨S8192x2x1, .f32⟩
  | .hbm, ⟨28, _⟩ => ⟨S8192x2x128, .f32⟩
  | .hbm, ⟨29, _⟩ => ⟨S8192x2x128, .f32⟩
  | .hbm, ⟨30, _⟩ => ⟨S_, .f32⟩
  | .hbm, ⟨31, _⟩ => ⟨S8192x128, .f32⟩
  | .hbm, ⟨32, _⟩ => ⟨S_, .f32⟩
  | .hbm, ⟨33, _⟩ => ⟨S8192x128, .f32⟩
  | .hbm, ⟨34, _⟩ => ⟨S_, .f32⟩
  | .hbm, ⟨35, _⟩ => ⟨S_, .f32⟩
  | .hbm, ⟨36, _⟩ => ⟨S8192x128, .f32⟩
  | .hbm, ⟨37, _⟩ => ⟨S8192x1x128, .f32⟩
  | .hbm, ⟨38, _⟩ => ⟨S8192x128, .f32⟩
  | .hbm, ⟨39, _⟩ => ⟨S8192x1x128, .f32⟩
  | .hbm, ⟨40, _⟩ => ⟨S8192x128, .f32⟩
  | .hbm, ⟨41, _⟩ => ⟨S8192x128, .f32⟩
  | .hbm, ⟨42, _⟩ => ⟨S1x128, .f32⟩
  | .hbm, ⟨43, _⟩ => ⟨S128, .f32⟩
  | .hbm, ⟨44, _⟩ => ⟨S8x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_values : Ref sig .tc := ⟨.hbm, 5, rfl⟩
abbrev main_indices : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_call1_call0_cst : Ref sig .tc := ⟨.hbm, 34, rfl⟩
abbrev main_call1_call0_v0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Proof.ScanSpec.lean ====
module

public import Idealize.ShloMosaic.Lib.Pipeline.ValueKit
public import Idealize.ShloMosaic.Lib.Pointwise

/-! # The gated delta-rule recurrence over chunks, as plain mathematics

The sequence of 8192 positions is cut into 128 chunks of 64. Eight heads of width 128 lie side by side in a row of
1024 entries. The definitions below say, over the extended reals, what state each chunk meets and what a position's
output is. They mention neither the kernel's tiling nor the reference's loop; both are proved to compute them. -/

@[expose] public section

noncomputable section

namespace Cert.ScanSpec

open Idealize.ShloMosaic

/-- The column of a row of 1024 where entry `d` of head `h` lies. -/
def colAt (h : Fin 8) (d : Fin 128) : Fin 1024 := ⟨h.val * 128 + d.val, by omega⟩

/-- The column of a row of 512 where entry `s` of head `h` lies. -/
def attAt (h : Fin 8) (s : Fin 64) : Fin 512 := ⟨h.val * 64 + s.val, by omega⟩

/-- The head a column belongs to. -/
def headOf (l : Fin 1024) : Fin 8 := ⟨l.val / 128, by omega⟩

/-- The place of a column within its head. -/
def laneOf (l : Fin 1024) : Fin 128 := ⟨l.val % 128, by omega⟩

/-- Position `c` of chunk `k`. The remainder only serves to make it total in `k`. -/
def row (k : ℕ) (c : Fin 64) : Fin 8192 := ⟨(k % 128) * 64 + c.val, by omega⟩

/-- The row of the decay table for head `h` of chunk `k`. -/
def glRow (k : ℕ) (h : Fin 8) : Fin 1024 := ⟨(k % 128) * 8 + h.val, by omega⟩

/-- The chunk a position lies in. -/
def chunkOf (i : Fin 8192) : ℕ := i.val / 64

/-- The place of a position within its chunk. -/
def inChunk (i : Fin 8192) : Fin 64 := ⟨i.val % 64, by omega⟩

/-- The state: one 128 × 128 matrix for each head. -/
abbrev State := Fin 8 → Fin 128 → Fin 128 → EReal

variable (qd kd w u : Fin 8192 → Fin 1024 → EReal) (att : Fin 8192 → Fin 512 → EReal) (gl : Fin 1024 → Fin 128 → EReal)

/-- The corrected value at position `c` of chunk `k`: the value less what the state already answers to it. -/
def vNew (st : State) (k : ℕ) (h : Fin 8) (c : Fin 64) (e : Fin 128) : EReal :=
  u (row k c) (colAt h e) - ∑ d : Fin 128, w (row k c) (colAt h d) * st h d e

/-- The output before normalisation: the query against the state, and the attention inside the chunk. -/
def outV (st : State) (k : ℕ) (h : Fin 8) (c : Fin 64) (e : Fin 128) : EReal :=
  (∑ d : Fin 128, qd (row k c) (colAt h d) * st h d e) + ∑ s : Fin 64, att (row k c) (attAt h s) * vNew w u st k h s e

/-- One chunk's step: the state decays and takes in the chunk's keys with the corrected values. -/
def stepSt (k : ℕ) (st : State) : State := fun h d e =>
  st h d e * gl (glRow k h) e + ∑ c : Fin 64, kd (row k c) (colAt h d) * vNew w u st k h c e

/-- The state that chunk `k` meets; the first meets zero. -/
def stateAt : ℕ → State
  | 0 => fun _ _ _ => 0
  | k + 1 => stepSt kd w u gl k (stateAt k)

/-- The root-mean-square normalisation over a head, the learned gain `g`, and the gate `z · sigmoid z`. -/
def normGate (o : Fin 128 → EReal) (e : Fin 128) (g z : EReal) : EReal :=
  o e * Ideal.rsqrt (Ideal.div (∑ k : Fin 128, o k * o k) (Ideal.ofBits .f32 0x43000000#32) + Ideal.ofBits .f32 0x358637BD#32)
    * g * (z * Ideal.div 1 (1 + Ideal.exp (-z)))

/-- The layer's output at position `i` and column `l`, for the gate's input `z` and the gain `g`. -/
def result (z : Fin 8192 → Fin 1024 → EReal) (g : Fin 128 → EReal) (i : Fin 8192) (l : Fin 1024) : EReal :=
  normGate (outV qd w u att (stateAt kd w u gl (chunkOf i)) (chunkOf i) (headOf l) (inChunk i)) (laneOf l) (g (laneOf l)) (z i l)

end Cert.ScanSpec

end
-- ==== Proof.ScanBody.lean ====
module

public import proofs.«01_k».proof.Proof.Gen.KernelIdeal.Frame
public import proofs.«01_k».proof.Proof.ScanSpec
public import Idealize.ShloMosaic.Lib.Pipeline.ReadBack

/-! # What one grid point of the scan computes

A grid point takes one chunk. Over its blocks and the state it meets, its output block is `outBlk` and the state it
leaves is `nextSt`. The first point stores zeros into the state first, so it computes the same over the zero state. -/

@[expose] public section

set_option maxRecDepth 16384

noncomputable section

namespace Cert.KernelIdeal.Scan

open Cert.KernelIdeal Cert.KernelIdeal.Gen Idealize.ShloMosaic Idealize.ShloMosaic.TcCoe Idealize.SL.Sem
open Cert.ScanSpec (colAt attAt headOf laneOf normGate)

/-- The corrected value over a point's blocks. -/
def vnew (x2 : Vec Ideal S64x1024 .bf16) (x3 : Vec Ideal S64x1024 .f32) (st : Vec Ideal S8x128x128 .f32)
    (h : Fin 8) (c : Fin 64) (e : Fin 128) : EReal :=
  x3 (ix2 c (colAt h e)) - ∑ d : Fin 128, x2 (ix2 c (colAt h d)) * st (ix3 h d e)

/-- The output before normalisation over a point's blocks. -/
def outv (x0 x2 : Vec Ideal S64x1024 .bf16) (x3 : Vec Ideal S64x1024 .f32) (x4 : Vec Ideal S64x512 .bf16)
    (st : Vec Ideal S8x128x128 .f32) (h : Fin 8) (c : Fin 64) (e : Fin 128) : EReal :=
  (∑ d : Fin 128, x0 (ix2 c (colAt h d)) * st (ix3 h d e)) + ∑ s : Fin 64, x4 (ix2 c (attAt h s)) * vnew x2 x3 st h s e

/-- The output block of a point. -/
def outBlk (x0 x2 : Vec Ideal S64x1024 .bf16) (x3 : Vec Ideal S64x1024 .f32) (x4 : Vec Ideal S64x512 .bf16)
    (x6 : Vec Ideal S64x1024 .f32) (x7 : Vec Ideal S1x128 .f32) (st : Vec Ideal S8x128x128 .f32) : Vec Ideal S64x1024 .bf16 := fun j =>
  normGate (outv x0 x2 x3 x4 st (headOf (j 1)) (j 0)) (laneOf (j 1)) (x7 (ix2 0 (laneOf (j 1)))) (x6 (ix2 (j 0) (j 1)))

/-- The state a point leaves. -/
def nextSt (x1 x2 : Vec Ideal S64x1024 .bf16) (x3 : Vec Ideal S64x1024 .f32) (x5 : Vec Ideal S8x128 .f32)
    (st : Vec Ideal S8x128x128 .f32) : Vec Ideal S8x128x128 .f32 := fun j =>
  st (ix3 (j 0) (j 1) (j 2)) * x5 (ix2 (j 0) (j 2)) + ∑ c : Fin 64, x1 (ix2 c (colAt (j 0) (j 1))) * vnew x2 x3 st (j 0) c (j 2)

/-- A later point leaves `nextSt` of the state it met: eight stores, one for each head. -/
theorem soutB (c : Dev nD) (i : grid0.Coords)
    (arg1 : Memref sig .tc .vmem S64x1024 .bf16) (harg1 : arg1.IsWhole)
    (arg2 : Memref sig .tc .vmem S64x1024 .bf16) (harg2 : arg2.IsWhole)
    (arg3 : Memref sig .tc .vmem S64x1024 .bf16) (harg3 : arg3.IsWhole)
    (arg4 : Memref sig .tc .vmem S64x1024 .f32) (harg4 : arg4.IsWhole)
    (arg5 : Memref sig .tc .vmem S64x512 .bf16) (harg5 : arg5.IsWhole)
    (arg6 : Memref sig .tc .vmem S8x128 .f32) (harg6 : arg6.IsWhole)
    (arg7 : Memref sig .tc .vmem S64x1024 .f32) (harg7 : arg7.IsWhole)
    (arg8 : Memref sig .tc .vmem S1x128 .f32) (harg8 : arg8.IsWhole)
    (arg9 : Memref sig .tc .vmem S64x1024 .bf16) (harg9 : arg9.IsWhole)
    (arg10 : Memref sig .tc .vmem S8x128x128 .f32) (harg10 : arg10.IsWhole) (hc0 : ¬cond0_0 i)
    (x0 : Vec Ideal S64x1024 .bf16) (x1 : Vec Ideal S64x1024 .bf16) (x2 : Vec Ideal S64x1024 .bf16) (x3 : Vec Ideal S64x1024 .f32) (x4 : Vec Ideal S64x512 .bf16) (x5 : Vec Ideal S8x128 .f32) (x6 : Vec Ideal S64x1024 .f32) (x7 : Vec Ideal S1x128 .f32) (xs0 : Vec Ideal S8x128x128 .f32) :
    sout0_B_0 (F := Ideal) c i arg1 harg1 arg2 harg2 arg3 harg3 arg4 harg4 arg5 harg5 arg6 harg6 arg7 harg7 arg8 harg8 arg9 harg9 arg10 harg10 hc0 x0 x1 x2 x3 x4 x5 x6 x7 xs0 = nextSt x1 x2 x3 x5 xs0 := by
  frame_out
  funext y
  canon_tiles x h
  all_goals
    unfold_payloads
    idx_vars x
    idx_vars y
    obtain rfl := Fin.ext h1; obtain rfl := Fin.ext h2
    show _ = nextSt x1 x2 x3 x5 xs0 (ix3 y0 y1 y2)
    first
      | rw [show y0 = 0 from Fin.ext (by show y0.val = 0; omega)]
      | rw [show y0 = 1 from Fin.ext (by show y0.val = 1; omega)]
      | rw [show y0 = 2 from Fin.ext (by show y0.val = 2; omega)]
      | rw [show y0 = 3 from Fin.ext (by show y0.val = 3; omega)]
      | rw [show y0 = 4 from Fin.ext (by show y0.val = 4; omega)]
      | rw [show y0 = 5 from Fin.ext (by show y0.val = 5; omega)]
      | rw [show y0 = 6 from Fin.ext (by show y0.val = 6; omega)]
      | rw [show y0 = 7 from Fin.ext (by show y0.val = 7; omega)]
    pointwise [nextSt, vnew, colAt]

/-- What the first point stores into the state is zero. -/
theorem pay2_zero : k0_pay2 (F := Ideal) = fun _ => 0 := by
  funext y
  pointwise [k0_pay2]

/-- Entry `(·, y1, y2)` of the slab stored for head `k` is entry `(k, y1, y2)` of the state. -/
theorem emb_slab (k : ℕ) (hk : k < 8) (inb : (n : Fin 3) → (![k, 0, 0] : Fin 3 → ℕ) n + S1x128x128.size n ≤ S8x128x128.size n) (y0 : Fin 1) (y1 y2 : Fin 128) :
    (Rect.unit (s := S8x128x128) ![k, 0, 0] S1x128x128.size inb).emb (ix3 y0 y1 y2) = ix3 ⟨k, hk⟩ y1 y2 := by
  funext a
  apply Fin.ext
  match a with
  | 0 => show k + 1 * y0.val = k; omega
  | 1 => show 0 + 1 * y1.val = y1.val; omega
  | 2 => show 0 + 1 * y2.val = y2.val; omega

/-- The first point leaves `nextSt` of the zero state. -/
theorem soutA (c : Dev nD) (i : grid0.Coords)
    (arg1 : Memref sig .tc .vmem S64x1024 .bf16) (harg1 : arg1.IsWhole)
    (arg2 : Memref sig .tc .vmem S64x1024 .bf16) (harg2 : arg2.IsWhole)
    (arg3 : Memref sig .tc .vmem S64x1024 .bf16) (harg3 : arg3.IsWhole)
    (arg4 : Memref sig .tc .vmem S64x1024 .f32) (harg4 : arg4.IsWhole)
    (arg5 : Memref sig .tc .vmem S64x512 .bf16) (harg5 : arg5.IsWhole)
    (arg6 : Memref sig .tc .vmem S8x128 .f32) (harg6 : arg6.IsWhole)
    (arg7 : Memref sig .tc .vmem S64x1024 .f32) (harg7 : arg7.IsWhole)
    (arg8 : Memref sig .tc .vmem S1x128 .f32) (harg8 : arg8.IsWhole)
    (arg9 : Memref sig .tc .vmem S64x1024 .bf16) (harg9 : arg9.IsWhole)
    (arg10 : Memref sig .tc .vmem S8x128x128 .f32) (harg10 : arg10.IsWhole) (hc0 : cond0_0 i)
    (x0 : Vec Ideal S64x1024 .bf16) (x1 : Vec Ideal S64x1024 .bf16) (x2 : Vec Ideal S64x1024 .bf16) (x3 : Vec Ideal S64x1024 .f32) (x4 : Vec Ideal S64x512 .bf16) (x5 : Vec Ideal S8x128 .f32) (x6 : Vec Ideal S64x1024 .f32) (x7 : Vec Ideal S1x128 .f32) :
    sout0_A_0 (F := Ideal) c i arg1 harg1 arg2 harg2 arg3 harg3 arg4 harg4 arg5 harg5 arg6 harg6 arg7 harg7 arg8 harg8 arg9 harg9 arg10 harg10 hc0 x0 x1 x2 x3 x4 x5 x6 x7 = nextSt x1 x2 x3 x5 (fun _ => 0) := by
  frame_open
  simp (disch := decide) only [↓View.readCov_fill]
  frame_out
  rw [pay2_zero]
  funext y
  refine View.canon_append_of_piecesOf (nextSt x1 x2 x3 x5 fun _ => 0) [_] [_, _, _, _, _, _, _, _] ⟨?_, ?_, ?_, ?_, ?_, ?_, ?_, ?_, trivial⟩ y ?_
  case refine_9 => exact View.cover_of_tiledL (s := S8x128x128) _ S1x128x128.size (by sl_kernel_rfl) y
  all_goals
    clear y
    intro y
    unfold_payloads
    idx_vars y
    first
      | refine Eq.trans ?_ (congrArg (nextSt x1 x2 x3 x5 fun _ => 0) (emb_slab 0 (by omega) _ y0 y1 y2).symm)
      | refine Eq.trans ?_ (congrArg (nextSt x1 x2 x3 x5 fun _ => 0) (emb_slab 1 (by omega) _ y0 y1 y2).symm)
      | refine Eq.trans ?_ (congrArg (nextSt x1 x2 x3 x5 fun _ => 0) (emb_slab 2 (by omega) _ y0 y1 y2).symm)
      | refine Eq.trans ?_ (congrArg (nextSt x1 x2 x3 x5 fun _ => 0) (emb_slab 3 (by omega) _ y0 y1 y2).symm)
      | refine Eq.trans ?_ (congrArg (nextSt x1 x2 x3 x5 fun _ => 0) (emb_slab 4 (by omega) _ y0 y1 y2).symm)
      | refine Eq.trans ?_ (congrArg (nextSt x1 x2 x3 x5 fun _ => 0) (emb_slab 5 (by omega) _ y0 y1 y2).symm)
      | refine Eq.trans ?_ (congrArg (nextSt x1 x2 x3 x5 fun _ => 0) (emb_slab 6 (by omega) _ y0 y1 y2).symm)
      | refine Eq.trans ?_ (congrArg (nextSt x1 x2 x3 x5 fun _ => 0) (emb_slab 7 (by omega) _ y0 y1 y2).symm)
    pointwise [nextSt, vnew, colAt]

/-- A later point writes `outBlk` of the state it met. -/
theorem outB (c : Dev nD) (i : grid0.Coords)
    (arg1 : Memref sig .tc .vmem S64x1024 .bf16) (harg1 : arg1.IsWhole)
    (arg2 : Memref sig .tc .vmem S64x1024 .bf16) (harg2 : arg2.IsWhole)
    (arg3 : Memref sig .tc .vmem S64x1024 .bf16) (harg3 : arg3.IsWhole)
    (arg4 : Memref sig .tc .vmem S64x1024 .f32) (harg4 : arg4.IsWhole)
    (arg5 : Memref sig .tc .vmem S64x512 .bf16) (harg5 : arg5.IsWhole)
    (arg6 : Memref sig .tc .vmem S8x128 .f32) (harg6 : arg6.IsWhole)
    (arg7 : Memref sig .tc .vmem S64x1024 .f32) (harg7 : arg7.IsWhole)
    (arg8 : Memref sig .tc .vmem S1x128 .f32) (harg8 : arg8.IsWhole)
    (arg9 : Memref sig .tc .vmem S64x1024 .bf16) (harg9 : arg9.IsWhole)
    (arg10 : Memref sig .tc .vmem S8x128x128 .f32) (harg10 : arg10.IsWhole) (hc0 : ¬cond0_0 i)
    (x0 : Vec Ideal S64x1024 .bf16) (x1 : Vec Ideal S64x1024 .bf16) (x2 : Vec Ideal S64x1024 .bf16) (x3 : Vec Ideal S64x1024 .f32) (x4 : Vec Ideal S64x512 .bf16) (x5 : Vec Ideal S8x128 .f32) (x6 : Vec Ideal S64x1024 .f32) (x7 : Vec Ideal S1x128 .f32) (xs0 : Vec Ideal S8x128x128 .f32) :
    out0_B_8 (F := Ideal) c i arg1 harg1 arg2 harg2 arg3 harg3 arg4 harg4 arg5 harg5 arg6 harg6 arg7 harg7 arg8 harg8 arg9 harg9 arg10 harg10 hc0 x0 x1 x2 x3 x4 x5 x6 x7 xs0 = outBlk x0 x2 x3 x4 x6 x7 xs0 := by
  frame_out
  funext y
  canon_tiles x h
  all_goals
    unfold_payloads
    idx_vars x
    idx_vars y
    obtain rfl := Fin.ext h0
    show _ = normGate (outv x0 x2 x3 x4 xs0 (headOf y1) y0) (laneOf y1) (x7 (ix2 0 (laneOf y1))) (x6 (ix2 y0 y1))
    rw [show laneOf y1 = x1 from Fin.ext (by show y1.val % 128 = _; omega)]
    first
      | rw [show headOf y1 = 0 from Fin.ext (by show y1.val / 128 = 0; omega)]; obtain rfl : y1 = colAt 0 x1 := Fin.ext (by show y1.val = 0 * 128 + x1.val; omega)
      | rw [show headOf y1 = 1 from Fin.ext (by show y1.val / 128 = 1; omega)]; obtain rfl : y1 = colAt 1 x1 := Fin.ext (by show y1.val = 1 * 128 + x1.val; omega)
      | rw [show headOf y1 = 2 from Fin.ext (by show y1.val / 128 = 2; omega)]; obtain rfl : y1 = colAt 2 x1 := Fin.ext (by show y1.val = 2 * 128 + x1.val; omega)
      | rw [show headOf y1 = 3 from Fin.ext (by show y1.val / 128 = 3; omega)]; obtain rfl : y1 = colAt 3 x1 := Fin.ext (by show y1.val = 3 * 128 + x1.val; omega)
      | rw [show headOf y1 = 4 from Fin.ext (by show y1.val / 128 = 4; omega)]; obtain rfl : y1 = colAt 4 x1 := Fin.ext (by show y1.val = 4 * 128 + x1.val; omega)
      | rw [show headOf y1 = 5 from Fin.ext (by show y1.val / 128 = 5; omega)]; obtain rfl : y1 = colAt 5 x1 := Fin.ext (by show y1.val = 5 * 128 + x1.val; omega)
      | rw [show headOf y1 = 6 from Fin.ext (by show y1.val / 128 = 6; omega)]; obtain rfl : y1 = colAt 6 x1 := Fin.ext (by show y1.val = 6 * 128 + x1.val; omega)
      | rw [show headOf y1 = 7 from Fin.ext (by show y1.val / 128 = 7; omega)]; obtain rfl : y1 = colAt 7 x1 := Fin.ext (by show y1.val = 7 * 128 + x1.val; omega)
    pointwise [normGate, outv, vnew, colAt, attAt, zero_sub]

/-- The first point writes `outBlk` of the zero state. -/
theorem outA (c : Dev nD) (i : grid0.Coords)
    (arg1 : Memref sig .tc .vmem S64x1024 .bf16) (harg1 : arg1.IsWhole)
    (arg2 : Memref sig .tc .vmem S64x1024 .bf16) (harg2 : arg2.IsWhole)
    (arg3 : Memref sig .tc .vmem S64x1024 .bf16) (harg3 : arg3.IsWhole)
    (arg4 : Memref sig .tc .vmem S64x1024 .f32) (harg4 : arg4.IsWhole)
    (arg5 : Memref sig .tc .vmem S64x512 .bf16) (harg5 : arg5.IsWhole)
    (arg6 : Memref sig .tc .vmem S8x128 .f32) (harg6 : arg6.IsWhole)
    (arg7 : Memref sig .tc .vmem S64x1024 .f32) (harg7 : arg7.IsWhole)
    (arg8 : Memref sig .tc .vmem S1x128 .f32) (harg8 : arg8.IsWhole)
    (arg9 : Memref sig .tc .vmem S64x1024 .bf16) (harg9 : arg9.IsWhole)
    (arg10 : Memref sig .tc .vmem S8x128x128 .f32) (harg10 : arg10.IsWhole) (hc0 : cond0_0 i)
    (x0 : Vec Ideal S64x1024 .bf16) (x1 : Vec Ideal S64x1024 .bf16) (x2 : Vec Ideal S64x1024 .bf16) (x3 : Vec Ideal S64x1024 .f32) (x4 : Vec Ideal S64x512 .bf16) (x5 : Vec Ideal S8x128 .f32) (x6 : Vec Ideal S64x1024 .f32) (x7 : Vec Ideal S1x128 .f32) :
    out0_A_8 (F := Ideal) c i arg1 harg1 arg2 harg2 arg3 harg3 arg4 harg4 arg5 harg5 arg6 harg6 arg7 harg7 arg8 harg8 arg9 harg9 arg10 harg10 hc0 x0 x1 x2 x3 x4 x5 x6 x7 = outBlk x0 x2 x3 x4 x6 x7 (fun _ => 0) := by
  frame_open
  simp (disch := decide) only [↓View.readCov_fill]
  frame_out
  rw [pay2_zero]
  funext y
  canon_tiles x h
  all_goals
    unfold_payloads
    idx_vars x
    idx_vars y
    obtain rfl := Fin.ext h0
    show _ = normGate (outv x0 x2 x3 x4 (fun _ => 0) (headOf y1) y0) (laneOf y1) (x7 (ix2 0 (laneOf y1))) (x6 (ix2 y0 y1))
    rw [show laneOf y1 = x1 from Fin.ext (by show y1.val % 128 = _; omega)]
    first
      | rw [show headOf y1 = 0 from Fin.ext (by show y1.val / 128 = 0; omega)]; obtain rfl : y1 = colAt 0 x1 := Fin.ext (by show y1.val = 0 * 128 + x1.val; omega)
      | rw [show headOf y1 = 1 from Fin.ext (by show y1.val / 128 = 1; omega)]; obtain rfl : y1 = colAt 1 x1 := Fin.ext (by show y1.val = 1 * 128 + x1.val; omega)
      | rw [show headOf y1 = 2 from Fin.ext (by show y1.val / 128 = 2; omega)]; obtain rfl : y1 = colAt 2 x1 := Fin.ext (by show y1.val = 2 * 128 + x1.val; omega)
      | rw [show headOf y1 = 3 from Fin.ext (by show y1.val / 128 = 3; omega)]; obtain rfl : y1 = colAt 3 x1 := Fin.ext (by show y1.val = 3 * 128 + x1.val; omega)
      | rw [show headOf y1 = 4 from Fin.ext (by show y1.val / 128 = 4; omega)]; obtain rfl : y1 = colAt 4 x1 := Fin.ext (by show y1.val = 4 * 128 + x1.val; omega)
      | rw [show headOf y1 = 5 from Fin.ext (by show y1.val / 128 = 5; omega)]; obtain rfl : y1 = colAt 5 x1 := Fin.ext (by show y1.val = 5 * 128 + x1.val; omega)
      | rw [show headOf y1 = 6 from Fin.ext (by show y1.val / 128 = 6; omega)]; obtain rfl : y1 = colAt 6 x1 := Fin.ext (by show y1.val = 6 * 128 + x1.val; omega)
      | rw [show headOf y1 = 7 from Fin.ext (by show y1.val / 128 = 7; omega)]; obtain rfl : y1 = colAt 7 x1 := Fin.ext (by show y1.val = 7 * 128 + x1.val; omega)
    pointwise [normGate, outv, vnew, colAt, attAt, zero_sub]

end Cert.KernelIdeal.Scan

end
-- ==== Proof.ScanKernel.lean ====
module

public import proofs.«01_k».proof.Proof.Gen.KernelIdeal.Value
public import proofs.«01_k».proof.Proof.ScanBody

/-! # What the scan kernel's output array holds -/

@[expose] public section

set_option maxRecDepth 16384

noncomputable section

namespace Cert.KernelIdeal.Scan

open Cert.KernelIdeal Cert.KernelIdeal.Gen Idealize.ShloMosaic Idealize.ShloMosaic.TcCoe Idealize.SL.Sem
open Cert.ScanSpec

variable (m : (ℓ : Loc nD τ sig) → Buf (Elt Ideal) ℓ) (c : Dev nD)

/-- The arguments as plain tables. -/
def aqd (i : Fin 8192) (l : Fin 1024) : EReal := m ((c : Thread nD τ).loc main_arg0) (ix2 i l)
def akd (i : Fin 8192) (l : Fin 1024) : EReal := m ((c : Thread nD τ).loc main_arg1) (ix2 i l)
def aw (i : Fin 8192) (l : Fin 1024) : EReal := m ((c : Thread nD τ).loc main_arg2) (ix2 i l)
def au (i : Fin 8192) (l : Fin 1024) : EReal := m ((c : Thread nD τ).loc main_arg3) (ix2 i l)
def aatt (i : Fin 8192) (l : Fin 512) : EReal := m ((c : Thread nD τ).loc main_arg4) (ix2 i l)
def agl (i : Fin 1024) (l : Fin 128) : EReal := m ((c : Thread nD τ).loc main_arg5) (ix2 i l)
def az (i : Fin 8192) (l : Fin 1024) : EReal := m ((c : Thread nD τ).loc main_arg6) (ix2 i ⟨3072 + l.val, by omega⟩)
def ag (l : Fin 128) : EReal := m ((c : Thread nD τ).loc main_arg7) (ix1 l)

/-- Which block each window holds at point `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 3]
    ∧ win0_7.index t = ![0, 0] ∧ win0_8.index t = ![t.val, 0] :=
  (by decide +kernel : ∀ t : Fin grid0.N, _)

theorem b0 (t : Fin cfg0.N) (r : Fin 64) (l : Fin 1024) : iblk m c 0 t (ix2 r l) = aqd m c (row t.val r) l := by
  have ht := lt_of_lt_of_eq t.isLt (show cfg0.N = 128 from N_0)
  unfold aqd row
  blk_ext [iblk, V, idx t]
theorem b1 (t : Fin cfg0.N) (r : Fin 64) (l : Fin 1024) : iblk m c 1 t (ix2 r l) = akd m c (row t.val r) l := by
  have ht := lt_of_lt_of_eq t.isLt (show cfg0.N = 128 from N_0)
  unfold akd row
  blk_ext [iblk, V, idx t]
theorem b2 (t : Fin cfg0.N) (r : Fin 64) (l : Fin 1024) : iblk m c 2 t (ix2 r l) = aw m c (row t.val r) l := by
  have ht := lt_of_lt_of_eq t.isLt (show cfg0.N = 128 from N_0)
  unfold aw row
  blk_ext [iblk, V, idx t]
theorem b3 (t : Fin cfg0.N) (r : Fin 64) (l : Fin 1024) : iblk m c 3 t (ix2 r l) = au m c (row t.val r) l := by
  have ht := lt_of_lt_of_eq t.isLt (show cfg0.N = 128 from N_0)
  unfold au row
  blk_ext [iblk, V, idx t]
theorem b4 (t : Fin cfg0.N) (r : Fin 64) (l : Fin 512) : iblk m c 4 t (ix2 r l) = aatt m c (row t.val r) l := by
  have ht := lt_of_lt_of_eq t.isLt (show cfg0.N = 128 from N_0)
  unfold aatt row
  blk_ext [iblk, V, idx t]
theorem b5 (t : Fin cfg0.N) (h : Fin 8) (l : Fin 128) : iblk m c 5 t (ix2 h l) = agl m c (glRow t.val h) l := by
  have ht := lt_of_lt_of_eq t.isLt (show cfg0.N = 128 from N_0)
  unfold agl glRow
  blk_ext [iblk, V, idx t]
theorem b6 (t : Fin cfg0.N) (r : Fin 64) (l : Fin 1024) : iblk m c 6 t (ix2 r l) = az m c (row t.val r) l := by
  have ht := lt_of_lt_of_eq t.isLt (show cfg0.N = 128 from N_0)
  unfold az row
  blk_ext [iblk, V, idx t]
theorem b7 (t : Fin cfg0.N) (l : Fin 128) : iblk m c 7 t (ix2 0 l) = ag m c l := by
  have ht := lt_of_lt_of_eq t.isLt (show cfg0.N = 128 from N_0)
  unfold ag
  blk_ext! [iblk, V, idx t]

/-- A state as the scratch's contents. -/
def asVec (st : State) : Vec Ideal S8x128x128 .f32 := fun j => st (j 0) (j 1) (j 2)

/-- One point's step over the blocks is the recurrence's step over the arguments. -/
theorem nextSt_eq (t : Fin cfg0.N) (st : State) :
    nextSt (iblk m c 1 t) (iblk m c 2 t) (iblk m c 3 t) (iblk m c 5 t) (asVec st) = asVec (stepSt (akd m c) (aw m c) (au m c) (agl m c) t.val st) := by
  funext j
  have e5 := b5 m c t (j 0) (j 2)
  simp only [nextSt, vnew, b1, b2, b3]
  rw [e5]
  rfl

/-- The output block over the blocks, at row `r` and column `l`. -/
theorem outBlk_eq (t : Fin cfg0.N) (st : State) (r : Fin 64) (l : Fin 1024) :
    outBlk (iblk m c 0 t) (iblk m c 2 t) (iblk m c 3 t) (iblk m c 4 t) (iblk m c 6 t) (iblk m c 7 t) (asVec st) (ix2 r l)
      = normGate (outV (aqd m c) (aw m c) (au m c) (aatt m c) st t.val (headOf l) r) (laneOf l) (ag m c (laneOf l)) (az m c (row t.val r) l) := by
  have e : outv (iblk m c 0 t) (iblk m c 2 t) (iblk m c 3 t) (iblk m c 4 t) (asVec st) (headOf l) r
      = outV (aqd m c) (aw m c) (au m c) (aatt m c) st t.val (headOf l) r := by
    funext e
    simp only [outv, vnew, b0, b2, b3, b4]
    rfl
  show normGate (outv _ _ _ _ _ (headOf l) r) (laneOf l) (iblk m c 7 t (ix2 0 (laneOf l))) (iblk m c 6 t (ix2 r l)) = _
  rw [e, b7, b6]

/-- After point `n` the scratch holds the state that chunk `n + 1` meets. -/
theorem state_after (n : ℕ) (hn : n < cfg0.N) :
    (outsAt0 m c n hn).2 = asVec (stateAt (akd m c) (aw m c) (au m c) (agl m c) (n + 1)) := by
  induction n with
  | zero =>
    rw [outsAt0_A m c ⟨0, hn⟩ rfl]
    dsimp only
    rw [soutA]
    exact nextSt_eq m c ⟨0, hn⟩ (fun _ _ _ => 0)
  | succ n ih =>
    have hN := lt_of_lt_of_eq hn (show cfg0.N = 128 from N_0)
    rw [outsAt0_B m c ⟨n + 1, hn⟩ (by show ¬(n + 1) % 128 = 0; omega)]
    dsimp only
    rw [soutB, show (outsAt0 m c (n + 1 - 1) _).2 = _ from ih _]
    exact nextSt_eq m c ⟨n + 1, hn⟩ (stateAt (akd m c) (aw m c) (au m c) (agl m c) (n + 1))

/-- What point `n` writes. -/
theorem out_after (n : ℕ) (hn : n < cfg0.N) (r : Fin 64) (l : Fin 1024) :
    (outsAt0 m c n hn).1 (ix2 r l)
      = normGate (outV (aqd m c) (aw m c) (au m c) (aatt m c) (stateAt (akd m c) (aw m c) (au m c) (agl m c) n) n (headOf l) r) (laneOf l)
          (ag m c (laneOf l)) (az m c (row n r) l) := by
  have hN := lt_of_lt_of_eq hn (show cfg0.N = 128 from N_0)
  cases n with
  | zero =>
    rw [outsAt0_A m c ⟨0, hn⟩ rfl]
    dsimp only
    rw [outA]
    exact outBlk_eq m c ⟨0, hn⟩ (fun _ _ _ => 0) r l
  | succ n =>
    rw [outsAt0_B m c ⟨n + 1, hn⟩ (by show ¬(n + 1) % 128 = 0; omega)]
    dsimp only
    rw [outB, show (outsAt0 m c (n + 1 - 1) _).2 = _ from state_after m c n (by omega)]
    exact outBlk_eq m c ⟨n + 1, hn⟩ (stateAt (akd m c) (aw m c) (au m c) (agl m c) (n + 1)) r l

/-- The output array, entry by entry. -/
def arr : Buf (Elt Ideal) ((c : Thread nD τ).loc main_v1) := fun i =>
  result (aqd m c) (akd m c) (aw m c) (au m c) (aatt m c) (agl m c) (az m c) (ag m c) (i 0) (i 1)

/-- The kernel leaves the recurrence's output in its result array. -/
theorem G8_eq : Value.G8 m c = arr m c := by
  rw [← Value.final8]
  refine (dats m 0 c).arrAt_eq_of_covers 8 _ (by decide +kernel) fun t hf y => ?_
  have ht := lt_of_lt_of_eq t.isLt (show cfg0.N = 128 from N_0)
  blk_simp
  rw [after0_8]
  idx_vars y
  rw [out_after]
  have e : ((View.whole main_v1).slice (win0_8.rect t)).emb (ix2 y0 y1) = ix2 (row t.val y0) y1 := by
    unfold row
    blk_ext [idx t]
  rw [e]
  have hd : (row t.val y0).val = t.val * 64 + y0.val := by show t.val % 128 * 64 + y0.val = _; omega
  have h1 : chunkOf (row t.val y0) = t.val := by unfold chunkOf; omega
  have h2 : inChunk (row t.val y0) = y0 := Fin.ext (by show (row t.val y0).val % 64 = _; omega)
  show _ = result (aqd m c) (akd m c) (aw m c) (au m c) (aatt m c) (agl m c) (az m c) (ag m c) (row t.val y0) y1
  unfold result
  rw [h1, h2]

end Cert.KernelIdeal.Scan

end
-- ==== Proof.RefTrip.lean ====
module

public import proofs.«01_k».proof.Proof.Gen.ReferenceIdeal.Run
public import proofs.«01_k».proof.Proof.ScanSpec
public import Idealize.ShloMosaic.Lib.WordCmp
public import Idealize.ShloMosaic.Lib.Tactic.CleanTypes
public import Idealize.ShloMosaic.Lib.Pointwise

/-! # One trip of the reference's scan

The reference's scan keeps its operands as stacks of 128 chunks and takes chunk `k` at trip `k`. Over the contents
before a trip whose counter is `k`, the state and the stacked outputs after it are read here at an index. -/

@[expose] public section

set_option maxRecDepth 16384

noncomputable section

namespace Cert.ReferenceIdeal.Scan

open Cert.ReferenceIdeal Cert.ReferenceIdeal.Gen Cert.ReferenceIdeal.Value Idealize.ShloMosaic Idealize.ShloMosaic.TcCoe Idealize.SL.Sem

/-- Chunk `k` of a stack whose chunks are 64 rows of 128 for each head. -/
def chunkA (X : Vec Ideal S128x1x8x64x128 .f32) (k : Fin 128) : Vec Ideal S1x8x64x128 .f32 := fun j => X (ix5 k (j 0) (j 1) (j 2) (j 3))
/-- Chunk `k` of a stack whose chunks are 64 rows of 64 for each head. -/
def chunkB (X : Vec Ideal S128x1x8x64x64 .f32) (k : Fin 128) : Vec Ideal S1x8x64x64 .f32 := fun j => X (ix5 k (j 0) (j 1) (j 2) (j 3))
/-- Chunk `k` of the decays. -/
def chunkC (X : Vec Ideal S128x1x8x128 .f32) (k : Fin 128) : Vec Ideal S1x8x128 .f32 := fun j => X (ix4 k (j 0) (j 1) (j 2))

/-- The word of a chunk's number, read signed, is the number. -/
theorem word_toInt (k : Fin 128) : (BitVec.ofNat 32 k.val).toInt = (k.val : ℤ) := by
  have := k.isLt
  rw [BitVec.toInt_eq_toNat_of_lt] <;> rw [BitVec.toNat_ofNat] <;> omega

/-- The slice at a counter that is `k` is chunk `k`. -/
theorem slice_A (X : Vec Ideal S128x1x8x64x128 .f32) (w : (⟨S_, .i32⟩ : BufTy).Contents (Elt Ideal)) (k : Fin 128) (hw : w = fun _ => BitVec.ofNat 32 k.val) :
    shapeCast S1x8x64x128 (Host.dynamicSlice S1x1x8x64x128 X (fun n => (((![w, constantI S_ 32 0#32, constantI S_ 32 0#32, constantI S_ 32 0#32, constantI S_ 32 0#32] : Fin 5 → (⟨S_, .i32⟩ : BufTy).Contents (Elt Ideal))) n (Shape.Idx.first h_S_)).toInt) sliceFits_S128x1x8x64x128_S1x1x8x64x128) shapeCasts_S1x1x8x64x128_S1x8x64x128 = chunkA X k := by
  subst hw
  have hk := k.isLt
  rw [WordCmp.dynamicSlice_eq_extract S1x1x8x64x128 X _ _ ![k.val, 0, 0, 0, 0] ⟨rfl, by intro a; fin_cases a <;> simp <;> omega⟩ (fun a => by fin_cases a; exact word_toInt k; all_goals rfl)]
  funext j
  idx_vars j
  rw [show j0 = 0 from Subsingleton.elim _ _]
  pointwise [chunkA]

/-- The slice at a counter that is `k` is chunk `k`. -/
theorem slice_B (X : Vec Ideal S128x1x8x64x64 .f32) (w : (⟨S_, .i32⟩ : BufTy).Contents (Elt Ideal)) (k : Fin 128) (hw : w = fun _ => BitVec.ofNat 32 k.val) :
    shapeCast S1x8x64x64 (Host.dynamicSlice S1x1x8x64x64 X (fun n => (((![w, constantI S_ 32 0#32, constantI S_ 32 0#32, constantI S_ 32 0#32, constantI S_ 32 0#32] : Fin 5 → (⟨S_, .i32⟩ : BufTy).Contents (Elt Ideal))) n (Shape.Idx.first h_S_)).toInt) sliceFits_S128x1x8x64x64_S1x1x8x64x64) shapeCasts_S1x1x8x64x64_S1x8x64x64 = chunkB X k := by
  subst hw
  have hk := k.isLt
  rw [WordCmp.dynamicSlice_eq_extract S1x1x8x64x64 X _ _ ![k.val, 0, 0, 0, 0] ⟨rfl, by intro a; fin_cases a <;> simp <;> omega⟩ (fun a => by fin_cases a; exact word_toInt k; all_goals rfl)]
  funext j
  idx_vars j
  rw [show j0 = 0 from Subsingleton.elim _ _]
  pointwise [chunkB]

/-- The slice at a counter that is `k` is chunk `k`. -/
theorem slice_C (X : Vec Ideal S128x1x8x128 .f32) (w : (⟨S_, .i32⟩ : BufTy).Contents (Elt Ideal)) (k : Fin 128) (hw : w = fun _ => BitVec.ofNat 32 k.val) :
    shapeCast S1x8x128 (Host.dynamicSlice S1x1x8x128 X (fun n => (((![w, constantI S_ 32 0#32, constantI S_ 32 0#32, constantI S_ 32 0#32] : Fin 4 → (⟨S_, .i32⟩ : BufTy).Contents (Elt Ideal))) n (Shape.Idx.first h_S_)).toInt) sliceFits_S128x1x8x128_S1x1x8x128) shapeCasts_S1x1x8x128_S1x8x128 = chunkC X k := by
  subst hw
  have hk := k.isLt
  rw [WordCmp.dynamicSlice_eq_extract S1x1x8x128 X _ _ ![k.val, 0, 0, 0] ⟨rfl, by intro a; fin_cases a <;> simp <;> omega⟩ (fun a => by fin_cases a; exact word_toInt k; all_goals rfl)]
  funext j
  idx_vars j
  rw [show j0 = 0 from Subsingleton.elim _ _]
  pointwise [chunkC]

/-- A stack's entry, as a number. -/
abbrev num (x : EReal) : EReal := x

variable (V0 : Valuation τ sig (Elt Ideal)) (k : Fin 128) (hw : V0 (Proc.devRef .tc main_v17_6) = fun _ => BitVec.ofNat 32 k.val)
include hw

/-- The corrected values of the trip. -/
theorem v46_at (h : Fin 8) (c : Fin 64) (e : Fin 128) :
    res_main_while0b_v46 V0 (ix4 0 h c e) = num (V0 (Proc.devRef .tc main_v17_3) (ix5 k 0 h c e))
      - ∑ d : Fin 128, num (V0 (Proc.devRef .tc main_v17_2) (ix5 k 0 h c d)) * num (V0 (Proc.devRef .tc main_v17_7) (ix4 0 h d e)) := by
  unfold res_main_while0b_v46
  clean_types
  rw [slice_A _ _ k hw, slice_A _ _ k hw]
  pointwise [num, chunkA]

/-- The state after the trip. -/
theorem step7_at (h : Fin 8) (d e : Fin 128) :
    step_main_v17_7 V0 (ix4 0 h d e) = num (V0 (Proc.devRef .tc main_v17_7) (ix4 0 h d e)) * num (V0 (Proc.devRef .tc main_v17_5) (ix4 k 0 h e))
      + ∑ c : Fin 64, num (V0 (Proc.devRef .tc main_v17_1) (ix5 k 0 h c d)) * res_main_while0b_v46 V0 (ix4 0 h c e) := by
  unfold step_main_v17_7
  simp only [id_eq]
  clean_types
  rw [slice_A _ _ k hw, slice_C _ _ k hw]
  generalize res_main_while0b_v46 V0 = X
  pointwise [num, chunkA, chunkC]

/-- The stacked outputs after the trip: chunk `k` is new, the others stay. -/
theorem step8_at (n : Fin 128) (h : Fin 8) (c : Fin 64) (e : Fin 128) :
    step_main_v17_8 V0 (ix5 n 0 h c e) = if n = k then
      (∑ d : Fin 128, num (V0 (Proc.devRef .tc main_v17_0) (ix5 k 0 h c d)) * num (V0 (Proc.devRef .tc main_v17_7) (ix4 0 h d e)))
      + ∑ s : Fin 64, num (V0 (Proc.devRef .tc main_v17_4) (ix5 k 0 h c s)) * res_main_while0b_v46 V0 (ix4 0 h s e)
    else num (V0 (Proc.devRef .tc main_v17_8) (ix5 n 0 h c e)) := by
  unfold step_main_v17_8
  simp only [id_eq]
  clean_types
  have hk := k.isLt
  rw [slice_A _ _ k hw, slice_B _ _ k hw, hw]
  rw [WordCmp.dynamicUpdateSlice_eq_update (s := S128x1x8x64x128) (u := S1x1x8x64x128) _ _ _ _ ![k.val, 0, 0, 0, 0] ⟨rfl, by intro a; fin_cases a <;> simp <;> omega⟩ (fun a => by fin_cases a; exact word_toInt k; all_goals rfl)]
  generalize res_main_while0b_v46 V0 = X
  pointwise [num, chunkA, chunkB]
  by_cases hn : n = k
  · subst hn
    rw [dif_pos ⟨le_refl _, by omega⟩, if_pos rfl]
  · rw [dif_neg (fun hh => hn (Fin.ext (by omega))), if_neg hn]

end Cert.ReferenceIdeal.Scan

end
-- ==== Proof.RefLoop.lean ====
module

public import proofs.«01_k».proof.Proof.RefTrip
public import Idealize.ShloMosaic.Lib.StableHlo.ReadAt

/-! # The reference's scan after any number of trips

The trips are counted by induction: the stacks stay as they entered, the counter is the number of trips, the state is
the recurrence's, and the chunks already visited hold their outputs. -/

@[expose] public section

set_option maxRecDepth 16384

noncomputable section

namespace Cert.ReferenceIdeal.Scan

open Cert.ReferenceIdeal Cert.ReferenceIdeal.Gen Cert.ReferenceIdeal.Value Idealize.ShloMosaic Idealize.ShloMosaic.TcCoe Idealize.SL.Sem
open Idealize.ShloMosaic.StableHlo
open Cert.ScanSpec

variable (m : (ℓ : Loc nD τ sig) → Buf (Elt Ideal) ℓ) (c : Dev nD)

/-- The arguments as plain tables. -/
def aqd (i : Fin 8192) (l : Fin 1024) : EReal := m ((c.tc : Thread nD τ).loc main_arg0) (ix2 i l)
def akd (i : Fin 8192) (l : Fin 1024) : EReal := m ((c.tc : Thread nD τ).loc main_arg1) (ix2 i l)
def aw (i : Fin 8192) (l : Fin 1024) : EReal := m ((c.tc : Thread nD τ).loc main_arg2) (ix2 i l)
def au (i : Fin 8192) (l : Fin 1024) : EReal := m ((c.tc : Thread nD τ).loc main_arg3) (ix2 i l)
def aatt (i : Fin 8192) (l : Fin 512) : EReal := m ((c.tc : Thread nD τ).loc main_arg4) (ix2 i l)
def agl (i : Fin 1024) (l : Fin 128) : EReal := m ((c.tc : Thread nD τ).loc main_arg5) (ix2 i l)
def az (i : Fin 8192) (l : Fin 1024) : EReal := m ((c.tc : Thread nD τ).loc main_arg6) (ix2 i ⟨3072 + l.val, by omega⟩)
def ag (l : Fin 128) : EReal := m ((c.tc : Thread nD τ).loc main_arg7) (ix1 l)

/-- The contents at the loop's entry, and after `n` trips. -/
abbrev at0 : Valuation τ sig (Elt Ideal) := entryContents preI m c
abbrev atN (n : ℕ) : Valuation τ sig (Elt Ideal) := STEP^[n] (entryContents preI m c)

/-- Chunk `k` of a stack at the entry is rows `64 k …` of its argument, head by head. -/
theorem e0 (k : Fin 128) (h : Fin 8) (r : Fin 64) (d : Fin 128) :
    at0 m c (Proc.devRef .tc main_v17_0) (ix5 k 0 h r d) = aqd m c (row k.val r) (colAt h d) := by
  have hk := k.isLt
  unfold aqd row colAt
  simp only [Nat.mod_eq_of_lt hk]
  simp only [at0, entryContents, afterL_cons, afterL_nil]
  after_reads_at
  simp only [id_eq]
  clean_types
  pointwise
  try rfl

/-- The entry of the stack, as of its argument. -/
theorem e1 (k : Fin 128) (h : Fin 8) (r : Fin 64) (d : Fin 128) :
    at0 m c (Proc.devRef .tc main_v17_1) (ix5 k 0 h r d) = akd m c (row k.val r) (colAt h d) := by
  have hk := k.isLt
  unfold akd row colAt
  simp only [Nat.mod_eq_of_lt hk]
  simp only [at0, entryContents, afterL_cons, afterL_nil]
  after_reads_at
  simp only [id_eq]
  clean_types
  pointwise
  try rfl

/-- The entry of the stack, as of its argument. -/
theorem e2 (k : Fin 128) (h : Fin 8) (r : Fin 64) (d : Fin 128) :
    at0 m c (Proc.devRef .tc main_v17_2) (ix5 k 0 h r d) = aw m c (row k.val r) (colAt h d) := by
  have hk := k.isLt
  unfold aw row colAt
  simp only [Nat.mod_eq_of_lt hk]
  simp only [at0, entryContents, afterL_cons, afterL_nil]
  after_reads_at
  simp only [id_eq]
  clean_types
  pointwise
  try rfl

/-- The entry of the stack, as of its argument. -/
theorem e3 (k : Fin 128) (h : Fin 8) (r : Fin 64) (d : Fin 128) :
    at0 m c (Proc.devRef .tc main_v17_3) (ix5 k 0 h r d) = au m c (row k.val r) (colAt h d) := by
  have hk := k.isLt
  unfold au row colAt
  simp only [Nat.mod_eq_of_lt hk]
  simp only [at0, entryContents, afterL_cons, afterL_nil]
  after_reads_at
  simp only [id_eq]
  clean_types
  pointwise
  try rfl

/-- The entry of the stack, as of its argument. -/
theorem e4 (k : Fin 128) (h : Fin 8) (r : Fin 64) (s : Fin 64) :
    at0 m c (Proc.devRef .tc main_v17_4) (ix5 k 0 h r s) = aatt m c (row k.val r) (attAt h s) := by
  have hk := k.isLt
  unfold aatt row attAt
  simp only [Nat.mod_eq_of_lt hk]
  simp only [at0, entryContents, afterL_cons, afterL_nil]
  after_reads_at
  simp only [id_eq]
  clean_types
  pointwise
  try rfl

/-- The entry of the stack, as of its argument. -/
theorem e5 (k : Fin 128) (h : Fin 8) (e : Fin 128) :
    at0 m c (Proc.devRef .tc main_v17_5) (ix4 k 0 h e) = agl m c (glRow k.val h) e := by
  have hk := k.isLt
  unfold agl glRow
  simp only [Nat.mod_eq_of_lt hk]
  simp only [at0, entryContents, afterL_cons, afterL_nil]
  after_reads_at
  simp only [id_eq]
  clean_types
  pointwise
  try rfl

/-- The state enters as zero. -/
theorem e7 (h : Fin 8) (d e : Fin 128) : at0 m c (Proc.devRef .tc main_v17_7) (ix4 0 h d e) = (0 : EReal) := by
  simp only [at0, entryContents, afterL_cons, afterL_nil]
  after_reads_at
  simp only [id_eq]
  clean_types
  pointwise

/-- The counter after `n` trips. -/
theorem ctrN (n : ℕ) : atN m c n (Proc.devRef .tc main_v17_6) = fun _ => BitVec.ofNat 32 n := by
  induction n with
  | zero => exact ctr_entry m c
  | succ n ih =>
    show STEP^[n + 1] _ _ = _
    rw [Function.iterate_succ_apply', STEP_main_v17_6]
    unfold step_main_v17_6
    rw [show STEP^[n] (entryContents preI m c) (Proc.devRef .tc main_v17_6) = _ from ih]
    funext j
    show BitVec.ofNat 32 n + 1#32 = BitVec.ofNat 32 (n + 1)
    rw [← BitVec.ofNat_add]

/-- The trips keep the stack. -/
theorem kept0 (n : ℕ) : atN m c n (Proc.devRef .tc main_v17_0) = at0 m c (Proc.devRef .tc main_v17_0) := by
  induction n with
  | zero => rfl
  | succ n ih => exact (congrFun (Function.iterate_succ_apply' STEP n _) _).trans ((STEP_main_v17_0 _).trans ih)

/-- The trips keep the stack. -/
theorem kept1 (n : ℕ) : atN m c n (Proc.devRef .tc main_v17_1) = at0 m c (Proc.devRef .tc main_v17_1) := by
  induction n with
  | zero => rfl
  | succ n ih => exact (congrFun (Function.iterate_succ_apply' STEP n _) _).trans ((STEP_main_v17_1 _).trans ih)

/-- The trips keep the stack. -/
theorem kept2 (n : ℕ) : atN m c n (Proc.devRef .tc main_v17_2) = at0 m c (Proc.devRef .tc main_v17_2) := by
  induction n with
  | zero => rfl
  | succ n ih => exact (congrFun (Function.iterate_succ_apply' STEP n _) _).trans ((STEP_main_v17_2 _).trans ih)

/-- The trips keep the stack. -/
theorem kept3 (n : ℕ) : atN m c n (Proc.devRef .tc main_v17_3) = at0 m c (Proc.devRef .tc main_v17_3) := by
  induction n with
  | zero => rfl
  | succ n ih => exact (congrFun (Function.iterate_succ_apply' STEP n _) _).trans ((STEP_main_v17_3 _).trans ih)

/-- The trips keep the stack. -/
theorem kept4 (n : ℕ) : atN m c n (Proc.devRef .tc main_v17_4) = at0 m c (Proc.devRef .tc main_v17_4) := by
  induction n with
  | zero => rfl
  | succ n ih => exact (congrFun (Function.iterate_succ_apply' STEP n _) _).trans ((STEP_main_v17_4 _).trans ih)

/-- The trips keep the stack. -/
theorem kept5 (n : ℕ) : atN m c n (Proc.devRef .tc main_v17_5) = at0 m c (Proc.devRef .tc main_v17_5) := by
  induction n with
  | zero => rfl
  | succ n ih => exact (congrFun (Function.iterate_succ_apply' STEP n _) _).trans ((STEP_main_v17_5 _).trans ih)

/-- The stack's entries before any trip. -/
theorem k0 (n : ℕ) (k : Fin 128) (h : Fin 8) (r : Fin 64) (d : Fin 128) :
    atN m c n (Proc.devRef .tc main_v17_0) (ix5 k 0 h r d) = aqd m c (row k.val r) (colAt h d) :=
  (congrFun (kept0 m c n) _).trans (e0 m c k h r d)

/-- The stack's entries before any trip. -/
theorem k1 (n : ℕ) (k : Fin 128) (h : Fin 8) (r : Fin 64) (d : Fin 128) :
    atN m c n (Proc.devRef .tc main_v17_1) (ix5 k 0 h r d) = akd m c (row k.val r) (colAt h d) :=
  (congrFun (kept1 m c n) _).trans (e1 m c k h r d)

/-- The stack's entries before any trip. -/
theorem k2 (n : ℕ) (k : Fin 128) (h : Fin 8) (r : Fin 64) (d : Fin 128) :
    atN m c n (Proc.devRef .tc main_v17_2) (ix5 k 0 h r d) = aw m c (row k.val r) (colAt h d) :=
  (congrFun (kept2 m c n) _).trans (e2 m c k h r d)

/-- The stack's entries before any trip. -/
theorem k3 (n : ℕ) (k : Fin 128) (h : Fin 8) (r : Fin 64) (d : Fin 128) :
    atN m c n (Proc.devRef .tc main_v17_3) (ix5 k 0 h r d) = au m c (row k.val r) (colAt h d) :=
  (congrFun (kept3 m c n) _).trans (e3 m c k h r d)

/-- The stack's entries before any trip. -/
theorem k4 (n : ℕ) (k : Fin 128) (h : Fin 8) (r : Fin 64) (s : Fin 64) :
    atN m c n (Proc.devRef .tc main_v17_4) (ix5 k 0 h r s) = aatt m c (row k.val r) (attAt h s) :=
  (congrFun (kept4 m c n) _).trans (e4 m c k h r s)

/-- The stack's entries before any trip. -/
theorem k5 (n : ℕ) (k : Fin 128) (h : Fin 8) (e : Fin 128) :
    atN m c n (Proc.devRef .tc main_v17_5) (ix4 k 0 h e) = agl m c (glRow k.val h) e :=
  (congrFun (kept5 m c n) _).trans (e5 m c k h e)

/-- The corrected values of trip `n`, when the state before it is the recurrence's. -/
theorem v46N (n : Fin 128) (st : State) (hst : ∀ h d e, atN m c n.val (Proc.devRef .tc main_v17_7) (ix4 0 h d e) = st h d e)
    (h : Fin 8) (r : Fin 64) (e : Fin 128) :
    res_main_while0b_v46 (atN m c n.val) (ix4 0 h r e) = vNew (aw m c) (au m c) st n.val h r e := by
  rw [v46_at _ n (ctrN m c n.val)]
  exact congrArg₂ (fun a b : EReal => a - b) (k3 m c n.val n h r e)
    (Finset.sum_congr rfl fun d _ => congrArg₂ (fun a b : EReal => a * b) (k2 m c n.val n h r d) (hst h d e))

/-- The state after `n` trips is the recurrence's. -/
theorem stateN (n : ℕ) (hn : n ≤ 128) (h : Fin 8) (d e : Fin 128) :
    atN m c n (Proc.devRef .tc main_v17_7) (ix4 0 h d e) = stateAt (akd m c) (aw m c) (au m c) (agl m c) n h d e := by
  induction n generalizing h d e with
  | zero => exact e7 m c h d e
  | succ n ih =>
    have ih' := ih (by omega)
    show STEP^[n + 1] _ _ _ = _
    rw [Function.iterate_succ_apply', STEP_main_v17_7]
    refine (step7_at _ ⟨n, by omega⟩ (ctrN m c n) h d e).trans ?_
    exact congrArg₂ (fun a b : EReal => a + b)
      (congrArg₂ (fun a b : EReal => a * b) (ih' h d e) (k5 m c n ⟨n, by omega⟩ h e))
      (Finset.sum_congr rfl fun r _ => congrArg₂ (fun a b : EReal => a * b) (k1 m c n ⟨n, by omega⟩ h r d)
        (v46N m c ⟨n, by omega⟩ _ ih' h r e))

/-- After `n` trips the chunks before `n` hold their outputs. -/
theorem outN (n : ℕ) (hn : n ≤ 128) (k : Fin 128) (hk : k.val < n) (h : Fin 8) (r : Fin 64) (e : Fin 128) :
    atN m c n (Proc.devRef .tc main_v17_8) (ix5 k 0 h r e)
      = outV (aqd m c) (aw m c) (au m c) (aatt m c) (stateAt (akd m c) (aw m c) (au m c) (agl m c) k.val) k.val h r e := by
  induction n with
  | zero => omega
  | succ n ih =>
    show STEP^[n + 1] _ _ _ = _
    rw [Function.iterate_succ_apply', STEP_main_v17_8]
    refine (step8_at _ ⟨n, by omega⟩ (ctrN m c n) k h r e).trans ?_
    by_cases hkn : k = ⟨n, by omega⟩
    · rw [if_pos hkn, hkn]
      have ih' := stateN m c n (by omega)
      exact congrArg₂ (fun a b : EReal => a + b)
        (Finset.sum_congr rfl fun d _ => congrArg₂ (fun a b : EReal => a * b) (k0 m c n ⟨n, by omega⟩ h r d) (ih' h d e))
        (Finset.sum_congr rfl fun s _ => congrArg₂ (fun a b : EReal => a * b) (k4 m c n ⟨n, by omega⟩ h r s)
          (v46N m c ⟨n, by omega⟩ _ ih' h s e))
    · rw [if_neg hkn]
      exact ih (by omega) (by have : k.val ≠ n := fun h => hkn (Fin.ext h); omega)

/-- The reference's result, entry by entry. -/
theorem out_eq (i : Fin 8192) (l : Fin 1024) :
    out_main_v38 (atN m c 128) (ix2 i l)
      = result (aqd m c) (akd m c) (aw m c) (au m c) (aatt m c) (agl m c) (az m c) (ag m c) i l := by
  have hO := fun k h r e => outN m c 128 (le_refl _) k k.isLt h r e
  have hz : ∀ (i : Fin 8192) (l : Fin 8192), atN m c 128 (Proc.devRef .tc main_arg6) (ix2 i l) = m ((c.tc : Thread nD τ).loc main_arg6) (ix2 i l) :=
    fun i l => congrFun (iter_main_arg6 m c 128) _
  have hg : ∀ l : Fin 128, atN m c 128 (Proc.devRef .tc main_arg7) (ix1 l) = m ((c.tc : Thread nD τ).loc main_arg7) (ix1 l) :=
    fun l => congrFun (iter_main_arg7 m c 128) _
  generalize atN m c 128 = V at hO hz hg ⊢
  unfold out_main_v38
  simp only [id_eq]
  clean_types
  pointwise
  simp only [hO, hz, hg]
  rfl

end Cert.ReferenceIdeal.Scan

end
-- ==== Proof.ScanClaim.lean ====
module

public import proofs.«01_k».proof.Defs
public import proofs.«01_k».proof.Proof.ScanKernel
public import proofs.«01_k».proof.Proof.RefLoop

/-! # The recurrence: kernel and reference compute the same array

Both sides are the same function `ScanSpec.result` of their eight arguments, and the arguments agree. -/

@[expose] public section

noncomputable section

namespace Cert.ScanClaim

open Idealize.ShloMosaic Idealize.ShloMosaic.TcCoe Idealize.SL.Sem

/-- The reference ends, keeps its arguments, and has no counter that could move. -/
theorem frame_ref : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- With equal arguments the reference's result is the kernel's array. -/
theorem value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : Cert.ReferenceIdeal.Scan.aqd m' c = Cert.KernelIdeal.Scan.aqd m c)
    (h1 : Cert.ReferenceIdeal.Scan.akd m' c = Cert.KernelIdeal.Scan.akd m c)
    (h2 : Cert.ReferenceIdeal.Scan.aw m' c = Cert.KernelIdeal.Scan.aw m c)
    (h3 : Cert.ReferenceIdeal.Scan.au m' c = Cert.KernelIdeal.Scan.au m c)
    (h4 : Cert.ReferenceIdeal.Scan.aatt m' c = Cert.KernelIdeal.Scan.aatt m c)
    (h5 : Cert.ReferenceIdeal.Scan.agl m' c = Cert.KernelIdeal.Scan.agl m c)
    (h6 : Cert.ReferenceIdeal.Scan.az m' c = Cert.KernelIdeal.Scan.az m c)
    (h7 : Cert.ReferenceIdeal.Scan.ag m' c = Cert.KernelIdeal.Scan.ag m c) :
    Cert.ReferenceIdeal.Value.out_main_v38 (Cert.ReferenceIdeal.Scan.atN m' c 128) = Cert.KernelIdeal.Scan.arr m c := by
  funext i
  idx_vars i
  rw [Cert.ReferenceIdeal.Scan.out_eq, h0, h1, h2, h3, h4, h5, h6, h7]
  rfl

/-- Kernel and reference compute the same array over the extended reals. -/
theorem algebraic : Cert.algebraic_KernelIdeal_ReferenceIdeal (hKernelIdeal := Cert.KernelIdeal.Gen.facts)
    (hReferenceIdeal := Cert.ReferenceIdeal.Gen.facts) := fun m ρ m' ρ' _ hag =>
  ⟨fun c => Cert.KernelIdeal.Scan.arr m c,
    (θ_run _ _ _).mono (fun _ h c => ⟨(h c).1.trans (Cert.KernelIdeal.Scan.G8_eq m c), (h c).2⟩)
      (Cert.KernelIdeal.Value.run (F := Ideal) m ρ),
    (θ_run _ _ _).mono (fun _ h c => ⟨(h c).1.trans (value m m' c
        (funext fun i => funext fun l => congrFun (hag c).1 _)
        (funext fun i => funext fun l => congrFun (hag c).2.1 _)
        (funext fun i => funext fun l => congrFun (hag c).2.2.1 _)
        (funext fun i => funext fun l => congrFun (hag c).2.2.2.1 _)
        (funext fun i => funext fun l => congrFun (hag c).2.2.2.2.1 _)
        (funext fun i => funext fun l => congrFun (hag c).2.2.2.2.2.1 _)
        (funext fun i => funext fun l => congrFun (hag c).2.2.2.2.2.2.1 _)
        (funext fun l => congrFun (hag c).2.2.2.2.2.2.2 _)), (h c).2⟩)
      (Cert.ReferenceIdeal.Value.run (F := Ideal) m' ρ')⟩

end Cert.ScanClaim

end
-- ==== Proof.FfnFrame.lean ====
module

public import proofs.«01_k».proof.Defs
public import proofs.«01_k».proof.Proof.Gen.FfnRefIdeal.Run

/-! # The dense feed-forward reference ends quietly -/

@[expose] public section

noncomputable section

namespace Cert.FfnClaim

open Idealize.ShloMosaic Idealize.ShloMosaic.TcCoe Idealize.SL.Sem

/-- The reference ends, keeps its arguments, and has no counter that could move. -/
theorem frame_ref : Cert.quiescent_FfnRefIdeal (hFfnRefIdeal := Cert.FfnRefIdeal.Gen.facts) := fun m ρ _ =>
  (θ_run Cert.FfnRefIdeal.defs _ _).mono (fun r h => ⟨fun c => (h c).2.2, sem_eq_zero_of_no_sems (by decide) r.2⟩)
    (Cert.FfnRefIdeal.Value.run (F := Ideal) m ρ)

end Cert.FfnClaim

end
-- ==== Proof.FfnSpec.lean ====
module

public import Idealize.ShloMosaic.PureOps.Ideal

/-! # The dense feed-forward layer over plain tables

`hid` is the gated hidden layer, `resid` the residual stream after it, and `normed` its root-mean-square normalisation.
`part n` is the sum over the first `n` hidden units, which is how far a walk over the hidden units has come. -/

@[expose] public section

noncomputable section

namespace Cert.FfnSpec

open Idealize.ShloMosaic

/-- The gate `g · sigmoid g` applied to `u`. -/
def swi (g u : EReal) : EReal := g * Ideal.div 1 (1 + Ideal.exp (-g)) * u

/-- A hidden unit by its number. -/
def unit (k : ℕ) : Fin 5632 := ⟨k % 5632, Nat.mod_lt _ (by omega)⟩

variable (h : Fin 8192 → Fin 2048 → EReal) (wg wu : Fin 2048 → Fin 5632 → EReal) (wd : Fin 5632 → Fin 2048 → EReal)

/-- Hidden unit `k` at position `i`. -/
def hid (i : Fin 8192) (k : Fin 5632) : EReal := swi (∑ d : Fin 2048, h i d * wg d k) (∑ d : Fin 2048, h i d * wu d k)

/-- The sum over the first `n` hidden units. -/
def part (n : ℕ) (i : Fin 8192) (l : Fin 2048) : EReal := ∑ k ∈ Finset.range n, hid h wg wu i (unit k) * wd (unit k) l

/-- Nothing is summed at first. -/
theorem part_zero (i : Fin 8192) (l : Fin 2048) : part h wg wu wd 0 i l = 0 := Finset.sum_range_zero _

/-- A block of 512 hidden units more. -/
theorem part_add (n : ℕ) (i : Fin 8192) (l : Fin 2048) :
    part h wg wu wd (n + 512) i l = part h wg wu wd n i l + ∑ q : Fin 512, hid h wg wu i (unit (n + q.val)) * wd (unit (n + q.val)) l := by
  unfold part
  rw [Finset.sum_range_add, Finset.sum_range (n := 512)]

/-- All of them. -/
theorem part_all (i : Fin 8192) (l : Fin 2048) : part h wg wu wd 5632 i l = ∑ k : Fin 5632, hid h wg wu i k * wd k l := by
  unfold part
  rw [Finset.sum_range]
  exact Finset.sum_congr rfl fun k _ => by rw [show unit k.val = k from Fin.ext (Nat.mod_eq_of_lt k.isLt)]

/-- The residual stream after the layer. -/
def resid (x : Fin 8192 → Fin 2048 → EReal) (i : Fin 8192) (l : Fin 2048) : EReal :=
  x i l + ∑ k : Fin 5632, hid h wg wu i k * wd k l

/-- A row over its root mean square, times the gain. -/
def normed (y : Fin 2048 → EReal) (g : EReal) (l : Fin 2048) : EReal :=
  y l * Ideal.rsqrt (Ideal.div (∑ k : Fin 2048, y k * y k) (Ideal.ofBits .f32 0x45000000#32) + Ideal.ofBits .f32 0x358637BD#32) * g

end Cert.FfnSpec

end
-- ==== Proof.FfnBody.lean ====
module

public import proofs.«01_k».proof.Proof.Gen.FfnIdeal.Frame
public import proofs.«01_k».proof.Proof.FfnSpec
public import Idealize.ShloMosaic.Lib.Pipeline.ReadBack
public import Idealize.ShloMosaic.Lib.Pipeline.ValueKit
public import Idealize.ShloMosaic.Lib.Pointwise

/-! # What one grid point of the dense feed-forward kernel computes

A point adds a block of 512 hidden units to the accumulator: `accBlk`. The first point of a row block starts from zero;
the last adds the residual and writes the normalised rows. -/

@[expose] public section

set_option maxRecDepth 16384

noncomputable section

namespace Cert.FfnIdeal.Val

open Cert.FfnIdeal Cert.FfnIdeal.Gen Idealize.ShloMosaic Idealize.ShloMosaic.TcCoe Idealize.SL.Sem
open Cert.FfnSpec (swi normed)

/-- The accumulator after a point, from its blocks and the accumulator before. -/
def accBlk (x0 : Vec Ideal S512x2048 .bf16) (x2 x3 : Vec Ideal S2048x512 .bf16) (x4 : Vec Ideal S512x2048 .bf16)
    (acc : Vec Ideal S512x2048 .f32) : Vec Ideal S512x2048 .f32 := fun j =>
  acc (ix2 (j 0) (j 1)) + ∑ q : Fin 512, swi (∑ d : Fin 2048, x0 (ix2 (j 0) d) * x2 (ix2 d q)) (∑ d : Fin 2048, x0 (ix2 (j 0) d) * x3 (ix2 d q)) * x4 (ix2 q (j 1))

/-- The residual added. -/
def sumBlk (x1 acc : Vec Ideal S512x2048 .f32) : Vec Ideal S512x2048 .f32 := fun j => x1 (ix2 (j 0) (j 1)) + acc (ix2 (j 0) (j 1))

/-- The normalised rows. -/
def normBlk (y : Vec Ideal S512x2048 .f32) (x5 : Vec Ideal S1x2048 .f32) : Vec Ideal S512x2048 .bf16 := fun j =>
  normed (fun l => y (ix2 (j 0) l)) (x5 (ix2 0 (j 1))) (j 1)

/-- The cleared accumulator is zero. -/
theorem pay1_eq : k0_pay1 (F := Ideal) = fun _ => 0 := by
  funext y
  pointwise [k0_pay1]

/-- The accumulation stores `accBlk`. -/
theorem pay2_eq (x0 : Vec Ideal S512x2048 .bf16) (x2 x3 : Vec Ideal S2048x512 .bf16) (x4 : Vec Ideal S512x2048 .bf16)
    (acc : Vec Ideal S512x2048 .f32) : k0_pay2 (F := Ideal) x0 x2 x3 acc x4 = accBlk x0 x2 x3 x4 acc := by
  funext y
  idx_vars y
  unfold_payloads
  pointwise [accBlk, swi, zero_sub]

/-- The last point's sum. -/
theorem pay3_eq (acc x1 : Vec Ideal S512x2048 .f32) : k0_pay3 (F := Ideal) x1 acc = sumBlk x1 acc := by
  funext y
  idx_vars y
  unfold_payloads
  pointwise [sumBlk]

/-- The last point's normalised rows. -/
theorem pay4_eq (acc x1 : Vec Ideal S512x2048 .f32) (x5 : Vec Ideal S1x2048 .f32) :
    k0_pay4 (F := Ideal) x1 acc x5 = normBlk (sumBlk x1 acc) x5 := by
  unfold k0_pay4
  rw [pay3_eq]
  generalize sumBlk x1 acc = s
  funext y
  idx_vars y
  pointwise [normBlk, normed]

/-- The first point of a row block. -/
theorem out6A (c : Dev nD) (i : grid0.Coords)
    (arg2 : Memref sig .tc .vmem S512x2048 .bf16) (harg2 : arg2.IsWhole) (arg3 : Memref sig .tc .vmem S512x2048 .f32) (harg3 : arg3.IsWhole)
    (arg4 : Memref sig .tc .vmem S2048x512 .bf16) (harg4 : arg4.IsWhole) (arg5 : Memref sig .tc .vmem S2048x512 .bf16) (harg5 : arg5.IsWhole)
    (arg6 : Memref sig .tc .vmem S512x2048 .bf16) (harg6 : arg6.IsWhole) (arg7 : Memref sig .tc .vmem S1x2048 .f32) (harg7 : arg7.IsWhole)
    (arg8 : Memref sig .tc .vmem S512x2048 .f32) (harg8 : arg8.IsWhole) (arg9 : Memref sig .tc .vmem S512x2048 .bf16) (harg9 : arg9.IsWhole)
    (hc0 : cond0_0 i) (hc1 : ¬cond0_1 i) (x0 : Vec Ideal S512x2048 .bf16) (x1 : Vec Ideal S512x2048 .f32) (x2 : Vec Ideal S2048x512 .bf16) (x3 : Vec Ideal S2048x512 .bf16)
    (x4 : Vec Ideal S512x2048 .bf16) (x5 : Vec Ideal S1x2048 .f32) :
    out0_A_6 (F := Ideal) c i arg2 harg2 arg3 harg3 arg4 harg4 arg5 harg5 arg6 harg6 arg7 harg7 arg8 harg8 arg9 harg9 hc0 hc1 x0 x1 x2 x3 x4 x5 = accBlk x0 x2 x3 x4 (fun _ => 0) := by
  frame_out
  rw [pay1_eq, pay2_eq]

/-- A middle point. -/
theorem out6B (c : Dev nD) (i : grid0.Coords)
    (arg2 : Memref sig .tc .vmem S512x2048 .bf16) (harg2 : arg2.IsWhole) (arg3 : Memref sig .tc .vmem S512x2048 .f32) (harg3 : arg3.IsWhole)
    (arg4 : Memref sig .tc .vmem S2048x512 .bf16) (harg4 : arg4.IsWhole) (arg5 : Memref sig .tc .vmem S2048x512 .bf16) (harg5 : arg5.IsWhole)
    (arg6 : Memref sig .tc .vmem S512x2048 .bf16) (harg6 : arg6.IsWhole) (arg7 : Memref sig .tc .vmem S1x2048 .f32) (harg7 : arg7.IsWhole)
    (arg8 : Memref sig .tc .vmem S512x2048 .f32) (harg8 : arg8.IsWhole) (arg9 : Memref sig .tc .vmem S512x2048 .bf16) (harg9 : arg9.IsWhole)
    (hc0 : ¬cond0_0 i) (hc1 : ¬cond0_1 i) (x0 : Vec Ideal S512x2048 .bf16) (x1 : Vec Ideal S512x2048 .f32) (x2 : Vec Ideal S2048x512 .bf16) (x3 : Vec Ideal S2048x512 .bf16)
    (x4 : Vec Ideal S512x2048 .bf16) (x5 : Vec Ideal S1x2048 .f32) (xo6 : Vec Ideal S512x2048 .f32) :
    out0_B_6 (F := Ideal) c i arg2 harg2 arg3 harg3 arg4 harg4 arg5 harg5 arg6 harg6 arg7 harg7 arg8 harg8 arg9 harg9 hc0 hc1 x0 x1 x2 x3 x4 x5 xo6 = accBlk x0 x2 x3 x4 xo6 := by
  frame_out
  rw [pay2_eq]

/-- The last point's first output. -/
theorem out6C (c : Dev nD) (i : grid0.Coords)
    (arg2 : Memref sig .tc .vmem S512x2048 .bf16) (harg2 : arg2.IsWhole) (arg3 : Memref sig .tc .vmem S512x2048 .f32) (harg3 : arg3.IsWhole)
    (arg4 : Memref sig .tc .vmem S2048x512 .bf16) (harg4 : arg4.IsWhole) (arg5 : Memref sig .tc .vmem S2048x512 .bf16) (harg5 : arg5.IsWhole)
    (arg6 : Memref sig .tc .vmem S512x2048 .bf16) (harg6 : arg6.IsWhole) (arg7 : Memref sig .tc .vmem S1x2048 .f32) (harg7 : arg7.IsWhole)
    (arg8 : Memref sig .tc .vmem S512x2048 .f32) (harg8 : arg8.IsWhole) (arg9 : Memref sig .tc .vmem S512x2048 .bf16) (harg9 : arg9.IsWhole)
    (hc0 : ¬cond0_0 i) (hc1 : cond0_1 i) (x0 : Vec Ideal S512x2048 .bf16) (x1 : Vec Ideal S512x2048 .f32) (x2 : Vec Ideal S2048x512 .bf16) (x3 : Vec Ideal S2048x512 .bf16)
    (x4 : Vec Ideal S512x2048 .bf16) (x5 : Vec Ideal S1x2048 .f32) (xo6 : Vec Ideal S512x2048 .f32) :
    out0_C_6 (F := Ideal) c i arg2 harg2 arg3 harg3 arg4 harg4 arg5 harg5 arg6 harg6 arg7 harg7 arg8 harg8 arg9 harg9 hc0 hc1 x0 x1 x2 x3 x4 x5 xo6 = sumBlk x1 (accBlk x0 x2 x3 x4 xo6) := by
  frame_out
  rw [pay2_eq, pay3_eq]

/-- The last point's second output. -/
theorem out7C (c : Dev nD) (i : grid0.Coords)
    (arg2 : Memref sig .tc .vmem S512x2048 .bf16) (harg2 : arg2.IsWhole) (arg3 : Memref sig .tc .vmem S512x2048 .f32) (harg3 : arg3.IsWhole)
    (arg4 : Memref sig .tc .vmem S2048x512 .bf16) (harg4 : arg4.IsWhole) (arg5 : Memref sig .tc .vmem S2048x512 .bf16) (harg5 : arg5.IsWhole)
    (arg6 : Memref sig .tc .vmem S512x2048 .bf16) (harg6 : arg6.IsWhole) (arg7 : Memref sig .tc .vmem S1x2048 .f32) (harg7 : arg7.IsWhole)
    (arg8 : Memref sig .tc .vmem S512x2048 .f32) (harg8 : arg8.IsWhole) (arg9 : Memref sig .tc .vmem S512x2048 .bf16) (harg9 : arg9.IsWhole)
    (hc0 : ¬cond0_0 i) (hc1 : cond0_1 i) (x0 : Vec Ideal S512x2048 .bf16) (x1 : Vec Ideal S512x2048 .f32) (x2 : Vec Ideal S2048x512 .bf16) (x3 : Vec Ideal S2048x512 .bf16)
    (x4 : Vec Ideal S512x2048 .bf16) (x5 : Vec Ideal S1x2048 .f32) (xo6 : Vec Ideal S512x2048 .f32) :
    out0_C_7 (F := Ideal) c i arg2 harg2 arg3 harg3 arg4 harg4 arg5 harg5 arg6 harg6 arg7 harg7 arg8 harg8 arg9 harg9 hc0 hc1 x0 x1 x2 x3 x4 x5 xo6 = normBlk (sumBlk x1 (accBlk x0 x2 x3 x4 xo6)) x5 := by
  frame_out
  rw [pay2_eq, pay4_eq]

end Cert.FfnIdeal.Val

end
-- ==== Proof.FfnKernel.lean ====
module

public import proofs.«01_k».proof.Proof.Gen.FfnIdeal.Value
public import proofs.«01_k».proof.Proof.FfnBody
public import Idealize.ShloMosaic.Lib.Pipeline.ValueKit
public import Idealize.ShloMosaic.Lib.Pointwise

/-! # The dense feed-forward kernel's two results

Point `11 i + f` works on rows `512 i …` and hidden units `512 f …`. By induction over the points the accumulator holds
the partial sum over the hidden units already visited; the last point of each row block writes both results. -/

@[expose] public section

set_option maxRecDepth 16384

noncomputable section

namespace Cert.FfnIdeal.Val

open Cert.FfnIdeal Cert.FfnIdeal.Gen Idealize.ShloMosaic Idealize.ShloMosaic.TcCoe Idealize.SL.Sem
open Cert.FfnSpec

variable (m : (ℓ : Loc nD τ sig) → Buf (Elt Ideal) ℓ) (c : Dev nD)

/-- The normalised input. -/
def ah (i : Fin 8192) (l : Fin 2048) : EReal := m ((c : Thread nD τ).loc main_arg0) (ix2 i l)
/-- The residual stream. -/
def ax (i : Fin 8192) (l : Fin 2048) : EReal := m ((c : Thread nD τ).loc main_arg1) (ix2 i l)
/-- The gate's weights. -/
def awg (d : Fin 2048) (k : Fin 5632) : EReal := m ((c : Thread nD τ).loc main_arg2) (ix2 d k)
/-- The up projection's weights. -/
def awu (d : Fin 2048) (k : Fin 5632) : EReal := m ((c : Thread nD τ).loc main_arg3) (ix2 d k)
/-- The down projection's weights. -/
def awd (k : Fin 5632) (l : Fin 2048) : EReal := m ((c : Thread nD τ).loc main_arg4) (ix2 k l)
/-- The next norm's gain. -/
def agn (l : Fin 2048) : EReal := m ((c : Thread nD τ).loc main_arg5) (ix1 l)

/-- Row `r` of the row block that point `t` works on. -/
def rowOf (t : ℕ) (r : Fin 512) : Fin 8192 := ⟨t / 11 % 16 * 512 + r.val, by have := r.isLt; omega⟩

/-- The block indices of a point. -/
theorem idx : ∀ t : Fin cfg0.N, win0_0.index t = ![t.val / 11, 0] ∧ win0_1.index t = ![t.val / 11, 0]
    ∧ win0_2.index t = ![0, t.val % 11] ∧ win0_3.index t = ![0, t.val % 11] ∧ win0_4.index t = ![t.val % 11, 0]
    ∧ win0_5.index t = ![0, 0] ∧ win0_6.index t = ![t.val / 11, 0] ∧ win0_7.index t = ![t.val / 11, 0] :=
  (by decide +kernel : ∀ t : Fin grid0.N, _)

/-- A point's rows of the normalised input. -/
theorem b0 (t : Fin cfg0.N) (r : Fin 512) (l : Fin 2048) : iblk m c 0 t (ix2 r l) = ah m c (rowOf t.val r) l := by
  have ht := lt_of_lt_of_eq t.isLt (show cfg0.N = 176 from N_0)
  unfold ah rowOf
  blk_ext [iblk, V, idx t]
/-- A point's rows of the residual stream. -/
theorem b1 (t : Fin cfg0.N) (r : Fin 512) (l : Fin 2048) : iblk m c 1 t (ix2 r l) = ax m c (rowOf t.val r) l := by
  have ht := lt_of_lt_of_eq t.isLt (show cfg0.N = 176 from N_0)
  unfold ax rowOf
  blk_ext [iblk, V, idx t]
/-- A point's columns of the gate's weights. -/
theorem b2 (t : Fin cfg0.N) (d : Fin 2048) (q : Fin 512) : iblk m c 2 t (ix2 d q) = awg m c d (unit (512 * (t.val % 11) + q.val)) := by
  have ht := lt_of_lt_of_eq t.isLt (show cfg0.N = 176 from N_0)
  have hq := q.isLt
  unfold awg unit
  blk_ext [iblk, V, idx t]
/-- A point's columns of the up projection's weights. -/
theorem b3 (t : Fin cfg0.N) (d : Fin 2048) (q : Fin 512) : iblk m c 3 t (ix2 d q) = awu m c d (unit (512 * (t.val % 11) + q.val)) := by
  have ht := lt_of_lt_of_eq t.isLt (show cfg0.N = 176 from N_0)
  have hq := q.isLt
  unfold awu unit
  blk_ext [iblk, V, idx t]
/-- A point's rows of the down projection's weights. -/
theorem b4 (t : Fin cfg0.N) (q : Fin 512) (l : Fin 2048) : iblk m c 4 t (ix2 q l) = awd m c (unit (512 * (t.val % 11) + q.val)) l := by
  have ht := lt_of_lt_of_eq t.isLt (show cfg0.N = 176 from N_0)
  have hq := q.isLt
  unfold awd unit
  blk_ext [iblk, V, idx t]
/-- The gain. -/
theorem b5 (t : Fin cfg0.N) (l : Fin 2048) : iblk m c 5 t (ix2 0 l) = agn m c l := by
  have ht := lt_of_lt_of_eq t.isLt (show cfg0.N = 176 from N_0)
  unfold agn
  blk_ext! [iblk, V, idx t]

/-- The partial sums of the row block of point `t`, over the first `512 f` hidden units. -/
def accAt (t f : ℕ) : Vec Ideal S512x2048 .f32 := fun j =>
  part (ah m c) (awg m c) (awu m c) (awd m c) (512 * f) (rowOf t (j 0)) (j 1)

/-- Points of one row block share it. -/
theorem accAt_congr (s t : ℕ) (h : s / 11 = t / 11) (f : ℕ) : accAt m c s f = accAt m c t f := by
  funext j
  exact congrArg (fun i => part (ah m c) (awg m c) (awu m c) (awd m c) (512 * f) i (j 1))
    (Fin.ext (by show s / 11 % 16 * 512 + (j 0).val = t / 11 % 16 * 512 + (j 0).val; rw [h]))

/-- One point's accumulation continues the partial sum. -/
theorem accBlk_eq (t : Fin cfg0.N) :
    accBlk (iblk m c 0 t) (iblk m c 2 t) (iblk m c 3 t) (iblk m c 4 t) (accAt m c t.val (t.val % 11)) = accAt m c t.val (t.val % 11 + 1) := by
  funext j
  idx_vars j
  refine Eq.trans ?_ (part_add (ah m c) (awg m c) (awu m c) (awd m c) (512 * (t.val % 11)) (rowOf t.val j0) j1).symm
  refine congrArg₂ (fun a b : EReal => a + b) rfl (Finset.sum_congr rfl fun q _ => ?_)
  refine congrArg₂ (fun a b : EReal => a * b) (congrArg₂ swi ?_ ?_) (b4 m c t q j1)
  · exact Finset.sum_congr rfl fun d _ => congrArg₂ (fun a b : EReal => a * b) (b0 m c t j0 d) (b2 m c t d q)
  · exact Finset.sum_congr rfl fun d _ => congrArg₂ (fun a b : EReal => a * b) (b0 m c t j0 d) (b3 m c t d q)

/-- After a point that is not the last of its row block, the accumulator holds the partial sum. -/
theorem acc_after (n : ℕ) (hn : n < cfg0.N) (h1 : ¬n % 11 = 10) : (outsAt0 m c n hn).1 = accAt m c n (n % 11 + 1) := by
  induction n with
  | zero =>
    rw [outsAt0_A m c ⟨0, hn⟩ rfl h1]
    dsimp only
    rw [out6A, ← accBlk_eq m c ⟨0, hn⟩]
    refine congrArg _ ?_
    funext j
    exact (part_zero _ _ _ _ _ _).symm
  | succ n ih =>
    by_cases h0 : (n + 1) % 11 = 0
    · rw [outsAt0_A m c ⟨n + 1, hn⟩ h0 h1]
      dsimp only
      rw [out6A, ← accBlk_eq m c ⟨n + 1, hn⟩]
      refine congrArg _ ?_
      funext j
      show _ = part _ _ _ _ (512 * ((n + 1) % 11)) _ _
      rw [h0]
      exact (part_zero _ _ _ _ _ _).symm
    · rw [outsAt0_B m c ⟨n + 1, hn⟩ h0 h1]
      dsimp only
      rw [out6B, show (outsAt0 m c (n + 1 - 1) _).1 = _ from ih _ (by omega), ← accBlk_eq m c ⟨n + 1, hn⟩]
      refine congrArg _ ?_
      rw [accAt_congr m c n (n + 1) (by omega), show n % 11 + 1 = (n + 1) % 11 from by omega]

/-- The accumulator that the last point of a row block completes. -/
theorem acc_last (t : Fin cfg0.N) (h1 : t.val % 11 = 10) :
    accBlk (iblk m c 0 t) (iblk m c 2 t) (iblk m c 3 t) (iblk m c 4 t) (outsAt0 m c (t.val - 1) (by have := t.isLt; omega)).1 = accAt m c t.val 11 := by
  rw [acc_after m c (t.val - 1) _ (by omega)]
  have e := accBlk_eq m c t
  rw [h1] at e
  rw [← e]
  refine congrArg _ ?_
  rw [accAt_congr m c (t.val - 1) t.val (by omega), show (t.val - 1) % 11 + 1 = 10 from by omega]

/-- The residual stream after the layer, over the arguments. -/
abbrev y (i : Fin 8192) (l : Fin 2048) : EReal := resid (ah m c) (awg m c) (awu m c) (awd m c) (ax m c) i l

/-- The sum that the last point of a row block writes. -/
theorem sum_last (t : Fin cfg0.N) (r : Fin 512) (l : Fin 2048) :
    sumBlk (iblk m c 1 t) (accAt m c t.val 11) (ix2 r l) = y m c (rowOf t.val r) l := by
  exact congrArg₂ (fun a b : EReal => a + b) (b1 m c t r l) (part_all _ _ _ _ (rowOf t.val r) l)

/-- The first output at the last point of a row block. -/
theorem out6 (t : Fin cfg0.N) (h1 : t.val % 11 = 10) (r : Fin 512) (l : Fin 2048) :
    (outsAt0 m c t.val t.isLt).1 (ix2 r l) = y m c (rowOf t.val r) l := by
  rw [outsAt0_C m c t (by omega) h1]
  dsimp only
  rw [out6C, acc_last m c t h1]
  exact sum_last m c t r l

/-- The second output at the last point of a row block. -/
theorem out7 (t : Fin cfg0.N) (h1 : t.val % 11 = 10) (r : Fin 512) (l : Fin 2048) :
    (outsAt0 m c t.val t.isLt).2 (ix2 r l) = normed (y m c (rowOf t.val r)) (agn m c l) l := by
  rw [outsAt0_C m c t (by omega) h1]
  dsimp only
  rw [out7C, acc_last m c t h1]
  show normed (fun l => sumBlk (iblk m c 1 t) (accAt m c t.val 11) (ix2 r l)) (iblk m c 5 t (ix2 0 l)) l = _
  rw [b5]
  exact congrArg (fun f => normed f (agn m c l) l) (funext fun l => sum_last m c t r l)

/-- The first result array. -/
def arr6 : Buf (Elt Ideal) ((c : Thread nD τ).loc main_v1_0) := fun i => y m c (i 0) (i 1)

/-- The second result array. -/
def arr7 : Buf (Elt Ideal) ((c : Thread nD τ).loc main_v1_1) := fun i => normed (y m c (i 0)) (agn m c (i 1)) (i 1)

/-- The kernel leaves the residual stream in its first result. -/
theorem final6 : (dats m 0 c).arrAt 6 cfg0.N = arr6 m c := by
  refine (dats m 0 c).arrAt_eq_of_covers 6 _ (by decide +kernel) fun t hf z => ?_
  have ht := lt_of_lt_of_eq t.isLt (show cfg0.N = 176 from N_0)
  have h1 : t.val % 11 = 10 := (flush0_6 t).mp hf
  blk_simp
  rw [after0_6]
  idx_vars z
  have e : ((View.whole main_v1_0).slice (win0_6.rect t)).emb (ix2 z0 z1) = ix2 (rowOf t.val z0) z1 := by
    unfold rowOf
    blk_ext [idx t]
  rw [e]
  exact out6 m c t h1 z0 z1

/-- The kernel leaves the normalised rows in its second result. -/
theorem final7 : (dats m 0 c).arrAt 7 cfg0.N = arr7 m c := by
  refine (dats m 0 c).arrAt_eq_of_covers 7 _ (by decide +kernel) fun t hf z => ?_
  have ht := lt_of_lt_of_eq t.isLt (show cfg0.N = 176 from N_0)
  have h1 : t.val % 11 = 10 := (flush0_7 t).mp hf
  blk_simp
  rw [after0_7]
  idx_vars z
  have e : ((View.whole main_v1_1).slice (win0_7.rect t)).emb (ix2 z0 z1) = ix2 (rowOf t.val z0) z1 := by
    unfold rowOf
    blk_ext [idx t]
  rw [e]
  exact out7 m c t h1 z0 z1

end Cert.FfnIdeal.Val

end
-- ==== Proof.FfnClaim.lean ====
module

public import proofs.«01_k».proof.Defs
public import proofs.«01_k».proof.Proof.FfnKernel
public import proofs.«01_k».proof.Proof.FfnFrame
public import Idealize.ShloMosaic.Lib.Tactic.CleanTypes

/-! # The dense feed-forward layer: kernel and reference compute the same arrays -/

@[expose] public section

set_option maxRecDepth 16384

noncomputable section

namespace Cert.FfnClaim

open Idealize.ShloMosaic Idealize.ShloMosaic.TcCoe Idealize.SL.Sem
open Cert.FfnIdeal.Val Cert.FfnSpec

/-- Kernel and reference compute the same two arrays over the extended reals. -/
theorem algebraic : Cert.algebraic_FfnIdeal_FfnRefIdeal (hFfnIdeal := Cert.FfnIdeal.Gen.facts)
    (hFfnRefIdeal := Cert.FfnRefIdeal.Gen.facts) := by
  intro m ρ m' ρ' _ hag
  refine ⟨fun c => arr6 m c, fun c => arr7 m c,
    (θ_run _ _ _).mono (fun _ h c => ⟨(h c).1.trans (final6 m c), (h c).2.1.trans (final7 m c), (h c).2.2⟩)
      (Cert.FfnIdeal.Value.run_blocks (F := Ideal) m ρ),
    (θ_run _ _ _).mono (fun _ h c => ⟨(h c).1.trans ?_, (h c).2.1.trans ?_, (h c).2.2⟩)
      (Cert.FfnRefIdeal.Value.run (F := Ideal) m' ρ')⟩
  · obtain ⟨e0, e1, e2, e3, e4, e5⟩ := hag c
    rw [e0, e1, e2, e3, e4]
    funext i
    idx_vars i
    pointwise [arr6, resid, hid, swi, ah, ax, awg, awu, awd]
  · obtain ⟨e0, e1, e2, e3, e4, e5⟩ := hag c
    rw [e0, e1, e2, e3, e4, e5]
    funext i
    idx_vars i
    pointwise [arr7, normed, resid, hid, swi, ah, ax, awg, awu, awd, agn]

end Cert.FfnClaim

end
-- ==== Proof.MoeSetup.lean ====
/- The launch of the experts' kernel: the contents of memory when its region is entered, the two tables read off it, the
   windows' blocks, and the tests the body makes at a grid point. -/
module

public import proofs.«01_k».proof.Proof.Gen.MoeIdeal.Launch
public import proofs.«01_k».proof.Proof.Gen.MoeIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.MoeIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.MoeIdeal.Gen

variable {F : FTy → Type} [FloatOps F]

local notation "𝕄" => MT nD τ sig Unit (Elt F) ℕ (UR sig nD τ) ℕ

variable (m : (ℓ : Loc nD τ sig) → Buf (Elt F) ℓ)

/-- What a buffer of the core holds when the region is entered: what it held at launch, nothing running before it. -/
abbrev V (c : Dev nD) (b : Ref sig .tc) : Buf (Elt F) ((c : Thread nD τ).loc b) := m ((c : Thread nD τ).loc b)

/-- The program reaches its region with memory as launched. -/
theorem hmain (𝒱₀ : Variants) :
    Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The two tables: the expert of each tile, and the number of tiles in use. -/
def tbl : pre0.Contents (Elt F) := fun j => V m (0 : Dev nD) (pre0.ref j)

/-- There is one device, so every device's tables are these. -/
theorem V_pre (c : Dev nD) (j : Fin 2) : V m c (pre0.ref j) = tbl m j := by
  obtain rfl : c = 0 := Subsingleton.elim _ _
  rfl

/-- The tables name blocks that lie inside the arrays. -/
abbrev Ok : Prop := ok0 (F := F) (tbl m)

/-- The tables, as contents the pipeline may run at, -/
abbrev adm (hO : Ok m) : (pcfg0 (F := F)).Adm := ⟨tbl m, hO⟩

/-- and the pipeline at them. -/
abbrev cfgM (hO : Ok m) : Pipeline.Cfg sig Λ₀ := cfg0 (adm m hO)

/-- The tables as the body is handed them. -/
abbrev tabE : Memref sig .tc .smem S40 .i32 := Memref.whole main_arg0
abbrev tabN : Memref sig .tc .smem S1 .i32 := Memref.whole main_arg1

/-- A table's contents on a core, and the half of it the body holds. -/
abbrev TabBuf (c : Dev nD) {S : Shape} {e : EltTy} (M : Memref sig .tc .smem S e) : Type := Buf (Elt F) (M.view.loc (c : Thread nD τ))
abbrev tabPt (c : Dev nD) {S : Shape} {e : EltTy} (M : Memref sig .tc .smem S e) (f : TabBuf (F := F) c M) : sProp 𝕄 :=
  M.view.loc (c : Thread nD τ) ↦{fullShare.right} f

/-- The tables' halves, one by one. -/
theorem PhiT0_eq (c : Dev nD) :
    (Pipeline.ΦT pre0 (tbl m) c : sProp 𝕄) = iprop(tabPt c tabE (tbl m 0) ∗ tabPt c tabN (tbl m 1)) := by
  unfold Pipeline.ΦT Pipeline.prefHeld
  rw [show (Finset.univ : Finset (Fin 2)) = insert (0 : Fin 2) {(1 : Fin 2)} from by decide,
    bigSep_insert (by decide), bigSep_singleton]
  rfl

/-- Window `w`'s block at point `t`. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- The staging memrefs at a point, as the body is handed them, each a whole buffer. -/
abbrev ms0 (hO : Ok m) (t : Fin (cfgM m hO).N) : Memref sig .tc .vmem S512x2048 .f32 := spec0_0.stage ((cfgM m hO).slots t 0)
abbrev ms1 (hO : Ok m) (t : Fin (cfgM m hO).N) : Memref sig .tc .vmem S1x2048 .f32 := spec0_1.stage ((cfgM m hO).slots t 1)
abbrev ms2 (hO : Ok m) (t : Fin (cfgM m hO).N) : Memref sig .tc .vmem S1x2048x256 .bf16 := spec0_2.stage ((cfgM m hO).slots t 2)
abbrev ms3 (hO : Ok m) (t : Fin (cfgM m hO).N) : Memref sig .tc .vmem S1x2048x256 .bf16 := spec0_3.stage ((cfgM m hO).slots t 3)
abbrev ms4 (hO : Ok m) (t : Fin (cfgM m hO).N) : Memref sig .tc .vmem S1x256x2048 .bf16 := spec0_4.stage ((cfgM m hO).slots t 4)
abbrev ms5 (hO : Ok m) (t : Fin (cfgM m hO).N) : Memref sig .tc .vmem S512x2048 .f32 := spec0_5.stage ((cfgM m hO).slots t 5)

/-- The two scratch buffers: the normalized rows, and the running sum of the tile's output. -/
abbrev scH : Memref sig .tc .vmem S512x2048 .bf16 := Memref.whole cc0_scratch0
abbrev scA : Memref sig .tc .vmem S512x2048 .f32 := Memref.whole cc0_scratch1

/-- The scoped rest of the region is the two scratch buffers at some contents, and the generator's register. -/
theorem PhiA0_eq (c : Dev nD) :
    (Pipeline.ΦA spec0 c : sProp 𝕄)
      = iprop(iprop((∃ d, owns (c : Thread nD τ) scH fullShare d) ∗ (∃ d, owns (c : Thread nD τ) scA fullShare d)) ∗ (∃ r, prngReg c r)) := by
  unfold Pipeline.ΦA
  rw [scopedRest0_eq]
  simp only [scH, scA, owns_whole]
  rfl

/-- The body at a point, on what the pipeline calls it with. -/
abbrev bodyAt (hO : Ok m) (t : Fin (cfgM m hO).N) : Prog (TpuEff nD τ sig (Elt F) Λ₀ .tc) PUnit :=
  cc0_moe_experts (grid0.coords t) tabE (Memref.isWhole_whole _) tabN (Memref.isWhole_whole _)
    (ms0 m hO t) (hstage0_0 (((cfgM m hO).slots t 0).cast nbuf0_0)) (ms1 m hO t) (hstage0_1 (((cfgM m hO).slots t 1).cast nbuf0_1))
    (ms2 m hO t) (hstage0_2 (((cfgM m hO).slots t 2).cast nbuf0_2)) (ms3 m hO t) (hstage0_3 (((cfgM m hO).slots t 3).cast nbuf0_3))
    (ms4 m hO t) (hstage0_4 (((cfgM m hO).slots t 4).cast nbuf0_4)) (ms5 m hO t) (hstage0_5 (((cfgM m hO).slots t 5).cast nbuf0_5))
    scH (Memref.isWhole_whole _) scA (Memref.isWhole_whole _)

end Cert.MoeIdeal.Hand

end
-- ==== Proof.MoeRun.lean ====
/- The experts' kernel run at one grid point, in each of its five cases: what the body finds in its buffers, and what it
   leaves there. -/
module

public import proofs.«01_k».proof.Proof.MoeSetup
public import Idealize.ShloMosaic.Lib.Pipeline.ValueKit
public import Idealize.ShloMosaic.Lib.WritesUnit

@[expose] public section

set_option maxRecDepth 16384

noncomputable section

namespace Cert.MoeIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.MoeIdeal.Gen

variable {F : FTy → Type} [FloatOps F]

local notation "𝕄" => MT nD τ sig Unit (Elt F) ℕ (UR sig nD τ) ℕ

/-- The second test of the body: is this the tile's first step? -/
abbrev first (i : grid0.Coords) : Prop :=
  Scalar.cmpi .ne (Scalar.extui (Scalar.cmpi .eq (BitVec.ofNat 32 (i 1).val) 0#32)) 0#32 = 1#1

/-- A store through the whole of a block leaves what it stored. -/
theorem read_stored {s : Shape} {e : EltTy} (a : Memref sig .tc .vmem s e) (f : a.view.ty.Contents (Elt F)) {off : Fin s.rank → Nat}
    (inb : ∀ k, off k + s.size k ≤ s.size k) (w : s.Idx → Elt F e) (L : List (View.Piece (Elt F) s e)) (h : ∀ k, off k = 0) :
    a.view.read (Elt F) (a.view.writes (Elt F) f ((⟨Rect.unit off (no_index s.size) inb, w⟩ : View.Piece (Elt F) s e) :: L)) = w := by
  funext y
  exact View.read_writes_cons_unit_of_mem a.view f inb w L y y rfl fun k => by rw [h k, Nat.zero_add]

variable (c : Dev nD) (i : grid0.Coords)
  {a4 : Memref sig .tc .vmem S512x2048 .f32} (h4 : a4.IsWhole) {a5 : Memref sig .tc .vmem S1x2048 .f32} (h5 : a5.IsWhole)
  {a6 : Memref sig .tc .vmem S1x2048x256 .bf16} (h6 : a6.IsWhole) {a7 : Memref sig .tc .vmem S1x2048x256 .bf16} (h7 : a7.IsWhole)
  {a8 : Memref sig .tc .vmem S1x256x2048 .bf16} (h8 : a8.IsWhole) {a9 : Memref sig .tc .vmem S512x2048 .f32} (h9 : a9.IsWhole)
  {a10 : Memref sig .tc .vmem S512x2048 .bf16} (h10 : a10.IsWhole) {a11 : Memref sig .tc .vmem S512x2048 .f32} (h11 : a11.IsWhole)
  (x0 : Vec F S512x2048 .f32) (x1 : Vec F S1x2048 .f32) (x2 x3 : Vec F S1x2048x256 .bf16) (x4 : Vec F S1x256x2048 .bf16)
  (xo : Vec F S512x2048 .f32) (xh : Vec F S512x2048 .bf16) (xa : Vec F S512x2048 .f32)
  (te : TabBuf (F := F) c tabE) (tn : TabBuf (F := F) c tabN)

/-- The buffers the body is handed, with their contents: the five inputs' blocks, the output's block, the two scratch
    buffers, and the tables. -/
abbrev held (a4 : Memref sig .tc .vmem S512x2048 .f32) (a5 : Memref sig .tc .vmem S1x2048 .f32)
    (a6 a7 : Memref sig .tc .vmem S1x2048x256 .bf16) (a8 : Memref sig .tc .vmem S1x256x2048 .bf16)
    (a9 : Memref sig .tc .vmem S512x2048 .f32) (a10 : Memref sig .tc .vmem S512x2048 .bf16)
    (a11 : Memref sig .tc .vmem S512x2048 .f32) : sProp 𝕄 :=
  iprop(owns (c : Thread nD τ) a4 fullShare x0 ∗ owns (c : Thread nD τ) a5 fullShare x1 ∗ owns (c : Thread nD τ) a6 fullShare x2
    ∗ owns (c : Thread nD τ) a7 fullShare x3 ∗ owns (c : Thread nD τ) a8 fullShare x4 ∗ owns (c : Thread nD τ) a9 fullShare xo
    ∗ owns (c : Thread nD τ) a10 fullShare xh ∗ owns (c : Thread nD τ) a11 fullShare xa ∗ tabPt c tabE te ∗ tabPt c tabN tn)

/-- The number of tiles in use, as the body loads it from its table. -/
abbrev used (tn : TabBuf (F := F) c tabN) : BitVec 32 :=
  View.readAt (Elt F) tabN.view (Rect.unit (s := S1) ![0] S1.size inb_S1_S1_0).toLoadRect tn (Shape.Idx.first (by decide))

set_option maxHeartbeats 1000000 in
/-- The first step of a tile in use: the rows are normalized, and the sum is the first part. -/
theorem run_first (hc0 : k0_cond1 i (used c tn) = 1#1) (hc1 : first i) (hc2 : ¬k0_cond3 i = 1#1) (hc3 : ¬k0_cond4 i (used c tn) = 1#1)
    (E : Set ℕ) (K : PUnit → sProp 𝕄) :
    iprop(held c x0 x1 x2 x3 x4 xo xh xa te tn a4 a5 a6 a7 a8 a9 a10 a11
        ∗ (held c x0 x1 x2 x3 x4 xo (k0_pay1 x0 x1) (k0_pay3 (k0_pay1 x0 x1) x2 x3 k0_pay2 x4) te tn a4 a5 a6 a7 a8 a9 a10 a11 -∗ K ⟨⟩))
      ⊢ wp frame (wpE (defs₀ (F := F)) Variants.none c none) E
          (cc0_moe_experts i tabE (Memref.isWhole_whole _) tabN (Memref.isWhole_whole _) a4 h4 a5 h5 a6 h6 a7 h7 a8 h8 a9 h9 a10 h10 a11 h11) K := by
  simp only [cc0_moe_experts_eq_skeleton]
  unfold cc0_moe_experts_skel held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, HS0⟩, ⟨%f7, %hf7, HS1⟩, HT0, HT1⟩, Hk⟩
  obtain rfl := h4.eq_unread hf0; obtain rfl := h5.eq_unread hf1; obtain rfl := h6.eq_unread hf2; obtain rfl := h7.eq_unread hf3
  obtain rfl := h8.eq_unread hf4; obtain rfl := h9.eq_unread hf5; obtain rfl := h10.eq_unread hf6; obtain rfl := h11.eq_unread hf7
  sl_exec (disch := first | sl_exact hc0 | sl_exact hc1 | sl_exact hc2 | sl_exact hc3)
  sl_step
  iapply Hk
  isplitl [H0]
  · iexists _; isplitr; · ipureintro; exact h4.read_unread _
    iexact H0
  isplitl [H1]
  · iexists _; isplitr; · ipureintro; exact h5.read_unread _
    iexact H1
  isplitl [H2]
  · iexists _; isplitr; · ipureintro; exact h6.read_unread _
    iexact H2
  isplitl [H3]
  · iexists _; isplitr; · ipureintro; exact h7.read_unread _
    iexact H3
  isplitl [H4]
  · iexists _; isplitr; · ipureintro; exact h8.read_unread _
    iexact H4
  isplitl [H5]
  · iexists _; isplitr; · ipureintro; exact h9.read_unread _
    iexact H5
  isplitl [HS0]
  · iexists _; isplitr; swap; · iexact HS0
    ipureintro
    frame_out [read_stored]
  isplitl [HS1]
  · iexists _; isplitr; swap; · iexact HS1
    ipureintro
    frame_out [read_stored]
  isplitl [HT0]; · iexact HT0
  iexact HT1

set_option maxHeartbeats 1000000 in
/-- A middle step of a tile in use: a part is added to the sum. -/
theorem run_next (hc0 : k0_cond1 i (used c tn) = 1#1) (hc1 : ¬first i) (hc2 : ¬k0_cond3 i = 1#1) (hc3 : ¬k0_cond4 i (used c tn) = 1#1)
    (E : Set ℕ) (K : PUnit → sProp 𝕄) :
    iprop(held c x0 x1 x2 x3 x4 xo xh xa te tn a4 a5 a6 a7 a8 a9 a10 a11
        ∗ (held c x0 x1 x2 x3 x4 xo xh (k0_pay3 xh x2 x3 xa x4) te tn a4 a5 a6 a7 a8 a9 a10 a11 -∗ K ⟨⟩))
      ⊢ wp frame (wpE (defs₀ (F := F)) Variants.none c none) E
          (cc0_moe_experts i tabE (Memref.isWhole_whole _) tabN (Memref.isWhole_whole _) a4 h4 a5 h5 a6 h6 a7 h7 a8 h8 a9 h9 a10 h10 a11 h11) K := by
  simp only [cc0_moe_experts_eq_skeleton]
  unfold cc0_moe_experts_skel held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, HS0⟩, ⟨%f7, %hf7, HS1⟩, HT0, HT1⟩, Hk⟩
  obtain rfl := h4.eq_unread hf0; obtain rfl := h5.eq_unread hf1; obtain rfl := h6.eq_unread hf2; obtain rfl := h7.eq_unread hf3
  obtain rfl := h8.eq_unread hf4; obtain rfl := h9.eq_unread hf5; obtain rfl := h10.eq_unread hf6; obtain rfl := h11.eq_unread hf7
  sl_exec (disch := first | sl_exact hc0 | sl_exact hc1 | sl_exact hc2 | sl_exact hc3)
  sl_step
  iapply Hk
  isplitl [H0]
  · iexists _; isplitr; · ipureintro; exact h4.read_unread _
    iexact H0
  isplitl [H1]
  · iexists _; isplitr; · ipureintro; exact h5.read_unread _
    iexact H1
  isplitl [H2]
  · iexists _; isplitr; · ipureintro; exact h6.read_unread _
    iexact H2
  isplitl [H3]
  · iexists _; isplitr; · ipureintro; exact h7.read_unread _
    iexact H3
  isplitl [H4]
  · iexists _; isplitr; · ipureintro; exact h8.read_unread _
    iexact H4
  isplitl [H5]
  · iexists _; isplitr; · ipureintro; exact h9.read_unread _
    iexact H5
  isplitl [HS0]
  · iexists _; isplitr; · ipureintro; exact h10.read_unread _
    iexact HS0
  isplitl [HS1]
  · iexists _; isplitr; swap; · iexact HS1
    ipureintro
    frame_out [read_stored]
  isplitl [HT0]; · iexact HT0
  iexact HT1

set_option maxHeartbeats 1000000 in
/-- The last step of a tile in use: the last part is added, and the sum is stored. -/
theorem run_last (hc0 : k0_cond1 i (used c tn) = 1#1) (hc1 : ¬first i) (hc2 : k0_cond3 i = 1#1) (hc3 : ¬k0_cond4 i (used c tn) = 1#1)
    (E : Set ℕ) (K : PUnit → sProp 𝕄) :
    iprop(held c x0 x1 x2 x3 x4 xo xh xa te tn a4 a5 a6 a7 a8 a9 a10 a11
        ∗ (held c x0 x1 x2 x3 x4 (k0_pay3 xh x2 x3 xa x4) xh (k0_pay3 xh x2 x3 xa x4) te tn a4 a5 a6 a7 a8 a9 a10 a11 -∗ K ⟨⟩))
      ⊢ wp frame (wpE (defs₀ (F := F)) Variants.none c none) E
          (cc0_moe_experts i tabE (Memref.isWhole_whole _) tabN (Memref.isWhole_whole _) a4 h4 a5 h5 a6 h6 a7 h7 a8 h8 a9 h9 a10 h10 a11 h11) K := by
  simp only [cc0_moe_experts_eq_skeleton]
  unfold cc0_moe_experts_skel held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, HS0⟩, ⟨%f7, %hf7, HS1⟩, HT0, HT1⟩, Hk⟩
  obtain rfl := h4.eq_unread hf0; obtain rfl := h5.eq_unread hf1; obtain rfl := h6.eq_unread hf2; obtain rfl := h7.eq_unread hf3
  obtain rfl := h8.eq_unread hf4; obtain rfl := h9.eq_unread hf5; obtain rfl := h10.eq_unread hf6; obtain rfl := h11.eq_unread hf7
  sl_exec (disch := first | sl_exact hc0 | sl_exact hc1 | sl_exact hc2 | sl_exact hc3)
  sl_step
  iapply Hk
  isplitl [H0]
  · iexists _; isplitr; · ipureintro; exact h4.read_unread _
    iexact H0
  isplitl [H1]
  · iexists _; isplitr; · ipureintro; exact h5.read_unread _
    iexact H1
  isplitl [H2]
  · iexists _; isplitr; · ipureintro; exact h6.read_unread _
    iexact H2
  isplitl [H3]
  · iexists _; isplitr; · ipureintro; exact h7.read_unread _
    iexact H3
  isplitl [H4]
  · iexists _; isplitr; · ipureintro; exact h8.read_unread _
    iexact H4
  isplitl [H5]
  · iexists _; isplitr; swap; · iexact H5
    ipureintro
    frame_out [read_stored]
  isplitl [HS0]
  · iexists _; isplitr; · ipureintro; exact h10.read_unread _
    iexact HS0
  isplitl [HS1]
  · iexists _; isplitr; swap; · iexact HS1
    ipureintro
    frame_out [read_stored]
  isplitl [HT0]; · iexact HT0
  iexact HT1

set_option maxHeartbeats 1000000 in
/-- The first step of a tile out of use: zeros are stored. -/
theorem run_clear (hc0 : ¬k0_cond1 i (used c tn) = 1#1) (hc3 : k0_cond4 i (used c tn) = 1#1)
    (E : Set ℕ) (K : PUnit → sProp 𝕄) :
    iprop(held c x0 x1 x2 x3 x4 xo xh xa te tn a4 a5 a6 a7 a8 a9 a10 a11
        ∗ (held c x0 x1 x2 x3 x4 k0_pay4 xh xa te tn a4 a5 a6 a7 a8 a9 a10 a11 -∗ K ⟨⟩))
      ⊢ wp frame (wpE (defs₀ (F := F)) Variants.none c none) E
          (cc0_moe_experts i tabE (Memref.isWhole_whole _) tabN (Memref.isWhole_whole _) a4 h4 a5 h5 a6 h6 a7 h7 a8 h8 a9 h9 a10 h10 a11 h11) K := by
  simp only [cc0_moe_experts_eq_skeleton]
  unfold cc0_moe_experts_skel held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, HS0⟩, ⟨%f7, %hf7, HS1⟩, HT0, HT1⟩, Hk⟩
  obtain rfl := h4.eq_unread hf0; obtain rfl := h5.eq_unread hf1; obtain rfl := h6.eq_unread hf2; obtain rfl := h7.eq_unread hf3
  obtain rfl := h8.eq_unread hf4; obtain rfl := h9.eq_unread hf5; obtain rfl := h10.eq_unread hf6; obtain rfl := h11.eq_unread hf7
  sl_exec (disch := first | sl_exact hc0 | sl_exact hc3)
  sl_step
  iapply Hk
  isplitl [H0]
  · iexists _; isplitr; · ipureintro; exact h4.read_unread _
    iexact H0
  isplitl [H1]
  · iexists _; isplitr; · ipureintro; exact h5.read_unread _
    iexact H1
  isplitl [H2]
  · iexists _; isplitr; · ipureintro; exact h6.read_unread _
    iexact H2
  isplitl [H3]
  · iexists _; isplitr; · ipureintro; exact h7.read_unread _
    iexact H3
  isplitl [H4]
  · iexists _; isplitr; · ipureintro; exact h8.read_unread _
    iexact H4
  isplitl [H5]
  · iexists _; isplitr; swap; · iexact H5
    ipureintro
    frame_out [read_stored]
  isplitl [HS0]
  · iexists _; isplitr; · ipureintro; exact h10.read_unread _
    iexact HS0
  isplitl [HS1]
  · iexists _; isplitr; · ipureintro; exact h11.read_unread _
    iexact HS1
  isplitl [HT0]; · iexact HT0
  iexact HT1

set_option maxHeartbeats 1000000 in
/-- Any later step of a tile out of use: nothing happens. -/
theorem run_rest (hc0 : ¬k0_cond1 i (used c tn) = 1#1) (hc3 : ¬k0_cond4 i (used c tn) = 1#1)
    (E : Set ℕ) (K : PUnit → sProp 𝕄) :
    iprop(held c x0 x1 x2 x3 x4 xo xh xa te tn a4 a5 a6 a7 a8 a9 a10 a11
        ∗ (held c x0 x1 x2 x3 x4 xo xh xa te tn a4 a5 a6 a7 a8 a9 a10 a11 -∗ K ⟨⟩))
      ⊢ wp frame (wpE (defs₀ (F := F)) Variants.none c none) E
          (cc0_moe_experts i tabE (Memref.isWhole_whole _) tabN (Memref.isWhole_whole _) a4 h4 a5 h5 a6 h6 a7 h7 a8 h8 a9 h9 a10 h10 a11 h11) K := by
  simp only [cc0_moe_experts_eq_skeleton]
  unfold cc0_moe_experts_skel held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, HS0⟩, ⟨%f7, %hf7, HS1⟩, HT0, HT1⟩, Hk⟩
  obtain rfl := h4.eq_unread hf0; obtain rfl := h5.eq_unread hf1; obtain rfl := h6.eq_unread hf2; obtain rfl := h7.eq_unread hf3
  obtain rfl := h8.eq_unread hf4; obtain rfl := h9.eq_unread hf5; obtain rfl := h10.eq_unread hf6; obtain rfl := h11.eq_unread hf7
  sl_exec (disch := first | sl_exact hc0 | sl_exact hc3)
  sl_step
  iapply Hk
  isplitl [H0]
  · iexists _; isplitr; · ipureintro; exact h4.read_unread _
    iexact H0
  isplitl [H1]
  · iexists _; isplitr; · ipureintro; exact h5.read_unread _
    iexact H1
  isplitl [H2]
  · iexists _; isplitr; · ipureintro; exact h6.read_unread _
    iexact H2
  isplitl [H3]
  · iexists _; isplitr; · ipureintro; exact h7.read_unread _
    iexact H3
  isplitl [H4]
  · iexists _; isplitr; · ipureintro; exact h8.read_unread _
    iexact H4
  isplitl [H5]
  · iexists _; isplitr; · ipureintro; exact h9.read_unread _
    iexact H5
  isplitl [HS0]
  · iexists _; isplitr; · ipureintro; exact h10.read_unread _
    iexact HS0
  isplitl [HS1]
  · iexists _; isplitr; · ipureintro; exact h11.read_unread _
    iexact HS1
  isplitl [HT0]; · iexact HT0
  iexact HT1

end Cert.MoeIdeal.Hand

end
-- ==== Proof.MoeFrame.lean ====
/- What the experts' kernel leaves at every grid point, and the run of the whole launch: for all tables whose blocks lie inside
   the arrays and which put at least one tile in use. -/
module

public import proofs.«01_k».proof.Proof.MoeRun

@[expose] public section

set_option maxRecDepth 16384

noncomputable section

namespace Cert.MoeIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.MoeIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tests, over the points -/

/-- The number of tiles in use. -/
abbrev nu : BitVec 32 := (tbl m).atD 1 ![0]

/-- The tile of the point is in use. -/
abbrev busy (t : Fin grid0.N) : Prop := k0_cond1 (grid0.coords t) (nu m) = 1#1

/-- The word the body loads is that number. -/
theorem used_eq (c : Dev nD) : used (F := F) c (tbl m 1) = nu m := by
  unfold used nu Pipeline.Prefetch.Contents.atD
  rw [dif_pos (by decide)]
  rfl

/-- The point's tile and step. -/
theorem tile_val (t : Fin grid0.N) : (grid0.coords t 0).val = t.val / 11 := by
  have ht : t.val < 440 := Nat.lt_of_lt_of_eq t.isLt N_0
  have e : (grid0.coords t 0).val = t.val / 11 % 40 := Pipeline.Grid.coords_val t 0 (by decide) rfl
  omega

theorem step_val (t : Fin grid0.N) : (grid0.coords t 1).val = t.val % 11 := by
  have e : (grid0.coords t 1).val = t.val / 1 % 11 := Pipeline.Grid.coords_val t 1 (by decide) rfl
  omega

/-- The body's tests of the step. -/
theorem first_iff (t : Fin grid0.N) : first (grid0.coords t) ↔ t.val % 11 = 0 := by
  have ht : t.val < 440 := Nat.lt_of_lt_of_eq t.isLt N_0
  simp only [first, step_val]
  word_cmp

theorem last_iff (t : Fin grid0.N) : k0_cond3 (grid0.coords t) = 1#1 ↔ t.val % 11 = 10 := by
  have ht : t.val < 440 := Nat.lt_of_lt_of_eq t.isLt N_0
  simp only [k0_cond3, step_val]
  word_cmp

/-- A bit widened and compared to zero is the bit. -/
theorem bit_ne (b : BitVec 1) : (Scalar.cmpi .ne (Scalar.extui b : BitVec 32) 0#32 = 1#1) ↔ b = 1#1 := by
  revert b; decide

/-- The clearing test: the tile is out of use, and this is its first step. -/
theorem clear_iff (t : Fin grid0.N) : k0_cond4 (grid0.coords t) (nu m) = 1#1 ↔ ¬busy m t ∧ t.val % 11 = 0 := by
  rw [← first_iff t]
  simp only [busy, first, k0_cond4, k0_cond1, bit_ne]
  generalize nu m = v
  generalize BitVec.ofNat 32 (grid0.coords t 0).val = a
  generalize Scalar.cmpi .eq (BitVec.ofNat 32 (grid0.coords t 1).val) 0#32 = b
  have hs : Scalar.cmpi .sge a v = ~~~(Scalar.cmpi .slt a v) := by
    show BitVec.ofBool (v.sle a) = ~~~BitVec.ofBool (a.slt v)
    rw [BitVec.sle_eq_not_slt]
    cases a.slt v <;> rfl
  rw [hs]
  generalize Scalar.cmpi .slt a v = d
  revert b d; decide

/-- Whether a tile is in use does not depend on the step. -/
theorem busy_congr {t u : Fin grid0.N} (h : t.val / 11 = u.val / 11) : busy m t ↔ busy m u := by
  have e : grid0.coords t 0 = grid0.coords u 0 := Fin.ext (by rw [tile_val, tile_val, h])
  simp only [busy, k0_cond1, e]

/-! ## The output window -/

/-- The output's block is written back after the last step of its tile. -/
theorem flush5 (a : (pcfg0 (F := F)).Adm) : ∀ t : Fin (cfg0 a).N, ((cfg0 a).win 5).flush t = true ↔ t.val % 11 = 10 :=
  (fun t => Pipeline.Window.flushOf_reads cc0_transform_5 reads0_5 hreads0_5 0 (by decide) (by decide)
      (Pipeline.Window.sep_of_coord cc0_transform_5 0 0 (fun _ => rfl) (by decide)) (P := 11) (m := 10) (by decide) rfl t
    : ∀ t : Fin grid0.N, Pipeline.Window.flushOf grid0 true cc0_transform_5 t = true ↔ t.val % 11 = 10)

theorem noflush5 (a : (pcfg0 (F := F)).Adm) (t : Fin (cfg0 a).N) (h : ¬t.val % 11 = 10) : ((cfg0 a).win 5).flush t = false :=
  Bool.eq_false_iff.mpr fun hf => h ((flush5 a t).mp hf)

/-- It is stored into at the last step of a tile in use, and at the first step of a tile out of use; -/
theorem live5 (hO : Ok m) (t : Fin grid0.N) (h : busy m t ∧ t.val % 11 = 10 ∨ ¬busy m t ∧ t.val % 11 = 0) :
    (cfgM m hO).idle 5 (grid0.coords t) = false := by
  show (!(k0_cond1 (grid0.coords t) (nu m) == 1#1 && k0_cond3 (grid0.coords t) == 1#1)
    && !(k0_cond4 (grid0.coords t) (nu m) == 1#1)) = false
  rcases h with ⟨hb, hl⟩ | h
  · rw [show k0_cond1 (grid0.coords t) (nu m) = 1#1 from hb, (last_iff t).mpr hl]; rfl
  · rw [(clear_iff m t).mpr h]; simp

/-- at no other point. -/
theorem idle5 (hO : Ok m) (t : Fin grid0.N) (h1 : busy m t → ¬t.val % 11 = 10) (h2 : ¬busy m t → ¬t.val % 11 = 0) :
    (cfgM m hO).idle 5 (grid0.coords t) = true := by
  show (!(k0_cond1 (grid0.coords t) (nu m) == 1#1 && k0_cond3 (grid0.coords t) == 1#1)
    && !(k0_cond4 (grid0.coords t) (nu m) == 1#1)) = true
  have e4 : (k0_cond4 (grid0.coords t) (nu m) == 1#1) = false :=
    beq_eq_false_iff_ne.mpr fun h => h2 ((clear_iff m t).mp h).1 ((clear_iff m t).mp h).2
  have e : (k0_cond1 (grid0.coords t) (nu m) == 1#1 && k0_cond3 (grid0.coords t) == 1#1) = false := by
    rw [Bool.and_eq_false_iff]
    by_cases hb : busy m t
    · exact .inr (beq_eq_false_iff_ne.mpr fun h => h1 hb ((last_iff t).mp h))
    · exact .inl (beq_eq_false_iff_ne.mpr hb)
  rw [e4, e]; rfl

/-! ## What the body leaves, point by point -/

/-- The output's block, the normalized rows and the running sum after point `t`, from what the point before left. -/
def step (hO : Ok m) (c : Dev nD) (t : Fin (cfgM m hO).N) (p : Vec F S512x2048 .f32 × Vec F S512x2048 .bf16 × Vec F S512x2048 .f32) :
    Vec F S512x2048 .f32 × Vec F S512x2048 .bf16 × Vec F S512x2048 .f32 :=
  if busy m t then
    if t.val % 11 = 0 then
      (p.1, k0_pay1 (iblk m hO c 0 t) (iblk m hO c 1 t),
        k0_pay3 (k0_pay1 (iblk m hO c 0 t) (iblk m hO c 1 t)) (iblk m hO c 2 t) (iblk m hO c 3 t) k0_pay2 (iblk m hO c 4 t))
    else
      (k0_pay3 p.2.1 (iblk m hO c 2 t) (iblk m hO c 3 t) p.2.2 (iblk m hO c 4 t), p.2.1,
        k0_pay3 p.2.1 (iblk m hO c 2 t) (iblk m hO c 3 t) p.2.2 (iblk m hO c 4 t))
  else (k0_pay4, p.2.1, p.2.2)

/-- The same, from the launch: at the first point the sum and the rows are not looked at. -/
def left (hO : Ok m) (c : Dev nD) : (n : ℕ) → n < (cfgM m hO).N → Vec F S512x2048 .f32 × Vec F S512x2048 .bf16 × Vec F S512x2048 .f32
  | 0, h => step m hO c ⟨0, h⟩ (k0_pay4, k0_pay1 (iblk m hO c 0 ⟨0, h⟩) (iblk m hO c 1 ⟨0, h⟩), k0_pay4)
  | n + 1, h => step m hO c ⟨n + 1, h⟩ (left hO c n (Nat.lt_of_succ_lt h))

/-- At a later point the state before is what the point before left. -/
theorem left_pos (hO : Ok m) (c : Dev nD) (t : Fin (cfgM m hO).N) (hz : t.val ≠ 0) :
    left m hO c t.val t.isLt = step m hO c t (left m hO c (t.val - 1) (Nat.lt_of_le_of_lt (Nat.sub_le _ _) t.isLt)) := by
  obtain ⟨n, hn⟩ := t
  cases n with
  | zero => exact absurd rfl hz
  | succ n => rfl

/-- At the first step of a tile in use the rows and the sum are made afresh. -/
theorem left_first (hO : Ok m) (c : Dev nD) (t : Fin (cfgM m hO).N) (hb : busy m t) (h : t.val % 11 = 0) :
    (left m hO c t.val t.isLt).2 = (k0_pay1 (iblk m hO c 0 t) (iblk m hO c 1 t),
        k0_pay3 (k0_pay1 (iblk m hO c 0 t) (iblk m hO c 1 t)) (iblk m hO c 2 t) (iblk m hO c 3 t) k0_pay2 (iblk m hO c 4 t)) := by
  have e : ∃ p, left m hO c t.val t.isLt = step m hO c t p := by
    obtain ⟨n, hn⟩ := t
    cases n with
    | zero => exact ⟨_, rfl⟩
    | succ n => exact ⟨_, rfl⟩
  obtain ⟨p, e⟩ := e
  rw [e, step, if_pos hb, if_pos h]

/-- At a later step of a tile in use a part is added to the sum, and the output's block is the sum. -/
theorem left_next (hO : Ok m) (c : Dev nD) (t : Fin (cfgM m hO).N) (hb : busy m t) (h : ¬t.val % 11 = 0) :
    left m hO c t.val t.isLt =
      (k0_pay3 (left m hO c (t.val - 1) (Nat.lt_of_le_of_lt (Nat.sub_le _ _) t.isLt)).2.1 (iblk m hO c 2 t) (iblk m hO c 3 t)
          (left m hO c (t.val - 1) (Nat.lt_of_le_of_lt (Nat.sub_le _ _) t.isLt)).2.2 (iblk m hO c 4 t),
        (left m hO c (t.val - 1) (Nat.lt_of_le_of_lt (Nat.sub_le _ _) t.isLt)).2.1,
        k0_pay3 (left m hO c (t.val - 1) (Nat.lt_of_le_of_lt (Nat.sub_le _ _) t.isLt)).2.1 (iblk m hO c 2 t) (iblk m hO c 3 t)
          (left m hO c (t.val - 1) (Nat.lt_of_le_of_lt (Nat.sub_le _ _) t.isLt)).2.2 (iblk m hO c 4 t)) := by
  rw [left_pos m hO c t (fun hz => h (by rw [hz])), step, if_pos hb, if_neg h]

/-- At a tile out of use the output's block is zeros, -/
theorem left_out (hO : Ok m) (c : Dev nD) (t : Fin (cfgM m hO).N) (hb : ¬busy m t) : (left m hO c t.val t.isLt).1 = k0_pay4 := by
  obtain ⟨n, hn⟩ := t
  cases n with
  | zero => exact congrArg Prod.fst (if_neg hb)
  | succ n => exact congrArg Prod.fst (if_neg hb)

/-- and the scratch buffers are as they were. -/
theorem left_rest (hO : Ok m) (c : Dev nD) (t : Fin (cfgM m hO).N) (hz : t.val ≠ 0) (hb : ¬busy m t) :
    (left m hO c t.val t.isLt).2 = (left m hO c (t.val - 1) (Nat.lt_of_le_of_lt (Nat.sub_le _ _) t.isLt)).2 := by
  rw [left_pos m hO c t hz, step, if_neg hb]

end Cert.MoeIdeal.Hand

end
-- ==== Proof.MoeLaunch.lean ====
/- The run of the experts' kernel's whole launch, for all tables whose blocks lie inside the arrays and which put at least one
   tile in use: the body keeps its part of the bargain at every point, the arrays end at what the library computes from what
   the body leaves, and the arguments end unchanged. -/
module

public import proofs.«01_k».proof.Proof.MoeFrame

@[expose] public section

set_option maxRecDepth 16384

noncomputable section

namespace Cert.MoeIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.MoeIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The invariant before position `n`: before the first point the scratch is at anything, afterwards at what the point before
    left in it; the tables are held throughout. -/
def inv (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scH fullShare ((left m hO c n hn).2.1)
      ∗ owns (c : Thread nD τ) scA fullShare ((left m hO c n hn).2.2)) ∗ (∃ r, prngReg c r)) ∗ Pipeline.ΦT pre0 (tbl m) c)

theorem inv_zero (hO : Ok m) (c : Dev nD) (n : ℕ) (h : n ≤ (cfgM m hO).N) (hz : n = 0) :
    inv m hO c n h = iprop(Pipeline.ΦA spec0 c ∗ Pipeline.ΦT pre0 (tbl m) c) := by
  subst hz; rfl

theorem inv_succ (hO : Ok m) (c : Dev nD) (n : ℕ) (hn : n < (cfgM m hO).N) :
    inv m hO c (n + 1) hn = iprop(iprop(iprop(owns (c : Thread nD τ) scH fullShare ((left m hO c n hn).2.1)
      ∗ owns (c : Thread nD τ) scA fullShare ((left m hO c n hn).2.2)) ∗ (∃ r, prngReg c r)) ∗ Pipeline.ΦT pre0 (tbl m) c) := rfl

theorem inv_pos (hO : Ok m) (c : Dev nD) (n : ℕ) (h : n ≤ (cfgM m hO).N) (hz : n ≠ 0) :
    inv m hO c n h = iprop(iprop(iprop(owns (c : Thread nD τ) scH fullShare ((left m hO c (n - 1) (by omega)).2.1)
      ∗ owns (c : Thread nD τ) scA fullShare ((left m hO c (n - 1) (by omega)).2.2)) ∗ (∃ r, prngReg c r))
      ∗ Pipeline.ΦT pre0 (tbl m) c) := by
  cases n with
  | zero => exact absurd rfl hz
  | succ n => rfl

/-- The proof data: the arrays as launched, an input's buffer at its block, the output's at what the body leaves. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => (left m hO c t.val t.isLt).1
  Φ t := inv m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]

/-- The invariant at a point's start. -/
theorem inv_castSucc (hO : Ok m) (c : Dev nD) (t : Fin (cfgM m hO).N) :
    (dats m hO 0 c).Φ t.castSucc = inv m hO c t.val (Nat.le_of_lt t.isLt) := by
  dsimp only [dats]; exact Pipeline.Dat.Φ_castSucc (inv m hO c) t

/-- What the body leaves in each window's buffer. -/
theorem after_0 (hO : Ok m) (c : Dev nD) (t : Fin (cfgM m hO).N) : (dats m hO 0 c).after 0 t = iblk m hO c 0 t := by dsimp only [dats]; rfl
theorem after_1 (hO : Ok m) (c : Dev nD) (t : Fin (cfgM m hO).N) : (dats m hO 0 c).after 1 t = iblk m hO c 1 t := by dsimp only [dats]; rfl
theorem after_2 (hO : Ok m) (c : Dev nD) (t : Fin (cfgM m hO).N) : (dats m hO 0 c).after 2 t = iblk m hO c 2 t := by dsimp only [dats]; rfl
theorem after_3 (hO : Ok m) (c : Dev nD) (t : Fin (cfgM m hO).N) : (dats m hO 0 c).after 3 t = iblk m hO c 3 t := by dsimp only [dats]; rfl
theorem after_4 (hO : Ok m) (c : Dev nD) (t : Fin (cfgM m hO).N) : (dats m hO 0 c).after 4 t = iblk m hO c 4 t := by dsimp only [dats]; rfl
theorem after_5 (hO : Ok m) (c : Dev nD) (t : Fin (cfgM m hO).N) : (dats m hO 0 c).after 5 t = (left m hO c t.val t.isLt).1 := by
  dsimp only [dats]; rfl

/-- An input's buffer holds its block at every point, fetched there or not. -/
theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl)
      (fun t => by rw [after_0]; unfold Dat.blockOf iblk; rw [A_eq]) t d).trans
    (by unfold Dat.fetched Dat.blockOf iblk; rw [A_eq]; rfl)
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl)
      (fun t => by rw [after_1]; unfold Dat.blockOf iblk; rw [A_eq]) t d).trans
    (by unfold Dat.fetched Dat.blockOf iblk; rw [A_eq]; rfl)
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl)
      (fun t => by rw [after_2]; unfold Dat.blockOf iblk; rw [A_eq]) t d).trans
    (by unfold Dat.fetched Dat.blockOf iblk; rw [A_eq]; rfl)
theorem before_3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl)
      (fun t => by rw [after_3]; unfold Dat.blockOf iblk; rw [A_eq]) t d).trans
    (by unfold Dat.fetched Dat.blockOf iblk; rw [A_eq]; rfl)
theorem before_4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl)
      (fun t => by rw [after_4]; unfold Dat.blockOf iblk; rw [A_eq]) t d).trans
    (by unfold Dat.fetched Dat.blockOf iblk; rw [A_eq]; rfl)

/-- At a later step of a tile out of use the output's buffer holds the zeros stored at its first step. -/
theorem before_5 (hO : Ok m) (c : Dev nD) : ∀ (k : ℕ) (t : Fin (cfgM m hO).N), t.val % 11 = k + 1 → ¬busy m t →
    ∀ d, (dats m hO 0 c).before 5 t d = k0_pay4 := by
  intro k
  induction k with
  | zero =>
    intro t ht hb d
    have hz : t.val ≠ 0 := fun h => by rw [h] at ht; exact absurd ht (by decide)
    let u : Fin (cfgM m hO).N := ⟨t.val - 1, Nat.lt_of_le_of_lt (Nat.sub_le _ _) t.isLt⟩
    have hu : u.val % 11 = 0 := by show (t.val - 1) % 11 = 0; omega
    have hub : ¬busy m u := fun h => hb ((busy_congr m (t := u) (u := t) (by show (t.val - 1) / 11 = t.val / 11; omega)).mp h)
    rw [(dats m hO 0 c).before_of_pos 5 t hz (((cfgM m hO).win 5).fetch_out rfl t),
      show ((cfgM m hO).win 5).flush ⟨t.val - 1, _⟩ = false from noflush5 (adm m hO) u (by omega), if_neg Bool.false_ne_true]
    unfold Dat.left
    rw [show (cfgM m hO).idle 5 ((cfgM m hO).grid.coords ⟨t.val - 1, _⟩) = false from live5 m hO u (.inr ⟨hub, hu⟩)]
    unfold Dat.kept
    dsimp only
    rw [Idealize.ShloMosaic.Pipeline.fill_of_clip_none 5 _ (fun _ => rfl) d ((dats m hO 0 c).after 5 u), Window.fill_cut, after_5]
    exact left_out m hO c u hub
  | succ k ih =>
    intro t ht hb d
    have hz : t.val ≠ 0 := fun h => by rw [h] at ht; exact absurd ht (by omega)
    let u : Fin (cfgM m hO).N := ⟨t.val - 1, Nat.lt_of_le_of_lt (Nat.sub_le _ _) t.isLt⟩
    have hu : u.val % 11 = k + 1 := by show (t.val - 1) % 11 = k + 1; omega
    have hub : ¬busy m u := fun h => hb ((busy_congr m (t := u) (u := t) (by show (t.val - 1) / 11 = t.val / 11; omega)).mp h)
    rw [(dats m hO 0 c).before_of_pos 5 t hz (((cfgM m hO).win 5).fetch_out rfl t),
      show ((cfgM m hO).win 5).flush ⟨t.val - 1, _⟩ = false from noflush5 (adm m hO) u (by omega), if_neg Bool.false_ne_true]
    unfold Dat.left
    rw [show (cfgM m hO).idle 5 ((cfgM m hO).grid.coords ⟨t.val - 1, _⟩) = true from
      idle5 m hO u (fun h => absurd h hub) (fun _ => by omega)]
    exact ih u hu hub d

/-! ## The body at a point -/

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t ∗ (dats m hO 0 c).leavesExact 1 t ∗ (dats m hO 0 c).leavesExact 2 t
    ∗ (dats m hO 0 c).leavesExact 3 t ∗ (dats m hO 0 c).leavesExact 4 t ∗ (dats m hO 0 c).leavesExact 5 t)

/-- An input's buffer is handed back at its block. -/
theorem leaves_0 (hO : Ok m) (c : Dev nD) (t : Fin (cfgM m hO).N) :
    (dats m hO 0 c).leavesExact 0 t = owns (c : Thread nD τ) (ms0 m hO t) fullShare (iblk m hO c 0 t) := by
  rw [← after_0]; rfl
theorem leaves_1 (hO : Ok m) (c : Dev nD) (t : Fin (cfgM m hO).N) :
    (dats m hO 0 c).leavesExact 1 t = owns (c : Thread nD τ) (ms1 m hO t) fullShare (iblk m hO c 1 t) := by
  rw [← after_1]; rfl
theorem leaves_2 (hO : Ok m) (c : Dev nD) (t : Fin (cfgM m hO).N) :
    (dats m hO 0 c).leavesExact 2 t = owns (c : Thread nD τ) (ms2 m hO t) fullShare (iblk m hO c 2 t) := by
  rw [← after_2]; rfl
theorem leaves_3 (hO : Ok m) (c : Dev nD) (t : Fin (cfgM m hO).N) :
    (dats m hO 0 c).leavesExact 3 t = owns (c : Thread nD τ) (ms3 m hO t) fullShare (iblk m hO c 3 t) := by
  rw [← after_3]; rfl
theorem leaves_4 (hO : Ok m) (c : Dev nD) (t : Fin (cfgM m hO).N) :
    (dats m hO 0 c).leavesExact 4 t = owns (c : Thread nD τ) (ms4 m hO t) fullShare (iblk m hO c 4 t) := by
  rw [← after_4]; rfl

/-- The output's buffer, at a point where it is stored into or written back; -/
theorem leaves_5 (hO : Ok m) (c : Dev nD) (t : Fin (cfgM m hO).N)
    (h : (cfgM m hO).idle 5 (grid0.coords t) = false ∨ t.val % 11 = 10) :
    (dats m hO 0 c).leavesExact 5 t = owns (c : Thread nD τ) (ms5 m hO t) fullShare ((left m hO c t.val t.isLt).1) := by
  rw [← after_5]
  unfold Dat.leavesExact
  rcases h with h | h
  · rw [show (cfgM m hO).idle 5 ((cfgM m hO).grid.coords t) = false from h]
    rfl
  · rw [(flush5 (adm m hO) t).mpr h]
    cases (cfgM m hO).idle 5 ((cfgM m hO).grid.coords t) <;> rfl

/-- at any other point it is handed back as found. -/
theorem leaves_5_idle (hO : Ok m) (c : Dev nD) (t : Fin (cfgM m hO).N) (hi : (cfgM m hO).idle 5 (grid0.coords t) = true)
    (h : ¬t.val % 11 = 10) :
    (dats m hO 0 c).leavesExact 5 t = iprop(∃ d, owns (c : Thread nD τ) (ms5 m hO t) fullShare ((dats m hO 0 c).before 5 t d)) :=
  Dat.leavesExact_idle (dats m hO 0 c) 5 t hi (noflush5 (adm m hO) t h)

set_option maxHeartbeats 2000000 in
/-- At the launch's first point, where the scratch is at anything. -/
theorem sound_first_zero (hO : Ok m) (c : Dev nD) (t : Fin (cfgM m hO).N) (hz : t.val = 0) (hb : busy m t) :
    bodyPre m hO c t ⊢ wp frame (wpE (defs₀ (F := F)) Variants.none c none) Set.univ (bodyAt m hO t) (fun _ => bodyPost m hO c t) := by
  unfold bodyPre bodyPost bodyAt
  simp only [before_0, before_1, before_2, before_3, before_4]
  rw [show (dats m hO 0 c).owesAt () t.succ = (dats m hO 0 c).owesAt () t.castSucc from rfl,
    show (dats m hO 0 c).Φ t.succ = inv m hO c (t.val + 1) t.isLt from rfl, inv_succ, PhiT0_eq,
    leaves_0, leaves_1, leaves_2, leaves_3, leaves_4, inv_castSucc]
  have h : t.val % 11 = 0 := by rw [hz]
  rw [inv_zero m hO c _ _ hz, PhiT0_eq, PhiA0_eq, leaves_5_idle m hO c t (idle5 m hO t (fun _ => by omega) (fun hn => absurd hb hn)) (by omega),
    left_first m hO c t hb h]
  iintro ⟨⟨⟨⟨⟨%s0, HS0⟩, ⟨%s1, HS1⟩⟩, Hg⟩, ⟨HT0, HT1⟩⟩, Ho, ⟨%d0, H0⟩, ⟨%d1, H1⟩, ⟨%d2, H2⟩, ⟨%d3, H3⟩, ⟨%d4, H4⟩, ⟨%d5, H5⟩⟩
  iapply (run_first c (grid0.coords t) _ _ _ _ _ _ _ _ (iblk m hO c 0 t) (iblk m hO c 1 t) (iblk m hO c 2 t) (iblk m hO c 3 t) (iblk m hO c 4 t) _ _ _ (tbl m 0) (tbl m 1) (by rw [used_eq]; exact hb) ((first_iff t).mpr h) (fun hh => by have := (last_iff t).mp hh; omega) (by rw [used_eq]; exact fun hh => ((clear_iff m t).mp hh).1 hb) Set.univ _)
  isplitr [Ho Hg]
  · isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HT0]; · iexact HT0
    iexact HT1
  iintro ⟨H0, H1, H2, H3, H4, H5, HS0, HS1, HT0, HT1⟩
  isplitl [HS0 HS1 Hg HT0 HT1]
  · isplitl [HS0 HS1 Hg]
    · isplitl [HS0 HS1]
      · isplitl [HS0]
        · iexact HS0
        iexact HS1
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexists _; iexact H5

set_option maxHeartbeats 2000000 in
/-- At the first step of a tile in use. -/
theorem sound_first (hO : Ok m) (c : Dev nD) (t : Fin (cfgM m hO).N) (hz : t.val ≠ 0) (hb : busy m t) (h : t.val % 11 = 0) :
    bodyPre m hO c t ⊢ wp frame (wpE (defs₀ (F := F)) Variants.none c none) Set.univ (bodyAt m hO t) (fun _ => bodyPost m hO c t) := by
  unfold bodyPre bodyPost bodyAt
  simp only [before_0, before_1, before_2, before_3, before_4]
  rw [show (dats m hO 0 c).owesAt () t.succ = (dats m hO 0 c).owesAt () t.castSucc from rfl,
    show (dats m hO 0 c).Φ t.succ = inv m hO c (t.val + 1) t.isLt from rfl, inv_succ, PhiT0_eq,
    leaves_0, leaves_1, leaves_2, leaves_3, leaves_4, inv_castSucc]
  rw [inv_pos m hO c _ _ hz, PhiT0_eq, leaves_5_idle m hO c t (idle5 m hO t (fun _ => by omega) (fun hn => absurd hb hn)) (by omega),
    left_first m hO c t hb h]
  iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, ⟨%d5, H5⟩⟩
  iapply (run_first c (grid0.coords t) _ _ _ _ _ _ _ _ (iblk m hO c 0 t) (iblk m hO c 1 t) (iblk m hO c 2 t) (iblk m hO c 3 t) (iblk m hO c 4 t) _ _ _ (tbl m 0) (tbl m 1) (by rw [used_eq]; exact hb) ((first_iff t).mpr h) (fun hh => by have := (last_iff t).mp hh; omega) (by rw [used_eq]; exact fun hh => ((clear_iff m t).mp hh).1 hb) Set.univ _)
  isplitr [Ho Hg]
  · isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HT0]; · iexact HT0
    iexact HT1
  iintro ⟨H0, H1, H2, H3, H4, H5, HS0, HS1, HT0, HT1⟩
  isplitl [HS0 HS1 Hg HT0 HT1]
  · isplitl [HS0 HS1 Hg]
    · isplitl [HS0 HS1]
      · isplitl [HS0]
        · iexact HS0
        iexact HS1
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexists _; iexact H5

set_option maxHeartbeats 2000000 in
/-- At a middle step of a tile in use. -/
theorem sound_next (hO : Ok m) (c : Dev nD) (t : Fin (cfgM m hO).N) (hb : busy m t) (h : ¬t.val % 11 = 0) (hl : ¬t.val % 11 = 10) :
    bodyPre m hO c t ⊢ wp frame (wpE (defs₀ (F := F)) Variants.none c none) Set.univ (bodyAt m hO t) (fun _ => bodyPost m hO c t) := by
  unfold bodyPre bodyPost bodyAt
  simp only [before_0, before_1, before_2, before_3, before_4]
  rw [show (dats m hO 0 c).owesAt () t.succ = (dats m hO 0 c).owesAt () t.castSucc from rfl,
    show (dats m hO 0 c).Φ t.succ = inv m hO c (t.val + 1) t.isLt from rfl, inv_succ, PhiT0_eq,
    leaves_0, leaves_1, leaves_2, leaves_3, leaves_4, inv_castSucc]
  rw [inv_pos m hO c _ _ (fun hz => h (by rw [hz])), PhiT0_eq,
    leaves_5_idle m hO c t (idle5 m hO t (fun _ => hl) (fun hn => absurd hb hn)) hl, left_next m hO c t hb h]
  iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, ⟨%d5, H5⟩⟩
  iapply (run_next c (grid0.coords t) _ _ _ _ _ _ _ _ (iblk m hO c 0 t) (iblk m hO c 1 t) (iblk m hO c 2 t) (iblk m hO c 3 t) (iblk m hO c 4 t) _ _ _ (tbl m 0) (tbl m 1) (by rw [used_eq]; exact hb) (fun hh => h ((first_iff t).mp hh)) (fun hh => hl ((last_iff t).mp hh)) (by rw [used_eq]; exact fun hh => ((clear_iff m t).mp hh).1 hb) Set.univ _)
  isplitr [Ho Hg]
  · isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HT0]; · iexact HT0
    iexact HT1
  iintro ⟨H0, H1, H2, H3, H4, H5, HS0, HS1, HT0, HT1⟩
  isplitl [HS0 HS1 Hg HT0 HT1]
  · isplitl [HS0 HS1 Hg]
    · isplitl [HS0 HS1]
      · isplitl [HS0]
        · iexact HS0
        iexact HS1
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexists _; iexact H5

set_option maxHeartbeats 2000000 in
/-- At the last step of a tile in use. -/
theorem sound_last (hO : Ok m) (c : Dev nD) (t : Fin (cfgM m hO).N) (hb : busy m t) (hl : t.val % 11 = 10) :
    bodyPre m hO c t ⊢ wp frame (wpE (defs₀ (F := F)) Variants.none c none) Set.univ (bodyAt m hO t) (fun _ => bodyPost m hO c t) := by
  unfold bodyPre bodyPost bodyAt
  simp only [before_0, before_1, before_2, before_3, before_4]
  rw [show (dats m hO 0 c).owesAt () t.succ = (dats m hO 0 c).owesAt () t.castSucc from rfl,
    show (dats m hO 0 c).Φ t.succ = inv m hO c (t.val + 1) t.isLt from rfl, inv_succ, PhiT0_eq,
    leaves_0, leaves_1, leaves_2, leaves_3, leaves_4, inv_castSucc]
  have h : ¬t.val % 11 = 0 := by omega
  rw [inv_pos m hO c _ _ (fun hz => h (by rw [hz])), PhiT0_eq, leaves_5 m hO c t (.inr hl), left_next m hO c t hb h]
  iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, ⟨%d5, H5⟩⟩
  iapply (run_last c (grid0.coords t) _ _ _ _ _ _ _ _ (iblk m hO c 0 t) (iblk m hO c 1 t) (iblk m hO c 2 t) (iblk m hO c 3 t) (iblk m hO c 4 t) _ _ _ (tbl m 0) (tbl m 1) (by rw [used_eq]; exact hb) (fun hh => h ((first_iff t).mp hh)) ((last_iff t).mpr hl) (by rw [used_eq]; exact fun hh => ((clear_iff m t).mp hh).1 hb) Set.univ _)
  isplitr [Ho Hg]
  · isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HT0]; · iexact HT0
    iexact HT1
  iintro ⟨H0, H1, H2, H3, H4, H5, HS0, HS1, HT0, HT1⟩
  isplitl [HS0 HS1 Hg HT0 HT1]
  · isplitl [HS0 HS1 Hg]
    · isplitl [HS0 HS1]
      · isplitl [HS0]
        · iexact HS0
        iexact HS1
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5

set_option maxHeartbeats 2000000 in
/-- At the first step of a tile out of use. -/
theorem sound_clear (hO : Ok m) (c : Dev nD) (t : Fin (cfgM m hO).N) (hz : t.val ≠ 0) (hb : ¬busy m t) (h : t.val % 11 = 0) :
    bodyPre m hO c t ⊢ wp frame (wpE (defs₀ (F := F)) Variants.none c none) Set.univ (bodyAt m hO t) (fun _ => bodyPost m hO c t) := by
  unfold bodyPre bodyPost bodyAt
  simp only [before_0, before_1, before_2, before_3, before_4]
  rw [show (dats m hO 0 c).owesAt () t.succ = (dats m hO 0 c).owesAt () t.castSucc from rfl,
    show (dats m hO 0 c).Φ t.succ = inv m hO c (t.val + 1) t.isLt from rfl, inv_succ, PhiT0_eq,
    leaves_0, leaves_1, leaves_2, leaves_3, leaves_4, inv_castSucc]
  rw [inv_pos m hO c _ _ hz, PhiT0_eq, leaves_5 m hO c t (.inl (live5 m hO t (.inr ⟨hb, h⟩))), left_out m hO c t hb,
    left_rest m hO c t hz hb]
  iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, ⟨%d5, H5⟩⟩
  iapply (run_clear c (grid0.coords t) _ _ _ _ _ _ _ _ (iblk m hO c 0 t) (iblk m hO c 1 t) (iblk m hO c 2 t) (iblk m hO c 3 t) (iblk m hO c 4 t) _ _ _ (tbl m 0) (tbl m 1) (by rw [used_eq]; exact hb) (by rw [used_eq]; exact (clear_iff m t).mpr ⟨hb, h⟩) Set.univ _)
  isplitr [Ho Hg]
  · isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HT0]; · iexact HT0
    iexact HT1
  iintro ⟨H0, H1, H2, H3, H4, H5, HS0, HS1, HT0, HT1⟩
  isplitl [HS0 HS1 Hg HT0 HT1]
  · isplitl [HS0 HS1 Hg]
    · isplitl [HS0 HS1]
      · isplitl [HS0]
        · iexact HS0
        iexact HS1
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5

set_option maxHeartbeats 2000000 in
/-- At a middle step of a tile out of use. -/
theorem sound_rest (hO : Ok m) (c : Dev nD) (t : Fin (cfgM m hO).N) (hb : ¬busy m t) (h : ¬t.val % 11 = 0) (hl : ¬t.val % 11 = 10) :
    bodyPre m hO c t ⊢ wp frame (wpE (defs₀ (F := F)) Variants.none c none) Set.univ (bodyAt m hO t) (fun _ => bodyPost m hO c t) := by
  unfold bodyPre bodyPost bodyAt
  simp only [before_0, before_1, before_2, before_3, before_4]
  rw [show (dats m hO 0 c).owesAt () t.succ = (dats m hO 0 c).owesAt () t.castSucc from rfl,
    show (dats m hO 0 c).Φ t.succ = inv m hO c (t.val + 1) t.isLt from rfl, inv_succ, PhiT0_eq,
    leaves_0, leaves_1, leaves_2, leaves_3, leaves_4, inv_castSucc]
  have hz : t.val ≠ 0 := fun hz => h (by rw [hz])
  rw [inv_pos m hO c _ _ hz, PhiT0_eq, leaves_5_idle m hO c t (idle5 m hO t (fun _ => hl) (fun _ => h)) hl, left_rest m hO c t hz hb]
  iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, ⟨%d5, H5⟩⟩
  iapply (run_rest c (grid0.coords t) _ _ _ _ _ _ _ _ (iblk m hO c 0 t) (iblk m hO c 1 t) (iblk m hO c 2 t) (iblk m hO c 3 t) (iblk m hO c 4 t) _ _ _ (tbl m 0) (tbl m 1) (by rw [used_eq]; exact hb) (by rw [used_eq]; exact fun hh => h ((clear_iff m t).mp hh).2) Set.univ _)
  isplitr [Ho Hg]
  · isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HT0]; · iexact HT0
    iexact HT1
  iintro ⟨H0, H1, H2, H3, H4, H5, HS0, HS1, HT0, HT1⟩
  isplitl [HS0 HS1 Hg HT0 HT1]
  · isplitl [HS0 HS1 Hg]
    · isplitl [HS0 HS1]
      · isplitl [HS0]
        · iexact HS0
        iexact HS1
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexists _; iexact H5

set_option maxHeartbeats 2000000 in
/-- At the last step of a tile out of use, whose zeros are still there. -/
theorem sound_rest_last (hO : Ok m) (c : Dev nD) (t : Fin (cfgM m hO).N) (hb : ¬busy m t) (hl : t.val % 11 = 10) :
    bodyPre m hO c t ⊢ wp frame (wpE (defs₀ (F := F)) Variants.none c none) Set.univ (bodyAt m hO t) (fun _ => bodyPost m hO c t) := by
  unfold bodyPre bodyPost bodyAt
  simp only [before_0, before_1, before_2, before_3, before_4]
  rw [show (dats m hO 0 c).owesAt () t.succ = (dats m hO 0 c).owesAt () t.castSucc from rfl,
    show (dats m hO 0 c).Φ t.succ = inv m hO c (t.val + 1) t.isLt from rfl, inv_succ, PhiT0_eq,
    leaves_0, leaves_1, leaves_2, leaves_3, leaves_4, inv_castSucc]
  have h : ¬t.val % 11 = 0 := by omega
  have hz : t.val ≠ 0 := fun hz => h (by rw [hz])
  simp only [before_5 m hO c 9 t hl hb]
  rw [inv_pos m hO c _ _ hz, PhiT0_eq, leaves_5 m hO c t (.inr hl), left_out m hO c t hb, left_rest m hO c t hz hb]
  iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, ⟨%d5, H5⟩⟩
  iapply (run_rest c (grid0.coords t) _ _ _ _ _ _ _ _ (iblk m hO c 0 t) (iblk m hO c 1 t) (iblk m hO c 2 t) (iblk m hO c 3 t) (iblk m hO c 4 t) _ _ _ (tbl m 0) (tbl m 1) (by rw [used_eq]; exact hb) (by rw [used_eq]; exact fun hh => h ((clear_iff m t).mp hh).2) Set.univ _)
  isplitr [Ho Hg]
  · isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HT0]; · iexact HT0
    iexact HT1
  iintro ⟨H0, H1, H2, H3, H4, H5, HS0, HS1, HT0, HT1⟩
  isplitl [HS0 HS1 Hg HT0 HT1]
  · isplitl [HS0 HS1 Hg]
    · isplitl [HS0 HS1]
      · isplitl [HS0]
        · iexact HS0
        iexact HS1
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5

/-- At any point, the launch's first tile being in use. -/
theorem sound_body (hO : Ok m) (h0 : ∀ t : Fin grid0.N, t.val = 0 → busy m t) (c : Dev nD) (t : Fin (cfgM m hO).N) :
    bodyPre m hO c t ⊢ wp frame (wpE (defs₀ (F := F)) Variants.none c none) Set.univ (bodyAt m hO t) (fun _ => bodyPost m hO c t) := by
  by_cases hb : busy m t
  · by_cases h : t.val % 11 = 0
    · by_cases hz : t.val = 0
      · exact sound_first_zero m hO c t hz hb
      · exact sound_first m hO c t hz hb h
    · by_cases hl : t.val % 11 = 10
      · exact sound_last m hO c t hb hl
      · exact sound_next m hO c t hb h hl
  · by_cases h : t.val % 11 = 0
    · exact sound_clear m hO c t (fun hz => hb (h0 t hz)) hb h
    · by_cases hl : t.val % 11 = 10
      · exact sound_rest_last m hO c t hb hl
      · exact sound_rest m hO c t hb h hl

/-! ## The launch -/

/-- The pipeline calls this body. -/
theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The library's obligation of the body. -/
theorem body_obligation (hO : Ok m) (h0 : ∀ t : Fin grid0.N, t.val = 0 → busy m t) (c : Dev nD) :
    BodyObligation (dats (F := F) m hO 0 c) (defs₀ (F := F)) Variants.none () Set.univ := fun t => by
  rw [bigSep_W0, bigSep_W0, defs₀_row m hO]
  exact triple_restated (sound_body m hO h0 c t) rfl .rfl fun _ => .rfl

/-- The launch hands the region the invariant before the first point, -/
theorem hin (hO : Ok m) (c : Dev nD) : iprop(Pipeline.ΦA spec0 c ∗ Pipeline.ΦT pre0 (tbl m) c) ⊢ (dats m hO 0 c).Φ 0 := by
  rw [show (dats m hO 0 c).Φ 0 = inv m hO c 0 (Nat.zero_le _) from rfl, inv_zero m hO c 0 _ rfl]

/-- and takes back the scratch, at anything, from the invariant after the last. -/
theorem hout (hO : Ok m) (c : Dev nD) : (dats m hO 0 c).Φ (Fin.last (cfgM m hO).N) ⊢ Pipeline.ΦA spec0 c := by
  have hN : (cfgM m hO).N = 440 := N_0
  rw [show (dats m hO 0 c).Φ (Fin.last (cfgM m hO).N) = inv m hO c (Fin.last (cfgM m hO).N).val (Nat.le_of_lt_succ (Fin.last _).isLt) from rfl,
    inv_pos m hO c _ _ (by rw [Fin.val_last]; omega), PhiA0_eq]
  iintro ⟨⟨⟨HS0, HS1⟩, Hg⟩, -⟩
  isplitl [HS0 HS1]
  · isplitl [HS0]
    · iexists _; iexact HS0
    iexists _; iexact HS1
  iexact Hg

set_option backward.isDefEq.respectTransparency.types false in
/-- The run: the arrays end at what the library computes from the proof data, everything else as it was, and no semaphore is
    left counting. -/
theorem run_main (hO : Ok m) (h0 : ∀ t : Fin grid0.N, t.val = 0 → busy m t) :
    θ_run defs (onTc (τ := τ) (main (F := F))) (s₀ m ρ)
      (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO h0 c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The arguments end unchanged, and the output's array ends at what the pipeline wrote back. -/
theorem run_final (hO : Ok m) (h0 : ∀ t : Fin grid0.N, t.val = 0 → busy m t) :
    θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.mem ((c.tc : Thread nD τ).loc (Pipeline.arrRef spec0 5)) = (dats m hO 0 c).arrAt 5 (cfgM m hO).N)
      ∧ r.2.sem = fun _ => 0) :=
  (θ_run defs _ _).mono (fun _ h => ⟨fun c =>
      ⟨⟨(h.1 c).2 main_arg0 (by decide : main_arg0 ∈ Pipeline.restRefs sig spec0),
        (h.1 c).2 main_arg1 (by decide : main_arg1 ∈ Pipeline.restRefs sig spec0),
        ((h.1 c).1 0).trans (((dats m hO 0 c).arrAt_in 0 rfl _).trans (A_eq m hO c 0)),
        ((h.1 c).1 1).trans (((dats m hO 0 c).arrAt_in 1 rfl _).trans (A_eq m hO c 1)),
        ((h.1 c).1 2).trans (((dats m hO 0 c).arrAt_in 2 rfl _).trans (A_eq m hO c 2)),
        ((h.1 c).1 3).trans (((dats m hO 0 c).arrAt_in 3 rfl _).trans (A_eq m hO c 3)),
        ((h.1 c).1 4).trans (((dats m hO 0 c).arrAt_in 4 rfl _).trans (A_eq m hO c 4))⟩,
        (h.1 c).1 5⟩, h.2⟩) (run_main m ρ hO h0)

/-- The frame alone. -/
theorem frame (hO : Ok m) (h0 : ∀ t : Fin grid0.N, t.val = 0 → busy m t) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => (h.1 c).1, h.2⟩) (run_final m ρ hO h0)

end Cert.MoeIdeal.Hand

end
-- ==== Proof.MoeTables.lean ====
/- The experts' tables under the precondition: every tile's expert is one of the eight and at least one tile is in use. Then
   the blocks the tables name lie inside the arrays, and the index maps read back as the tile, its expert and the step. -/
module

public import proofs.«01_k».proof.Proof.MoeFrame
public import proofs.«01_k».proof.Pre_tables
public import Idealize.ShloMosaic.Lib.ValueIdxCore
public import Idealize.ShloMosaic.Lib.ReduceAll
public import Idealize.ShloMosaic.Lib.Affine

@[expose] public section

set_option maxRecDepth 16384

noncomputable section

namespace Cert.MoeIdeal.Hand

open Idealize.ShloMosaic Idealize.ShloMosaic.TcCoe
open Cert.MoeIdeal.Gen

variable {F : FTy → Type} [FloatOps F]

/-- The one index of the count's table. -/
abbrev one : S1.Idx := ix1 (0 : Fin 1)

/-- A tile's expert, and the number of tiles in use, as words of the tables. -/
abbrev expertWord (pf : pre0.Contents (Elt F)) (k : Fin 40) : BitVec 32 := (pf 0 : IVec S40 32) (ix1 k)
abbrev usedWord (pf : pre0.Contents (Elt F)) : BitVec 32 := (pf 1 : IVec S1 32) one

/-- The tables are in range. -/
structure InRange (pf : pre0.Contents (Elt F)) : Prop where
  expert : ∀ k, (expertWord pf k).toNat < 8
  used : 1 ≤ (usedWord pf).toNat
  used_lt : (usedWord pf).toNat < 2 ^ 31

theorem idx_S40 (i : S40.Idx) : i = ix1 (i 0) := by
  funext a
  obtain rfl : a = 0 := Subsingleton.elim _ _
  rfl

theorem idx_S1 (i : S1.Idx) : i = one := by
  funext a
  obtain rfl : a = 0 := Subsingleton.elim _ _
  exact Subsingleton.elim (α := Fin 1) _ _

/-- What the index maps load. -/
theorem at_used (pf : pre0.Contents (Elt F)) : pf.at 1 (Rect.unit (s := S1) ![0] S1.size inb_S1_S1_0) numel1_S1 = usedWord pf :=
  congrArg (pf 1 : IVec S1 32) (idx_S1 _)

theorem at_expert (pf : pre0.Contents (Elt F)) (i : grid0.Coords) :
    pf.at 0 (Rect.unit (s := S40) (k0_off1 i) S1.size (k0_off1_inb i)) numel1_S1
      = expertWord pf (i 0) := by
  have h0 : (i 0).val < 40 := (i 0).isLt
  refine congrArg (pf 0 : IVec S40 32) ((idx_S40 _).trans (congrArg ix1 (Fin.ext ?_)))
  show (BitVec.ofNat 32 (i 0).val).toNat + 1 * 0 = (i 0).val
  rw [BitVec.toNat_ofNat]
  omega

/-- A tile's test, on naturals. -/
theorem slt_iff (v : BitVec 32) (hv : v.toNat < 2 ^ 31) (a : Nat) (ha : a < 40) :
    Scalar.cmpi .slt (BitVec.ofNat 32 a) v = 1#1 ↔ a < v.toNat := by
  have e1 : (BitVec.ofNat 32 a).toInt = a := WordCmp.toInt_ofNat_of_lt (by omega)
  have e2 : v.toInt = v.toNat := WordCmp.toInt_eq_toNat_of_lt_half (by omega)
  show BitVec.ofBool ((BitVec.ofNat 32 a).slt v) = 1#1 ↔ _
  rw [BitVec.slt_eq_decide, e1, e2]
  by_cases h : a < v.toNat
  · simp [h]
  · simp [h]

/-- The least of a tile and the last one in use. -/
theorem min_val (v : BitVec 32) (h1 : 1 ≤ v.toNat) (hv : v.toNat < 2 ^ 31) (a : Nat) (ha : a < 40) :
    (Scalar.minsi (BitVec.ofNat 32 a) (Scalar.subi v 1#32)).toNat = min a (v.toNat - 1) := by
  have e0 : (BitVec.ofNat 32 a).toNat = a := by rw [BitVec.toNat_ofNat]; omega
  have e1 : (BitVec.ofNat 32 a).toInt = a := WordCmp.toInt_ofNat_of_lt (by omega)
  have e2 : (v - 1#32).toNat = v.toNat - 1 := by rw [BitVec.toNat_sub]; simp; omega
  have e3 : (v - 1#32).toInt = (v.toNat - 1 : Nat) := by
    rw [← e2]; exact WordCmp.toInt_eq_toNat_of_lt_half (by rw [e2]; omega)
  show (if (BitVec.ofNat 32 a).slt (v - 1#32) then BitVec.ofNat 32 a else v - 1#32).toNat = _
  rw [BitVec.slt_eq_decide, e1, e3]
  by_cases h : (a : Int) < ((v.toNat - 1 : Nat) : Int)
  · rw [if_pos (by simpa using h), e0]; omega
  · rw [if_neg (by simpa using h), e2]; omega

/-- The three index maps that read the tables. -/
theorem transform_0_eq (pf : pre0.Contents (Elt F)) (h : InRange pf) (i : grid0.Coords) :
    cc0_transform_0 inb_S1_S1_0 numel1_S1 pf i = ![min (i 0).val ((usedWord pf).toNat - 1), 0] := by
  unfold cc0_transform_0
  dsimp only
  rw [at_used, min_val _ h.used h.used_lt _ (i 0).isLt]
  rfl

/-- The part of the hidden units a step reads: its own while the tile is in use, the last otherwise. -/
abbrev part (pf : pre0.Contents (Elt F)) (i : grid0.Coords) : ℕ := if (i 0).val < (usedWord pf).toNat then (i 1).val else 10

theorem part_lt (pf : pre0.Contents (Elt F)) (i : grid0.Coords) : part pf i < 11 := by
  have h : (i 1).val < 11 := (i 1).isLt
  unfold part; split <;> omega

theorem select_part (pf : pre0.Contents (Elt F)) (h : InRange pf) (i : grid0.Coords) :
    (Scalar.select (Scalar.cmpi .slt (BitVec.ofNat 32 (i 0).val) (usedWord pf)) (BitVec.ofNat 32 (i 1).val) 10#32).toNat = part pf i := by
  have h1 : (i 1).val < 11 := (i 1).isLt
  have e := slt_iff (usedWord pf) h.used_lt (i 0).val (i 0).isLt
  unfold part
  by_cases hc : (i 0).val < (usedWord pf).toNat
  · rw [if_pos hc]
    show (if _ = 1#1 then _ else _ : BitVec 32).toNat = _
    rw [if_pos (e.mpr hc), BitVec.toNat_ofNat]; omega
  · rw [if_neg hc]
    show (if _ = 1#1 then _ else _ : BitVec 32).toNat = _
    rw [if_neg fun hh => hc (e.mp hh)]; rfl

theorem transform_2_eq (pf : pre0.Contents (Elt F)) (h : InRange pf) (i : grid0.Coords) :
    cc0_transform_2 k0_off1_inb numel1_S1 inb_S1_S1_0 pf i = ![(expertWord pf (i 0)).toNat, 0, part pf i] := by
  show ![(pf.at 0 (Rect.unit (s := S40) (k0_off1 i) S1.size (k0_off1_inb i)) numel1_S1 : BitVec 32).toNat, 0,
      (Scalar.select (Scalar.cmpi .slt (BitVec.ofNat 32 (i 0).val) (pf.at 1 (Rect.unit (s := S1) ![0] S1.size inb_S1_S1_0) numel1_S1 : BitVec 32)) (BitVec.ofNat 32 (i 1).val) 10#32).toNat] = _
  rw [at_used, at_expert, select_part pf h]

theorem transform_3_eq (pf : pre0.Contents (Elt F)) (h : InRange pf) (i : grid0.Coords) :
    cc0_transform_3 k0_off1_inb numel1_S1 inb_S1_S1_0 pf i = ![(expertWord pf (i 0)).toNat, 0, part pf i] := by
  show ![(pf.at 0 (Rect.unit (s := S40) (k0_off1 i) S1.size (k0_off1_inb i)) numel1_S1 : BitVec 32).toNat, 0,
      (Scalar.select (Scalar.cmpi .slt (BitVec.ofNat 32 (i 0).val) (pf.at 1 (Rect.unit (s := S1) ![0] S1.size inb_S1_S1_0) numel1_S1 : BitVec 32)) (BitVec.ofNat 32 (i 1).val) 10#32).toNat] = _
  rw [at_used, at_expert, select_part pf h]

theorem transform_4_eq (pf : pre0.Contents (Elt F)) (h : InRange pf) (i : grid0.Coords) :
    cc0_transform_4 k0_off1_inb numel1_S1 inb_S1_S1_0 pf i = ![(expertWord pf (i 0)).toNat, part pf i, 0] := by
  show ![(pf.at 0 (Rect.unit (s := S40) (k0_off1 i) S1.size (k0_off1_inb i)) numel1_S1 : BitVec 32).toNat,
      (Scalar.select (Scalar.cmpi .slt (BitVec.ofNat 32 (i 0).val) (pf.at 1 (Rect.unit (s := S1) ![0] S1.size inb_S1_S1_0) numel1_S1 : BitVec 32)) (BitVec.ofNat 32 (i 1).val) 10#32).toNat, 0] = _
  rw [at_used, at_expert, select_part pf h]

/-- So every block they name lies inside its array. -/
theorem ok_of_inRange (pf : pre0.Contents (Elt F)) (h : InRange pf) : ok0 pf := by
  refine ⟨fun i => ⟨fun a => ?_, .inl rfl⟩, fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩
  · have h0 : (i 0).val < 40 := (i 0).isLt
    rw [transform_0_eq pf h]
    match a with
    | 0 => show (min (i 0).val ((usedWord pf).toNat - 1) + 1) * 512 ≤ 20480; omega
    | 1 => exact Nat.le_refl _
  · have he := h.expert (i 0)
    have hp := part_lt pf i
    rw [transform_2_eq pf h]
    match a with
    | 0 => show ((expertWord pf (i 0)).toNat + 1) * 1 ≤ 8; omega
    | 1 => exact Nat.le_refl _
    | 2 => show (part pf i + 1) * 256 ≤ 2816; omega
  · have he := h.expert (i 0)
    have hp := part_lt pf i
    rw [transform_3_eq pf h]
    match a with
    | 0 => show ((expertWord pf (i 0)).toNat + 1) * 1 ≤ 8; omega
    | 1 => exact Nat.le_refl _
    | 2 => show (part pf i + 1) * 256 ≤ 2816; omega
  · have he := h.expert (i 0)
    have hp := part_lt pf i
    rw [transform_4_eq pf h]
    match a with
    | 0 => show ((expertWord pf (i 0)).toNat + 1) * 1 ≤ 8; omega
    | 1 => show (part pf i + 1) * 256 ≤ 2816; omega
    | 2 => exact Nat.le_refl _

variable (m : (ℓ : Loc nD τ sig) → Buf (Elt F) ℓ)

/-- The word the tests read is the number of tiles in use, -/
theorem nu_eq : nu m = usedWord (tbl m) := by
  unfold nu Pipeline.Prefetch.Contents.atD
  rw [dif_pos (by decide)]
  exact congrArg (tbl m 1 : IVec S1 32) (idx_S1 _)

/-- so a point's tile is in use when it lies below that number, -/
theorem busy_iff (h : InRange (tbl m)) (t : Fin grid0.N) : busy m t ↔ t.val / 11 < (usedWord (tbl m)).toNat := by
  have ht : t.val < 440 := Nat.lt_of_lt_of_eq t.isLt N_0
  rw [← slt_iff _ h.used_lt (t.val / 11) (by omega), ← nu_eq, ← tile_val]
  exact bit_ne _

/-- and the first tile is. -/
theorem busy_zero (h : InRange (tbl m)) (t : Fin grid0.N) (hz : t.val = 0) : busy m t :=
  (busy_iff m h t).mpr (by rw [hz]; exact h.used)

end Cert.MoeIdeal.Hand

namespace Cert.MoeTables

open Idealize.ShloMosaic Cert.Pre_tables

/-- The predicate, read at the tables' elements. -/
theorem decode [Facts] {F : FTy → Type} [FloatOps F] (a0 : IVec S40 32) (a1 : IVec S1 32) (a2 : FVec F S20480x2048 .f32) (a3 : FVec F S1x2048 .f32)
    (a4 a5 : FVec F S8x2048x2816 .bf16) (a6 : FVec F S8x2816x2048 .bf16) (h : fn (F := F) a0 a1 a2 a3 a4 a5 a6 = fun _ => 1#1) :
    (∀ k : S40.Idx, (a0 k).toNat < 8) ∧ 1 ≤ (a1 (ix1 (0 : Fin 1))).toNat ∧ (a1 (ix1 (0 : Fin 1))).toNat < 2 ^ 31 := by
  have and_iff (a b : BitVec 1) : IntOp.andi a b = 1#1 ↔ a = 1#1 ∧ b = 1#1 := by revert a b; decide
  have holds (p : Prop) [Decidable p] (hp : BitVec.ofBool (decide p) = 1#1) : p := by
    by_contra hn
    rw [decide_eq_false hn] at hp
    exact absurd hp (by decide)
  have e := congrFun h (Shape.Idx.first Facts.h_S_)
  simp only [fn, andi, and_iff] at e
  obtain ⟨e1, e2⟩ := e
  have Hand_idx : ∀ i : S1.Idx, i = ix1 (0 : Fin 1) := Cert.MoeIdeal.Hand.idx_S1
  haveI : Subsingleton S_.Idx := ⟨fun x y => funext fun a => a.elim0⟩
  refine ⟨fun k => ?_, ?_⟩
  · have ek : IntOp.andi (IntOp.cmpi .sge (a0 k) 0#32) (IntOp.cmpi .slt (a0 k) 8#32) = 1#1 := Host.reduce_andi_all _ _ _ _ _ e1 k
    obtain ⟨l, u⟩ := (and_iff _ _).mp ek
    generalize a0 k = x at l u
    have l' : BitVec.ofBool ((0#32).sle x) = 1#1 := l
    have u' : BitVec.ofBool (x.slt 8#32) = 1#1 := u
    rw [BitVec.sle_eq_decide] at l'
    rw [BitVec.slt_eq_decide] at u'
    have l2 := holds _ l'
    have u2 := holds _ u'
    rw [show (0#32 : BitVec 32).toInt = 0 from rfl] at l2
    rw [show (8#32 : BitVec 32).toInt = 8 from rfl] at u2
    have hx := x.isLt
    have := BitVec.toInt_eq_toNat_cond x
    split at this <;> omega
  · have e2' : BitVec.ofBool ((1#32).sle (a1 (ix1 (0 : Fin 1)))) = 1#1 :=
      (congrArg (fun i => BitVec.ofBool ((1#32).sle (a1 i))) (Hand_idx _)).symm.trans e2
    generalize (a1 (ix1 (0 : Fin 1))) = x at e2'
    rw [BitVec.sle_eq_decide] at e2'
    have l2 := holds _ e2'
    rw [show (1#32 : BitVec 32).toInt = 1 from rfl] at l2
    have hx := x.isLt
    have := BitVec.toInt_eq_toNat_cond x
    split at this <;> omega

end Cert.MoeTables

end
-- ==== Proof.MoeBitsTables.lean ====
/- Of the program as printed (the modules of the idealized one, in its own namespace). The experts' tables under the precondition: every tile's expert is one of the eight and at least one tile is in use. Then
   the blocks the tables name lie inside the arrays, and the index maps read back as the tile, its expert and the step. -/
module

public import proofs.«01_k».proof.Proof.MoeBitsFrame
public import Idealize.ShloMosaic.Lib.ValueIdxCore
public import Idealize.ShloMosaic.Lib.Affine

@[expose] public section

set_option maxRecDepth 16384

noncomputable section

namespace Cert.Moe.Hand

open Idealize.ShloMosaic Idealize.ShloMosaic.TcCoe
open Cert.Moe.Gen

variable {F : FTy → Type} [FloatOps F]

/-- The one index of the count's table. -/
abbrev one : S1.Idx := ix1 (0 : Fin 1)

/-- A tile's expert, and the number of tiles in use, as words of the tables. -/
abbrev expertWord (pf : pre0.Contents (Elt F)) (k : Fin 40) : BitVec 32 := (pf 0 : IVec S40 32) (ix1 k)
abbrev usedWord (pf : pre0.Contents (Elt F)) : BitVec 32 := (pf 1 : IVec S1 32) one

/-- The tables are in range. -/
structure InRange (pf : pre0.Contents (Elt F)) : Prop where
  expert : ∀ k, (expertWord pf k).toNat < 8
  used : 1 ≤ (usedWord pf).toNat
  used_lt : (usedWord pf).toNat < 2 ^ 31

theorem idx_S40 (i : S40.Idx) : i = ix1 (i 0) := by
  funext a
  obtain rfl : a = 0 := Subsingleton.elim _ _
  rfl

theorem idx_S1 (i : S1.Idx) : i = one := by
  funext a
  obtain rfl : a = 0 := Subsingleton.elim _ _
  exact Subsingleton.elim (α := Fin 1) _ _

/-- What the index maps load. -/
theorem at_used (pf : pre0.Contents (Elt F)) : pf.at 1 (Rect.unit (s := S1) ![0] S1.size inb_S1_S1_0) numel1_S1 = usedWord pf :=
  congrArg (pf 1 : IVec S1 32) (idx_S1 _)

theorem at_expert (pf : pre0.Contents (Elt F)) (i : grid0.Coords) :
    pf.at 0 (Rect.unit (s := S40) (k0_off1 i) S1.size (k0_off1_inb i)) numel1_S1
      = expertWord pf (i 0) := by
  have h0 : (i 0).val < 40 := (i 0).isLt
  refine congrArg (pf 0 : IVec S40 32) ((idx_S40 _).trans (congrArg ix1 (Fin.ext ?_)))
  show (BitVec.ofNat 32 (i 0).val).toNat + 1 * 0 = (i 0).val
  rw [BitVec.toNat_ofNat]
  omega

/-- A tile's test, on naturals. -/
theorem slt_iff (v : BitVec 32) (hv : v.toNat < 2 ^ 31) (a : Nat) (ha : a < 40) :
    Scalar.cmpi .slt (BitVec.ofNat 32 a) v = 1#1 ↔ a < v.toNat := by
  have e1 : (BitVec.ofNat 32 a).toInt = a := WordCmp.toInt_ofNat_of_lt (by omega)
  have e2 : v.toInt = v.toNat := WordCmp.toInt_eq_toNat_of_lt_half (by omega)
  show BitVec.ofBool ((BitVec.ofNat 32 a).slt v) = 1#1 ↔ _
  rw [BitVec.slt_eq_decide, e1, e2]
  by_cases h : a < v.toNat
  · simp [h]
  · simp [h]

/-- The least of a tile and the last one in use. -/
theorem min_val (v : BitVec 32) (h1 : 1 ≤ v.toNat) (hv : v.toNat < 2 ^ 31) (a : Nat) (ha : a < 40) :
    (Scalar.minsi (BitVec.ofNat 32 a) (Scalar.subi v 1#32)).toNat = min a (v.toNat - 1) := by
  have e0 : (BitVec.ofNat 32 a).toNat = a := by rw [BitVec.toNat_ofNat]; omega
  have e1 : (BitVec.ofNat 32 a).toInt = a := WordCmp.toInt_ofNat_of_lt (by omega)
  have e2 : (v - 1#32).toNat = v.toNat - 1 := by rw [BitVec.toNat_sub]; simp; omega
  have e3 : (v - 1#32).toInt = (v.toNat - 1 : Nat) := by
    rw [← e2]; exact WordCmp.toInt_eq_toNat_of_lt_half (by rw [e2]; omega)
  show (if (BitVec.ofNat 32 a).slt (v - 1#32) then BitVec.ofNat 32 a else v - 1#32).toNat = _
  rw [BitVec.slt_eq_decide, e1, e3]
  by_cases h : (a : Int) < ((v.toNat - 1 : Nat) : Int)
  · rw [if_pos (by simpa using h), e0]; omega
  · rw [if_neg (by simpa using h), e2]; omega

/-- The three index maps that read the tables. -/
theorem transform_0_eq (pf : pre0.Contents (Elt F)) (h : InRange pf) (i : grid0.Coords) :
    cc0_transform_0 inb_S1_S1_0 numel1_S1 pf i = ![min (i 0).val ((usedWord pf).toNat - 1), 0] := by
  unfold cc0_transform_0
  dsimp only
  rw [at_used, min_val _ h.used h.used_lt _ (i 0).isLt]
  rfl

/-- The part of the hidden units a step reads: its own while the tile is in use, the last otherwise. -/
abbrev part (pf : pre0.Contents (Elt F)) (i : grid0.Coords) : ℕ := if (i 0).val < (usedWord pf).toNat then (i 1).val else 10

theorem part_lt (pf : pre0.Contents (Elt F)) (i : grid0.Coords) : part pf i < 11 := by
  have h : (i 1).val < 11 := (i 1).isLt
  unfold part; split <;> omega

theorem select_part (pf : pre0.Contents (Elt F)) (h : InRange pf) (i : grid0.Coords) :
    (Scalar.select (Scalar.cmpi .slt (BitVec.ofNat 32 (i 0).val) (usedWord pf)) (BitVec.ofNat 32 (i 1).val) 10#32).toNat = part pf i := by
  have h1 : (i 1).val < 11 := (i 1).isLt
  have e := slt_iff (usedWord pf) h.used_lt (i 0).val (i 0).isLt
  unfold part
  by_cases hc : (i 0).val < (usedWord pf).toNat
  · rw [if_pos hc]
    show (if _ = 1#1 then _ else _ : BitVec 32).toNat = _
    rw [if_pos (e.mpr hc), BitVec.toNat_ofNat]; omega
  · rw [if_neg hc]
    show (if _ = 1#1 then _ else _ : BitVec 32).toNat = _
    rw [if_neg fun hh => hc (e.mp hh)]; rfl

theorem transform_2_eq (pf : pre0.Contents (Elt F)) (h : InRange pf) (i : grid0.Coords) :
    cc0_transform_2 k0_off1_inb numel1_S1 inb_S1_S1_0 pf i = ![(expertWord pf (i 0)).toNat, 0, part pf i] := by
  show ![(pf.at 0 (Rect.unit (s := S40) (k0_off1 i) S1.size (k0_off1_inb i)) numel1_S1 : BitVec 32).toNat, 0,
      (Scalar.select (Scalar.cmpi .slt (BitVec.ofNat 32 (i 0).val) (pf.at 1 (Rect.unit (s := S1) ![0] S1.size inb_S1_S1_0) numel1_S1 : BitVec 32)) (BitVec.ofNat 32 (i 1).val) 10#32).toNat] = _
  rw [at_used, at_expert, select_part pf h]

theorem transform_3_eq (pf : pre0.Contents (Elt F)) (h : InRange pf) (i : grid0.Coords) :
    cc0_transform_3 k0_off1_inb numel1_S1 inb_S1_S1_0 pf i = ![(expertWord pf (i 0)).toNat, 0, part pf i] := by
  show ![(pf.at 0 (Rect.unit (s := S40) (k0_off1 i) S1.size (k0_off1_inb i)) numel1_S1 : BitVec 32).toNat, 0,
      (Scalar.select (Scalar.cmpi .slt (BitVec.ofNat 32 (i 0).val) (pf.at 1 (Rect.unit (s := S1) ![0] S1.size inb_S1_S1_0) numel1_S1 : BitVec 32)) (BitVec.ofNat 32 (i 1).val) 10#32).toNat] = _
  rw [at_used, at_expert, select_part pf h]

theorem transform_4_eq (pf : pre0.Contents (Elt F)) (h : InRange pf) (i : grid0.Coords) :
    cc0_transform_4 k0_off1_inb numel1_S1 inb_S1_S1_0 pf i = ![(expertWord pf (i 0)).toNat, part pf i, 0] := by
  show ![(pf.at 0 (Rect.unit (s := S40) (k0_off1 i) S1.size (k0_off1_inb i)) numel1_S1 : BitVec 32).toNat,
      (Scalar.select (Scalar.cmpi .slt (BitVec.ofNat 32 (i 0).val) (pf.at 1 (Rect.unit (s := S1) ![0] S1.size inb_S1_S1_0) numel1_S1 : BitVec 32)) (BitVec.ofNat 32 (i 1).val) 10#32).toNat, 0] = _
  rw [at_used, at_expert, select_part pf h]

/-- So every block they name lies inside its array. -/
theorem ok_of_inRange (pf : pre0.Contents (Elt F)) (h : InRange pf) : ok0 pf := by
  refine ⟨fun i => ⟨fun a => ?_, .inl rfl⟩, fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩
  · have h0 : (i 0).val < 40 := (i 0).isLt
    rw [transform_0_eq pf h]
    match a with
    | 0 => show (min (i 0).val ((usedWord pf).toNat - 1) + 1) * 512 ≤ 20480; omega
    | 1 => exact Nat.le_refl _
  · have he := h.expert (i 0)
    have hp := part_lt pf i
    rw [transform_2_eq pf h]
    match a with
    | 0 => show ((expertWord pf (i 0)).toNat + 1) * 1 ≤ 8; omega
    | 1 => exact Nat.le_refl _
    | 2 => show (part pf i + 1) * 256 ≤ 2816; omega
  · have he := h.expert (i 0)
    have hp := part_lt pf i
    rw [transform_3_eq pf h]
    match a with
    | 0 => show ((expertWord pf (i 0)).toNat + 1) * 1 ≤ 8; omega
    | 1 => exact Nat.le_refl _
    | 2 => show (part pf i + 1) * 256 ≤ 2816; omega
  · have he := h.expert (i 0)
    have hp := part_lt pf i
    rw [transform_4_eq pf h]
    match a with
    | 0 => show ((expertWord pf (i 0)).toNat + 1) * 1 ≤ 8; omega
    | 1 => show (part pf i + 1) * 256 ≤ 2816; omega
    | 2 => exact Nat.le_refl _

variable (m : (ℓ : Loc nD τ sig) → Buf (Elt F) ℓ)

/-- The word the tests read is the number of tiles in use, -/
theorem nu_eq : nu m = usedWord (tbl m) := by
  unfold nu Pipeline.Prefetch.Contents.atD
  rw [dif_pos (by decide)]
  exact congrArg (tbl m 1 : IVec S1 32) (idx_S1 _)

/-- so a point's tile is in use when it lies below that number, -/
theorem busy_iff (h : InRange (tbl m)) (t : Fin grid0.N) : busy m t ↔ t.val / 11 < (usedWord (tbl m)).toNat := by
  have ht : t.val < 440 := Nat.lt_of_lt_of_eq t.isLt N_0
  rw [← slt_iff _ h.used_lt (t.val / 11) (by omega), ← nu_eq, ← tile_val]
  exact bit_ne _

/-- and the first tile is. -/
theorem busy_zero (h : InRange (tbl m)) (t : Fin grid0.N) (hz : t.val = 0) : busy m t :=
  (busy_iff m h t).mpr (by rw [hz]; exact h.used)

end Cert.Moe.Hand

end
-- ==== Proof.MoeFrameClaim.lean ====
/- The frames of the experts' kernel, as printed and idealized, and of its reference, under the precondition on the tables. -/
module

public import proofs.«01_k».proof.Defs
public import proofs.«01_k».proof.Proof.MoeLaunch
public import proofs.«01_k».proof.Proof.MoeTables
public import proofs.«01_k».proof.Proof.MoeBitsLaunch
public import proofs.«01_k».proof.Proof.MoeBitsTables
public import proofs.«01_k».proof.Proof.Gen.Pre_tables
public import proofs.«01_k».proof.Proof.Gen.MoeRefIdeal.Run

@[expose] public section

set_option maxRecDepth 16384

noncomputable section

namespace Cert.MoeClaim

open Idealize.ShloMosaic Idealize.ShloMosaic.TcCoe Idealize.SL.Sem

/-- The precondition puts the tables in range. -/
theorem inRange (m : (ℓ : Loc Cert.MoeIdeal.nD Cert.MoeIdeal.τ Cert.MoeIdeal.sig) → Buf (Elt Ideal) ℓ)
    (h : Cert.Pre_MoeIdeal (hPre_tables := Cert.Pre_tables.Gen.facts) m) : Cert.MoeIdeal.Hand.InRange (Cert.MoeIdeal.Hand.tbl m) := by
  have d := @Cert.MoeTables.decode Cert.Pre_tables.Gen.facts Ideal _ _ _ _ _ _ _ _ (h 0)
  exact ⟨fun k => d.1 (ix1 k), d.2.1, d.2.2⟩

/-- The idealized kernel ends, keeps its arguments, and leaves no counter moved. -/
theorem frame_ideal : Cert.quiescent_MoeIdeal (hMoeIdeal := Cert.MoeIdeal.Gen.facts) (hPre_tables := Cert.Pre_tables.Gen.facts) :=
  fun m ρ h => Cert.MoeIdeal.Hand.frame m ρ (Cert.MoeIdeal.Hand.ok_of_inRange _ (inRange m h)) (Cert.MoeIdeal.Hand.busy_zero m (inRange m h))

/-- The reference ends, keeps its arguments, and has no counter that could move. -/
theorem frame_ref : Cert.quiescent_MoeRefIdeal (hMoeRefIdeal := Cert.MoeRefIdeal.Gen.facts) (hPre_tables := Cert.Pre_tables.Gen.facts) :=
  fun m ρ _ => (θ_run Cert.MoeRefIdeal.defs _ _).mono (fun r h => ⟨fun c => (h c).2, sem_eq_zero_of_no_sems (by decide) r.2⟩)
    (Cert.MoeRefIdeal.Value.run (F := Ideal) m ρ)

/-- The precondition puts the tables of the kernel as printed in range, -/
theorem inRange_bits (m : (ℓ : Loc Cert.Moe.nD Cert.Moe.τ Cert.Moe.sig) → Buf (Elt Bits) ℓ)
    (h : Cert.Pre_Moe (hPre_tables := Cert.Pre_tables.Gen.facts) m) : Cert.Moe.Hand.InRange (Cert.Moe.Hand.tbl m) := by
  have d := @Cert.MoeTables.decode Cert.Pre_tables.Gen.facts Bits _ _ _ _ _ _ _ _ (h 0)
  exact ⟨fun k => d.1 (ix1 k), d.2.1, d.2.2⟩

/-- so it too ends, keeps its arguments, and leaves no counter moved. -/
theorem frame_bits : Cert.quiescent_Moe (hMoe := Cert.Moe.Gen.facts) (hPre_tables := Cert.Pre_tables.Gen.facts) :=
  fun m ρ h => Cert.Moe.Hand.frame m ρ (Cert.Moe.Hand.ok_of_inRange _ (inRange_bits m h)) (Cert.Moe.Hand.busy_zero m (inRange_bits m h))

end Cert.MoeClaim

end
-- ==== Proof.MoeSpec.lean ====
/- The experts' layer as mathematics over the extended reals: a row in the hands of one expert, its gated feed-forward summed over
   the first hidden units. -/
module

public import proofs.«01_k».proof.Proof.FfnSpec

@[expose] public section

noncomputable section

namespace Cert.MoeSpec

open Idealize.ShloMosaic
open Cert.FfnSpec (swi)

/-- A hidden unit of an expert by its number. -/
def unit (k : ℕ) : Fin 2816 := ⟨k % 2816, Nat.mod_lt _ (by omega)⟩

variable (h : Fin 2048 → EReal) (wg wu : Fin 2048 → Fin 2816 → EReal) (wd : Fin 2816 → Fin 2048 → EReal)

/-- Hidden unit `k` of the row. -/
def hid (k : Fin 2816) : EReal := swi (∑ d : Fin 2048, h d * wg d k) (∑ d : Fin 2048, h d * wu d k)

/-- The row's output over the first `n` hidden units, -/
def part (n : ℕ) (l : Fin 2048) : EReal := ∑ k ∈ Finset.range n, hid h wg wu (unit k) * wd (unit k) l

/-- and over all of them. -/
def out (l : Fin 2048) : EReal := ∑ k : Fin 2816, hid h wg wu k * wd k l

theorem part_zero (l : Fin 2048) : part h wg wu wd 0 l = 0 := Finset.sum_range_zero _

/-- A step adds 256 of them. -/
theorem part_add (n : ℕ) (l : Fin 2048) :
    part h wg wu wd (n + 256) l = part h wg wu wd n l + ∑ q : Fin 256, hid h wg wu (unit (n + q.val)) * wd (unit (n + q.val)) l := by
  unfold part
  rw [Finset.sum_range_add, Finset.sum_range (n := 256)]

/-- Eleven steps make the whole. -/
theorem part_all (l : Fin 2048) : part h wg wu wd 2816 l = out h wg wu wd l := by
  unfold part out
  rw [Finset.sum_range]
  exact Finset.sum_congr rfl fun k _ => by rw [show unit k.val = k from Fin.ext (Nat.mod_eq_of_lt k.isLt)]

end Cert.MoeSpec

end
-- ==== Proof.MoeBlocks.lean ====
/- The blocks the experts' kernel works on at a point of a tile in use, read off the argument arrays. -/
module

public import proofs.«01_k».proof.Proof.MoeTables
public import proofs.«01_k».proof.Proof.MoeSpec
public import Idealize.ShloMosaic.Lib.Pipeline.ValueKit
public import Idealize.ShloMosaic.Lib.Pointwise

@[expose] public section

set_option maxRecDepth 16384

noncomputable section

namespace Cert.MoeIdeal.Val

open Cert.MoeIdeal Cert.MoeIdeal.Gen Cert.MoeIdeal.Hand Idealize.ShloMosaic Idealize.ShloMosaic.TcCoe Idealize.SL.Sem

variable (m : (ℓ : Loc nD τ sig) → Buf (Elt Ideal) ℓ) (c : Dev nD)

/-- The dispatched rows. -/
def ax (i : Fin 20480) (l : Fin 2048) : EReal := m ((c : Thread nD τ).loc main_arg2) (ix2 i l)
/-- The norm's gain. -/
def ag (l : Fin 2048) : EReal := m ((c : Thread nD τ).loc main_arg3) (ix2 0 l)
/-- The experts' gate weights. -/
def awg (e : Fin 8) (d : Fin 2048) (k : Fin 2816) : EReal := m ((c : Thread nD τ).loc main_arg4) (ix3 e d k)
/-- The experts' up projections. -/
def awu (e : Fin 8) (d : Fin 2048) (k : Fin 2816) : EReal := m ((c : Thread nD τ).loc main_arg5) (ix3 e d k)
/-- The experts' down projections. -/
def awd (e : Fin 8) (k : Fin 2816) (l : Fin 2048) : EReal := m ((c : Thread nD τ).loc main_arg6) (ix3 e k l)

/-- The tile of a point, -/
def tileOf (t : ℕ) : Fin 40 := ⟨t / 11 % 40, Nat.mod_lt _ (by omega)⟩
/-- a row of it, -/
def rowOf (t : ℕ) (r : Fin 512) : Fin 20480 := ⟨t / 11 % 40 * 512 + r.val, by have := r.isLt; omega⟩
/-- and its expert. -/
def exOf (k : Fin 40) : Fin 8 := ⟨(expertWord (tbl m) k).toNat % 8, Nat.mod_lt _ (by omega)⟩

variable (hO : Ok m) (hR : InRange (tbl m)) (t : Fin grid0.N)

theorem coord0 : (grid0.coords t 0) = tileOf t.val := by
  have ht : t.val < 440 := Nat.lt_of_lt_of_eq t.isLt N_0
  exact Fin.ext ((tile_val t).trans (Nat.mod_eq_of_lt (by omega)).symm)

theorem exOf_val (k : Fin 40) (hR : InRange (tbl m)) : (exOf m k).val = (expertWord (tbl m) k).toNat := Nat.mod_eq_of_lt (hR.expert k)

include hR in
/-- The block indices at a point of a tile in use. -/
theorem index_0 (hb : busy m t) : ((cfgM m hO).win 0).index t = ![t.val / 11, 0] := by
  have hb' := (busy_iff m hR t).mp hb
  refine (transform_0_eq (tbl m) hR (grid0.coords t)).trans ?_
  rw [tile_val, Nat.min_eq_left (by omega)]

theorem index_1 : ((cfgM m hO).win 1).index t = ![0, 0] := rfl

include hR in
theorem part_busy (hb : busy m t) : part (tbl m) (grid0.coords t) = t.val % 11 := by
  unfold Hand.part
  rw [tile_val, if_pos ((busy_iff m hR t).mp hb), step_val]

include hR in
theorem index_2 (hb : busy m t) : ((cfgM m hO).win 2).index t = ![(exOf m (tileOf t.val)).val, 0, t.val % 11] := by
  refine (transform_2_eq (tbl m) hR (grid0.coords t)).trans ?_
  rw [part_busy m hR t hb, exOf_val m _ hR, coord0]

include hR in
theorem index_3 (hb : busy m t) : ((cfgM m hO).win 3).index t = ![(exOf m (tileOf t.val)).val, 0, t.val % 11] := by
  refine (transform_3_eq (tbl m) hR (grid0.coords t)).trans ?_
  rw [part_busy m hR t hb, exOf_val m _ hR, coord0]

include hR in
theorem index_4 (hb : busy m t) : ((cfgM m hO).win 4).index t = ![(exOf m (tileOf t.val)).val, t.val % 11, 0] := by
  refine (transform_4_eq (tbl m) hR (grid0.coords t)).trans ?_
  rw [part_busy m hR t hb, exOf_val m _ hR, coord0]

theorem index_5 : ((cfgM m hO).win 5).index t = ![t.val / 11, 0] := by
  have ht : t.val < 440 := Nat.lt_of_lt_of_eq t.isLt N_0
  show ![(BitVec.ofNat 32 (grid0.coords t 0).val).toNat, 0] = _
  rw [tile_val, BitVec.toNat_ofNat, Nat.mod_eq_of_lt (by omega)]

include hR in
/-- A point's rows. -/
theorem b0 (hb : busy m t) (r : Fin 512) (l : Fin 2048) : iblk m hO c 0 t (ix2 r l) = ax m c (rowOf t.val r) l := by
  have ht : t.val < 440 := Nat.lt_of_lt_of_eq t.isLt N_0
  have e := index_0 m hO hR t hb
  unfold ax rowOf
  blk_ext [iblk, V, e]

/-- The gain. -/
theorem b1 (l : Fin 2048) : iblk m hO c 1 t (ix2 0 l) = ag m c l := by
  have e := index_1 m hO t
  unfold ag
  blk_ext! [iblk, V, e]

include hR in
/-- A point's columns of its expert's gate weights. -/
theorem b2 (hb : busy m t) (d : Fin 2048) (q : Fin 256) :
    iblk m hO c 2 t (ix3 0 d q) = awg m c (exOf m (tileOf t.val)) d (Cert.MoeSpec.unit (256 * (t.val % 11) + q.val)) := by
  have hq := q.isLt
  have e := index_2 m hO hR t hb
  unfold awg Cert.MoeSpec.unit
  blk_ext [iblk, V, e]

include hR in
/-- A point's columns of its expert's up projection. -/
theorem b3 (hb : busy m t) (d : Fin 2048) (q : Fin 256) :
    iblk m hO c 3 t (ix3 0 d q) = awu m c (exOf m (tileOf t.val)) d (Cert.MoeSpec.unit (256 * (t.val % 11) + q.val)) := by
  have hq := q.isLt
  have e := index_3 m hO hR t hb
  unfold awu Cert.MoeSpec.unit
  blk_ext [iblk, V, e]

include hR in
/-- A point's rows of its expert's down projection. -/
theorem b4 (hb : busy m t) (q : Fin 256) (l : Fin 2048) :
    iblk m hO c 4 t (ix3 0 q l) = awd m c (exOf m (tileOf t.val)) (Cert.MoeSpec.unit (256 * (t.val % 11) + q.val)) l := by
  have hq := q.isLt
  have e := index_4 m hO hR t hb
  unfold awd Cert.MoeSpec.unit
  blk_ext [iblk, V, e]

end Cert.MoeIdeal.Val

end
-- ==== Proof.MoeBody.lean ====
/- What the experts' kernel stores, over the extended reals: the normalised rows, and the running sum with a part of 256 hidden
   units added. -/
module

public import proofs.«01_k».proof.Proof.MoeFrame
public import proofs.«01_k».proof.Proof.FfnSpec
public import Idealize.ShloMosaic.Lib.Pipeline.ValueKit
public import Idealize.ShloMosaic.Lib.Pointwise

@[expose] public section

set_option maxRecDepth 16384

noncomputable section

namespace Cert.MoeIdeal.Val

open Cert.MoeIdeal Cert.MoeIdeal.Gen Idealize.ShloMosaic Idealize.ShloMosaic.TcCoe Idealize.SL.Sem
open Cert.FfnSpec (swi normed)

/-- The sum after a step, from its blocks and the sum before. -/
def accBlk (h : Vec Ideal S512x2048 .bf16) (x2 x3 : Vec Ideal S1x2048x256 .bf16) (x4 : Vec Ideal S1x256x2048 .bf16)
    (acc : Vec Ideal S512x2048 .f32) : Vec Ideal S512x2048 .f32 := fun j =>
  acc (ix2 (j 0) (j 1)) + ∑ q : Fin 256, swi (∑ d : Fin 2048, h (ix2 (j 0) d) * x2 (ix3 0 d q)) (∑ d : Fin 2048, h (ix2 (j 0) d) * x3 (ix3 0 d q)) * x4 (ix3 0 q (j 1))

/-- The normalised rows. -/
def normBlk (y : Vec Ideal S512x2048 .f32) (g : Vec Ideal S1x2048 .f32) : Vec Ideal S512x2048 .bf16 := fun j =>
  normed (fun l => y (ix2 (j 0) l)) (g (ix2 0 (j 1))) (j 1)

/-- The first step's rows. -/
theorem pay1_eq (x0 : Vec Ideal S512x2048 .f32) (x1 : Vec Ideal S1x2048 .f32) : k0_pay1 (F := Ideal) x0 x1 = normBlk x0 x1 := by
  funext y
  idx_vars y
  unfold_payloads
  pointwise [normBlk, normed]

/-- The cleared sum is zero. -/
theorem pay2_eq : k0_pay2 (F := Ideal) = fun _ => 0 := by
  funext y
  pointwise [k0_pay2]

/-- A step's sum. -/
theorem pay3_eq (h : Vec Ideal S512x2048 .bf16) (x2 x3 : Vec Ideal S1x2048x256 .bf16) (x4 : Vec Ideal S1x256x2048 .bf16)
    (acc : Vec Ideal S512x2048 .f32) : k0_pay3 (F := Ideal) h x2 x3 acc x4 = accBlk h x2 x3 x4 acc := by
  funext y
  idx_vars y
  unfold_payloads
  pointwise [accBlk, swi, zero_sub]

/-- A tile out of use is cleared to zero. -/
theorem pay4_eq : k0_pay4 (F := Ideal) = fun _ => 0 := by
  funext y
  pointwise [k0_pay4]

end Cert.MoeIdeal.Val

end
-- ==== Proof.MoeKernel.lean ====
/- The result of the experts' kernel: by induction over the points of a tile in use, the scratch buffers hold the tile's normalised
   rows and their sum over the hidden units visited so far; the tile's last point writes the whole sum back, and a tile out of use
   is written back as zeros. -/
module

public import proofs.«01_k».proof.Proof.MoeBlocks
public import proofs.«01_k».proof.Proof.MoeBody
public import proofs.«01_k».proof.Proof.MoeLaunch

@[expose] public section

set_option maxRecDepth 16384

noncomputable section

namespace Cert.MoeIdeal.Val

open Cert.MoeIdeal Cert.MoeIdeal.Gen Cert.MoeIdeal.Hand Idealize.ShloMosaic Idealize.ShloMosaic.TcCoe Idealize.SL.Sem
open Cert.FfnSpec (swi normed)

variable (m : (ℓ : Loc nD τ sig) → Buf (Elt Ideal) ℓ) (c : Dev nD)
variable (hO : Ok m) (hR : InRange (tbl m)) (t : Fin (cfgM m hO).N)

theorem lt440 : t.val < 440 := Nat.lt_of_lt_of_eq t.isLt N_0

/-- A row's normalised entries. -/
abbrev hrow (i : Fin 20480) (d : Fin 2048) : EReal := normed (ax m c i) (ag m c d) d

/-- The normalised rows of the tile of point `t`. -/
def normAt (t : ℕ) : Vec Ideal S512x2048 .bf16 := fun j => hrow m c (rowOf t (j 0)) (j 1)

/-- Their sums over the first `256 f` hidden units of the tile's expert. -/
def accAt (t f : ℕ) : Vec Ideal S512x2048 .f32 := fun j =>
  Cert.MoeSpec.part (hrow m c (rowOf t (j 0))) (awg m c (exOf m (tileOf t))) (awu m c (exOf m (tileOf t))) (awd m c (exOf m (tileOf t)))
    (256 * f) (j 1)

theorem rowOf_congr (s t : ℕ) (h : s / 11 = t / 11) (r : Fin 512) : rowOf s r = rowOf t r := by
  unfold rowOf; rw [Fin.mk.injEq, h]

theorem tileOf_congr (s t : ℕ) (h : s / 11 = t / 11) : tileOf s = tileOf t := by
  unfold tileOf; rw [Fin.mk.injEq, h]

theorem normAt_congr (s t : ℕ) (h : s / 11 = t / 11) : normAt m c s = normAt m c t := by
  funext j; exact congrArg (fun i => hrow m c i (j 1)) (rowOf_congr s t h (j 0))

theorem accAt_congr (s t : ℕ) (h : s / 11 = t / 11) (f : ℕ) : accAt m c s f = accAt m c t f := by
  funext j
  exact congrArg₂ (fun i k => Cert.MoeSpec.part (hrow m c i) (awg m c (exOf m k)) (awu m c (exOf m k)) (awd m c (exOf m k)) (256 * f) (j 1))
    (rowOf_congr s t h (j 0)) (tileOf_congr s t h)

include hR in
/-- The first step's rows are the tile's. -/
theorem norm_eq (hb : busy m t) : k0_pay1 (F := Ideal) (iblk m hO c 0 t) (iblk m hO c 1 t) = normAt m c t.val := by
  refine (pay1_eq (iblk m hO c 0 t) (iblk m hO c 1 t)).trans ?_
  funext j
  idx_vars j
  show normed (fun l => iblk m hO c 0 t (ix2 j0 l)) (iblk m hO c 1 t (ix2 0 j1)) j1 = normed (ax m c (rowOf t.val j0)) (ag m c j1) j1
  rw [b1 m c hO t j1]
  exact congrArg (fun f => normed f (ag m c j1) j1) (funext fun l => b0 m c hO hR t hb j0 l)

include hR in
/-- A step of a tile in use continues its sum. -/
theorem acc_eq (hb : busy m t) :
    k0_pay3 (F := Ideal) (normAt m c t.val) (iblk m hO c 2 t) (iblk m hO c 3 t) (accAt m c t.val (t.val % 11)) (iblk m hO c 4 t)
      = accAt m c t.val (t.val % 11 + 1) := by
  refine (pay3_eq (normAt m c t.val) (iblk m hO c 2 t) (iblk m hO c 3 t) (iblk m hO c 4 t) (accAt m c t.val (t.val % 11))).trans ?_
  funext j
  idx_vars j
  refine Eq.trans ?_ (Cert.MoeSpec.part_add _ _ _ _ (256 * (t.val % 11)) j1).symm
  refine congrArg₂ (fun a b : EReal => a + b) rfl (Finset.sum_congr rfl fun q _ => ?_)
  refine congrArg₂ (fun a b : EReal => a * b) (congrArg₂ swi ?_ ?_) (b4 m c hO hR t hb q j1)
  · exact Finset.sum_congr rfl fun d _ => congrArg₂ (fun a b : EReal => a * b) rfl (b2 m c hO hR t hb d q)
  · exact Finset.sum_congr rfl fun d _ => congrArg₂ (fun a b : EReal => a * b) rfl (b3 m c hO hR t hb d q)

include hR in
/-- The scratch buffers after a point of a tile in use. -/
theorem left_busy (n : ℕ) (hn : n < (cfgM m hO).N) (hb : busy m ⟨n, hn⟩) :
    (left m hO c n hn).2 = (normAt m c n, accAt m c n (n % 11 + 1)) := by
  induction n with
  | zero =>
    rw [left_first m hO c ⟨0, hn⟩ hb rfl, norm_eq m c hO hR ⟨0, hn⟩ hb, ← acc_eq m c hO hR ⟨0, hn⟩ hb, pay2_eq]
    refine congrArg (fun a => (_, k0_pay3 _ _ _ a _)) ?_
    funext j
    exact (Cert.MoeSpec.part_zero _ _ _ _ _).symm
  | succ n ih =>
    by_cases h0 : (n + 1) % 11 = 0
    · rw [left_first m hO c ⟨n + 1, hn⟩ hb h0, norm_eq m c hO hR ⟨n + 1, hn⟩ hb, ← acc_eq m c hO hR ⟨n + 1, hn⟩ hb, pay2_eq]
      refine congrArg (fun a => (_, k0_pay3 _ _ _ a _)) ?_
      funext j
      show _ = Cert.MoeSpec.part _ _ _ _ (256 * ((n + 1) % 11)) _
      rw [h0]
      exact (Cert.MoeSpec.part_zero _ _ _ _ _).symm
    · have hs : n / 11 = (n + 1) / 11 := by omega
      rw [left_next m hO c ⟨n + 1, hn⟩ hb h0]
      dsimp only
      rw [show (left m hO c (n + 1 - 1) _).2 = _ from ih _ ((busy_congr m hs).mpr hb)]
      dsimp only
      rw [normAt_congr m c n (n + 1) hs, accAt_congr m c n (n + 1) hs, show n % 11 + 1 = (n + 1) % 11 from by omega]
      exact congrArg (fun a => (normAt m c (n + 1), a)) (acc_eq m c hO hR ⟨n + 1, hn⟩ hb)

/-- The result: a row of a tile in use is its expert's output, another row is zero. -/
def res (i : Fin 20480) (l : Fin 2048) : EReal :=
  if i.val / 512 < (usedWord (tbl m)).toNat then
    Cert.MoeSpec.out (hrow m c i) (awg m c (exOf m ⟨i.val / 512, by omega⟩)) (awu m c (exOf m ⟨i.val / 512, by omega⟩))
      (awd m c (exOf m ⟨i.val / 512, by omega⟩)) l
  else 0

include hR in
/-- What the last point of a tile writes back. -/
theorem out_last (h1 : t.val % 11 = 10) (r : Fin 512) (l : Fin 2048) :
    (left m hO c t.val t.isLt).1 (ix2 r l) = res m c (rowOf t.val r) l := by
  have ht := lt440 m hO t
  have hr := r.isLt
  have hv : (rowOf t.val r).val / 512 = t.val / 11 := by
    show (t.val / 11 % 40 * 512 + r.val) / 512 = t.val / 11
    omega
  have hk : (⟨(rowOf t.val r).val / 512, by have := (rowOf t.val r).isLt; omega⟩ : Fin 40) = tileOf t.val :=
    Fin.ext (hv.trans (Nat.mod_eq_of_lt (by omega)).symm)
  unfold res
  rw [hk, hv]
  by_cases hb : busy m t
  · rw [if_pos ((busy_iff m hR t).mp hb)]
    have e : (left m hO c t.val t.isLt).1 = (left m hO c t.val t.isLt).2.2 := by
      rw [left_next m hO c t hb (by omega)]
    rw [e, left_busy m c hO hR t.val t.isLt hb]
    show Cert.MoeSpec.part _ _ _ _ (256 * (t.val % 11 + 1)) l = _
    rw [h1]
    exact Cert.MoeSpec.part_all _ _ _ _ l
  · rw [if_neg fun h => hb ((busy_iff m hR t).mpr h), left_out m hO c t hb, pay4_eq]

/-- The result array. -/
def arr : Buf (Elt Ideal) ((c : Thread nD τ).loc main_v0) := fun i => res m c (i 0) (i 1)

/-- Every block of the result is written back, whole. -/
theorem covers5 : ((cfgM m hO).win 5).Covers := by
  refine ⟨fun a : Fin 2 => by fin_cases a <;> exact Nat.zero_lt_succ _, fun β => ?_⟩
  have h0 : (β (0 : Fin 2)).val < 40 := lt_of_lt_of_eq (β (0 : Fin 2)).isLt (show (20480 + 512 - 1) / 512 = 40 by decide)
  have h1 : (β (1 : Fin 2)).val < 1 := lt_of_lt_of_eq (β (1 : Fin 2)).isLt (show (2048 + 2048 - 1) / 2048 = 1 by decide)
  refine ⟨⟨11 * (β (0 : Fin 2)).val + 10, Nat.lt_of_lt_of_eq (by omega : _ < 440) N_0.symm⟩,
    (flush5 (adm m hO) _).mpr (by show (11 * (β (0 : Fin 2)).val + 10) % 11 = 10; omega), ?_⟩
  rw [index_5 m hO]
  refine (fun a : Fin 2 => ?_)
  fin_cases a
  · exact ⟨by show (11 * (β (0 : Fin 2)).val + 10) / 11 = (β (0 : Fin 2)).val; omega, .inl rfl⟩
  · exact ⟨by show 0 = (β (1 : Fin 2)).val; omega, .inl rfl⟩

include hR in
/-- The kernel leaves it. -/
theorem final5 : (dats m hO 0 c).arrAt 5 (cfgM m hO).N = arr m c := by
  refine (dats m hO 0 c).arrAt_eq_of_covers 5 _ (covers5 m hO) fun t hf (z : S512x2048.Idx) => ?_
  have ht := lt440 m hO t
  have h1 : t.val % 11 = 10 := (flush5 (adm m hO) t).mp hf
  have hi := index_5 m hO t
  blk_simp
  rw [after_5]
  idx_vars z
  refine (out_last m c hO hR t h1 z0 z1).trans (congrArg (arr m c) (a₁ := ix2 (rowOf t.val z0) z1) (Eq.symm ?_))
  unfold rowOf
  blk_ext [hi]

end Cert.MoeIdeal.Val

end
-- ==== Proof.MoeRef.lean ====
/- The reference of the experts' layer read off at one element: the table part of its term (whose row is in a tile in use, in the
   hands of which expert), as a test on the row's tile. -/
module

public import proofs.«01_k».proof.Proof.Gen.MoeRefIdeal.Run
public import proofs.«01_k».proof.Proof.MoeSpec
public import Idealize.ShloMosaic.Lib.Pipeline.ValueKit
public import Idealize.ShloMosaic.Lib.Pointwise

@[expose] public section

set_option maxRecDepth 16384

noncomputable section

namespace Cert.MoeRefIdeal.Val

open Cert.MoeRefIdeal Cert.MoeRefIdeal.Gen Cert.MoeRefIdeal.Value Idealize.ShloMosaic Idealize.ShloMosaic.TcCoe Idealize.SL.Sem

/-- The quotient of a row's number by the tile's height, as words. -/
theorem div_row (n : ℕ) (hn : n < 20480) : IntOp.divsi .host (BitVec.ofNat 32 n) 512#32 = BitVec.ofNat 32 (n / 512) := by
  unfold IntOp.divsi
  rw [if_neg (by simp [IntOp.SDivCorner])]
  rw [BitVec.sdiv_eq, show (BitVec.ofNat 32 n).msb = false from ?_, show (512#32).msb = false from rfl]
  · apply BitVec.eq_of_toNat_eq
    rw [BitVec.udiv_eq, BitVec.toNat_udiv, BitVec.toNat_ofNat, BitVec.toNat_ofNat, BitVec.toNat_ofNat, Nat.mod_eq_of_lt (by omega : n < 2 ^ 32),
      Nat.mod_eq_of_lt (by omega : n / 512 < 2 ^ 32)]
  · rw [BitVec.msb_eq_decide, BitVec.toNat_ofNat]
    simp only [decide_eq_false_iff_not]
    omega

/-- A row in the first tile's first place has no remainder. -/
theorem rem_zero : IntOp.remsi .host (BitVec.ofNat 32 0) 512#32 = 0#32 := by
  unfold IntOp.remsi
  rw [if_neg (by simp [IntOp.SDivCorner])]
  decide

/-- The rounding downwards of the quotient changes nothing: rows are numbered from zero. -/
theorem floor_row (n : ℕ) (hn : n < 20480) (s : BitVec 32) (hs : s = if BitVec.ofNat 32 n = 0 then 0 else if (BitVec.ofNat 32 n).msb then -1 else 1) :
    IntOp.andi (IntOp.cmpi .ne s 1#32) (IntOp.cmpi .ne (IntOp.remsi .host (BitVec.ofNat 32 n) 512#32) 0#32) = 0#1 := by
  subst hs
  by_cases h0 : n = 0
  · subst h0
    rw [rem_zero]
    decide
  · have h1 : ¬BitVec.ofNat 32 n = 0 := fun h => h0 (by
      have e : n % 2 ^ 32 = 0 := (BitVec.toNat_ofNat n 32).symm.trans (congrArg BitVec.toNat h)
      omega)
    have h2 : (BitVec.ofNat 32 n).msb = false := by
      rw [BitVec.msb_eq_decide, BitVec.toNat_ofNat]
      simp only [decide_eq_false_iff_not]
      omega
    rw [if_neg h1, h2]
    generalize IntOp.cmpi .ne (IntOp.remsi .host (BitVec.ofNat 32 n) 512#32) 0#32 = b
    revert b; decide

variable (te : IVec S40 32) (nu : IVec S1 32)

/-- The tile of every row, as the reference computes it. -/
def tileWords : IVec S20480 32 :=
  select (andi (cmpi .ne (signi (iotaInDim S20480 32 0)) (broadcastInDim S20480 ![] bcast_S_S20480 (signi (id (constantI S_ 32 512#32))))) (cmpi .ne (Host.remsi (iotaInDim S20480 32 0) (broadcastInDim S20480 ![] bcast_S_S20480 (id (constantI S_ 32 512#32)))) (broadcastInDim S20480 ![] bcast_S_S20480 (constantI S_ 32 0#32)))) (subi (Host.divsi (iotaInDim S20480 32 0) (broadcastInDim S20480 ![] bcast_S_S20480 (id (constantI S_ 32 512#32)))) (broadcastInDim S20480 ![] bcast_S_S20480 (constantI S_ 32 1#32))) (Host.divsi (iotaInDim S20480 32 0) (broadcastInDim S20480 ![] bcast_S_S20480 (id (constantI S_ 32 512#32))))

theorem tileWords_at (i : Fin 20480) : tileWords (ix1 i) = BitVec.ofNat 32 (i.val / 512) := by
  rw [← div_row i.val i.isLt]
  unfold tileWords
  show Scalar.select (IntOp.andi (IntOp.cmpi .ne (if BitVec.ofNat 32 i.val = 0 then 0 else if (BitVec.ofNat 32 i.val).msb then -1 else 1) (if (512#32) = 0 then 0 else if (512#32).msb then -1 else 1)) (IntOp.cmpi .ne (IntOp.remsi .host (BitVec.ofNat 32 i.val) 512#32) 0#32)) _ _ = _
  rw [show (if (512#32) = 0 then (0 : BitVec 32) else if (512#32).msb then -1 else 1) = 1#32 from by decide, floor_row i.val i.isLt _ rfl]
  rfl

/-- The expert of every row, as the reference computes it. -/
def rowWords : IVec S20480 32 := shapeCast _ (broadcastInDim S40x512 ![0] bcast_S40_S40x512_0 te) shapeCasts_S40x512_S20480

theorem rowWords_at (i : Fin 20480) : rowWords te (ix1 i) = te (ix1 ⟨i.val / 512, by omega⟩) := by
  unfold rowWords
  pointwise []

/-- Whether a row is in an expert's hands, as the reference computes it. -/
def mine : IVec S8x20480 1 :=
  andi (cmpi .eq (broadcastInDim S8x20480 ![0, 1] bcast_S1x20480_S8x20480_0_1 (broadcastInDim S1x20480 ![1] bcast_S20480_S1x20480_1 (rowWords te))) (broadcastInDim S8x20480 ![0, 1] bcast_S8x1_S8x20480_0_1 (broadcastInDim S8x1 ![0] bcast_S8_S8x1_0 (iotaInDim S8 32 0)))) (broadcastInDim S8x20480 ![0, 1] bcast_S1x20480_S8x20480_0_1 (broadcastInDim S1x20480 ![1] bcast_S20480_S1x20480_1 (cmpi .slt tileWords (broadcastInDim S20480 ![] bcast_S_S20480 (shapeCast _ nu shapeCasts_S1_S_)))))

theorem mine_at (e : Fin 8) (i : Fin 20480) :
    mine te nu (ix2 e i) = IntOp.andi (IntOp.cmpi .eq (te (ix1 ⟨i.val / 512, by omega⟩)) (BitVec.ofNat 32 e.val)) (IntOp.cmpi .slt (BitVec.ofNat 32 (i.val / 512)) (nu (ix1 0))) := by
  unfold mine
  rw [← rowWords_at te i, ← tileWords_at i]
  pointwise []

variable (x : FVec Ideal S20480x2048 .f32) (g : FVec Ideal S1x2048 .f32) (wg wu : FVec Ideal S8x2048x2816 .bf16) (wd : FVec Ideal S8x2816x2048 .bf16)

/-- The reference's outputs of every row in every expert's hands. -/
def ys : FVec Ideal S8x20480x2048 .f32 := Host.dotGeneral dot_S8x20480x2816_S8x2816x2048_S8x20480x2048_2_1_1_2_0_0 none (mulf (mulf (transpose S8x20480x2816 [0, 2, 1] (Host.dotGeneral dot_S8x2048x2816_S20480x2048_S8x2816x20480_1_1_02_0_n_n none (extf .f32 wg bitsLt_bf16_f32) (mulf (mulf x (broadcastInDim S20480x2048 ![0, 1] bcast_S20480x1_S20480x2048_0_1 (Host.rsqrt (addf (Host.divf (broadcastInDim S20480x1 ![0] bcast_S20480_S20480x1_0 (Host.reduceAdd (mulf x x) (constant S_ .f32 0x00000000#32) reducesTo_S20480x2048_S20480_d1 h_S_)) (broadcastInDim S20480x1 ![] bcast_S_S20480x1 (constant S_ .f32 0x45000000#32))) (broadcastInDim S20480x1 ![] bcast_S_S20480x1 (constant S_ .f32 0x358637BD#32)))))) (broadcastInDim S20480x2048 ![0, 1] bcast_S1x2048_S20480x2048_0_1 g))) transposes_S8x2816x20480_S8x20480x2816_0_2_1) (Host.divf (broadcastInDim S8x20480x2816 ![] bcast_S_S8x20480x2816 (constant S_ .f32 0x3F800000#32)) (addf (broadcastInDim S8x20480x2816 ![] bcast_S_S8x20480x2816 (constant S_ .f32 0x3F800000#32)) (Host.exp (Host.negf (transpose S8x20480x2816 [0, 2, 1] (Host.dotGeneral dot_S8x2048x2816_S20480x2048_S8x2816x20480_1_1_02_0_n_n none (extf .f32 wg bitsLt_bf16_f32) (mulf (mulf x (broadcastInDim S20480x2048 ![0, 1] bcast_S20480x1_S20480x2048_0_1 (Host.rsqrt (addf (Host.divf (broadcastInDim S20480x1 ![0] bcast_S20480_S20480x1_0 (Host.reduceAdd (mulf x x) (constant S_ .f32 0x00000000#32) reducesTo_S20480x2048_S20480_d1 h_S_)) (broadcastInDim S20480x1 ![] bcast_S_S20480x1 (constant S_ .f32 0x45000000#32))) (broadcastInDim S20480x1 ![] bcast_S_S20480x1 (constant S_ .f32 0x358637BD#32)))))) (broadcastInDim S20480x2048 ![0, 1] bcast_S1x2048_S20480x2048_0_1 g))) transposes_S8x2816x20480_S8x20480x2816_0_2_1)))))) (transpose S8x20480x2816 [0, 2, 1] (Host.dotGeneral dot_S8x2048x2816_S20480x2048_S8x2816x20480_1_1_02_0_n_n none (extf .f32 wu bitsLt_bf16_f32) (mulf (mulf x (broadcastInDim S20480x2048 ![0, 1] bcast_S20480x1_S20480x2048_0_1 (Host.rsqrt (addf (Host.divf (broadcastInDim S20480x1 ![0] bcast_S20480_S20480x1_0 (Host.reduceAdd (mulf x x) (constant S_ .f32 0x00000000#32) reducesTo_S20480x2048_S20480_d1 h_S_)) (broadcastInDim S20480x1 ![] bcast_S_S20480x1 (constant S_ .f32 0x45000000#32))) (broadcastInDim S20480x1 ![] bcast_S_S20480x1 (constant S_ .f32 0x358637BD#32)))))) (broadcastInDim S20480x2048 ![0, 1] bcast_S1x2048_S20480x2048_0_1 g))) transposes_S8x2816x20480_S8x20480x2816_0_2_1)) (extf .f32 wd bitsLt_bf16_f32)

open Cert.FfnSpec (swi normed)

theorem ys_at (e : Fin 8) (i : Fin 20480) (l : Fin 2048) :
    ys x g wg wu wd (ix3 e i l) = Cert.MoeSpec.out (fun d => normed (fun q => x (ix2 i q)) (g (ix2 0 d)) d) (fun d k => wg (ix3 e d k)) (fun d k => wu (ix3 e d k))
      (fun k l => wd (ix3 e k l)) l := by
  unfold ys
  pointwise [Cert.MoeSpec.out, Cert.MoeSpec.hid, swi, normed]
  simp only [mul_comm (G := EReal) (wg _), mul_comm (G := EReal) (wu _)]

/-- The reference's result at one element: what the experts give, for the one the row belongs to. -/
theorem res_at (m : (ℓ : Loc nD τ sig) → Buf (Elt Ideal) ℓ) (c : Dev nD) (i : Fin 20480) (l : Fin 2048) :
    res_out0 m c (ix2 i l) = ∑ e : Fin 8, Scalar.select (mine (m ((c.tc : Thread nD τ).loc main_arg0)) (m ((c.tc : Thread nD τ).loc main_arg1)) (ix2 e i))
      (ys (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (ix3 e i l)) (0 : EReal) := by
  show Host.reduceAdd (select (broadcastInDim S8x20480x2048 ![0, 1, 2] bcast_S8x20480x1_S8x20480x2048_0_1_2 (broadcastInDim S8x20480x1 ![0, 1] bcast_S8x20480_S8x20480x1_0_1 (mine (m ((c.tc : Thread nD τ).loc main_arg0)) (m ((c.tc : Thread nD τ).loc main_arg1)))))
      (ys (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (broadcastInDim S8x20480x2048 ![] bcast_S_S8x20480x2048 (constant S_ .f32 0x00000000#32))) (constant S_ .f32 0x00000000#32) reducesTo_S8x20480x2048_S20480x2048_d0 h_S_ (ix2 i l) = _
  generalize mine _ _ = p
  generalize ys _ _ _ _ _ = y
  pointwise []

end Cert.MoeRefIdeal.Val

end
-- ==== Proof.MoeClaim.lean ====
/- The experts' layer: kernel and reference compute the same array over the extended reals. -/
module

public import proofs.«01_k».proof.Proof.MoeFrameClaim
public import proofs.«01_k».proof.Proof.MoeKernel
public import proofs.«01_k».proof.Proof.MoeRef

@[expose] public section

set_option maxRecDepth 16384

noncomputable section

namespace Cert.MoeClaim

open Idealize.ShloMosaic Idealize.ShloMosaic.TcCoe Idealize.SL.Sem
open Cert.MoeIdeal.Val Cert.MoeIdeal.Hand

/-- The reference's test that an expert has a row, in numbers. -/
theorem mine_iff (w u : BitVec 32) (k : ℕ) (hk : k < 40) (e : Fin 8) (hu : u.toNat < 2 ^ 31) (hw : w.toNat < 8) :
    IntOp.andi (IntOp.cmpi .eq w (BitVec.ofNat 32 e.val)) (IntOp.cmpi .slt (BitVec.ofNat 32 k) u) = 1#1 ↔ e.val = w.toNat ∧ k < u.toNat := by
  have he := e.isLt
  have h1 : IntOp.cmpi .eq w (BitVec.ofNat 32 e.val) = BitVec.ofBool (decide (e.val = w.toNat)) := by
    show BitVec.ofBool (w == BitVec.ofNat 32 e.val) = _
    refine congrArg _ ?_
    rw [Bool.eq_iff_iff, beq_iff_eq, decide_eq_true_iff]
    constructor
    · intro h
      rw [h, BitVec.toNat_ofNat, Nat.mod_eq_of_lt (by omega)]
    · intro h
      exact BitVec.eq_of_toNat_eq (by rw [BitVec.toNat_ofNat, Nat.mod_eq_of_lt (by omega), h])
  have h2 : IntOp.cmpi .slt (BitVec.ofNat 32 k) u = BitVec.ofBool (decide (k < u.toNat)) := by
    show BitVec.ofBool ((BitVec.ofNat 32 k).slt u) = _
    refine congrArg _ ?_
    rw [BitVec.slt_eq_decide, BitVec.toInt_eq_toNat_cond, BitVec.toInt_eq_toNat_cond, BitVec.toNat_ofNat, Nat.mod_eq_of_lt (by omega : k < 2 ^ 32),
      if_pos (by omega), if_pos (by omega), decide_eq_decide]
    omega
  rw [h1, h2]
  by_cases a : e.val = w.toNat <;> by_cases b : k < u.toNat <;> simp [a, b, IntOp.andi]

/-- Of the sum over the experts, the one that has the row remains. -/
theorem sum_mine (p : Fin 8 → BitVec 1) (y : Fin 8 → EReal) (x : Fin 8) (q : Prop) [Decidable q] (h : ∀ e, p e = 1#1 ↔ e.val = x.val ∧ q) :
    ∑ e : Fin 8, Scalar.select (p e) (y e) (0 : EReal) = if q then y x else 0 := by
  by_cases hq : q
  · rw [if_pos hq]
    refine (Finset.sum_congr rfl fun e _ => ?_).trans (Finset.sum_ite_eq' Finset.univ x y |>.trans (if_pos (Finset.mem_univ x)))
    refine if_congr ((h e).trans ?_) rfl rfl
    exact ⟨fun a => Fin.ext a.1, fun a => ⟨congrArg Fin.val a, hq⟩⟩
  · rw [if_neg hq]
    exact Finset.sum_eq_zero fun e _ => if_neg fun a => hq ((h e).mp a).2

/-- Kernel and reference compute the same array over the extended reals. -/
theorem algebraic : Cert.algebraic_MoeIdeal_MoeRefIdeal (hMoeIdeal := Cert.MoeIdeal.Gen.facts) (hMoeRefIdeal := Cert.MoeRefIdeal.Gen.facts)
    (hPre_tables := Cert.Pre_tables.Gen.facts) := by
  intro m ρ m' ρ' hp hag
  have hR := inRange m hp
  have hO := ok_of_inRange _ hR
  refine ⟨fun c => arr m c,
    (θ_run _ _ _).mono (fun _ h c => ⟨(h.1 c).2.trans (final5 m c hO hR), (h.1 c).1⟩) (run_final m ρ hO (busy_zero m hR)),
    (θ_run _ _ _).mono (fun _ h c => ⟨(h c).1.trans ?_, (h c).2⟩) (Cert.MoeRefIdeal.Value.run (F := Ideal) m' ρ')⟩
  obtain ⟨e0, e1, e2, e3, e4, e5, e6⟩ := hag c
  funext i
  idx_vars i
  refine (Cert.MoeRefIdeal.Val.res_at m' c i0 i1).trans ?_
  rw [e0, e1, e2, e3, e4, e5, e6]
  have hk : i0.val / 512 < 40 := by have := i0.isLt; omega
  refine (sum_mine _ _ (exOf m ⟨i0.val / 512, hk⟩) (i0.val / 512 < (usedWord (tbl m)).toNat) fun e => ?_).trans ?_
  · rw [Cert.MoeRefIdeal.Val.mine_at, exOf_val m _ hR]
    obtain rfl : c = 0 := Fin.ext (Nat.lt_one_iff.mp c.isLt)
    exact mine_iff _ _ _ hk e hR.used_lt (hR.expert ⟨i0.val / 512, hk⟩)
  · refine if_congr Iff.rfl ?_ rfl
    exact Cert.MoeRefIdeal.Val.ys_at _ _ _ _ _ _ i0 i1

end Cert.MoeClaim

end
-- ==== Proof.InProjClaim.lean ====
module

public import proofs.«01_k».proof.Defs
public import proofs.«01_k».proof.Proof.Gen.InProjIdeal.Value
public import proofs.«01_k».proof.Proof.Gen.InProjRefIdeal.Run
public import Idealize.ShloMosaic.Lib.Pipeline.ReadBack
public import Idealize.ShloMosaic.Lib.Pipeline.ValueKit
public import Idealize.ShloMosaic.Lib.Pointwise
public import Idealize.ShloMosaic.Lib.Tactic.CleanTypes

/-! # The input projection: one product, computed tile by tile

Point `8 i + j` multiplies the rows `1024 i …` of the normalised input by the columns `1024 j …` of the weights. No sum
is split, so each tile of the result is the same sum that the reference takes. -/

@[expose] public section

set_option maxRecDepth 16384

noncomputable section

namespace Cert.InProjIdeal.Val

open Cert.InProjIdeal Cert.InProjIdeal.Gen Idealize.ShloMosaic Idealize.ShloMosaic.TcCoe Idealize.SL.Sem

/-- The tile that a point stores. -/
theorem tile (x0 : Vec Ideal S1024x2048 .bf16) (x1 : Vec Ideal S2048x1024 .bf16) :
    out0_2 (F := Ideal) x0 x1 = fun j => ∑ d : Fin 2048, x0 (ix2 (j 0) d) * x1 (ix2 d (j 1)) := by
  frame_out
  funext y
  idx_vars y
  unfold_payloads
  pointwise []

variable (m : (ℓ : Loc nD τ sig) → Buf (Elt Ideal) ℓ) (c : Dev nD)

/-- The normalised input. -/
def ah (i : Fin 8192) (d : Fin 2048) : EReal := m ((c : Thread nD τ).loc main_arg0) (ix2 i d)
/-- The weights. -/
def aw (d : Fin 2048) (k : Fin 8192) : EReal := m ((c : Thread nD τ).loc main_arg1) (ix2 d k)

/-- Row `r` of point `t`'s tile. -/
def rowOf (t : ℕ) (r : Fin 1024) : Fin 8192 := ⟨t / 8 % 8 * 1024 + r.val, by have := r.isLt; omega⟩
/-- Column `q` of point `t`'s tile. -/
def colOf (t : ℕ) (q : Fin 1024) : Fin 8192 := ⟨t % 8 * 1024 + q.val, by have := q.isLt; omega⟩

/-- The block indices of a point. -/
theorem idx : ∀ t : Fin cfg0.N, win0_0.index t = ![t.val / 8, 0] ∧ win0_1.index t = ![0, t.val % 8]
    ∧ win0_2.index t = ![t.val / 8, t.val % 8] :=
  (by decide +kernel : ∀ t : Fin grid0.N, _)

/-- A point's rows of the input. -/
theorem b0 (t : Fin cfg0.N) (r : Fin 1024) (d : Fin 2048) : iblk m c 0 t (ix2 r d) = ah m c (rowOf t.val r) d := by
  have ht := lt_of_lt_of_eq t.isLt (show cfg0.N = 64 from N_0)
  unfold ah rowOf
  blk_ext [iblk, V, idx t]

/-- A point's columns of the weights. -/
theorem b1 (t : Fin cfg0.N) (d : Fin 2048) (q : Fin 1024) : iblk m c 1 t (ix2 d q) = aw m c d (colOf t.val q) := by
  have ht := lt_of_lt_of_eq t.isLt (show cfg0.N = 64 from N_0)
  unfold aw colOf
  blk_ext [iblk, V, idx t]

/-- An entry of the product. -/
def prod (i k : Fin 8192) : EReal := ∑ d : Fin 2048, ah m c i d * aw m c d k

/-- The product. -/
def arr : Buf (Elt Ideal) ((c : Thread nD τ).loc main_v0) := fun i => prod m c (i 0) (i 1)

/-- The kernel leaves the product. -/
theorem final : (dats m 0 c).arrAt 2 cfg0.N = arr m c := by
  refine (dats m 0 c).arrAt_eq_of_covers 2 _ (by decide +kernel) fun t hf z => ?_
  have ht := lt_of_lt_of_eq t.isLt (show cfg0.N = 64 from N_0)
  blk_simp
  rw [after0_2, tile]
  idx_vars z
  have e : ((View.whole main_v0).slice (win0_2.rect t)).emb (ix2 z0 z1) = ix2 (rowOf t.val z0) (colOf t.val z1) := by
    unfold rowOf colOf
    blk_ext [idx t]
  rw [e]
  exact Finset.sum_congr rfl fun d _ => congrArg₂ (fun a b : EReal => a * b) (b0 m c t z0 d) (b1 m c t d z1)

end Cert.InProjIdeal.Val

namespace Cert.InProjClaim

open Idealize.ShloMosaic Idealize.ShloMosaic.TcCoe Idealize.SL.Sem
open Cert.InProjIdeal.Val

/-- The reference ends, keeps its arguments, and has no counter that could move. -/
theorem frame_ref : Cert.quiescent_InProjRefIdeal (hInProjRefIdeal := Cert.InProjRefIdeal.Gen.facts) := fun m ρ _ =>
  (θ_run Cert.InProjRefIdeal.defs _ _).mono (fun r h => ⟨fun c => (h c).2, sem_eq_zero_of_no_sems (by decide) r.2⟩)
    (Cert.InProjRefIdeal.Value.run (F := Ideal) m ρ)

/-- Kernel and reference compute the same product over the extended reals. -/
theorem algebraic : Cert.algebraic_InProjIdeal_InProjRefIdeal (hInProjIdeal := Cert.InProjIdeal.Gen.facts)
    (hInProjRefIdeal := Cert.InProjRefIdeal.Gen.facts) := by
  intro m ρ m' ρ' _ hag
  refine ⟨fun c => arr m c,
    (θ_run _ _ _).mono (fun _ h c => ⟨(h c).1.trans (final m c), (h c).2⟩) (Cert.InProjIdeal.Value.run_blocks (F := Ideal) m ρ),
    (θ_run _ _ _).mono (fun _ h c => ⟨(h c).1.trans ?_, (h c).2⟩) (Cert.InProjRefIdeal.Value.run (F := Ideal) m' ρ')⟩
  obtain ⟨e0, e1⟩ := hag c
  rw [e0, e1]
  funext i
  idx_vars i
  pointwise [arr, prod, ah, aw]

end Cert.InProjClaim

end
-- ==== Proof.SmallClaim.lean ====
module

public import proofs.«01_k».proof.Defs
public import proofs.«01_k».proof.Proof.Gen.SmallIdeal.Value
public import proofs.«01_k».proof.Proof.Gen.SmallRefIdeal.Run
public import Idealize.ShloMosaic.Lib.Pipeline.ReadBack
public import Idealize.ShloMosaic.Lib.Pipeline.ValueKit
public import Idealize.ShloMosaic.Lib.Pointwise
public import Idealize.ShloMosaic.Lib.Tactic.CleanTypes

/-! # The small input projection: one product of 128 columns, computed by row blocks

Point `i` multiplies the rows `1024 i …` of the normalised input by all the weights. -/

@[expose] public section

set_option maxRecDepth 16384

noncomputable section

namespace Cert.SmallIdeal.Val

open Cert.SmallIdeal Cert.SmallIdeal.Gen Idealize.ShloMosaic Idealize.ShloMosaic.TcCoe Idealize.SL.Sem

/-- The tile that a point stores. -/
theorem tile (x0 : Vec Ideal S1024x2048 .bf16) (x1 : Vec Ideal S2048x128 .bf16) :
    out0_2 (F := Ideal) x0 x1 = fun j => ∑ d : Fin 2048, x0 (ix2 (j 0) d) * x1 (ix2 d (j 1)) := by
  frame_out
  funext y
  idx_vars y
  unfold_payloads
  pointwise []

variable (m : (ℓ : Loc nD τ sig) → Buf (Elt Ideal) ℓ) (c : Dev nD)

/-- The normalised input. -/
def ah (i : Fin 8192) (d : Fin 2048) : EReal := m ((c : Thread nD τ).loc main_arg0) (ix2 i d)
/-- The weights. -/
def aw (d : Fin 2048) (k : Fin 128) : EReal := m ((c : Thread nD τ).loc main_arg1) (ix2 d k)

/-- Row `r` of point `t`'s tile. -/
def rowOf (t : ℕ) (r : Fin 1024) : Fin 8192 := ⟨t % 8 * 1024 + r.val, by have := r.isLt; omega⟩

/-- The block indices of a point. -/
theorem idx : ∀ t : Fin cfg0.N, win0_0.index t = ![t.val, 0] ∧ win0_1.index t = ![0, 0]
    ∧ win0_2.index t = ![t.val, 0] :=
  (by decide +kernel : ∀ t : Fin grid0.N, _)

/-- A point's rows of the input. -/
theorem b0 (t : Fin cfg0.N) (r : Fin 1024) (d : Fin 2048) : iblk m c 0 t (ix2 r d) = ah m c (rowOf t.val r) d := by
  have ht := lt_of_lt_of_eq t.isLt (show cfg0.N = 8 from N_0)
  unfold ah rowOf
  blk_ext [iblk, V, idx t]

/-- The weights. -/
theorem b1 (t : Fin cfg0.N) (d : Fin 2048) (q : Fin 128) : iblk m c 1 t (ix2 d q) = aw m c d q := by
  have ht := lt_of_lt_of_eq t.isLt (show cfg0.N = 8 from N_0)
  unfold aw
  blk_ext [iblk, V, idx t]

/-- An entry of the product. -/
def prod (i : Fin 8192) (k : Fin 128) : EReal := ∑ d : Fin 2048, ah m c i d * aw m c d k

/-- The product. -/
def arr : Buf (Elt Ideal) ((c : Thread nD τ).loc main_v0) := fun i => prod m c (i 0) (i 1)

/-- The kernel leaves the product. -/
theorem final : (dats m 0 c).arrAt 2 cfg0.N = arr m c := by
  refine (dats m 0 c).arrAt_eq_of_covers 2 _ (by decide +kernel) fun t hf z => ?_
  have ht := lt_of_lt_of_eq t.isLt (show cfg0.N = 8 from N_0)
  blk_simp
  rw [after0_2, tile]
  idx_vars z
  have e : ((View.whole main_v0).slice (win0_2.rect t)).emb (ix2 z0 z1) = ix2 (rowOf t.val z0) z1 := by
    unfold rowOf
    blk_ext [idx t]
  rw [e]
  exact Finset.sum_congr rfl fun d _ => congrArg₂ (fun a b : EReal => a * b) (b0 m c t z0 d) (b1 m c t d z1)

end Cert.SmallIdeal.Val

namespace Cert.SmallClaim

open Idealize.ShloMosaic Idealize.ShloMosaic.TcCoe Idealize.SL.Sem
open Cert.SmallIdeal.Val

/-- The reference ends, keeps its arguments, and has no counter that could move. -/
theorem frame_ref : Cert.quiescent_SmallRefIdeal (hSmallRefIdeal := Cert.SmallRefIdeal.Gen.facts) := fun m ρ _ =>
  (θ_run Cert.SmallRefIdeal.defs _ _).mono (fun r h => ⟨fun c => (h c).2, sem_eq_zero_of_no_sems (by decide) r.2⟩)
    (Cert.SmallRefIdeal.Value.run (F := Ideal) m ρ)

/-- Kernel and reference compute the same product over the extended reals. -/
theorem algebraic : Cert.algebraic_SmallIdeal_SmallRefIdeal (hSmallIdeal := Cert.SmallIdeal.Gen.facts)
    (hSmallRefIdeal := Cert.SmallRefIdeal.Gen.facts) := by
  intro m ρ m' ρ' _ hag
  refine ⟨fun c => arr m c,
    (θ_run _ _ _).mono (fun _ h c => ⟨(h c).1.trans (final m c), (h c).2⟩) (Cert.SmallIdeal.Value.run_blocks (F := Ideal) m ρ),
    (θ_run _ _ _).mono (fun _ h c => ⟨(h c).1.trans ?_, (h c).2⟩) (Cert.SmallRefIdeal.Value.run (F := Ideal) m' ρ')⟩
  obtain ⟨e0, e1⟩ := hag c
  rw [e0, e1]
  funext i
  idx_vars i
  pointwise [arr, prod, ah, aw]

end Cert.SmallClaim

end
-- ==== Proof.VProjClaim.lean ====
module

public import proofs.«01_k».proof.Defs
public import proofs.«01_k».proof.Proof.Gen.VProjIdeal.Value
public import proofs.«01_k».proof.Proof.Gen.VProjRefIdeal.Run
public import Idealize.ShloMosaic.Lib.Pipeline.ReadBack
public import Idealize.ShloMosaic.Lib.Pipeline.ValueKit
public import Idealize.ShloMosaic.Lib.Pointwise
public import Idealize.ShloMosaic.Lib.Tactic.CleanTypes

/-! # The value projection: one product, computed by row blocks

Point `i` multiplies the rows `512 i …` of the normalised input by all the weights. -/

@[expose] public section

set_option maxRecDepth 16384

noncomputable section

namespace Cert.VProjIdeal.Val

open Cert.VProjIdeal Cert.VProjIdeal.Gen Idealize.ShloMosaic Idealize.ShloMosaic.TcCoe Idealize.SL.Sem

/-- The tile that a point stores. -/
theorem tile (x0 : Vec Ideal S512x2048 .bf16) (x1 : Vec Ideal S2048x1024 .bf16) :
    out0_2 (F := Ideal) x0 x1 = fun j => ∑ d : Fin 2048, x0 (ix2 (j 0) d) * x1 (ix2 d (j 1)) := by
  frame_out
  funext y
  idx_vars y
  unfold_payloads
  pointwise []

variable (m : (ℓ : Loc nD τ sig) → Buf (Elt Ideal) ℓ) (c : Dev nD)

/-- The normalised input. -/
def ah (i : Fin 8192) (d : Fin 2048) : EReal := m ((c : Thread nD τ).loc main_arg0) (ix2 i d)
/-- The weights. -/
def aw (d : Fin 2048) (k : Fin 1024) : EReal := m ((c : Thread nD τ).loc main_arg1) (ix2 d k)

/-- Row `r` of point `t`'s tile. -/
def rowOf (t : ℕ) (r : Fin 512) : Fin 8192 := ⟨t % 16 * 512 + r.val, by have := r.isLt; omega⟩

/-- The block indices of a point. -/
theorem idx : ∀ t : Fin cfg0.N, win0_0.index t = ![t.val, 0] ∧ win0_1.index t = ![0, 0]
    ∧ win0_2.index t = ![t.val, 0] :=
  (by decide +kernel : ∀ t : Fin grid0.N, _)

/-- A point's rows of the input. -/
theorem b0 (t : Fin cfg0.N) (r : Fin 512) (d : Fin 2048) : iblk m c 0 t (ix2 r d) = ah m c (rowOf t.val r) d := by
  have ht := lt_of_lt_of_eq t.isLt (show cfg0.N = 16 from N_0)
  unfold ah rowOf
  blk_ext [iblk, V, idx t]

/-- The weights. -/
theorem b1 (t : Fin cfg0.N) (d : Fin 2048) (q : Fin 1024) : iblk m c 1 t (ix2 d q) = aw m c d q := by
  have ht := lt_of_lt_of_eq t.isLt (show cfg0.N = 16 from N_0)
  unfold aw
  blk_ext [iblk, V, idx t]

/-- An entry of the product. -/
def prod (i : Fin 8192) (k : Fin 1024) : EReal := ∑ d : Fin 2048, ah m c i d * aw m c d k

/-- The product. -/
def arr : Buf (Elt Ideal) ((c : Thread nD τ).loc main_v0) := fun i => prod m c (i 0) (i 1)

/-- The kernel leaves the product. -/
theorem final : (dats m 0 c).arrAt 2 cfg0.N = arr m c := by
  refine (dats m 0 c).arrAt_eq_of_covers 2 _ (by decide +kernel) fun t hf z => ?_
  have ht := lt_of_lt_of_eq t.isLt (show cfg0.N = 16 from N_0)
  blk_simp
  rw [after0_2, tile]
  idx_vars z
  have e : ((View.whole main_v0).slice (win0_2.rect t)).emb (ix2 z0 z1) = ix2 (rowOf t.val z0) z1 := by
    unfold rowOf
    blk_ext [idx t]
  rw [e]
  exact Finset.sum_congr rfl fun d _ => congrArg₂ (fun a b : EReal => a * b) (b0 m c t z0 d) (b1 m c t d z1)

end Cert.VProjIdeal.Val

namespace Cert.VProjClaim

open Idealize.ShloMosaic Idealize.ShloMosaic.TcCoe Idealize.SL.Sem
open Cert.VProjIdeal.Val

/-- The reference ends, keeps its arguments, and has no counter that could move. -/
theorem frame_ref : Cert.quiescent_VProjRefIdeal (hVProjRefIdeal := Cert.VProjRefIdeal.Gen.facts) := fun m ρ _ =>
  (θ_run Cert.VProjRefIdeal.defs _ _).mono (fun r h => ⟨fun c => (h c).2, sem_eq_zero_of_no_sems (by decide) r.2⟩)
    (Cert.VProjRefIdeal.Value.run (F := Ideal) m ρ)

/-- Kernel and reference compute the same product over the extended reals. -/
theorem algebraic : Cert.algebraic_VProjIdeal_VProjRefIdeal (hVProjIdeal := Cert.VProjIdeal.Gen.facts)
    (hVProjRefIdeal := Cert.VProjRefIdeal.Gen.facts) := by
  intro m ρ m' ρ' _ hag
  refine ⟨fun c => arr m c,
    (θ_run _ _ _).mono (fun _ h c => ⟨(h c).1.trans (final m c), (h c).2⟩) (Cert.VProjIdeal.Value.run_blocks (F := Ideal) m ρ),
    (θ_run _ _ _).mono (fun _ h c => ⟨(h c).1.trans ?_, (h c).2⟩) (Cert.VProjRefIdeal.Value.run (F := Ideal) m' ρ')⟩
  obtain ⟨e0, e1⟩ := hag c
  rw [e0, e1]
  funext i
  idx_vars i
  pointwise [arr, prod, ah, aw]

end Cert.VProjClaim

end
-- ==== Proof.MergeKernel.lean ====
module

public import proofs.«01_k».proof.Proof.Gen.MergeIdeal.Value
public import proofs.«01_k».proof.Proof.FfnSpec
public import Idealize.ShloMosaic.Lib.Pipeline.ReadBack
public import Idealize.ShloMosaic.Lib.Pipeline.ValueKit
public import Idealize.ShloMosaic.Lib.Pointwise

/-! # The merge of the two attention branches

Point `i` works on 256 rows. It projects both branches, weighs them by gates read from two column blocks of the input
projection, applies the output projection, adds the residual and normalises the row. -/

@[expose] public section

set_option maxRecDepth 16384

noncomputable section

namespace Cert.MergeIdeal.Val

open Cert.MergeIdeal Cert.MergeIdeal.Gen Idealize.ShloMosaic Idealize.ShloMosaic.TcCoe Idealize.SL.Sem
open Cert.FfnSpec (normed)

/-- A gate applied to a value. -/
def gated (g v : EReal) : EReal := Ideal.div 1 (1 + Ideal.exp (-g)) * v

/-- The merged rows of a point, through the output projection and with the residual added. -/
def sumBlk (x0 x1 : Vec Ideal S256x1024 .bf16) (x2 x3 : Vec Ideal S1024x2048 .bf16) (x4 x5 : Vec Ideal S256x2048 .f32)
    (x6 : Vec Ideal S2048x2048 .bf16) (x7 : Vec Ideal S256x2048 .f32) : Vec Ideal S256x2048 .f32 := fun j =>
  x7 (ix2 (j 0) (j 1)) + ∑ k : Fin 2048, (gated (x4 (ix2 (j 0) k)) (∑ d : Fin 1024, x0 (ix2 (j 0) d) * x2 (ix2 d k))
    + gated (x5 (ix2 (j 0) k)) (∑ d : Fin 1024, x1 (ix2 (j 0) d) * x3 (ix2 d k))) * x6 (ix2 k (j 1))

/-- The rows before normalisation. -/
theorem pay2_eq (x0 x1 : Vec Ideal S256x1024 .bf16) (x2 x3 : Vec Ideal S1024x2048 .bf16) (x4 x5 : Vec Ideal S256x2048 .f32)
    (x6 : Vec Ideal S2048x2048 .bf16) (x7 : Vec Ideal S256x2048 .f32) :
    k0_pay2 (F := Ideal) x0 x2 x1 x3 x4 x5 x7 x6 = sumBlk x0 x1 x2 x3 x4 x5 x6 x7 := by
  funext y
  idx_vars y
  unfold_payloads
  pointwise [sumBlk, gated, zero_sub]

/-- The normalised rows. -/
theorem pay1_eq (y : Vec Ideal S256x2048 .f32) (x8 : Vec Ideal S1x2048 .f32) :
    k0_pay1 (F := Ideal) y x8 = fun j => normed (fun l => y (ix2 (j 0) l)) (x8 (ix2 0 (j 1))) (j 1) := by
  funext j
  idx_vars j
  unfold_payloads
  pointwise [normed]

/-- A point's first output. -/
theorem out9 (x0 x1 : Vec Ideal S256x1024 .bf16) (x2 x3 : Vec Ideal S1024x2048 .bf16) (x4 x5 : Vec Ideal S256x2048 .f32)
    (x6 : Vec Ideal S2048x2048 .bf16) (x7 : Vec Ideal S256x2048 .f32) (x8 : Vec Ideal S1x2048 .f32) :
    out0_9 (F := Ideal) x0 x1 x2 x3 x4 x5 x6 x7 x8 = sumBlk x0 x1 x2 x3 x4 x5 x6 x7 := by
  frame_out
  rw [pay2_eq]

/-- A point's second output. -/
theorem out10 (x0 x1 : Vec Ideal S256x1024 .bf16) (x2 x3 : Vec Ideal S1024x2048 .bf16) (x4 x5 : Vec Ideal S256x2048 .f32)
    (x6 : Vec Ideal S2048x2048 .bf16) (x7 : Vec Ideal S256x2048 .f32) (x8 : Vec Ideal S1x2048 .f32) :
    out0_10 (F := Ideal) x0 x1 x2 x3 x4 x5 x6 x7 x8 = fun j =>
      normed (fun l => sumBlk x0 x1 x2 x3 x4 x5 x6 x7 (ix2 (j 0) l)) (x8 (ix2 0 (j 1))) (j 1) := by
  frame_out
  rw [pay2_eq, pay1_eq]

variable (m : (ℓ : Loc nD τ sig) → Buf (Elt Ideal) ℓ) (c : Dev nD)

/-- The recurrent branch. -/
def ad (i : Fin 8192) (d : Fin 1024) : EReal := m ((c : Thread nD τ).loc main_arg0) (ix2 i d)
/-- The attention branch. -/
def aa (i : Fin 8192) (d : Fin 1024) : EReal := m ((c : Thread nD τ).loc main_arg1) (ix2 i d)
/-- The recurrent branch's projection. -/
def awd (d : Fin 1024) (k : Fin 2048) : EReal := m ((c : Thread nD τ).loc main_arg2) (ix2 d k)
/-- The attention branch's projection. -/
def awa (d : Fin 1024) (k : Fin 2048) : EReal := m ((c : Thread nD τ).loc main_arg3) (ix2 d k)
/-- The input projection. -/
def ap (i k : Fin 8192) : EReal := m ((c : Thread nD τ).loc main_arg4) (ix2 i k)
/-- The output projection. -/
def awo (k l : Fin 2048) : EReal := m ((c : Thread nD τ).loc main_arg5) (ix2 k l)
/-- The residual stream. -/
def ax (i : Fin 8192) (l : Fin 2048) : EReal := m ((c : Thread nD τ).loc main_arg6) (ix2 i l)
/-- The next norm's gain. -/
def agn (l : Fin 2048) : EReal := m ((c : Thread nD τ).loc main_arg7) (ix1 l)

/-- Row `r` of the row block that point `t` works on. -/
def rowOf (t : ℕ) (r : Fin 256) : Fin 8192 := ⟨t % 32 * 256 + r.val, by have := r.isLt; omega⟩

/-- The column of the recurrent branch's gate. -/
def gd (k : Fin 2048) : Fin 8192 := ⟨4096 + k.val, by have := k.isLt; omega⟩
/-- The column of the attention branch's gate. -/
def ga (k : Fin 2048) : Fin 8192 := ⟨6144 + k.val, by have := k.isLt; omega⟩

/-- The residual stream after the merge. -/
def y (i : Fin 8192) (l : Fin 2048) : EReal :=
  ax m c i l + ∑ k : Fin 2048, (gated (ap m c i (gd k)) (∑ d : Fin 1024, ad m c i d * awd m c d k)
    + gated (ap m c i (ga k)) (∑ d : Fin 1024, aa m c i d * awa m c d k)) * awo m c k l

/-- The block indices of a point. -/
theorem idx : ∀ t : Fin cfg0.N, win0_0.index t = ![t.val, 0] ∧ win0_1.index t = ![t.val, 0]
    ∧ win0_2.index t = ![0, 0] ∧ win0_3.index t = ![0, 0] ∧ win0_4.index t = ![t.val, 2] ∧ win0_5.index t = ![t.val, 3]
    ∧ win0_6.index t = ![0, 0] ∧ win0_7.index t = ![t.val, 0] ∧ win0_8.index t = ![0, 0]
    ∧ win0_9.index t = ![t.val, 0] ∧ win0_10.index t = ![t.val, 0] :=
  (by decide +kernel : ∀ t : Fin grid0.N, _)

/-- A point's rows of the recurrent branch. -/
theorem b0 (t : Fin cfg0.N) (r : Fin 256) (d : Fin 1024) : iblk m c 0 t (ix2 r d) = ad m c (rowOf t.val r) d := by
  have ht := lt_of_lt_of_eq t.isLt (show cfg0.N = 32 from N_0)
  unfold ad rowOf
  blk_ext [iblk, V, idx t]
/-- A point's rows of the attention branch. -/
theorem b1 (t : Fin cfg0.N) (r : Fin 256) (d : Fin 1024) : iblk m c 1 t (ix2 r d) = aa m c (rowOf t.val r) d := by
  have ht := lt_of_lt_of_eq t.isLt (show cfg0.N = 32 from N_0)
  unfold aa rowOf
  blk_ext [iblk, V, idx t]
/-- The recurrent branch's projection. -/
theorem b2 (t : Fin cfg0.N) (d : Fin 1024) (k : Fin 2048) : iblk m c 2 t (ix2 d k) = awd m c d k := by
  have ht := lt_of_lt_of_eq t.isLt (show cfg0.N = 32 from N_0)
  unfold awd
  blk_ext [iblk, V, idx t]
/-- The attention branch's projection. -/
theorem b3 (t : Fin cfg0.N) (d : Fin 1024) (k : Fin 2048) : iblk m c 3 t (ix2 d k) = awa m c d k := by
  have ht := lt_of_lt_of_eq t.isLt (show cfg0.N = 32 from N_0)
  unfold awa
  blk_ext [iblk, V, idx t]
/-- A point's rows of the recurrent branch's gate. -/
theorem b4 (t : Fin cfg0.N) (r : Fin 256) (k : Fin 2048) : iblk m c 4 t (ix2 r k) = ap m c (rowOf t.val r) (gd k) := by
  have ht := lt_of_lt_of_eq t.isLt (show cfg0.N = 32 from N_0)
  unfold ap rowOf gd
  blk_ext [iblk, V, idx t]
/-- A point's rows of the attention branch's gate. -/
theorem b5 (t : Fin cfg0.N) (r : Fin 256) (k : Fin 2048) : iblk m c 5 t (ix2 r k) = ap m c (rowOf t.val r) (ga k) := by
  have ht := lt_of_lt_of_eq t.isLt (show cfg0.N = 32 from N_0)
  unfold ap rowOf ga
  blk_ext [iblk, V, idx t]
/-- The output projection. -/
theorem b6 (t : Fin cfg0.N) (k l : Fin 2048) : iblk m c 6 t (ix2 k l) = awo m c k l := by
  have ht := lt_of_lt_of_eq t.isLt (show cfg0.N = 32 from N_0)
  unfold awo
  blk_ext [iblk, V, idx t]
/-- A point's rows of the residual stream. -/
theorem b7 (t : Fin cfg0.N) (r : Fin 256) (l : Fin 2048) : iblk m c 7 t (ix2 r l) = ax m c (rowOf t.val r) l := by
  have ht := lt_of_lt_of_eq t.isLt (show cfg0.N = 32 from N_0)
  unfold ax rowOf
  blk_ext [iblk, V, idx t]
/-- The gain. -/
theorem b8 (t : Fin cfg0.N) (l : Fin 2048) : iblk m c 8 t (ix2 0 l) = agn m c l := by
  have ht := lt_of_lt_of_eq t.isLt (show cfg0.N = 32 from N_0)
  unfold agn
  blk_ext! [iblk, V, idx t]

/-- A point's rows of the residual stream after the merge. -/
theorem sum_eq (t : Fin cfg0.N) (r : Fin 256) (l : Fin 2048) :
    sumBlk (iblk m c 0 t) (iblk m c 1 t) (iblk m c 2 t) (iblk m c 3 t) (iblk m c 4 t) (iblk m c 5 t) (iblk m c 6 t) (iblk m c 7 t) (ix2 r l)
      = y m c (rowOf t.val r) l := by
  refine congrArg₂ (fun a b : EReal => a + b) (b7 m c t r l) (Finset.sum_congr rfl fun k _ => ?_)
  refine congrArg₂ (fun a b : EReal => a * b) (congrArg₂ (fun a b : EReal => a + b) ?_ ?_) (b6 m c t k l)
  · exact congrArg₂ gated (b4 m c t r k) (Finset.sum_congr rfl fun d _ => congrArg₂ (fun a b : EReal => a * b) (b0 m c t r d) (b2 m c t d k))
  · exact congrArg₂ gated (b5 m c t r k) (Finset.sum_congr rfl fun d _ => congrArg₂ (fun a b : EReal => a * b) (b1 m c t r d) (b3 m c t d k))

/-- The first result array. -/
def arr9 : Buf (Elt Ideal) ((c : Thread nD τ).loc main_v1_0) := fun i => y m c (i 0) (i 1)

/-- The second result array. -/
def arr10 : Buf (Elt Ideal) ((c : Thread nD τ).loc main_v1_1) := fun i => normed (y m c (i 0)) (agn m c (i 1)) (i 1)

/-- The kernel leaves the residual stream in its first result. -/
theorem final9 : (dats m 0 c).arrAt 9 cfg0.N = arr9 m c := by
  refine (dats m 0 c).arrAt_eq_of_covers 9 _ (by decide +kernel) fun t hf z => ?_
  have ht := lt_of_lt_of_eq t.isLt (show cfg0.N = 32 from N_0)
  blk_simp
  rw [after0_9, out9]
  idx_vars z
  have e : ((View.whole main_v1_0).slice (win0_9.rect t)).emb (ix2 z0 z1) = ix2 (rowOf t.val z0) z1 := by
    unfold rowOf
    blk_ext [idx t]
  rw [e]
  exact sum_eq m c t z0 z1

/-- The kernel leaves the normalised rows in its second result. -/
theorem final10 : (dats m 0 c).arrAt 10 cfg0.N = arr10 m c := by
  refine (dats m 0 c).arrAt_eq_of_covers 10 _ (by decide +kernel) fun t hf z => ?_
  have ht := lt_of_lt_of_eq t.isLt (show cfg0.N = 32 from N_0)
  blk_simp
  rw [after0_10, out10]
  idx_vars z
  have e : ((View.whole main_v1_1).slice (win0_10.rect t)).emb (ix2 z0 z1) = ix2 (rowOf t.val z0) z1 := by
    unfold rowOf
    blk_ext [idx t]
  rw [e]
  refine (congrArg (fun g => normed _ g z1) (b8 m c t z1)).trans ?_
  exact congrArg (fun f => normed f (agn m c z1) z1) (funext fun l => sum_eq m c t z0 l)

end Cert.MergeIdeal.Val

end
-- ==== Proof.MergeClaim.lean ====
module

public import proofs.«01_k».proof.Defs
public import proofs.«01_k».proof.Proof.MergeKernel
public import proofs.«01_k».proof.Proof.Gen.MergeRefIdeal.Run
public import Idealize.ShloMosaic.Lib.Tactic.CleanTypes

/-! # The merge of the two branches: kernel and reference compute the same arrays -/

@[expose] public section

set_option maxRecDepth 16384

noncomputable section

namespace Cert.MergeClaim

open Idealize.ShloMosaic Idealize.ShloMosaic.TcCoe Idealize.SL.Sem
open Cert.MergeIdeal.Val Cert.FfnSpec

/-- The reference ends, keeps its arguments, and has no counter that could move. -/
theorem frame_ref : Cert.quiescent_MergeRefIdeal (hMergeRefIdeal := Cert.MergeRefIdeal.Gen.facts) := fun m ρ _ =>
  (θ_run Cert.MergeRefIdeal.defs _ _).mono (fun r h => ⟨fun c => (h c).2.2, sem_eq_zero_of_no_sems (by decide) r.2⟩)
    (Cert.MergeRefIdeal.Value.run (F := Ideal) m ρ)

/-- Kernel and reference compute the same two arrays over the extended reals. -/
theorem algebraic : Cert.algebraic_MergeIdeal_MergeRefIdeal (hMergeIdeal := Cert.MergeIdeal.Gen.facts)
    (hMergeRefIdeal := Cert.MergeRefIdeal.Gen.facts) := by
  intro m ρ m' ρ' _ hag
  refine ⟨fun c => arr9 m c, fun c => arr10 m c,
    (θ_run _ _ _).mono (fun _ h c => ⟨(h c).1.trans (final9 m c), (h c).2.1.trans (final10 m c), (h c).2.2⟩)
      (Cert.MergeIdeal.Value.run_blocks (F := Ideal) m ρ),
    (θ_run _ _ _).mono (fun _ h c => ⟨(h c).1.trans ?_, (h c).2.1.trans ?_, (h c).2.2⟩)
      (Cert.MergeRefIdeal.Value.run (F := Ideal) m' ρ')⟩
  · obtain ⟨e0, e1, e2, e3, e4, e5, e6, e7⟩ := hag c
    rw [e0, e1, e2, e3, e4, e5, e6]
    funext i
    idx_vars i
    pointwise [arr9, y, gated, gd, ga, ad, aa, ap, ax, awd, awa, awo]
  · obtain ⟨e0, e1, e2, e3, e4, e5, e6, e7⟩ := hag c
    unfold Cert.MergeRefIdeal.Value.res_main_v39
    rw [e0, e1, e2, e3, e4, e5, e6, e7]
    funext i
    idx_vars i
    pointwise [arr10, normed, y, gated, gd, ga, ad, aa, ap, ax, awd, awa, awo, agn]

end Cert.MergeClaim

end
-- ==== Proof.RopeSpec.lean ====
module

public import proofs.«01_k».proof.Proof.ScanSpec
public import Idealize.ShloMosaic.Lib.Pointwise

/-! # Rotating the heads of a row

A row of 1024 columns is eight slabs of 128 lanes. A column is rotated against the column that lies half a head away in
the same slab, by the cosine and the signed sine of its lane. -/

@[expose] public section

noncomputable section

namespace Cert.RopeSpec

open Idealize.ShloMosaic
open Cert.ScanSpec (colAt headOf laneOf)

/-- The lane half a head of 128 lanes away. -/
def turn (e : Fin 128) : Fin 128 := ⟨(e.val + 128 - 64) % 128, Nat.mod_lt _ (by omega)⟩

/-- The lane half a head of 64 lanes away. -/
def turnIx (e : Fin 128) : Fin 128 := ⟨if e.val % 64 < 32 then e.val + 32 else e.val - 32, by split <;> omega⟩

/-- The slab of a column. -/
theorem headOf_colAt (h : Fin 8) (e : Fin 128) : headOf (colAt h e) = h := Fin.ext (by show (h.val * 128 + e.val) / 128 = h.val; omega)
/-- The lane of a column. -/
theorem laneOf_colAt (h : Fin 8) (e : Fin 128) : laneOf (colAt h e) = e := Fin.ext (by show (h.val * 128 + e.val) % 128 = e.val; omega)

/-- A rotated column of the row `q`. -/
def rot (tn : Fin 128 → Fin 128) (q : Fin 1024 → EReal) (cs sn : Fin 128 → EReal) (l : Fin 1024) : EReal :=
  q l * cs (laneOf l) + q (colAt (headOf l) (tn (laneOf l))) * sn (laneOf l)

/-- A rotated column, by its slab and lane. -/
theorem rot_colAt (tn : Fin 128 → Fin 128) (q : Fin 1024 → EReal) (cs sn : Fin 128 → EReal) (h : Fin 8) (e : Fin 128) :
    rot tn q cs sn (colAt h e) = q (colAt h e) * cs e + q (colAt h (tn e)) * sn e := by
  unfold rot
  rw [headOf_colAt, laneOf_colAt]

/-- The angle of position `p` at frequency `n` of heads of `dim` lanes. -/
def ang (dim : EReal) (p : BitVec 32) (n : ℕ) : EReal :=
  FloatOps.sitofp (F := Ideal) .f32 p * Ideal.pow (Ideal.ofBits .f32 0x461C4000#32)
    (Ideal.div (-(Ideal.ofBits .f32 0x40000000#32 * FloatOps.sitofp (F := Ideal) .f32 (BitVec.ofNat 32 n))) dim)

/-- Lane `k` of the first half of a head of 128 lanes. -/
def lo (k : Fin 64) : Fin 128 := ⟨k.val, by omega⟩
/-- Lane `k` of the second half of a head of 128 lanes. -/
def hi (k : Fin 64) : Fin 128 := ⟨64 + k.val, by omega⟩

theorem turn_lo (k : Fin 64) : turn (lo k) = hi k := Fin.ext (by show (k.val + 128 - 64) % 128 = 64 + k.val; omega)
theorem turn_hi (k : Fin 64) : turn (hi k) = lo k := Fin.ext (by show (64 + k.val + 128 - 64) % 128 = k.val; omega)

/-- A lane lies in one half or the other. -/
theorem lane_cases (e : Fin 128) : (∃ k, e = lo k) ∨ ∃ k, e = hi k := by
  by_cases h : e.val < 64
  · exact .inl ⟨⟨e.val, h⟩, rfl⟩
  · exact .inr ⟨⟨e.val - 64, by omega⟩, Fin.ext (by show e.val = 64 + (e.val - 64); omega)⟩

/-- A column has a slab and a lane. -/
theorem col_cases (l : Fin 1024) : ∃ h e, l = colAt h e :=
  ⟨headOf l, laneOf l, Fin.ext (by show l.val = l.val / 128 * 128 + l.val % 128; omega)⟩

/-- The cosine table of heads of 128 lanes. -/
def cosT (p : BitVec 32) (e : Fin 128) : EReal := Ideal.cos (ang (Ideal.ofBits .f32 0x43000000#32) p (e.val % 64))

/-- The signed sine table of heads of 128 lanes. -/
def sinT (p : BitVec 32) (e : Fin 128) : EReal :=
  if e.val < 64 then -Ideal.sin (ang (Ideal.ofBits .f32 0x43000000#32) p e.val) else Ideal.sin (ang (Ideal.ofBits .f32 0x43000000#32) p (e.val - 64))

theorem cosT_lo (p : BitVec 32) (k : Fin 64) : cosT p (lo k) = Ideal.cos (ang (Ideal.ofBits .f32 0x43000000#32) p k.val) := by
  unfold cosT
  rw [show (lo k).val % 64 = k.val from by show k.val % 64 = k.val; omega]
theorem cosT_hi (p : BitVec 32) (k : Fin 64) : cosT p (hi k) = Ideal.cos (ang (Ideal.ofBits .f32 0x43000000#32) p k.val) := by
  unfold cosT
  rw [show (hi k).val % 64 = k.val from by show (64 + k.val) % 64 = k.val; omega]
theorem sinT_lo (p : BitVec 32) (k : Fin 64) : sinT p (lo k) = -Ideal.sin (ang (Ideal.ofBits .f32 0x43000000#32) p k.val) := if_pos k.isLt
theorem sinT_hi (p : BitVec 32) (k : Fin 64) : sinT p (hi k) = Ideal.sin (ang (Ideal.ofBits .f32 0x43000000#32) p k.val) := by
  refine (if_neg (by show ¬64 + k.val < 64; omega)).trans ?_
  rw [show (hi k).val - 64 = k.val from by show 64 + k.val - 64 = k.val; omega]

/-- The first half of a rotated head, as the reference writes it. -/
theorem rot_lo (q : Fin 1024 → EReal) (p : BitVec 32) (h : Fin 8) (k : Fin 64) :
    rot turn q (cosT p) (sinT p) (colAt h (lo k)) =
      q (colAt h (lo k)) * Ideal.cos (ang (Ideal.ofBits .f32 0x43000000#32) p k.val) - q (colAt h (hi k)) * Ideal.sin (ang (Ideal.ofBits .f32 0x43000000#32) p k.val) := by
  rw [rot_colAt, turn_lo, cosT_lo, sinT_lo, mul_neg, sub_eq_add_neg]

/-- The second half of a rotated head, as the reference writes it. -/
theorem rot_hi (q : Fin 1024 → EReal) (p : BitVec 32) (h : Fin 8) (k : Fin 64) :
    rot turn q (cosT p) (sinT p) (colAt h (hi k)) =
      q (colAt h (hi k)) * Ideal.cos (ang (Ideal.ofBits .f32 0x43000000#32) p k.val) + q (colAt h (lo k)) * Ideal.sin (ang (Ideal.ofBits .f32 0x43000000#32) p k.val) := by
  rw [rot_colAt, turn_hi, cosT_hi, sinT_hi]

end Cert.RopeSpec

end
-- ==== Proof.RopeQKernel.lean ====
module

public import proofs.«01_k».proof.Proof.Gen.RopeQIdeal.Value
public import proofs.«01_k».proof.Proof.RopeSpec
public import Idealize.ShloMosaic.Lib.Pipeline.ReadBack
public import Idealize.ShloMosaic.Lib.Pipeline.ValueKit
public import Idealize.ShloMosaic.Lib.Pointwise

/-! # The rotated queries

Point `i` projects the rows `1024 i …` and rotates each of the eight heads by tables that the host has computed. -/

@[expose] public section

set_option maxRecDepth 16384

noncomputable section

namespace Cert.RopeQIdeal.Val

open Cert.RopeQIdeal Cert.RopeQIdeal.Gen Idealize.ShloMosaic Idealize.ShloMosaic.TcCoe Idealize.SL.Sem
open Cert.ScanSpec (colAt headOf laneOf)
open Cert.RopeSpec

/-- The tile that a point stores. -/
def rotBlk (a0 : Vec Ideal S1024x2048 .bf16) (a1 : Vec Ideal S2048x1024 .bf16) (a2 a3 : Vec Ideal S1024x128 .f32) : Vec Ideal S1024x1024 .bf16 := fun j =>
  rot turn (fun l => ∑ d : Fin 2048, a0 (ix2 (j 0) d) * a1 (ix2 d l)) (fun e => a2 (ix2 (j 0) e)) (fun e => a3 (ix2 (j 0) e)) (j 1)
    * Ideal.ofBits .f32 0x3E0293EE#32

/-- Each of the eight slabs is stored with its columns rotated. -/
theorem tile (a0 : Vec Ideal S1024x2048 .bf16) (a1 : Vec Ideal S2048x1024 .bf16) (a2 a3 : Vec Ideal S1024x128 .f32) :
    out0_4 (F := Ideal) a0 a1 a2 a3 = rotBlk a0 a1 a2 a3 := by
  frame_out
  funext y
  canon_tiles x h
  all_goals
    unfold_payloads
    idx_vars x
    idx_vars y
    obtain rfl := Fin.ext h0
    show _ = rot _ _ _ _ y1 * _
    first
      | rw [show y1 = colAt 0 x1 from Fin.ext (by show y1.val = 0 * 128 + x1.val; omega)]
      | rw [show y1 = colAt 1 x1 from Fin.ext (by show y1.val = 1 * 128 + x1.val; omega)]
      | rw [show y1 = colAt 2 x1 from Fin.ext (by show y1.val = 2 * 128 + x1.val; omega)]
      | rw [show y1 = colAt 3 x1 from Fin.ext (by show y1.val = 3 * 128 + x1.val; omega)]
      | rw [show y1 = colAt 4 x1 from Fin.ext (by show y1.val = 4 * 128 + x1.val; omega)]
      | rw [show y1 = colAt 5 x1 from Fin.ext (by show y1.val = 5 * 128 + x1.val; omega)]
      | rw [show y1 = colAt 6 x1 from Fin.ext (by show y1.val = 6 * 128 + x1.val; omega)]
      | rw [show y1 = colAt 7 x1 from Fin.ext (by show y1.val = 7 * 128 + x1.val; omega)]
    rw [rot_colAt]
    pointwise [colAt, turn]

/-- A row of the tile, by what its projection and its tables are. -/
theorem rotBlk_at (a0 : Vec Ideal S1024x2048 .bf16) (a1 : Vec Ideal S2048x1024 .bf16) (a2 a3 : Vec Ideal S1024x128 .f32)
    (Q : Fin 1024 → EReal) (C S : Fin 128 → EReal) (r : Fin 1024) (hq : ∀ l, ∑ d : Fin 2048, a0 (ix2 r d) * a1 (ix2 d l) = Q l)
    (hc : ∀ e, a2 (ix2 r e) = C e) (hs : ∀ e, a3 (ix2 r e) = S e) (l : Fin 1024) :
    rotBlk a0 a1 a2 a3 (ix2 r l) = rot turn Q C S l * Ideal.ofBits .f32 0x3E0293EE#32 := by
  obtain rfl : _ = Q := funext hq
  obtain rfl : _ = C := funext hc
  obtain rfl : _ = S := funext hs
  rfl

variable (m : (ℓ : Loc nD τ sig) → Buf (Elt Ideal) ℓ) (c : Dev nD)

/-- The normalised input. -/
def ah (i : Fin 8192) (d : Fin 2048) : EReal := m ((c : Thread nD τ).loc main_arg0) (ix2 i d)
/-- The attention weights. -/
def aw (d : Fin 2048) (k : Fin 4096) : EReal := m ((c : Thread nD τ).loc main_arg1) (ix2 d k)
/-- The positions. -/
def pos (i : Fin 8192) : BitVec 32 := m ((c : Thread nD τ).loc main_arg2) (ix1 i)

/-- The query columns of the weights. -/
def wcol (l : Fin 1024) : Fin 4096 := ⟨l.val, by omega⟩
/-- Row `r` of the row block that point `t` works on. -/
def rowOf (t : ℕ) (r : Fin 1024) : Fin 8192 := ⟨t % 8 * 1024 + r.val, by have := r.isLt; omega⟩

/-- The host's cosine table. -/
theorem tab_cos (i : Fin 8192) (e : Fin 128) : V m c main_v20 (ix2 i e) = cosT (pos m c i) e := by
  show StableHlo.after hostOps0 _ _ _ = _
  after_results_simp
  pointwise [cosT, ang, pos]

/-- The host's signed sine table. -/
theorem tab_sin (i : Fin 8192) (e : Fin 128) : V m c main_v25 (ix2 i e) = sinT (pos m c i) e := by
  show StableHlo.after hostOps0 _ _ _ = _
  after_results_simp
  pointwise []
  after_results_simp
  pointwise [sinT, ang, pos]
  split <;> rfl

/-- The block indices of a point. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] :=
  (by decide +kernel : ∀ t : Fin grid0.N, _)

/-- A point's rows of the input. -/
theorem b0 (t : Fin cfg0.N) (r : Fin 1024) (d : Fin 2048) : iblk m c 0 t (ix2 r d) = ah m c (rowOf t.val r) d := by
  have ht := lt_of_lt_of_eq t.isLt (show cfg0.N = 8 from N_0)
  unfold ah rowOf
  rw [← V_main_arg0 m c]
  blk_ext [iblk, idx t]

/-- The query columns of the weights. -/
theorem b1 (t : Fin cfg0.N) (d : Fin 2048) (l : Fin 1024) : iblk m c 1 t (ix2 d l) = aw m c d (wcol l) := by
  have ht := lt_of_lt_of_eq t.isLt (show cfg0.N = 8 from N_0)
  unfold aw wcol
  rw [← V_main_arg1 m c]
  blk_ext [iblk, idx t]

/-- A point's rows of the cosine table. -/
theorem b2 (t : Fin cfg0.N) (r : Fin 1024) (e : Fin 128) : iblk m c 2 t (ix2 r e) = cosT (pos m c (rowOf t.val r)) e := by
  have ht := lt_of_lt_of_eq t.isLt (show cfg0.N = 8 from N_0)
  rw [← tab_cos]
  unfold rowOf
  blk_ext [iblk, idx t]

/-- A point's rows of the signed sine table. -/
theorem b3 (t : Fin cfg0.N) (r : Fin 1024) (e : Fin 128) : iblk m c 3 t (ix2 r e) = sinT (pos m c (rowOf t.val r)) e := by
  have ht := lt_of_lt_of_eq t.isLt (show cfg0.N = 8 from N_0)
  rw [← tab_sin]
  unfold rowOf
  blk_ext [iblk, idx t]

/-- The projected row. -/
def q (i : Fin 8192) (l : Fin 1024) : EReal := ∑ d : Fin 2048, ah m c i d * aw m c d (wcol l)

/-- The result array. -/
def arr : Buf (Elt Ideal) ((c : Thread nD τ).loc main_v26) := fun i =>
  rot turn (q m c (i 0)) (cosT (pos m c (i 0))) (sinT (pos m c (i 0))) (i 1) * Ideal.ofBits .f32 0x3E0293EE#32

/-- The kernel leaves the rotated queries. -/
theorem final : (dats m 0 c).arrAt 4 cfg0.N = arr m c := by
  refine (dats m 0 c).arrAt_eq_of_covers 4 _ (by decide +kernel) fun t hf z => ?_
  have ht := lt_of_lt_of_eq t.isLt (show cfg0.N = 8 from N_0)
  blk_simp
  rw [after0_4, tile]
  idx_vars z
  have e : ((View.whole main_v26).slice (win0_4.rect t)).emb (ix2 z0 z1) = ix2 (rowOf t.val z0) z1 := by
    unfold rowOf
    blk_ext [idx t]
  rw [e]
  exact rotBlk_at (iblk m c 0 t) (iblk m c 1 t) (iblk m c 2 t) (iblk m c 3 t) (q m c (rowOf t.val z0)) _ _ z0
    (fun l => Finset.sum_congr rfl fun d _ => congrArg₂ (fun a b : EReal => a * b) (b0 m c t z0 d) (b1 m c t d l))
    (fun e => b2 m c t z0 e) (fun e => b3 m c t z0 e) z1

end Cert.RopeQIdeal.Val

end
-- ==== Proof.RopeQClaim.lean ====
module

public import proofs.«01_k».proof.Defs
public import proofs.«01_k».proof.Proof.RopeQKernel
public import proofs.«01_k».proof.Proof.Gen.RopeQRefIdeal.Run
public import Idealize.ShloMosaic.Lib.Tactic.CleanTypes

/-! # The rotated queries: kernel and reference compute the same array -/

@[expose] public section

set_option maxRecDepth 16384

noncomputable section

namespace Cert.RopeQClaim

open Idealize.ShloMosaic Idealize.ShloMosaic.TcCoe Idealize.SL.Sem
open Cert.RopeQIdeal.Val Cert.RopeSpec
open Cert.ScanSpec (colAt)

/-- The reference ends, keeps its arguments, and has no counter that could move. -/
theorem frame_ref : Cert.quiescent_RopeQRefIdeal (hRopeQRefIdeal := Cert.RopeQRefIdeal.Gen.facts) := fun m ρ _ =>
  (θ_run Cert.RopeQRefIdeal.defs _ _).mono (fun r h => ⟨fun c => (h c).2, sem_eq_zero_of_no_sems (by decide) r.2⟩)
    (Cert.RopeQRefIdeal.Value.run (F := Ideal) m ρ)

/-- Kernel and reference compute the same array over the extended reals. -/
theorem algebraic : Cert.algebraic_RopeQIdeal_RopeQRefIdeal (hRopeQIdeal := Cert.RopeQIdeal.Gen.facts)
    (hRopeQRefIdeal := Cert.RopeQRefIdeal.Gen.facts) := by
  intro m ρ m' ρ' _ hag
  refine ⟨fun c => arr m c,
    (θ_run _ _ _).mono (fun _ h c => ⟨(h c).1.trans (final m c), (h c).2⟩) (Cert.RopeQIdeal.Value.run_blocks (F := Ideal) m ρ),
    (θ_run _ _ _).mono (fun _ h c => ⟨(h c).1.trans ?_, (h c).2⟩) (Cert.RopeQRefIdeal.Value.run (F := Ideal) m' ρ')⟩
  obtain ⟨e0, e1, e2⟩ := hag c
  unfold Cert.RopeQRefIdeal.Value.res_main_v41
  rw [e0, e1, e2]
  funext i
  idx_vars i
  obtain ⟨h, e, rfl⟩ := col_cases i1
  pointwise [colAt]
  show _ = rot turn (q m c i0) (cosT (pos m c i0)) (sinT (pos m c i0)) (colAt h e) * Ideal.ofBits .f32 0x3E0293EE#32
  rcases lane_cases e with ⟨k, rfl⟩ | ⟨k, rfl⟩
  · rw [rot_lo, dif_pos (show (lo k).val < 64 from k.isLt)]
    rfl
  · rw [rot_hi, dif_neg (show ¬(hi k).val < 64 from by show ¬64 + k.val < 64; omega)]
    simp only [show (hi k).val - 64 = k.val from by show 64 + k.val - 64 = k.val; omega]
    rfl

end Cert.RopeQClaim

end
-- ==== Proof.RopeKKernel.lean ====
module

public import proofs.«01_k».proof.Proof.Gen.RopeKIdeal.Value
public import proofs.«01_k».proof.Proof.RopeSpec
public import Idealize.ShloMosaic.Lib.Pipeline.ReadBack
public import Idealize.ShloMosaic.Lib.Pipeline.ValueKit
public import Idealize.ShloMosaic.Lib.Pointwise

/-! # The rotated keys

Point `i` projects the rows `1024 i …` and rotates each of the eight heads by tables that the host has computed. -/

@[expose] public section

set_option maxRecDepth 16384

noncomputable section

namespace Cert.RopeKIdeal.Val

open Cert.RopeKIdeal Cert.RopeKIdeal.Gen Idealize.ShloMosaic Idealize.ShloMosaic.TcCoe Idealize.SL.Sem
open Cert.ScanSpec (colAt headOf laneOf)
open Cert.RopeSpec

/-- The tile that a point stores. -/
def rotBlk (a0 : Vec Ideal S1024x2048 .bf16) (a1 : Vec Ideal S2048x1024 .bf16) (a2 a3 : Vec Ideal S1024x128 .f32) : Vec Ideal S1024x1024 .bf16 := fun j =>
  rot turn (fun l => ∑ d : Fin 2048, a0 (ix2 (j 0) d) * a1 (ix2 d l)) (fun e => a2 (ix2 (j 0) e)) (fun e => a3 (ix2 (j 0) e)) (j 1)

/-- Each of the eight slabs is stored with its columns rotated. -/
theorem tile (a0 : Vec Ideal S1024x2048 .bf16) (a1 : Vec Ideal S2048x1024 .bf16) (a2 a3 : Vec Ideal S1024x128 .f32) :
    out0_4 (F := Ideal) a0 a1 a2 a3 = rotBlk a0 a1 a2 a3 := by
  frame_out
  funext y
  canon_tiles x h
  all_goals
    unfold_payloads
    idx_vars x
    idx_vars y
    obtain rfl := Fin.ext h0
    show _ = rot _ _ _ _ y1
    first
      | rw [show y1 = colAt 0 x1 from Fin.ext (by show y1.val = 0 * 128 + x1.val; omega)]
      | rw [show y1 = colAt 1 x1 from Fin.ext (by show y1.val = 1 * 128 + x1.val; omega)]
      | rw [show y1 = colAt 2 x1 from Fin.ext (by show y1.val = 2 * 128 + x1.val; omega)]
      | rw [show y1 = colAt 3 x1 from Fin.ext (by show y1.val = 3 * 128 + x1.val; omega)]
      | rw [show y1 = colAt 4 x1 from Fin.ext (by show y1.val = 4 * 128 + x1.val; omega)]
      | rw [show y1 = colAt 5 x1 from Fin.ext (by show y1.val = 5 * 128 + x1.val; omega)]
      | rw [show y1 = colAt 6 x1 from Fin.ext (by show y1.val = 6 * 128 + x1.val; omega)]
      | rw [show y1 = colAt 7 x1 from Fin.ext (by show y1.val = 7 * 128 + x1.val; omega)]
    rw [rot_colAt]
    pointwise [colAt, turn]

/-- A row of the tile, by what its projection and its tables are. -/
theorem rotBlk_at (a0 : Vec Ideal S1024x2048 .bf16) (a1 : Vec Ideal S2048x1024 .bf16) (a2 a3 : Vec Ideal S1024x128 .f32)
    (Q : Fin 1024 → EReal) (C S : Fin 128 → EReal) (r : Fin 1024) (hq : ∀ l, ∑ d : Fin 2048, a0 (ix2 r d) * a1 (ix2 d l) = Q l)
    (hc : ∀ e, a2 (ix2 r e) = C e) (hs : ∀ e, a3 (ix2 r e) = S e) (l : Fin 1024) :
    rotBlk a0 a1 a2 a3 (ix2 r l) = rot turn Q C S l := by
  obtain rfl : _ = Q := funext hq
  obtain rfl : _ = C := funext hc
  obtain rfl : _ = S := funext hs
  rfl

variable (m : (ℓ : Loc nD τ sig) → Buf (Elt Ideal) ℓ) (c : Dev nD)

/-- The normalised input. -/
def ah (i : Fin 8192) (d : Fin 2048) : EReal := m ((c : Thread nD τ).loc main_arg0) (ix2 i d)
/-- The attention weights. -/
def aw (d : Fin 2048) (k : Fin 4096) : EReal := m ((c : Thread nD τ).loc main_arg1) (ix2 d k)
/-- The positions. -/
def pos (i : Fin 8192) : BitVec 32 := m ((c : Thread nD τ).loc main_arg2) (ix1 i)

/-- The key columns of the weights. -/
def wcol (l : Fin 1024) : Fin 4096 := ⟨1024 + l.val, by omega⟩
/-- Row `r` of the row block that point `t` works on. -/
def rowOf (t : ℕ) (r : Fin 1024) : Fin 8192 := ⟨t % 8 * 1024 + r.val, by have := r.isLt; omega⟩

/-- The host's cosine table. -/
theorem tab_cos (i : Fin 8192) (e : Fin 128) : V m c main_v20 (ix2 i e) = cosT (pos m c i) e := by
  show StableHlo.after hostOps0 _ _ _ = _
  after_results_simp
  pointwise [cosT, ang, pos]

/-- The host's signed sine table. -/
theorem tab_sin (i : Fin 8192) (e : Fin 128) : V m c main_v25 (ix2 i e) = sinT (pos m c i) e := by
  show StableHlo.after hostOps0 _ _ _ = _
  after_results_simp
  pointwise []
  after_results_simp
  pointwise [sinT, ang, pos]
  split <;> rfl

/-- The block indices of a point. -/
theorem idx : ∀ t : Fin cfg0.N, win0_0.index t = ![t.val, 0] ∧ win0_1.index t = ![0, 1] ∧ win0_2.index t = ![t.val, 0]
    ∧ win0_3.index t = ![t.val, 0] ∧ win0_4.index t = ![t.val, 0] :=
  (by decide +kernel : ∀ t : Fin grid0.N, _)

/-- A point's rows of the input. -/
theorem b0 (t : Fin cfg0.N) (r : Fin 1024) (d : Fin 2048) : iblk m c 0 t (ix2 r d) = ah m c (rowOf t.val r) d := by
  have ht := lt_of_lt_of_eq t.isLt (show cfg0.N = 8 from N_0)
  unfold ah rowOf
  rw [← V_main_arg0 m c]
  blk_ext [iblk, idx t]

/-- The key columns of the weights. -/
theorem b1 (t : Fin cfg0.N) (d : Fin 2048) (l : Fin 1024) : iblk m c 1 t (ix2 d l) = aw m c d (wcol l) := by
  have ht := lt_of_lt_of_eq t.isLt (show cfg0.N = 8 from N_0)
  unfold aw wcol
  rw [← V_main_arg1 m c]
  blk_ext [iblk, idx t]

/-- A point's rows of the cosine table. -/
theorem b2 (t : Fin cfg0.N) (r : Fin 1024) (e : Fin 128) : iblk m c 2 t (ix2 r e) = cosT (pos m c (rowOf t.val r)) e := by
  have ht := lt_of_lt_of_eq t.isLt (show cfg0.N = 8 from N_0)
  rw [← tab_cos]
  unfold rowOf
  blk_ext [iblk, idx t]

/-- A point's rows of the signed sine table. -/
theorem b3 (t : Fin cfg0.N) (r : Fin 1024) (e : Fin 128) : iblk m c 3 t (ix2 r e) = sinT (pos m c (rowOf t.val r)) e := by
  have ht := lt_of_lt_of_eq t.isLt (show cfg0.N = 8 from N_0)
  rw [← tab_sin]
  unfold rowOf
  blk_ext [iblk, idx t]

/-- The projected row. -/
def q (i : Fin 8192) (l : Fin 1024) : EReal := ∑ d : Fin 2048, ah m c i d * aw m c d (wcol l)

/-- The result array. -/
def arr : Buf (Elt Ideal) ((c : Thread nD τ).loc main_v26) := fun i =>
  rot turn (q m c (i 0)) (cosT (pos m c (i 0))) (sinT (pos m c (i 0))) (i 1)

/-- The kernel leaves the rotated keys. -/
theorem final : (dats m 0 c).arrAt 4 cfg0.N = arr m c := by
  refine (dats m 0 c).arrAt_eq_of_covers 4 _ (by decide +kernel) fun t hf z => ?_
  have ht := lt_of_lt_of_eq t.isLt (show cfg0.N = 8 from N_0)
  blk_simp
  rw [after0_4, tile]
  idx_vars z
  have e : ((View.whole main_v26).slice (win0_4.rect t)).emb (ix2 z0 z1) = ix2 (rowOf t.val z0) z1 := by
    unfold rowOf
    blk_ext [idx t]
  rw [e]
  exact rotBlk_at (iblk m c 0 t) (iblk m c 1 t) (iblk m c 2 t) (iblk m c 3 t) (q m c (rowOf t.val z0)) _ _ z0
    (fun l => Finset.sum_congr rfl fun d _ => congrArg₂ (fun a b : EReal => a * b) (b0 m c t z0 d) (b1 m c t d l))
    (fun e => b2 m c t z0 e) (fun e => b3 m c t z0 e) z1

end Cert.RopeKIdeal.Val

end
-- ==== Proof.RopeKClaim.lean ====
module

public import proofs.«01_k».proof.Defs
public import proofs.«01_k».proof.Proof.RopeKKernel
public import proofs.«01_k».proof.Proof.Gen.RopeKRefIdeal.Run
public import Idealize.ShloMosaic.Lib.Tactic.CleanTypes

/-! # The rotated keys: kernel and reference compute the same array -/

@[expose] public section

set_option maxRecDepth 16384

noncomputable section

namespace Cert.RopeKClaim

open Idealize.ShloMosaic Idealize.ShloMosaic.TcCoe Idealize.SL.Sem
open Cert.RopeKIdeal.Val Cert.RopeSpec
open Cert.ScanSpec (colAt)

/-- The reference ends, keeps its arguments, and has no counter that could move. -/
theorem frame_ref : Cert.quiescent_RopeKRefIdeal (hRopeKRefIdeal := Cert.RopeKRefIdeal.Gen.facts) := fun m ρ _ =>
  (θ_run Cert.RopeKRefIdeal.defs _ _).mono (fun r h => ⟨fun c => (h c).2, sem_eq_zero_of_no_sems (by decide) r.2⟩)
    (Cert.RopeKRefIdeal.Value.run (F := Ideal) m ρ)

/-- Kernel and reference compute the same array over the extended reals. -/
theorem algebraic : Cert.algebraic_RopeKIdeal_RopeKRefIdeal (hRopeKIdeal := Cert.RopeKIdeal.Gen.facts)
    (hRopeKRefIdeal := Cert.RopeKRefIdeal.Gen.facts) := by
  intro m ρ m' ρ' _ hag
  refine ⟨fun c => arr m c,
    (θ_run _ _ _).mono (fun _ h c => ⟨(h c).1.trans (final m c), (h c).2⟩) (Cert.RopeKIdeal.Value.run_blocks (F := Ideal) m ρ),
    (θ_run _ _ _).mono (fun _ h c => ⟨(h c).1.trans ?_, (h c).2⟩) (Cert.RopeKRefIdeal.Value.run (F := Ideal) m' ρ')⟩
  obtain ⟨e0, e1, e2⟩ := hag c
  unfold Cert.RopeKRefIdeal.Value.res_main_v39
  rw [e0, e1, e2]
  funext i
  idx_vars i
  obtain ⟨h, e, rfl⟩ := col_cases i1
  pointwise [colAt]
  show _ = rot turn (q m c i0) (cosT (pos m c i0)) (sinT (pos m c i0)) (colAt h e)
  rcases lane_cases e with ⟨k, rfl⟩ | ⟨k, rfl⟩
  · rw [rot_lo, dif_pos (show (lo k).val < 64 from k.isLt)]
    rfl
  · rw [rot_hi, dif_neg (show ¬(hi k).val < 64 from by show ¬64 + k.val < 64; omega)]
    simp only [show (hi k).val - 64 = k.val from by show 64 + k.val - 64 = k.val; omega]
    rfl

end Cert.RopeKClaim

end
-- ==== Proof.RopeIxSpec.lean ====
module

public import proofs.«01_k».proof.Proof.RopeSpec

/-! # Rotating heads of 64 lanes

A slab of 128 lanes holds two heads of 64 lanes. The tables of the rotation repeat with period 64, and a column is rotated
against the column 32 lanes away in its own head. -/

@[expose] public section

noncomputable section

namespace Cert.RopeSpec

open Idealize.ShloMosaic
open Cert.ScanSpec (colAt headOf laneOf)

/-- Lane `e` of head `h`, of sixteen heads of 64 lanes. -/
def colIx (h : Fin 16) (e : Fin 64) : Fin 1024 := ⟨h.val * 64 + e.val, by omega⟩
/-- Lane `k` of the first half of a head of 64 lanes. -/
def loIx (k : Fin 32) : Fin 64 := ⟨k.val, by omega⟩
/-- Lane `k` of the second half of a head of 64 lanes. -/
def hiIx (k : Fin 32) : Fin 64 := ⟨32 + k.val, by omega⟩

/-- A lane lies in one half or the other. -/
theorem laneIx_cases (e : Fin 64) : (∃ k, e = loIx k) ∨ ∃ k, e = hiIx k := by
  by_cases h : e.val < 32
  · exact .inl ⟨⟨e.val, h⟩, rfl⟩
  · exact .inr ⟨⟨e.val - 32, by omega⟩, Fin.ext (by show e.val = 32 + (e.val - 32); omega)⟩

/-- A column has a head and a lane. -/
theorem colIx_cases (l : Fin 1024) : ∃ h e, l = colIx h e :=
  ⟨⟨l.val / 64, by omega⟩, ⟨l.val % 64, by omega⟩, Fin.ext (by show l.val = l.val / 64 * 64 + l.val % 64; omega)⟩

/-- The mask that a slab's lanes are picked by: set in the first half of either head. -/
theorem mask_lane : ∀ e : Fin 128, IntOp.cmpi .slt (IntOp.andi (BitVec.ofNat 32 e.val) 63#32) 32#32 = if e.val % 64 < 32 then 1#1 else 0#1 := by
  decide +kernel

/-- Picking between the two rotations of a slab is moving to the partner lane. -/
theorem pick_lane (e : Fin 128) {α : Type} (g : Fin 128 → α) :
    Scalar.select (IntOp.cmpi .slt (IntOp.andi (BitVec.ofNat 32 e.val) 63#32) 32#32)
      (g ⟨(e.val + 128 - 96) % 128, Nat.mod_lt _ (by omega)⟩) (g ⟨(e.val + 128 - 32) % 128, Nat.mod_lt _ (by omega)⟩) = g (turnIx e) := by
  rw [mask_lane]
  by_cases h : e.val % 64 < 32
  · rw [if_pos h]
    exact congrArg g (Fin.ext ((show (e.val + 128 - 96) % 128 = e.val + 32 from by omega).trans (if_pos h).symm))
  · rw [if_neg h]
    exact congrArg g (Fin.ext ((show (e.val + 128 - 32) % 128 = e.val - 32 from by omega).trans (if_neg h).symm))

/-- The cosine table of heads of 64 lanes. -/
def cosIx (p : BitVec 32) (e : Fin 128) : EReal := Ideal.cos (ang (Ideal.ofBits .f32 0x42800000#32) p (e.val % 32))

/-- The signed sine table of heads of 64 lanes. -/
def sinIx (p : BitVec 32) (e : Fin 128) : EReal :=
  if e.val % 64 < 32 then -Ideal.sin (ang (Ideal.ofBits .f32 0x42800000#32) p (e.val % 64))
  else Ideal.sin (ang (Ideal.ofBits .f32 0x42800000#32) p (e.val % 64 - 32))

/-- The partner of a column, by its head and lane. -/
theorem turnIx_lo (h : Fin 16) (k : Fin 32) :
    colAt (headOf (colIx h (loIx k))) (turnIx (laneOf (colIx h (loIx k)))) = colIx h (hiIx k) := by
  refine Fin.ext ?_
  show (h.val * 64 + k.val) / 128 * 128 + (if (h.val * 64 + k.val) % 128 % 64 < 32 then (h.val * 64 + k.val) % 128 + 32
    else (h.val * 64 + k.val) % 128 - 32) = h.val * 64 + (32 + k.val)
  split <;> omega
theorem turnIx_hi (h : Fin 16) (k : Fin 32) :
    colAt (headOf (colIx h (hiIx k))) (turnIx (laneOf (colIx h (hiIx k)))) = colIx h (loIx k) := by
  refine Fin.ext ?_
  show (h.val * 64 + (32 + k.val)) / 128 * 128 + (if (h.val * 64 + (32 + k.val)) % 128 % 64 < 32
    then (h.val * 64 + (32 + k.val)) % 128 + 32 else (h.val * 64 + (32 + k.val)) % 128 - 32) = h.val * 64 + k.val
  split <;> omega

/-- The first half of a rotated head, as the reference writes it. -/
theorem rotIx_lo (q : Fin 1024 → EReal) (p : BitVec 32) (h : Fin 16) (k : Fin 32) :
    rot turnIx q (cosIx p) (sinIx p) (colIx h (loIx k)) =
      q (colIx h (loIx k)) * Ideal.cos (ang (Ideal.ofBits .f32 0x42800000#32) p k.val)
        - q (colIx h (hiIx k)) * Ideal.sin (ang (Ideal.ofBits .f32 0x42800000#32) p k.val) := by
  have e64 : (laneOf (colIx h (loIx k))).val % 64 = k.val := by show (h.val * 64 + k.val) % 128 % 64 = k.val; omega
  have e32 : (laneOf (colIx h (loIx k))).val % 32 = k.val := by show (h.val * 64 + k.val) % 128 % 32 = k.val; omega
  unfold rot cosIx sinIx
  rw [turnIx_lo, e64, e32, if_pos k.isLt, mul_neg, sub_eq_add_neg]

/-- The second half of a rotated head, as the reference writes it. -/
theorem rotIx_hi (q : Fin 1024 → EReal) (p : BitVec 32) (h : Fin 16) (k : Fin 32) :
    rot turnIx q (cosIx p) (sinIx p) (colIx h (hiIx k)) =
      q (colIx h (hiIx k)) * Ideal.cos (ang (Ideal.ofBits .f32 0x42800000#32) p k.val)
        + q (colIx h (loIx k)) * Ideal.sin (ang (Ideal.ofBits .f32 0x42800000#32) p k.val) := by
  have e64 : (laneOf (colIx h (hiIx k))).val % 64 = 32 + k.val := by
    show (h.val * 64 + (32 + k.val)) % 128 % 64 = 32 + k.val; omega
  have e32 : (laneOf (colIx h (hiIx k))).val % 32 = k.val := by show (h.val * 64 + (32 + k.val)) % 128 % 32 = k.val; omega
  unfold rot cosIx sinIx
  rw [turnIx_hi, e64, e32, if_neg (by omega), show 32 + k.val - 32 = k.val from by omega]

/-- The mask of a slab's first half. -/
theorem mask_half : ∀ e : Fin 128, IntOp.cmpi .slt (BitVec.ofNat 32 e.val) 64#32 = if e.val < 64 then 1#1 else 0#1 := by
  decide +kernel

/-- A rotated key: one head in a slab's first half, and zero in the other. -/
def keyRow (x cs sn : Fin 128 → EReal) (e : Fin 128) : EReal := if e.val < 64 then x e * cs e + x (turnIx e) * sn e else 0

/-- The first half of a rotated key, as the reference writes it. -/
theorem keyRow_lo (x : Fin 128 → EReal) (p : BitVec 32) (k : Fin 32) :
    keyRow x (cosIx p) (sinIx p) (lo (loIx k)) =
      x (lo (loIx k)) * Ideal.cos (ang (Ideal.ofBits .f32 0x42800000#32) p k.val)
        - x (lo (hiIx k)) * Ideal.sin (ang (Ideal.ofBits .f32 0x42800000#32) p k.val) := by
  have e64 : (lo (loIx k)).val % 64 = k.val := by show k.val % 64 = k.val; omega
  have e32 : (lo (loIx k)).val % 32 = k.val := by show k.val % 32 = k.val; omega
  have et : turnIx (lo (loIx k)) = lo (hiIx k) := Fin.ext ((if_pos (by omega)).trans (Nat.add_comm _ _))
  unfold keyRow cosIx sinIx
  rw [et, e64, e32, if_pos (show (lo (loIx k)).val < 64 from (loIx k).isLt), if_pos k.isLt, mul_neg, sub_eq_add_neg]

/-- The second half of a rotated key, as the reference writes it. -/
theorem keyRow_hi (x : Fin 128 → EReal) (p : BitVec 32) (k : Fin 32) :
    keyRow x (cosIx p) (sinIx p) (lo (hiIx k)) =
      x (lo (hiIx k)) * Ideal.cos (ang (Ideal.ofBits .f32 0x42800000#32) p k.val)
        + x (lo (loIx k)) * Ideal.sin (ang (Ideal.ofBits .f32 0x42800000#32) p k.val) := by
  have e64 : (lo (hiIx k)).val % 64 = 32 + k.val := by show (32 + k.val) % 64 = 32 + k.val; omega
  have e32 : (lo (hiIx k)).val % 32 = k.val := by show (32 + k.val) % 32 = k.val; omega
  have et : turnIx (lo (hiIx k)) = lo (loIx k) :=
    Fin.ext ((if_neg (by omega)).trans (show 32 + k.val - 32 = k.val from by omega))
  unfold keyRow cosIx sinIx
  rw [et, e64, e32, if_pos (show (lo (hiIx k)).val < 64 from (hiIx k).isLt), if_neg (by omega), show 32 + k.val - 32 = k.val from by omega]

/-- The other half of the slab is zero. -/
theorem keyRow_zero (x cs sn : Fin 128 → EReal) (k : Fin 64) : keyRow x cs sn (hi k) = 0 :=
  if_neg (by show ¬64 + k.val < 64; omega)

end Cert.RopeSpec

end
-- ==== Proof.RopeIxKernel.lean ====
module

public import proofs.«01_k».proof.Proof.Gen.RopeIxIdeal.Value
public import proofs.«01_k».proof.Proof.RopeIxSpec
public import Idealize.ShloMosaic.Lib.Pipeline.ReadBack
public import Idealize.ShloMosaic.Lib.Pipeline.ValueKit
public import Idealize.ShloMosaic.Lib.Pointwise

/-! # The rotated indexer queries

Point `i` projects the rows `1024 i …` and rotates the sixteen heads, two in a slab, by tables that the host has computed. -/

@[expose] public section

set_option maxRecDepth 16384

noncomputable section

namespace Cert.RopeIxIdeal.Val

open Cert.RopeIxIdeal Cert.RopeIxIdeal.Gen Idealize.ShloMosaic Idealize.ShloMosaic.TcCoe Idealize.SL.Sem
open Cert.ScanSpec (colAt headOf laneOf)
open Cert.RopeSpec

/-- The tile that a point stores. -/
def rotBlk (a0 : Vec Ideal S1024x2048 .bf16) (a1 : Vec Ideal S2048x1024 .bf16) (a2 a3 : Vec Ideal S1024x128 .f32) : Vec Ideal S1024x1024 .bf16 := fun j =>
  rot turnIx (fun l => ∑ d : Fin 2048, a0 (ix2 (j 0) d) * a1 (ix2 d l)) (fun e => a2 (ix2 (j 0) e)) (fun e => a3 (ix2 (j 0) e)) (j 1)

/-- Each of the eight slabs is stored with its columns rotated. -/
theorem tile (a0 : Vec Ideal S1024x2048 .bf16) (a1 : Vec Ideal S2048x1024 .bf16) (a2 a3 : Vec Ideal S1024x128 .f32) :
    out0_4 (F := Ideal) a0 a1 a2 a3 = rotBlk a0 a1 a2 a3 := by
  frame_out
  funext y
  canon_tiles x h
  all_goals
    unfold_payloads
    idx_vars x
    idx_vars y
    obtain rfl := Fin.ext h0
    show _ = rot _ _ _ _ y1
    first
      | rw [show y1 = colAt 0 x1 from Fin.ext (by show y1.val = 0 * 128 + x1.val; omega)]
      | rw [show y1 = colAt 1 x1 from Fin.ext (by show y1.val = 1 * 128 + x1.val; omega)]
      | rw [show y1 = colAt 2 x1 from Fin.ext (by show y1.val = 2 * 128 + x1.val; omega)]
      | rw [show y1 = colAt 3 x1 from Fin.ext (by show y1.val = 3 * 128 + x1.val; omega)]
      | rw [show y1 = colAt 4 x1 from Fin.ext (by show y1.val = 4 * 128 + x1.val; omega)]
      | rw [show y1 = colAt 5 x1 from Fin.ext (by show y1.val = 5 * 128 + x1.val; omega)]
      | rw [show y1 = colAt 6 x1 from Fin.ext (by show y1.val = 6 * 128 + x1.val; omega)]
      | rw [show y1 = colAt 7 x1 from Fin.ext (by show y1.val = 7 * 128 + x1.val; omega)]
    rw [rot_colAt]
    pointwise []
    refine congrArg₂ (fun a b : EReal => a + b * a3 (ix2 y0 x1)) ?_
      (Eq.trans ?_ (pick_lane x1 fun z => ∑ d : Fin 2048, (a0 (ix2 y0 d) : EReal) * a1 (ix2 d (colAt _ z))))
    all_goals
      first
        | rfl
        | pointwise [colAt]

/-- A row of the tile, by what its projection and its tables are. -/
theorem rotBlk_at (a0 : Vec Ideal S1024x2048 .bf16) (a1 : Vec Ideal S2048x1024 .bf16) (a2 a3 : Vec Ideal S1024x128 .f32)
    (Q : Fin 1024 → EReal) (C S : Fin 128 → EReal) (r : Fin 1024) (hq : ∀ l, ∑ d : Fin 2048, a0 (ix2 r d) * a1 (ix2 d l) = Q l)
    (hc : ∀ e, a2 (ix2 r e) = C e) (hs : ∀ e, a3 (ix2 r e) = S e) (l : Fin 1024) :
    rotBlk a0 a1 a2 a3 (ix2 r l) = rot turnIx Q C S l := by
  obtain rfl : _ = Q := funext hq
  obtain rfl : _ = C := funext hc
  obtain rfl : _ = S := funext hs
  rfl

variable (m : (ℓ : Loc nD τ sig) → Buf (Elt Ideal) ℓ) (c : Dev nD)

/-- The normalised input. -/
def ah (i : Fin 8192) (d : Fin 2048) : EReal := m ((c : Thread nD τ).loc main_arg0) (ix2 i d)
/-- The attention weights. -/
def aw (d : Fin 2048) (k : Fin 4096) : EReal := m ((c : Thread nD τ).loc main_arg1) (ix2 d k)
/-- The positions. -/
def pos (i : Fin 8192) : BitVec 32 := m ((c : Thread nD τ).loc main_arg2) (ix1 i)

/-- The indexer query columns of the weights. -/
def wcol (l : Fin 1024) : Fin 4096 := ⟨3072 + l.val, by omega⟩
/-- Row `r` of the row block that point `t` works on. -/
def rowOf (t : ℕ) (r : Fin 1024) : Fin 8192 := ⟨t % 8 * 1024 + r.val, by have := r.isLt; omega⟩

/-- The host's cosine table. -/
theorem tab_cos (i : Fin 8192) (e : Fin 128) : V m c main_v20 (ix2 i e) = cosIx (pos m c i) e := by
  show StableHlo.after hostOps0 _ _ _ = _
  after_results_simp
  pointwise [cosIx, ang, pos]

/-- The host's signed sine table. -/
theorem tab_sin (i : Fin 8192) (e : Fin 128) : V m c main_v25 (ix2 i e) = sinIx (pos m c i) e := by
  show StableHlo.after hostOps0 _ _ _ = _
  after_results_simp
  pointwise []
  after_results_simp
  pointwise [sinIx, ang, pos]
  split <;> rfl

/-- The block indices of a point. -/
theorem idx : ∀ t : Fin cfg0.N, win0_0.index t = ![t.val, 0] ∧ win0_1.index t = ![0, 3] ∧ win0_2.index t = ![t.val, 0]
    ∧ win0_3.index t = ![t.val, 0] ∧ win0_4.index t = ![t.val, 0] :=
  (by decide +kernel : ∀ t : Fin grid0.N, _)

/-- A point's rows of the input. -/
theorem b0 (t : Fin cfg0.N) (r : Fin 1024) (d : Fin 2048) : iblk m c 0 t (ix2 r d) = ah m c (rowOf t.val r) d := by
  have ht := lt_of_lt_of_eq t.isLt (show cfg0.N = 8 from N_0)
  unfold ah rowOf
  rw [← V_main_arg0 m c]
  blk_ext [iblk, idx t]

/-- The indexer query columns of the weights. -/
theorem b1 (t : Fin cfg0.N) (d : Fin 2048) (l : Fin 1024) : iblk m c 1 t (ix2 d l) = aw m c d (wcol l) := by
  have ht := lt_of_lt_of_eq t.isLt (show cfg0.N = 8 from N_0)
  unfold aw wcol
  rw [← V_main_arg1 m c]
  blk_ext [iblk, idx t]

/-- A point's rows of the cosine table. -/
theorem b2 (t : Fin cfg0.N) (r : Fin 1024) (e : Fin 128) : iblk m c 2 t (ix2 r e) = cosIx (pos m c (rowOf t.val r)) e := by
  have ht := lt_of_lt_of_eq t.isLt (show cfg0.N = 8 from N_0)
  rw [← tab_cos]
  unfold rowOf
  blk_ext [iblk, idx t]

/-- A point's rows of the signed sine table. -/
theorem b3 (t : Fin cfg0.N) (r : Fin 1024) (e : Fin 128) : iblk m c 3 t (ix2 r e) = sinIx (pos m c (rowOf t.val r)) e := by
  have ht := lt_of_lt_of_eq t.isLt (show cfg0.N = 8 from N_0)
  rw [← tab_sin]
  unfold rowOf
  blk_ext [iblk, idx t]

/-- The projected row. -/
def q (i : Fin 8192) (l : Fin 1024) : EReal := ∑ d : Fin 2048, ah m c i d * aw m c d (wcol l)

/-- The result array. -/
def arr : Buf (Elt Ideal) ((c : Thread nD τ).loc main_v26) := fun i =>
  rot turnIx (q m c (i 0)) (cosIx (pos m c (i 0))) (sinIx (pos m c (i 0))) (i 1)

/-- The kernel leaves the rotated indexer queries. -/
theorem final : (dats m 0 c).arrAt 4 cfg0.N = arr m c := by
  refine (dats m 0 c).arrAt_eq_of_covers 4 _ (by decide +kernel) fun t hf z => ?_
  have ht := lt_of_lt_of_eq t.isLt (show cfg0.N = 8 from N_0)
  blk_simp
  rw [after0_4, tile]
  idx_vars z
  have e : ((View.whole main_v26).slice (win0_4.rect t)).emb (ix2 z0 z1) = ix2 (rowOf t.val z0) z1 := by
    unfold rowOf
    blk_ext [idx t]
  rw [e]
  exact rotBlk_at (iblk m c 0 t) (iblk m c 1 t) (iblk m c 2 t) (iblk m c 3 t) (q m c (rowOf t.val z0)) _ _ z0
    (fun l => Finset.sum_congr rfl fun d _ => congrArg₂ (fun a b : EReal => a * b) (b0 m c t z0 d) (b1 m c t d l))
    (fun e => b2 m c t z0 e) (fun e => b3 m c t z0 e) z1

end Cert.RopeIxIdeal.Val

end
-- ==== Proof.RopeIxClaim.lean ====
module

public import proofs.«01_k».proof.Defs
public import proofs.«01_k».proof.Proof.RopeIxKernel
public import proofs.«01_k».proof.Proof.Gen.RopeIxRefIdeal.Run
public import Idealize.ShloMosaic.Lib.Tactic.CleanTypes

/-! # The rotated indexer queries: kernel and reference compute the same array -/

@[expose] public section

set_option maxRecDepth 16384

noncomputable section

namespace Cert.RopeIxClaim

open Idealize.ShloMosaic Idealize.ShloMosaic.TcCoe Idealize.SL.Sem
open Cert.RopeIxIdeal.Val Cert.RopeSpec

/-- The reference ends, keeps its arguments, and has no counter that could move. -/
theorem frame_ref : Cert.quiescent_RopeIxRefIdeal (hRopeIxRefIdeal := Cert.RopeIxRefIdeal.Gen.facts) := fun m ρ _ =>
  (θ_run Cert.RopeIxRefIdeal.defs _ _).mono (fun r h => ⟨fun c => (h c).2, sem_eq_zero_of_no_sems (by decide) r.2⟩)
    (Cert.RopeIxRefIdeal.Value.run (F := Ideal) m ρ)

/-- Kernel and reference compute the same array over the extended reals. -/
theorem algebraic : Cert.algebraic_RopeIxIdeal_RopeIxRefIdeal (hRopeIxIdeal := Cert.RopeIxIdeal.Gen.facts)
    (hRopeIxRefIdeal := Cert.RopeIxRefIdeal.Gen.facts) := by
  intro m ρ m' ρ' _ hag
  refine ⟨fun c => arr m c,
    (θ_run _ _ _).mono (fun _ h c => ⟨(h c).1.trans (final m c), (h c).2⟩) (Cert.RopeIxIdeal.Value.run_blocks (F := Ideal) m ρ),
    (θ_run _ _ _).mono (fun _ h c => ⟨(h c).1.trans ?_, (h c).2⟩) (Cert.RopeIxRefIdeal.Value.run (F := Ideal) m' ρ')⟩
  obtain ⟨e0, e1, e2⟩ := hag c
  unfold Cert.RopeIxRefIdeal.Value.res_main_v39
  rw [e0, e1, e2]
  funext i
  idx_vars i
  obtain ⟨h, e, rfl⟩ := colIx_cases i1
  pointwise [colIx]
  show _ = rot turnIx (q m c i0) (cosIx (pos m c i0)) (sinIx (pos m c i0)) (colIx h e)
  rcases laneIx_cases e with ⟨k, rfl⟩ | ⟨k, rfl⟩
  · rw [rotIx_lo, dif_pos (show (loIx k).val < 32 from k.isLt)]
    rfl
  · rw [rotIx_hi, dif_neg (show ¬(hiIx k).val < 32 from by show ¬32 + k.val < 32; omega)]
    simp only [show (hiIx k).val - 32 = k.val from by show 32 + k.val - 32 = k.val; omega]
    rfl

end Cert.RopeIxClaim

end
-- ==== Proof.RopeKixKernel.lean ====
module

public import proofs.«01_k».proof.Proof.Gen.RopeKixIdeal.Value
public import proofs.«01_k».proof.Proof.RopeIxSpec
public import Idealize.ShloMosaic.Lib.Pipeline.ReadBack
public import Idealize.ShloMosaic.Lib.Pipeline.ValueKit
public import Idealize.ShloMosaic.Lib.Pointwise

/-! # The rotated indexer keys

Point `i` rotates the keys of 512 rows, a head of 64 lanes each, and stores them twice: in the first half of the lanes, and in the
second. The other half is zero. -/

@[expose] public section

set_option maxRecDepth 16384

noncomputable section

namespace Cert.RopeKixIdeal.Val

open Cert.RopeKixIdeal Cert.RopeKixIdeal.Gen Idealize.ShloMosaic Idealize.ShloMosaic.TcCoe Idealize.SL.Sem
open Cert.RopeSpec

/-- The rotated keys of a point, in the first half of the slab. -/
def keyBlk (a0 a1 a2 : Vec Ideal S512x128 .f32) : Vec Ideal S512x128 .f32 := fun j =>
  keyRow (fun e => a0 (ix2 (j 0) e)) (fun e => a1 (ix2 (j 0) e)) (fun e => a2 (ix2 (j 0) e)) (j 1)

/-- What the body computes before it stores. -/
theorem pay1_eq (a0 a1 a2 : Vec Ideal S512x128 .f32) : k0_pay1 (F := Ideal) a1 a0 a2 = keyBlk a0 a1 a2 := by
  funext y
  idx_vars y
  unfold_payloads
  pointwise []
  rw [mask_half]
  show _ = if y1.val < 64 then _ else (0 : EReal)
  by_cases h : y1.val < 64
  · rw [if_pos h, if_pos h]
    exact congrArg (fun b : EReal => a0 (ix2 y0 y1) * a1 (ix2 y0 y1) + b * a2 (ix2 y0 y1)) (pick_lane y1 fun z => (a0 (ix2 y0 z) : EReal))
  · rw [if_neg h, if_neg h]
    rfl

/-- A point's first output. -/
theorem out3 (a0 a1 a2 : Vec Ideal S512x128 .f32) : out0_3 (F := Ideal) a0 a1 a2 = keyBlk a0 a1 a2 := by
  frame_out
  funext y
  idx_vars y
  unfold k0_pay2
  rw [pay1_eq]
  rfl

/-- A point's second output: the slab's halves swapped. -/
theorem out4 (a0 a1 a2 : Vec Ideal S512x128 .f32) : out0_4 (F := Ideal) a0 a1 a2 = fun j => keyBlk a0 a1 a2 (ix2 (j 0) (turn (j 1))) := by
  frame_out
  funext y
  idx_vars y
  unfold k0_pay3
  rw [pay1_eq]
  pointwise [turn]

/-- A row of the keys, by what its input and its tables are. -/
theorem keyBlk_at (a0 a1 a2 : Vec Ideal S512x128 .f32) (X C S : Fin 128 → EReal) (r : Fin 512) (hx : ∀ e, a0 (ix2 r e) = X e)
    (hc : ∀ e, a1 (ix2 r e) = C e) (hs : ∀ e, a2 (ix2 r e) = S e) (e : Fin 128) : keyBlk a0 a1 a2 (ix2 r e) = keyRow X C S e := by
  obtain rfl : _ = X := funext hx
  obtain rfl : _ = C := funext hc
  obtain rfl : _ = S := funext hs
  rfl

variable (m : (ℓ : Loc nD τ sig) → Buf (Elt Ideal) ℓ) (c : Dev nD)

/-- The small projection. -/
def ax (i : Fin 8192) (e : Fin 128) : EReal := m ((c : Thread nD τ).loc main_arg0) (ix2 i e)
/-- The positions. -/
def pos (i : Fin 8192) : BitVec 32 := m ((c : Thread nD τ).loc main_arg1) (ix1 i)

/-- Row `r` of the row block that point `t` works on. -/
def rowOf (t : ℕ) (r : Fin 512) : Fin 8192 := ⟨t % 16 * 512 + r.val, by have := r.isLt; omega⟩

/-- The host's cosine table. -/
theorem tab_cos (i : Fin 8192) (e : Fin 128) : V m c main_v20 (ix2 i e) = cosIx (pos m c i) e := by
  show StableHlo.after hostOps0 _ _ _ = _
  after_results_simp
  pointwise [cosIx, ang, pos]

/-- The host's signed sine table. -/
theorem tab_sin (i : Fin 8192) (e : Fin 128) : V m c main_v25 (ix2 i e) = sinIx (pos m c i) e := by
  show StableHlo.after hostOps0 _ _ _ = _
  after_results_simp
  pointwise []
  after_results_simp
  pointwise [sinIx, ang, pos]
  split <;> rfl

/-- The block indices of a point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] :=
  (by decide +kernel : ∀ t : Fin grid0.N, _)

/-- A point's rows of the small projection. -/
theorem b0 (t : Fin cfg0.N) (r : Fin 512) (e : Fin 128) : iblk m c 0 t (ix2 r e) = ax m c (rowOf t.val r) e := by
  have ht := lt_of_lt_of_eq t.isLt (show cfg0.N = 16 from N_0)
  unfold ax rowOf
  rw [← V_main_arg0 m c]
  blk_ext [iblk, idx t]

/-- A point's rows of the cosine table. -/
theorem b1 (t : Fin cfg0.N) (r : Fin 512) (e : Fin 128) : iblk m c 1 t (ix2 r e) = cosIx (pos m c (rowOf t.val r)) e := by
  have ht := lt_of_lt_of_eq t.isLt (show cfg0.N = 16 from N_0)
  rw [← tab_cos]
  unfold rowOf
  blk_ext [iblk, idx t]

/-- A point's rows of the signed sine table. -/
theorem b2 (t : Fin cfg0.N) (r : Fin 512) (e : Fin 128) : iblk m c 2 t (ix2 r e) = sinIx (pos m c (rowOf t.val r)) e := by
  have ht := lt_of_lt_of_eq t.isLt (show cfg0.N = 16 from N_0)
  rw [← tab_sin]
  unfold rowOf
  blk_ext [iblk, idx t]

/-- A rotated key. -/
def key (i : Fin 8192) (e : Fin 128) : EReal := keyRow (ax m c i) (cosIx (pos m c i)) (sinIx (pos m c i)) e

/-- An entry of a point's keys. -/
theorem key_eq (t : Fin cfg0.N) (r : Fin 512) (e : Fin 128) :
    keyBlk (iblk m c 0 t) (iblk m c 1 t) (iblk m c 2 t) (ix2 r e) = key m c (rowOf t.val r) e :=
  keyBlk_at (iblk m c 0 t) (iblk m c 1 t) (iblk m c 2 t) _ _ _ r (fun e => b0 m c t r e) (fun e => b1 m c t r e) (fun e => b2 m c t r e) e

/-- The keys in the first half of the lanes. -/
def arr3 : Buf (Elt Ideal) ((c : Thread nD τ).loc main_v26_0) := fun i => key m c (i 0) (i 1)
/-- The keys in the second half of the lanes. -/
def arr4 : Buf (Elt Ideal) ((c : Thread nD τ).loc main_v26_1) := fun i => key m c (i 0) (turn (i 1))

/-- The first result. -/
theorem final3 : (dats m 0 c).arrAt 3 cfg0.N = arr3 m c := by
  refine (dats m 0 c).arrAt_eq_of_covers 3 _ (by decide +kernel) fun t hf z => ?_
  have ht := lt_of_lt_of_eq t.isLt (show cfg0.N = 16 from N_0)
  blk_simp
  rw [after0_3, out3]
  idx_vars z
  have e : ((View.whole main_v26_0).slice (win0_3.rect t)).emb (ix2 z0 z1) = ix2 (rowOf t.val z0) z1 := by
    unfold rowOf
    blk_ext [idx t]
  rw [e]
  exact key_eq m c t z0 z1

/-- The second result. -/
theorem final4 : (dats m 0 c).arrAt 4 cfg0.N = arr4 m c := by
  refine (dats m 0 c).arrAt_eq_of_covers 4 _ (by decide +kernel) fun t hf z => ?_
  have ht := lt_of_lt_of_eq t.isLt (show cfg0.N = 16 from N_0)
  blk_simp
  rw [after0_4, out4]
  idx_vars z
  have e : ((View.whole main_v26_1).slice (win0_4.rect t)).emb (ix2 z0 z1) = ix2 (rowOf t.val z0) z1 := by
    unfold rowOf
    blk_ext [idx t]
  rw [e]
  exact key_eq m c t z0 (turn z1)

end Cert.RopeKixIdeal.Val

end
-- ==== Proof.RopeKixClaim.lean ====
module

public import proofs.«01_k».proof.Defs
public import proofs.«01_k».proof.Proof.RopeKixKernel
public import proofs.«01_k».proof.Proof.Gen.RopeKixRefIdeal.Run
public import Idealize.ShloMosaic.Lib.Tactic.CleanTypes

/-! # The rotated indexer keys: kernel and reference compute the same arrays -/

@[expose] public section

set_option maxRecDepth 16384

noncomputable section

namespace Cert.RopeKixClaim

open Idealize.ShloMosaic Idealize.ShloMosaic.TcCoe Idealize.SL.Sem
open Cert.RopeKixIdeal.Val Cert.RopeSpec

/-- The reference ends, keeps its arguments, and has no counter that could move. -/
theorem frame_ref : Cert.quiescent_RopeKixRefIdeal (hRopeKixRefIdeal := Cert.RopeKixRefIdeal.Gen.facts) := fun m ρ _ =>
  (θ_run Cert.RopeKixRefIdeal.defs _ _).mono (fun r h => ⟨fun c => (h c).2.2, sem_eq_zero_of_no_sems (by decide) r.2⟩)
    (Cert.RopeKixRefIdeal.Value.run (F := Ideal) m ρ)

/-- Kernel and reference compute the same two arrays over the extended reals. -/
theorem algebraic : Cert.algebraic_RopeKixIdeal_RopeKixRefIdeal (hRopeKixIdeal := Cert.RopeKixIdeal.Gen.facts)
    (hRopeKixRefIdeal := Cert.RopeKixRefIdeal.Gen.facts) := by
  intro m ρ m' ρ' _ hag
  refine ⟨fun c => arr3 m c, fun c => arr4 m c,
    (θ_run _ _ _).mono (fun _ h c => ⟨(h c).1.trans (final3 m c), (h c).2.1.trans (final4 m c), (h c).2.2⟩)
      (Cert.RopeKixIdeal.Value.run_blocks (F := Ideal) m ρ),
    (θ_run _ _ _).mono (fun _ h c => ⟨(h c).1.trans ?_, (h c).2.1.trans ?_, (h c).2.2⟩)
      (Cert.RopeKixRefIdeal.Value.run (F := Ideal) m' ρ')⟩
  · obtain ⟨e0, e1⟩ := hag c
    unfold Cert.RopeKixRefIdeal.Value.res_main_v34
    rw [e0, e1]
    funext i
    idx_vars i
    pointwise []
    rcases lane_cases i1 with ⟨e, rfl⟩ | ⟨e, rfl⟩
    · show _ = keyRow (ax m c i0) (cosIx (pos m c i0)) (sinIx (pos m c i0)) (lo e)
      rw [dif_pos (show (lo e).val < 64 from e.isLt)]
      rcases laneIx_cases e with ⟨k, rfl⟩ | ⟨k, rfl⟩
      · rw [keyRow_lo, dif_pos (show (lo (loIx k)).val < 32 from k.isLt)]
        rfl
      · rw [keyRow_hi, dif_neg (show ¬(lo (hiIx k)).val < 32 from by show ¬32 + k.val < 32; omega)]
        simp only [show (lo (hiIx k)).val - 32 = k.val from by show 32 + k.val - 32 = k.val; omega]
        rfl
    · show _ = keyRow (ax m c i0) (cosIx (pos m c i0)) (sinIx (pos m c i0)) (hi e)
      rw [keyRow_zero, dif_neg (show ¬(hi e).val < 64 from by show ¬64 + e.val < 64; omega)]
  · obtain ⟨e0, e1⟩ := hag c
    unfold Cert.RopeKixRefIdeal.Value.res_main_v36
    rw [e0, e1]
    funext i
    idx_vars i
    pointwise []
    rcases lane_cases i1 with ⟨e, rfl⟩ | ⟨e, rfl⟩
    · show _ = keyRow (ax m c i0) (cosIx (pos m c i0)) (sinIx (pos m c i0)) (turn (lo e))
      rw [turn_lo, keyRow_zero, dif_pos (show (lo e).val < 64 from e.isLt)]
    · show _ = keyRow (ax m c i0) (cosIx (pos m c i0)) (sinIx (pos m c i0)) (turn (hi e))
      rw [turn_hi, dif_neg (show ¬(hi e).val < 64 from by show ¬64 + e.val < 64; omega)]
      simp only [show (hi e).val - 64 = e.val from by show 64 + e.val - 64 = e.val; omega]
      rcases laneIx_cases e with ⟨k, rfl⟩ | ⟨k, rfl⟩
      · rw [keyRow_lo, dif_pos (show (loIx k).val < 32 from k.isLt)]
        rfl
      · rw [keyRow_hi, dif_neg (show ¬(hiIx k).val < 32 from by show ¬32 + k.val < 32; omega)]
        simp only [show (hiIx k).val - 32 = k.val from by show 32 + k.val - 32 = k.val; omega]
        rfl

end Cert.RopeKixClaim

end
-- ==== Proof.NormClaim.lean ====
module

public import proofs.«01_k».proof.Defs
public import proofs.«01_k».proof.Proof.Gen.NormIdeal.Value
public import proofs.«01_k».proof.Proof.Gen.NormRefIdeal.Run
public import proofs.«01_k».proof.Proof.FfnSpec
public import Idealize.ShloMosaic.Lib.Pipeline.ReadBack
public import Idealize.ShloMosaic.Lib.Pipeline.ValueKit
public import Idealize.ShloMosaic.Lib.Pointwise
public import Idealize.ShloMosaic.Lib.Tactic.CleanTypes

/-! # The normalisation of the first layer's input

Point `i` divides the rows `512 i …` by their root mean squares and multiplies them by the gain. -/

@[expose] public section

set_option maxRecDepth 16384

noncomputable section

namespace Cert.NormIdeal.Val

open Cert.NormIdeal Cert.NormIdeal.Gen Idealize.ShloMosaic Idealize.ShloMosaic.TcCoe Idealize.SL.Sem
open Cert.FfnSpec (normed)

/-- The tile that a point stores. -/
theorem tile (x0 : Vec Ideal S512x2048 .f32) (x1 : Vec Ideal S1x2048 .f32) :
    out0_2 (F := Ideal) x0 x1 = fun j => normed (fun l => x0 (ix2 (j 0) l)) (x1 (ix2 0 (j 1))) (j 1) := by
  frame_out
  funext y
  idx_vars y
  unfold_payloads
  pointwise [normed]

variable (m : (ℓ : Loc nD τ sig) → Buf (Elt Ideal) ℓ) (c : Dev nD)

/-- The input. -/
def ax (i : Fin 8192) (l : Fin 2048) : EReal := m ((c : Thread nD τ).loc main_arg0) (ix2 i l)
/-- The gain. -/
def ag (l : Fin 2048) : EReal := m ((c : Thread nD τ).loc main_arg1) (ix1 l)

/-- Row `r` of point `t`'s tile. -/
def rowOf (t : ℕ) (r : Fin 512) : Fin 8192 := ⟨t % 16 * 512 + r.val, by have := r.isLt; omega⟩

/-- The block indices of a point. -/
theorem idx : ∀ t : Fin cfg0.N, win0_0.index t = ![t.val, 0] ∧ win0_1.index t = ![0, 0]
    ∧ win0_2.index t = ![t.val, 0] :=
  (by decide +kernel : ∀ t : Fin grid0.N, _)

/-- A point's rows of the input. -/
theorem b0 (t : Fin cfg0.N) (r : Fin 512) (l : Fin 2048) : iblk m c 0 t (ix2 r l) = ax m c (rowOf t.val r) l := by
  have ht := lt_of_lt_of_eq t.isLt (show cfg0.N = 16 from N_0)
  unfold ax rowOf
  blk_ext [iblk, V, idx t]

/-- The gain. -/
theorem b1 (t : Fin cfg0.N) (l : Fin 2048) : iblk m c 1 t (ix2 0 l) = ag m c l := by
  have ht := lt_of_lt_of_eq t.isLt (show cfg0.N = 16 from N_0)
  unfold ag
  blk_ext! [iblk, V, idx t]

/-- The normalised rows. -/
def arr : Buf (Elt Ideal) ((c : Thread nD τ).loc main_v1) := fun i => normed (ax m c (i 0)) (ag m c (i 1)) (i 1)

/-- The kernel leaves the normalised rows. -/
theorem final : (dats m 0 c).arrAt 2 cfg0.N = arr m c := by
  refine (dats m 0 c).arrAt_eq_of_covers 2 _ (by decide +kernel) fun t hf z => ?_
  have ht := lt_of_lt_of_eq t.isLt (show cfg0.N = 16 from N_0)
  blk_simp
  rw [after0_2, tile]
  idx_vars z
  have e : ((View.whole main_v1).slice (win0_2.rect t)).emb (ix2 z0 z1) = ix2 (rowOf t.val z0) z1 := by
    unfold rowOf
    blk_ext [idx t]
  rw [e]
  refine (congrArg (fun g => normed _ g z1) (b1 m c t z1)).trans ?_
  exact congrArg (fun f => normed f (ag m c z1) z1) (funext fun l => b0 m c t z0 l)

end Cert.NormIdeal.Val

namespace Cert.NormClaim

open Idealize.ShloMosaic Idealize.ShloMosaic.TcCoe Idealize.SL.Sem
open Cert.NormIdeal.Val
open Cert.FfnSpec (normed)

/-- The reference ends, keeps its arguments, and has no counter that could move. -/
theorem frame_ref : Cert.quiescent_NormRefIdeal (hNormRefIdeal := Cert.NormRefIdeal.Gen.facts) := fun m ρ _ =>
  (θ_run Cert.NormRefIdeal.defs _ _).mono (fun r h => ⟨fun c => (h c).2, sem_eq_zero_of_no_sems (by decide) r.2⟩)
    (Cert.NormRefIdeal.Value.run (F := Ideal) m ρ)

/-- Kernel and reference compute the same rows over the extended reals. -/
theorem algebraic : Cert.algebraic_NormIdeal_NormRefIdeal (hNormIdeal := Cert.NormIdeal.Gen.facts)
    (hNormRefIdeal := Cert.NormRefIdeal.Gen.facts) := by
  intro m ρ m' ρ' _ hag
  refine ⟨fun c => arr m c,
    (θ_run _ _ _).mono (fun _ h c => ⟨(h c).1.trans (final m c), (h c).2⟩) (Cert.NormIdeal.Value.run_blocks (F := Ideal) m ρ),
    (θ_run _ _ _).mono (fun _ h c => ⟨(h c).1.trans ?_, (h c).2⟩) (Cert.NormRefIdeal.Value.run (F := Ideal) m' ρ')⟩
  obtain ⟨e0, e1⟩ := hag c
  rw [e0, e1]
  funext i
  idx_vars i
  pointwise [arr, normed, ax, ag]

end Cert.NormClaim

end
-- ==== Proof.RouterSpec.lean ====
module

public import Idealize.ShloMosaic.PureOps
public import Idealize.ShloMosaic.PureOps.Ideal
public import Idealize.ShloMosaic.Lib.PlanTiles.StableSort
public import Idealize.ShloMosaic.Lib.SortNet.Extract

/-! # The router's choice

A row has one score for each of eight experts. The two experts it goes to are the first two in the order
"greater score first, lower number first among equals". -/

@[expose] public section

noncomputable section

namespace Cert.RouterSpec

open Idealize.ShloMosaic Idealize.ShloMosaic.PlanTiles

variable (x : Fin 8 → EReal)

/-- The expert in place `k` of the order. -/
def place (k : Fin 8) : Fin 8 := sortedFrom (fun a b => decide (x b < x a)) k
/-- The first choice and the second. -/
def first : Fin 8 := place x 0
def second : Fin 8 := place x 1

/-- How many experts score less than expert `a`. -/
def below (a : Fin 8) : ℕ := (Finset.univ.filter fun j => x j < x a).card

/-- Counting the lower scores orders the experts as the scores do. -/
theorem below_lt (a b : Fin 8) : below x b < below x a ↔ x b < x a := by
  constructor
  · intro h
    by_contra hn
    refine absurd h (not_lt.mpr (Finset.card_le_card fun j hj => ?_))
    rw [Finset.mem_filter] at hj ⊢
    exact ⟨hj.1, hj.2.trans_le (not_lt.mp hn)⟩
  · intro h
    refine Finset.card_lt_card ⟨fun j hj => ?_, fun hs => ?_⟩
    · rw [Finset.mem_filter] at hj ⊢
      exact ⟨hj.1, hj.2.trans h⟩
    · have := hs (Finset.mem_filter.mpr ⟨Finset.mem_univ b, h⟩)
      exact absurd (Finset.mem_filter.mp this).2 (lt_irrefl _)

/-- Expert `i` comes before expert `j`. -/
def Beats (i j : Fin 8) : Prop := x j < x i ∨ (x i = x j ∧ i < j)

theorem beats_of_lex {a b : Fin 8} (h : Lex (below x) (· < ·) a b) : Beats x a b := by
  rcases h with h | ⟨h, hab⟩
  · exact Or.inl ((below_lt x a b).mp h)
  · refine Or.inr ⟨le_antisymm (not_lt.mp fun hl => ?_) (not_lt.mp fun hl => ?_), hab⟩
    · exact absurd ((below_lt x a b).mpr hl) (by omega)
    · exact absurd ((below_lt x b a).mpr hl) (by omega)

/-- An earlier place beats a later one. -/
theorem place_beats {a b : Fin 8} (h : a < b) : Beats x (place x a) (place x b) := by
  have e : (fun a b => decide (x b < x a)) = fun a b => decide (below x b < below x a) := by
    funext a b
    exact decide_eq_decide.mpr (below_lt x a b).symm
  refine beats_of_lex x ?_
  unfold place
  simp only [e]
  unfold sortedFrom
  have hp := pairwise_stableSort_lex (below x) (· < ·) (List.finRange 8) (List.pairwise_lt_finRange 8)
  exact List.pairwise_iff_get.mp hp _ _ h

/-- Every expert has a place. -/
theorem exists_place (j : Fin 8) : ∃ k, place x k = j := sortedFrom_surjective _ j

theorem first_beats {j : Fin 8} (h : j ≠ first x) : Beats x (first x) j := by
  obtain ⟨k, rfl⟩ := exists_place x j
  refine place_beats x ?_
  rcases Nat.eq_zero_or_pos k.val with hk | hk
  · exact absurd (congrArg (place x) (Fin.ext hk : k = 0)) h
  · exact hk

theorem second_beats {j : Fin 8} (h : j ≠ first x) (h' : j ≠ second x) : Beats x (second x) j := by
  obtain ⟨k, rfl⟩ := exists_place x j
  refine place_beats x ?_
  by_contra hk
  have : k.val = 0 ∨ k.val = 1 := by
    have : ¬1 < k.val := hk
    omega
  rcases this with hk | hk
  · exact h (congrArg (place x) (Fin.ext hk : k = 0))
  · exact h' (congrArg (place x) (Fin.ext hk : k = 1))

theorem second_ne_first : second x ≠ first x := fun h => by
  have := place_beats x (show (0 : Fin 8) < 1 by decide)
  rw [show place x 1 = place x 0 from h] at this
  rcases this with h | ⟨-, h⟩
  · exact lt_irrefl _ h
  · exact lt_irrefl _ h

theorem Beats.le {x : Fin 8 → EReal} {i j : Fin 8} (h : Beats x i j) : x j ≤ x i := by
  rcases h with h | ⟨h, -⟩
  · exact h.le
  · exact h.ge

theorem Beats.lt {x : Fin 8 → EReal} {i j : Fin 8} (h : Beats x i j) (hji : j < i) : x j < x i := by
  rcases h with h | ⟨-, h⟩
  · exact h
  · exact absurd h (not_lt.mpr hji.le)

/-! ## The same choice made over a row of 128 lanes -/

/-- An expert's lane. -/
abbrev lane (i : Fin 8) : Fin 128 := ⟨i.val, by omega⟩

/-- The scores over 128 lanes, `-∞` past the eighth. -/
def wide (e : Fin 128) : EReal := if h : e.val < 8 then x ⟨e.val, h⟩ else ⊥

/-- The same without the first choice. -/
def rest (e : Fin 128) : EReal := if e = lane (first x) then ⊥ else wide x e

theorem wide_lane (i : Fin 8) : wide x (lane i) = x i := dif_pos i.isLt

theorem rest_second : rest x (lane (second x)) = x (second x) := by
  rw [rest, if_neg (show ¬lane (second x) = lane (first x) from fun h => second_ne_first x (Fin.ext (congrArg Fin.val h :))), wide_lane]

theorem wide_le (e : Fin 128) : wide x e ≤ wide x (lane (first x)) := by
  rw [wide_lane, wide]
  split
  · next h =>
    by_cases he : (⟨e.val, h⟩ : Fin 8) = first x
    · rw [he]
    · exact (first_beats x he).le
  · exact bot_le

theorem wide_lt (e : Fin 128) (he : e < lane (first x)) : wide x e < wide x (lane (first x)) := by
  have h1 : e.val < (first x).val := he
  have h : e.val < 8 := h1.trans (first x).isLt
  rw [wide_lane, wide, dif_pos h]
  exact (first_beats x fun h' => absurd (congrArg Fin.val h' : e.val = (first x).val) (by omega)).lt h1

theorem rest_le (e : Fin 128) : rest x e ≤ rest x (lane (second x)) := by
  rw [rest_second, rest]
  split
  · exact bot_le
  · next h1 =>
    rw [wide]
    split
    · next h =>
      by_cases he : (⟨e.val, h⟩ : Fin 8) = second x
      · rw [he]
      · exact (second_beats x (fun h' => h1 (Fin.ext (congrArg Fin.val h' :))) he).le
    · exact bot_le

theorem rest_lt (hx : ∀ i, x i ≠ ⊥) (e : Fin 128) (he : e < lane (second x)) : rest x e < rest x (lane (second x)) := by
  have h2 : e.val < (second x).val := he
  have h : e.val < 8 := h2.trans (second x).isLt
  rw [rest_second, rest]
  split
  · exact bot_lt_iff_ne_bot.mpr (hx _)
  · next h1 =>
    rw [wide, dif_pos h]
    exact (second_beats x (fun h' => h1 (Fin.ext (congrArg Fin.val h' :))) fun h' => absurd (congrArg Fin.val h' : e.val = (second x).val) (by omega)).lt h2

/-- The greatest of 128 values, where it is known which. -/
theorem fold_max {f : Fin 128 → EReal} {p : Fin 128} (h : ∀ k, f k ≤ f p) : Finset.univ.fold max ⊥ f = f p :=
  le_antisymm ((Finset.fold_max_le _).mpr ⟨bot_le, fun k _ => h k⟩) ((Finset.le_fold_max _).mpr (Or.inr ⟨p, Finset.mem_univ p, le_rfl⟩))

theorem toInt_lane (k : ℕ) (h : k < 2 ^ 31) : (BitVec.ofNat 32 k).toInt = k := by
  rw [BitVec.toInt_eq_toNat_cond, BitVec.toNat_ofNat, Nat.mod_eq_of_lt (by omega), if_pos (by omega)]

/-- The least lane that holds the greatest value, where it is known which. -/
theorem fold_min {f : Fin 128 → EReal} {p : Fin 128} (h : ∀ k, k < p → f k < f p) (g : Fin 128 → BitVec 32)
    (hg : ∀ k, g k = if f k = f p then BitVec.ofNat 32 k.val else 128#32) :
    Finset.univ.fold IntOp.minsi 2147483647#32 g = BitVec.ofNat 32 p.val := by
  refine BitVec.eq_of_toInt_eq ?_
  rw [← Finset.fold_hom (op' := min) (m := BitVec.toInt) SortNet.toInt_minsi, toInt_lane p.val (by omega)]
  have hp : (g p).toInt = p.val := by rw [hg, if_pos rfl, toInt_lane _ (by omega)]
  refine le_antisymm ((Finset.fold_min_le _).mpr (Or.inr ⟨p, Finset.mem_univ p, hp.le⟩)) ((Finset.le_fold_min _).mpr ⟨?_, fun k _ => ?_⟩)
  · have : (2147483647#32).toInt = 2147483647 := by decide
    omega
  · rw [hg]
    split
    · next he =>
      rw [toInt_lane _ (by omega)]
      by_contra hk
      exact absurd he (h k (by show k.val < p.val; omega)).ne
    · have : (128#32).toInt = 128 := by decide
      omega

/-! ## Comparisons of words -/

theorem cmp_eq {a b : ℕ} (ha : a < 2 ^ 31) (hb : b < 2 ^ 31) :
    IntOp.cmpi .eq (BitVec.ofNat 32 a) (BitVec.ofNat 32 b) = 1#1 ↔ a = b := by
  show BitVec.ofBool (BitVec.ofNat 32 a == BitVec.ofNat 32 b) = 1#1 ↔ _
  rw [show (1#1 : BitVec 1) = BitVec.ofBool true from rfl, BitVec.ofBool_eq_iff_eq, beq_iff_eq]
  refine ⟨fun h => ?_, fun h => congrArg _ h⟩
  have h1 := congrArg BitVec.toInt h
  rw [toInt_lane a ha, toInt_lane b hb] at h1
  exact_mod_cast h1

theorem cmp_lt {a b : ℕ} (ha : a < 2 ^ 31) (hb : b < 2 ^ 31) :
    IntOp.cmpi .slt (BitVec.ofNat 32 a) (BitVec.ofNat 32 b) = 1#1 ↔ a < b := by
  show BitVec.ofBool ((BitVec.ofNat 32 a).slt (BitVec.ofNat 32 b)) = 1#1 ↔ _
  rw [show (1#1 : BitVec 1) = BitVec.ofBool true from rfl, BitVec.ofBool_eq_iff_eq, BitVec.slt_eq_decide, decide_eq_true_iff,
    toInt_lane a ha, toInt_lane b hb]
  exact_mod_cast Iff.rfl

theorem cmp_gt {a b : ℕ} (ha : a < 2 ^ 31) (hb : b < 2 ^ 31) :
    IntOp.cmpi .sgt (BitVec.ofNat 32 a) (BitVec.ofNat 32 b) = 1#1 ↔ b < a := cmp_lt hb ha

/-! ## The weights -/

/-- How much the second choice counts against the first. -/
def odds : EReal := Ideal.exp (x (second x) - x (first x))

/-- The weight of lane `e`: the softmax of the two chosen scores, and `0` elsewhere. -/
def weight (e : Fin 128) : EReal :=
  (if e = lane (first x) then Ideal.div 1 (1 + odds x) else 0) + if e = lane (second x) then Ideal.div (odds x) (1 + odds x) else 0

/-- `1` at the lane of expert `i`, `0` elsewhere. -/
def mark (i : Fin 8) (e : Fin 128) : EReal := if e = lane i then 1 else 0

/-- `1` at both chosen lanes. -/
def chosen (e : Fin 128) : EReal := mark (first x) e + mark (second x) e

/-- Of the rows before row `n`, how many go to lane `e`. -/
def count (X : ℕ → Fin 8 → EReal) (n : ℕ) (e : Fin 128) : EReal := ∑ i ∈ Finset.range n, chosen (X i) e

end Cert.RouterSpec

end
-- ==== Proof.RouterBody.lean ====
module

public import proofs.«01_k».proof.Proof.Gen.RouterIdeal.Frame
public import proofs.«01_k».proof.Proof.RouterSpec
public import Idealize.ShloMosaic.Lib.Pipeline.ReadBack
public import Idealize.ShloMosaic.Lib.Pointwise

/-! # What one grid point of the router computes -/

@[expose] public section

set_option maxRecDepth 16384

noncomputable section

namespace Cert.RouterIdeal.Val

open Cert.RouterIdeal Cert.RouterIdeal.Gen Idealize.ShloMosaic Idealize.ShloMosaic.TcCoe Idealize.SL.Sem
open Cert.RouterSpec

/-- A row's scores over a point's blocks. -/
def scores (x0 : Vec Ideal S512x2048 .bf16) (x1 : Vec Ideal S2048x128 .bf16) (r : Fin 512) (i : Fin 8) : EReal :=
  ∑ d : Fin 2048, x0 (ix2 r d) * x1 (ix2 d (lane i))

/-- The bits of `-∞`. -/
theorem neg_inf : Ideal.ofBits .f32 0xFF800000#32 = ⊥ := by
  simp [Ideal.ofBits, Ideal.ieee]

/-- Whether lane `e` is expert `i`'s, as a bit. -/
def isLane (i : Fin 8) (e : Fin 128) : BitVec 1 := IntOp.cmpi .eq (BitVec.ofNat 32 e.val) (BitVec.ofNat 32 i.val)

theorem isLane_iff (i : Fin 8) (e : Fin 128) : isLane i e = 1#1 ↔ e = lane i :=
  (cmp_eq (by omega) (by omega)).trans ⟨fun h => Fin.ext h, fun h => congrArg Fin.val h⟩

/-- A choice by the bit is a choice by the lane. -/
theorem select_lane (i : Fin 8) (e : Fin 128) (a b : EReal) : Scalar.select (isLane i e) a b = if e = lane i then a else b :=
  if_congr (isLane_iff i e) rfl rfl

variable (x0 : Vec Ideal S512x2048 .bf16) (x1 : Vec Ideal S2048x128 .bf16)

theorem pay5 (r : Fin 512) (e : Fin 128) : k0_pay5 x0 x1 (ix2 r e) = wide (scores x0 x1 r) e := by
  unfold k0_pay5
  pointwise [wide, scores]
  rw [neg_inf]
  refine (if_congr (cmp_lt (by omega) (by omega) : _ ↔ e.val < 8) rfl rfl).trans ?_
  split <;> rfl

theorem pay6 (r : Fin 512) : k0_pay6 x0 x1 (ix2 r 0) = scores x0 x1 r (first (scores x0 x1 r)) := by
  unfold k0_pay6
  pointwise [pay5]
  rw [neg_inf]
  exact (fold_max (wide_le _)).trans (wide_lane _ _)

theorem pay7 (r : Fin 512) : k0_pay7 x0 x1 (ix2 r 0) = BitVec.ofNat 32 (first (scores x0 x1 r)).val := by
  unfold k0_pay7
  pointwise [pay5, pay6]
  refine fold_min (p := lane (first (scores x0 x1 r))) (wide_lt _) _ fun k => ?_
  rw [wide_lane]

theorem pay8 (r : Fin 512) (e : Fin 128) : k0_pay8 x0 x1 (ix2 r e) = rest (scores x0 x1 r) e := by
  unfold k0_pay8
  pointwise [pay5, pay7]
  rw [neg_inf]
  exact select_lane _ _ _ _

theorem pay9 (r : Fin 512) : k0_pay9 x0 x1 (ix2 r 0) = scores x0 x1 r (second (scores x0 x1 r)) := by
  unfold k0_pay9
  pointwise [pay8]
  rw [neg_inf]
  exact (fold_max (rest_le _)).trans (rest_second _)

theorem pay10 (r : Fin 512) : k0_pay10 x0 x1 (ix2 r 0) = odds (scores x0 x1 r) := by
  unfold k0_pay10
  pointwise [pay9, pay6, odds]

theorem pay11 (r : Fin 512) (e : Fin 128) : k0_pay11 x0 x1 (ix2 r e) = isLane (first (scores x0 x1 r)) e := by
  unfold k0_pay11
  pointwise [pay7, isLane]

theorem pay12 (r : Fin 512) (hx : ∀ i, scores x0 x1 r i ≠ ⊥) (e : Fin 128) :
    k0_pay12 x0 x1 (ix2 r e) = isLane (second (scores x0 x1 r)) e := by
  unfold k0_pay12
  pointwise [pay8, pay9, isLane]
  refine congrArg _ (fold_min (p := lane (second (scores x0 x1 r))) (rest_lt _ hx) _ fun k => ?_)
  rw [rest_second]

/-- What the kernel stores of the weights, the two marks, the marks together and the counts. -/
theorem weights (r : Fin 512) (hx : ∀ i, scores x0 x1 r i ≠ ⊥) (e : Fin 128) :
    k0_pay15 (k0_pay10 x0 x1) (k0_pay11 x0 x1) (k0_pay12 x0 x1) (k0_pay13 x0 x1) k0_pay14 (ix2 r e) = weight (scores x0 x1 r) e := by
  unfold k0_pay15 k0_pay13 k0_pay14
  pointwise [pay10, pay11]
  rw [pay12 x0 x1 r hx, select_lane, select_lane, weight]

theorem mark1 (r : Fin 512) (e : Fin 128) : k0_pay16 (F := Ideal) (k0_pay11 x0 x1) (ix2 r e) = mark (first (scores x0 x1 r)) e := by
  unfold k0_pay16
  pointwise [pay11]
  exact select_lane _ _ _ _

theorem mark2 (r : Fin 512) (hx : ∀ i, scores x0 x1 r i ≠ ⊥) (e : Fin 128) :
    k0_pay17 (F := Ideal) (k0_pay12 x0 x1) (ix2 r e) = mark (second (scores x0 x1 r)) e := by
  unfold k0_pay17
  pointwise
  rw [pay12 x0 x1 r hx]
  exact select_lane _ _ _ _

/-- Either bit set: the lane is one of the two. -/
theorem either (x : Fin 8 → EReal) (e : Fin 128) (a : EReal) :
    Scalar.select (IntOp.ori (isLane (first x) e) (isLane (second x) e)) a 0 = chosen x e * a := by
  have h1 := isLane_iff (first x) e
  have h2 := isLane_iff (second x) e
  have hne : ¬(e = lane (first x) ∧ e = lane (second x)) := fun h =>
    second_ne_first x (Fin.ext (congrArg Fin.val (h.2.symm.trans h.1) :))
  have hb : ∀ p q : BitVec 1, IntOp.ori p q = 1#1 ↔ p = 1#1 ∨ q = 1#1 := by decide
  refine (if_congr ((hb _ _).trans (or_congr h1 h2)) rfl rfl).trans ?_
  unfold chosen mark
  by_cases a1 : e = lane (first x) <;> by_cases a2 : e = lane (second x)
  · exact absurd ⟨a1, a2⟩ hne
  · rw [if_pos (Or.inl a1), if_pos a1, if_neg a2, add_zero, one_mul]
  · rw [if_pos (Or.inr a2), if_neg a1, if_pos a2, zero_add, one_mul]
  · rw [if_neg (not_or.mpr ⟨a1, a2⟩), if_neg a1, if_neg a2, add_zero, zero_mul]

theorem both (hx : ∀ r i, scores x0 x1 r i ≠ ⊥) (r : Fin 512) (e : Fin 128) :
    k0_pay19 (F := Ideal) (k0_pay11 x0 x1) (k0_pay12 x0 x1) (ix2 r e) = chosen (scores x0 x1 r) e := by
  unfold k0_pay19
  pointwise [pay11]
  rw [pay12 x0 x1 r (hx r), either, mul_one]

/-- The rows above row `r` of the block that go to lane `e`. -/
theorem above (hx : ∀ r i, scores x0 x1 r i ≠ ⊥) (r : Fin 512) (e : Fin 128) :
    k0_pay20 (F := Ideal) (k0_pay11 x0 x1) (k0_pay12 x0 x1) (ix2 r e)
      = ∑ k : Fin 512, if k.val < r.val then chosen (scores x0 x1 k) e else 0 := by
  unfold k0_pay20 k0_pay19
  pointwise [pay11]
  refine Finset.sum_congr rfl fun k _ => ?_
  rw [pay12 x0 x1 k (hx k), either]
  refine (congrArg _ (if_congr (cmp_gt (by omega) (by omega)) rfl rfl)).trans ?_
  split
  · exact mul_one _
  · exact mul_zero _

/-- The counts a point leaves: those it met and the block's. -/
theorem pay2 (hx : ∀ r i, scores x0 x1 r i ≠ ⊥) (v : Vec Ideal S1x128 .f32) (e : Fin 128) :
    k0_pay2 (F := Ideal) (k0_pay19 (k0_pay11 x0 x1) (k0_pay12 x0 x1)) v (ix2 0 e)
      = v (ix2 0 e) + ∑ k : Fin 512, chosen (scores x0 x1 k) e := by
  unfold k0_pay2
  pointwise [both x0 x1 hx]

end Cert.RouterIdeal.Val

end
-- ==== Proof.RouterKernel.lean ====
module

public import proofs.«01_k».proof.Proof.Gen.RouterIdeal.Value
public import proofs.«01_k».proof.Proof.RouterBody
public import Idealize.ShloMosaic.Lib.Pipeline.ReadBack
public import Idealize.ShloMosaic.Lib.Pipeline.ValueKit

/-! # What the router's output arrays hold -/

@[expose] public section

set_option maxRecDepth 16384

noncomputable section

namespace Cert.RouterIdeal.Val

open Cert.RouterIdeal Cert.RouterIdeal.Gen Idealize.ShloMosaic Idealize.ShloMosaic.TcCoe Idealize.SL.Sem
open Cert.RouterSpec

/-- The first row of the counts, which all eight rows repeat. -/
def topRow (v : Vec Ideal S8x128 .f32) : Vec Ideal S1x128 .f32 := fun j => v (ix2 0 (j 1))

/-- What a point leaves in its five output blocks and in the counts it carries, over its blocks and the counts it meets. -/
def step (x0 : Vec Ideal S512x2048 .bf16) (x1 : Vec Ideal S2048x128 .bf16) (v : Vec Ideal S8x128 .f32) :
    Vec Ideal S512x128 .f32 × Vec Ideal S512x128 .f32 × Vec Ideal S512x128 .f32 × Vec Ideal S512x128 .f32 × Vec Ideal S8x128 .f32 × Vec Ideal S8x128 .f32 :=
  (k0_pay15 (k0_pay10 x0 x1) (k0_pay11 x0 x1) (k0_pay12 x0 x1) (k0_pay13 x0 x1) k0_pay14,
    k0_pay16 (F := Ideal) (k0_pay11 x0 x1),
    k0_pay17 (F := Ideal) (k0_pay12 x0 x1),
    k0_pay1 (F := Ideal) (topRow v) (k0_pay20 (F := Ideal) (k0_pay11 x0 x1) (k0_pay12 x0 x1)),
    k0_pay4 (F := Ideal) (k0_pay19 (F := Ideal) (k0_pay11 x0 x1) (k0_pay12 x0 x1)) (topRow v),
    k0_pay3 (F := Ideal) (k0_pay19 (F := Ideal) (k0_pay11 x0 x1) (k0_pay12 x0 x1)) (topRow v))

variable (m : (ℓ : Loc nD τ sig) → Buf (Elt Ideal) ℓ) (c : Dev nD)

/-- Reading the first row of the counts. -/
theorem ld_row (v : Vec Ideal S8x128 .f32) :
    View.ld v (Rect.unit (s := S8x128) ![0, 0] ![1, 128] inb_S8x128_S1x128_0_0) = topRow v := by
  funext y
  idx_vars y
  pointwise [topRow]

/-- What the first point stores into the counts is zero. -/
theorem pay18_zero : k0_pay18 (F := Ideal) = fun _ => 0 := by
  funext y
  pointwise [k0_pay18]

/-- A later point adds to the counts it meets. -/
theorem outs_later (t : Fin cfg0.N) (h0 : ¬t.val % 16 = 0) :
    outsAt0 m c t.val t.isLt = step (iblk m c 0 t) (iblk m c 1 t) (outsAt0 m c (t.val - 1) (by have := t.isLt; omega)).2.2.2.2.2 := by
  rw [outsAt0_B m c t h0]
  refine Prod.ext ?_ (Prod.ext ?_ (Prod.ext ?_ (Prod.ext ?_ (Prod.ext ?_ ?_))))
  all_goals
    dsimp only [step]
    frame_out
  all_goals
    simp only [ld_row]
    first
      | rfl
      | exact congrArg (fun v => k0_pay1 (topRow v) _) ((Memref.isWhole_whole cc0_scratch0).read_unread _)
      | exact congrArg (fun v => k0_pay4 _ (topRow v)) ((Memref.isWhole_whole cc0_scratch0).read_unread _)
      | exact congrArg (fun v => k0_pay3 _ (topRow v)) ((Memref.isWhole_whole cc0_scratch0).read_unread _)

/-- The first point starts from zeros. -/
theorem outs_first (t : Fin cfg0.N) (h0 : t.val % 16 = 0) :
    outsAt0 m c t.val t.isLt = step (iblk m c 0 t) (iblk m c 1 t) (fun _ => 0) := by
  rw [outsAt0_A m c t h0]
  refine Prod.ext ?_ (Prod.ext ?_ (Prod.ext ?_ (Prod.ext ?_ (Prod.ext ?_ ?_))))
  all_goals
    dsimp only [step]
    frame_open
    try simp (disch := decide) only [↓View.readCov_fill]
    frame_out
  all_goals
    rw [pay18_zero, ld_row]

end Cert.RouterIdeal.Val

end
-- ==== Proof.RouterBlocks.lean ====
module

public import proofs.«01_k».proof.Proof.RouterKernel
public import Idealize.ShloMosaic.Lib.Routing.OpsOne
public import Idealize.ShloMosaic.Lib.Routing.OpsSet

/-! # The blocks that the router reads

The host writes the gate's eight columns over the first eight of 128 columns of zeros. A point reads 512 rows of the
activations and all of the widened gate.
-/

@[expose] public section

set_option maxRecDepth 16384

noncomputable section

namespace Cert.RouterIdeal.Val

open Cert.RouterIdeal Cert.RouterIdeal.Gen Idealize.ShloMosaic Idealize.ShloMosaic.TcCoe Idealize.SL.Sem
open Cert.RouterSpec Idealize.ShloMosaic.Routing

section
variable (d : ScatterDims S2048x128 S1 S2048x8) (hu : d.updateWindowDims = [0, 1]) (hi : d.insertedWindowDims = [])
  (hs : d.scatterDimsToOperandDims = [1]) (hv : d.indexVectorDim = 0) (w : IVec S1 32) (hw : ∀ j, w j = 0#32)
include hu hi hs hv hw

/-- Where an entry of the eight columns lands: in its own row and column. -/
theorem lands (k : S2048x8.Idx) (p : Fin 2048) (e : Fin 128) :
    d.resultIdx? k w = some (ix2 p e) ↔ (k 0).val = p.val ∧ (k 1).val = e.val := by
  obtain ⟨a, b, c, v, h⟩ := d
  dsimp only at hu hi hs hv
  subst hu hi hs hv
  refine (resultIdx?_ix2 (R := 2048) (C := 128) _ k w p e).trans ?_
  have s0 : ScatterDims.start ⟨[0, 1], [], [1], 0, h⟩ k w 0 = 0 := rfl
  have s1 : ScatterDims.start ⟨[0, 1], [], [1], 0, h⟩ k w 1 = 0 := by
    unfold ScatterDims.start
    rw [dif_pos (show (1 : Fin 2) ∈ [1] from List.mem_singleton.2 rfl), hw]
    rfl
  have w0 : ScatterDims.window ⟨[0, 1], [], [1], 0, h⟩ k 0 = (k 0).val := rfl
  have w1 : ScatterDims.window ⟨[0, 1], [], [1], 0, h⟩ k 1 = (k 1).val := rfl
  rw [s0, s1, w0, w1]
  omega

/-- The first eight columns of the widened gate are the gate's. -/
theorem widened (x : Vec Ideal S2048x128 .bf16) (u : Vec Ideal S2048x8 .bf16) (p : Fin 2048) (i : Fin 8) :
    Host.scatter d (fun _ b => b) x w u (ix2 p (lane i)) = u (ix2 p i) :=
  scatter_set_hit d x w u _ _ (fun k hk => by
    obtain ⟨h0, h1⟩ := (lands d hu hi hs hv w hw k p (lane i)).1 hk
    exact congrArg u ((eq_ix2 k).trans (congrArg₂ ix2 (Fin.ext h0) (Fin.ext h1))))
    (ix2 p i) ((lands d hu hi hs hv w hw _ p (lane i)).2 ⟨rfl, rfl⟩)
end

variable (m : (ℓ : Loc nD τ sig) → Buf (Elt Ideal) ℓ) (c : Dev nD)

/-- The activations. -/
def ah (i : Fin 8192) (d : Fin 2048) : EReal := m ((c : Thread nD τ).loc main_arg0) (ix2 i d)
/-- The gate's columns. -/
def aw (d : Fin 2048) (i : Fin 8) : EReal := m ((c : Thread nD τ).loc main_arg1) (ix2 d i)

/-- Row `r` of point `t`'s tile. -/
def rowOf (t : ℕ) (r : Fin 512) : Fin 8192 := ⟨t % 16 * 512 + r.val, by have := r.isLt; omega⟩

/-- The block indices of a point. -/
theorem idx : ∀ t : Fin cfg0.N, win0_0.index t = ![t.val, 0] ∧ win0_1.index t = ![0, 0]
    ∧ win0_2.index t = ![t.val, 0] ∧ win0_3.index t = ![t.val, 0] ∧ win0_4.index t = ![t.val, 0]
    ∧ win0_5.index t = ![t.val, 0] ∧ win0_6.index t = ![0, 0] :=
  (by decide +kernel : ∀ t : Fin grid0.N, _)

/-- A point's rows of the activations. -/
theorem b0 (t : Fin cfg0.N) (r : Fin 512) (d : Fin 2048) : iblk m c 0 t (ix2 r d) = ah m c (rowOf t.val r) d := by
  have ht := lt_of_lt_of_eq t.isLt (show cfg0.N = 16 from N_0)
  unfold ah rowOf
  rw [← V_main_arg0 m c]
  blk_ext [iblk, idx t]

/-- The host's widened gate, in the first eight lanes. -/
theorem tab (d : Fin 2048) (i : Fin 8) : V m c main_v2 (ix2 d (lane i)) = aw m c d i := by
  show StableHlo.after hostOps0 _ _ _ = _
  after_results_simp
  exact widened _ rfl rfl rfl rfl _ (fun _ => rfl) _ _ d i

/-- The gate, in the first eight lanes. -/
theorem b1 (t : Fin cfg0.N) (d : Fin 2048) (i : Fin 8) : iblk m c 1 t (ix2 d (lane i)) = aw m c d i := by
  have ht := lt_of_lt_of_eq t.isLt (show cfg0.N = 16 from N_0)
  rw [← tab]
  generalize lane i = q
  blk_simp [iblk, idx t]
  have e : (win0_1.blk t).view.emb (ix2 d q) = ix2 d q := by
    blk_ext [idx t]
  rw [e]

end Cert.RouterIdeal.Val

end
-- ==== Proof.RouterState.lean ====
module

public import proofs.«01_k».proof.Proof.RouterBlocks

/-! # The router over its grid

Each point meets in the scratch, for every lane, the number of earlier rows that go there. -/

@[expose] public section

set_option maxRecDepth 16384

noncomputable section

namespace Cert.RouterIdeal.Val

open Cert.RouterIdeal Cert.RouterIdeal.Gen Idealize.ShloMosaic Idealize.ShloMosaic.TcCoe Idealize.SL.Sem
open Cert.RouterSpec

/-- The counts over a block are the counts up to its rows. -/
theorem count_add (X : ℕ → Fin 8 → EReal) (a n : ℕ) (e : Fin 128) :
    count X a e + ∑ k : Fin n, chosen (X (a + k.val)) e = count X (a + n) e := by
  unfold RouterSpec.count
  rw [Finset.sum_range_add, Fin.sum_univ_eq_sum_range (fun k => chosen (X (a + k)) e)]

/-- The rows above row `r` of a block. -/
theorem count_above (X : ℕ → Fin 8 → EReal) (a : ℕ) (r : Fin 512) (e : Fin 128) :
    count X a e + (∑ k : Fin 512, if k.val < r.val then chosen (X (a + k.val)) e else 0) = count X (a + r.val) e := by
  unfold RouterSpec.count
  rw [Finset.sum_range_add, Fin.sum_univ_eq_sum_range (fun k => if k < r.val then chosen (X (a + k)) e else 0), ← Finset.sum_filter]
  refine congrArg _ (Finset.sum_congr (Finset.ext fun k => ?_) fun _ _ => rfl)
  have := r.isLt
  simp only [Finset.mem_filter, Finset.mem_range]
  omega

section
variable (x0 : Vec Ideal S512x2048 .bf16) (x1 : Vec Ideal S2048x128 .bf16) (hx : ∀ r i, scores x0 x1 r i ≠ ⊥) (v : Vec Ideal S8x128 .f32)
include hx

/-- The counts that a point writes out. -/
theorem step_out (p : Fin 8) (e : Fin 128) :
    (step x0 x1 v).2.2.2.2.1 (ix2 p e) = v (ix2 0 e) + ∑ k : Fin 512, chosen (scores x0 x1 k) e := by
  unfold step k0_pay4
  pointwise [pay2 x0 x1 hx, topRow]

/-- The counts that a point hands on. -/
theorem step_carry (p : Fin 8) (e : Fin 128) :
    (step x0 x1 v).2.2.2.2.2 (ix2 p e) = v (ix2 0 e) + ∑ k : Fin 512, chosen (scores x0 x1 k) e := by
  unfold step k0_pay3
  pointwise [pay2 x0 x1 hx, topRow]

/-- The ranks that a point writes out. -/
theorem step_rank (r : Fin 512) (e : Fin 128) :
    (step x0 x1 v).2.2.2.1 (ix2 r e) = v (ix2 0 e) + ∑ k : Fin 512, if k.val < r.val then chosen (scores x0 x1 k) e else 0 := by
  unfold step k0_pay1
  pointwise [above x0 x1 hx, topRow]
end

variable (m : (ℓ : Loc nD τ sig) → Buf (Elt Ideal) ℓ) (c : Dev nD)

/-- The scores of row `n`. -/
def rowScores (n : ℕ) (i : Fin 8) : EReal := ∑ d : Fin 2048, ah m c ⟨n % 8192, Nat.mod_lt _ (by omega)⟩ d * aw m c d i

/-- A point's scores are those of its rows. -/
theorem scores_eq (t : Fin cfg0.N) (r : Fin 512) :
    scores (iblk m c 0 t) (iblk m c 1 t) r = rowScores m c (512 * t.val + r.val) := by
  have ht := lt_of_lt_of_eq t.isLt (show cfg0.N = 16 from N_0)
  funext i
  unfold scores rowScores
  refine Finset.sum_congr rfl fun d _ => ?_
  rw [b0, b1]
  refine congrArg (fun q => ah m c q d * aw m c d i) (Fin.ext ?_)
  show t.val % 16 * 512 + r.val = (512 * t.val + r.val) % 8192
  have := r.isLt
  omega

/-- The counts that point `n` meets. -/
def met (n : ℕ) : Vec Ideal S8x128 .f32 := fun j => count (rowScores m c) (512 * n) (j 1)

variable (hX : ∀ n i, rowScores m c n i ≠ ⊥)
include hX

/-- No score of a block is `-∞`. -/
theorem blk_ne (t : Fin cfg0.N) (r : Fin 512) (i : Fin 8) : scores (iblk m c 0 t) (iblk m c 1 t) r i ≠ ⊥ := by
  rw [scores_eq]
  exact hX _ _

/-- A point that meets the right counts hands on the right counts. -/
theorem carry (t : Fin cfg0.N) : (step (iblk m c 0 t) (iblk m c 1 t) (met m c t.val)).2.2.2.2.2 = met m c (t.val + 1) := by
  funext j
  idx_vars j
  rw [step_carry _ _ (blk_ne m c hX t)]
  simp only [scores_eq]
  exact count_add _ _ 512 _

/-- Every point meets the right counts. -/
theorem outs (n : ℕ) (hn : n < cfg0.N) :
    outsAt0 m c n hn = step (iblk m c 0 ⟨n, hn⟩) (iblk m c 1 ⟨n, hn⟩) (met m c n) := by
  induction n with
  | zero =>
    rw [outs_first m c ⟨0, hn⟩ rfl]
    refine congrArg (step _ _) (funext fun j => ?_)
    show 0 = count _ (512 * 0) (j 1)
    unfold RouterSpec.count
    rw [Nat.mul_zero, Finset.range_zero, Finset.sum_empty]
  | succ n ih =>
    have hN := lt_of_lt_of_eq hn (show cfg0.N = 16 from N_0)
    rw [outs_later m c ⟨n + 1, hn⟩ (by show ¬(n + 1) % 16 = 0; omega)]
    refine congrArg (step _ _) ?_
    have hn' : n < cfg0.N := by omega
    show (outsAt0 m c n hn').2.2.2.2.2 = _
    rw [ih hn']
    exact carry m c hX ⟨n, hn'⟩

end Cert.RouterIdeal.Val

end
-- ==== Proof.RouterArrays.lean ====
module

public import proofs.«01_k».proof.Proof.RouterState

/-! # The router's five output arrays -/

@[expose] public section

set_option maxRecDepth 131072

noncomputable section

namespace Cert.RouterIdeal.Val

open Cert.RouterIdeal Cert.RouterIdeal.Gen Idealize.ShloMosaic Idealize.ShloMosaic.TcCoe Idealize.SL.Sem
open Cert.RouterSpec

/-- The weights that a point writes out. -/
theorem step_weight (x0 : Vec Ideal S512x2048 .bf16) (x1 : Vec Ideal S2048x128 .bf16) (v : Vec Ideal S8x128 .f32) (r : Fin 512)
    (hx : ∀ i, scores x0 x1 r i ≠ ⊥) (e : Fin 128) : (step x0 x1 v).1 (ix2 r e) = weight (scores x0 x1 r) e := by
  unfold step
  dsimp only
  rw [weights x0 x1 r hx e]

/-- The second choices that a point writes out. -/
theorem step_mark2 (x0 : Vec Ideal S512x2048 .bf16) (x1 : Vec Ideal S2048x128 .bf16) (v : Vec Ideal S8x128 .f32) (r : Fin 512)
    (hx : ∀ i, scores x0 x1 r i ≠ ⊥) (e : Fin 128) : (step x0 x1 v).2.2.1 (ix2 r e) = mark (second (scores x0 x1 r)) e := by
  unfold step
  exact mark2 x0 x1 r hx e

/-- Only the last point writes the totals back. -/
theorem last : ∀ t : Fin cfg0.N, (cfg0.win 6).flush t = true → t.val = 15 :=
  (by decide +kernel : ∀ t : Fin grid0.N, _)

variable (m : (ℓ : Loc nD τ sig) → Buf (Elt Ideal) ℓ) (c : Dev nD)

/-- The weights. -/
def arr2 : Buf (Elt Ideal) ((c : Thread nD τ).loc main_v3_0) := fun i => weight (rowScores m c (i 0).val) (i 1)
/-- The first choices. -/
def arr3 : Buf (Elt Ideal) ((c : Thread nD τ).loc main_v3_1) := fun i => mark (first (rowScores m c (i 0).val)) (i 1)
/-- The second choices. -/
def arr4 : Buf (Elt Ideal) ((c : Thread nD τ).loc main_v3_2) := fun i => mark (second (rowScores m c (i 0).val)) (i 1)
/-- The ranks. -/
def arr5 : Buf (Elt Ideal) ((c : Thread nD τ).loc main_v3_3) := fun i => RouterSpec.count (rowScores m c) (i 0).val (i 1)
/-- The totals. -/
def arr6 : Buf (Elt Ideal) ((c : Thread nD τ).loc main_v3_4) := fun i => RouterSpec.count (rowScores m c) 8192 (i 1)

/-- The array's row of a tile's row. -/
theorem rowOf_val (t : Fin cfg0.N) (r : Fin 512) : (rowOf t.val r).val = 512 * t.val + r.val := by
  have ht := lt_of_lt_of_eq t.isLt (show cfg0.N = 16 from N_0)
  show t.val % 16 * 512 + r.val = _
  omega

variable (hX : ∀ n i, rowScores m c n i ≠ ⊥)
include hX

/-- What point `t` stores, block by block. -/
theorem at2 (t : Fin cfg0.N) (r : Fin 512) (e : Fin 128) :
    (outsAt0 m c t.val t.isLt).1 (ix2 r e) = weight (rowScores m c (rowOf t.val r).val) e := by
  rw [outs m c hX, rowOf_val, step_weight _ _ _ r (blk_ne m c hX t r), scores_eq]

theorem at3 (t : Fin cfg0.N) (r : Fin 512) (e : Fin 128) :
    (outsAt0 m c t.val t.isLt).2.1 (ix2 r e) = mark (first (rowScores m c (rowOf t.val r).val)) e := by
  rw [outs m c hX, rowOf_val, ← scores_eq]
  exact mark1 (iblk m c 0 t) (iblk m c 1 t) r e

theorem at4 (t : Fin cfg0.N) (r : Fin 512) (e : Fin 128) :
    (outsAt0 m c t.val t.isLt).2.2.1 (ix2 r e) = mark (second (rowScores m c (rowOf t.val r).val)) e := by
  rw [outs m c hX, rowOf_val, step_mark2 _ _ _ r (blk_ne m c hX t r), scores_eq]

theorem at5 (t : Fin cfg0.N) (r : Fin 512) (e : Fin 128) :
    (outsAt0 m c t.val t.isLt).2.2.2.1 (ix2 r e) = RouterSpec.count (rowScores m c) (rowOf t.val r).val e := by
  rw [outs m c hX, rowOf_val, step_rank _ _ (blk_ne m c hX t)]
  simp only [scores_eq]
  exact count_above _ _ r e

theorem at6 (t : Fin cfg0.N) (p : Fin 8) (e : Fin 128) :
    (outsAt0 m c t.val t.isLt).2.2.2.2.1 (ix2 p e) = RouterSpec.count (rowScores m c) (512 * t.val + 512) e := by
  rw [outs m c hX, step_out _ _ (blk_ne m c hX t)]
  simp only [scores_eq]
  exact count_add _ _ 512 e

theorem final2 : Value.G2 m c = arr2 m c := by
  rw [← Value.final2]
  refine (dats m 0 c).arrAt_eq_of_covers 2 _ (by decide +kernel) fun t hf z => ?_
  have ht := lt_of_lt_of_eq t.isLt (show cfg0.N = 16 from N_0)
  blk_simp
  rw [after0_2]
  idx_vars z
  have e : ((View.whole main_v3_0).slice (win0_2.rect t)).emb (ix2 z0 z1) = ix2 (rowOf t.val z0) z1 := by
    unfold rowOf
    blk_ext [idx t]
  rw [e]
  exact at2 m c hX t z0 z1

theorem final3 : Value.G3 m c = arr3 m c := by
  rw [← Value.final3]
  refine (dats m 0 c).arrAt_eq_of_covers 3 _ (by decide +kernel) fun t hf z => ?_
  have ht := lt_of_lt_of_eq t.isLt (show cfg0.N = 16 from N_0)
  blk_simp
  rw [after0_3]
  idx_vars z
  have e : ((View.whole main_v3_1).slice (win0_3.rect t)).emb (ix2 z0 z1) = ix2 (rowOf t.val z0) z1 := by
    unfold rowOf
    blk_ext [idx t]
  rw [e]
  exact at3 m c hX t z0 z1

theorem final4 : Value.G4 m c = arr4 m c := by
  rw [← Value.final4]
  refine (dats m 0 c).arrAt_eq_of_covers 4 _ (by decide +kernel) fun t hf z => ?_
  have ht := lt_of_lt_of_eq t.isLt (show cfg0.N = 16 from N_0)
  blk_simp
  rw [after0_4]
  idx_vars z
  have e : ((View.whole main_v3_2).slice (win0_4.rect t)).emb (ix2 z0 z1) = ix2 (rowOf t.val z0) z1 := by
    unfold rowOf
    blk_ext [idx t]
  rw [e]
  exact at4 m c hX t z0 z1

theorem final5 : Value.G5 m c = arr5 m c := by
  rw [← Value.final5]
  refine (dats m 0 c).arrAt_eq_of_covers 5 _ (by decide +kernel) fun t hf z => ?_
  have ht := lt_of_lt_of_eq t.isLt (show cfg0.N = 16 from N_0)
  blk_simp
  rw [after0_5]
  idx_vars z
  have e : ((View.whole main_v3_3).slice (win0_5.rect t)).emb (ix2 z0 z1) = ix2 (rowOf t.val z0) z1 := by
    unfold rowOf
    blk_ext [idx t]
  rw [e]
  exact at5 m c hX t z0 z1

theorem final6 : Value.G6 m c = arr6 m c := by
  rw [← Value.final6]
  refine (dats m 0 c).arrAt_eq_of_covers 6 _ (by decide +kernel) fun t hf z => ?_
  have ht := lt_of_lt_of_eq t.isLt (show cfg0.N = 16 from N_0)
  have hl : t.val = 15 := last t hf
  blk_simp
  rw [after0_6]
  idx_vars z
  have e : ((View.whole main_v3_4).slice (win0_6.rect t)).emb (ix2 z0 z1) = ix2 z0 z1 := by
    blk_ext [idx t]
  rw [e, at6 m c hX t z0 z1, hl]
  rfl

end Cert.RouterIdeal.Val

end
-- ==== Proof.RouterTop.lean ====
module

public import proofs.«01_k».proof.Proof.RouterSpec
public import Idealize.ShloMosaic.Lib.ValueIdxCore

/-! # The two greatest scores of every row, with their places -/

@[expose] public section

noncomputable section

namespace Cert.RouterTop

open Idealize.ShloMosaic Idealize.ShloMosaic.ValueIdx Cert.RouterSpec

/-- One of the two places among the eight. -/
abbrev nth (k : Fin 2) : Fin 8 := ⟨k.val, by omega⟩

/-- The order by the greater score. -/
theorem order (x : Fin 8 → EReal) :
    (fun a b => FloatOps.cmpfTotal (F := Ideal) (φ := .f32) .gt (x a) (x b) == 1#1) = fun a b => decide (x b < x a) := by
  funext a b
  show (BitVec.ofBool (decide (x b < x a)) == 1#1) = decide (x b < x a)
  cases decide (x b < x a) <;> rfl

/-- A sort of two matrices along the rows, at an entry. -/
theorem sort_rows {n : ℕ} {α β : Type} (cmp : α × β → α × β → BitVec 1) (x : (⟨2, ![n, 8]⟩ : Shape).Idx → α) (y : (⟨2, ![n, 8]⟩ : Shape).Idx → β)
    (i : Fin n) (k : Fin 8) :
    (Host.sort2 ⟨2, ![n, 8]⟩ 1 cmp x y).1 (ix2 i k)
        = x (ix2 i (sortedFrom (fun a b => cmp (x (ix2 i a), y (ix2 i a)) (x (ix2 i b), y (ix2 i b)) == 1#1) k))
      ∧ (Host.sort2 ⟨2, ![n, 8]⟩ 1 cmp x y).2 (ix2 i k)
        = y (ix2 i (sortedFrom (fun a b => cmp (x (ix2 i a), y (ix2 i a)) (x (ix2 i b), y (ix2 i b)) == 1#1) k)) := by
  have hj : ∀ q : Fin 8, Shape.Idx.along (s := ⟨2, ![n, 8]⟩) (ix2 i k) 1 q = ix2 i q := fun q => by
    funext a
    match a with
    | ⟨0, _⟩ => rfl
    | ⟨1, _⟩ => rfl
  have hp : (fun a b : Fin 8 => cmp (x (Shape.Idx.along (s := ⟨2, ![n, 8]⟩) (ix2 i k) 1 a), y (Shape.Idx.along (s := ⟨2, ![n, 8]⟩) (ix2 i k) 1 a))
        (x (Shape.Idx.along (s := ⟨2, ![n, 8]⟩) (ix2 i k) 1 b), y (Shape.Idx.along (s := ⟨2, ![n, 8]⟩) (ix2 i k) 1 b)) == 1#1)
      = fun a b => cmp (x (ix2 i a), y (ix2 i a)) (x (ix2 i b), y (ix2 i b)) == 1#1 := by
    funext a b
    rw [hj a, hj b]
  have e := hj (sortedFrom (fun a b : Fin 8 => cmp (x (Shape.Idx.along (s := ⟨2, ![n, 8]⟩) (ix2 i k) 1 a), y (Shape.Idx.along (s := ⟨2, ![n, 8]⟩) (ix2 i k) 1 a))
        (x (Shape.Idx.along (s := ⟨2, ![n, 8]⟩) (ix2 i k) 1 b), y (Shape.Idx.along (s := ⟨2, ![n, 8]⟩) (ix2 i k) 1 b)) == 1#1) k)
  unfold Host.sort2
  rw [dif_pos (show 1 < (⟨2, ![n, 8]⟩ : Shape).rank from Nat.one_lt_two)]
  rw [← hp]
  exact ⟨congrArg x e, congrArg y e⟩

variable {n : ℕ} (x : FVec Ideal ⟨2, ![n, 8]⟩ .f32) (h : (⟨2, ![n, 8]⟩ : Shape).Slices (fun _ => 0) ⟨2, ![n, 2]⟩) (i : Fin n) (k : Fin 2)

/-- The slice keeps the first two places. -/
theorem kept (hk : ∀ a : Fin 2, 0 + ((ix2 i k : (⟨2, ![n, 2]⟩ : Shape).Idx) a).val < (⟨2, ![n, 8]⟩ : Shape).size a) :
    (fun a => ⟨0 + ((ix2 i k : (⟨2, ![n, 2]⟩ : Shape).Idx) a).val, hk a⟩ : (⟨2, ![n, 8]⟩ : Shape).Idx) = ix2 i (nth k) := by
  funext a
  match a with
  | ⟨0, _⟩ => exact Fin.ext (Nat.zero_add _)
  | ⟨1, _⟩ => exact Fin.ext (Nat.zero_add _)

/-- The values kept are the scores of the first two experts in the order, -/
theorem top_val : (Host.topK ⟨2, ![n, 2]⟩ 1 (FloatOps.cmpfTotal .gt) x h).1 (ix2 i k)
    = x (ix2 i (place (fun e => x (ix2 i e)) (nth k))) := by
  unfold place
  rw [← order]
  unfold Host.topK extractStridedSlice
  dsimp only
  refine (congrArg _ (kept i k _)).trans (sort_rows _ _ _ i (nth k)).1

/-- and the words kept are those experts. -/
theorem top_idx : (Host.topK ⟨2, ![n, 2]⟩ 1 (FloatOps.cmpfTotal .gt) x h).2 (ix2 i k)
    = BitVec.ofNat 32 (place (fun e => x (ix2 i e)) (nth k)).val := by
  unfold place
  rw [← order]
  unfold Host.topK extractStridedSlice
  dsimp only
  refine (congrArg _ (kept i k _)).trans ((sort_rows _ _ _ i (nth k)).2.trans ?_)
  rw [dif_pos (show 1 < (⟨2, ![n, 8]⟩ : Shape).rank from Nat.one_lt_two)]
  rfl

end Cert.RouterTop

end
-- ==== Proof.RouterRunning.lean ====
module

public import Idealize.ShloMosaic.Lib.Routing.OpsOne
public import Idealize.ShloMosaic.PureOps.Ideal

/-! # Running sums down the rows of a matrix of extended reals -/

@[expose] public section

noncomputable section

namespace Cert.RouterRunning

open Idealize.ShloMosaic Idealize.ShloMosaic.Routing Idealize.ShloMosaic.ValueIdx

/-- Adding up from the left is the sum. -/
theorem foldl_sum {ι : Type} (g : ι → EReal) (l : List ι) (v : EReal) : l.foldl (fun r n => r + g n) v = v + (l.map g).sum := by
  induction l generalizing v with
  | nil => rw [List.foldl_nil, List.map_nil, List.sum_nil, add_zero]
  | cons n l ih => rw [List.foldl_cons, ih, List.map_cons, List.sum_cons, add_assoc]

/-- A window that ends at row `j`, over a column `f` with zeros before it. -/
theorem window_sum (f : ℕ → EReal) (b j : ℕ) (hj : j ≤ b) :
    (∑ n ∈ Finset.range (b + 1), if b ≤ j + n then f (j + n - b) else 0) = ∑ i ∈ Finset.range (j + 1), f i := by
  rw [show b + 1 = (b - j) + (j + 1) from by omega, Finset.sum_range_add, Finset.sum_eq_zero, zero_add]
  · refine Finset.sum_congr rfl fun i _ => ?_
    rw [if_pos (by omega), show j + (b - j + i) - b = i from by omega]
  · intro n hn
    rw [Finset.mem_range] at hn
    rw [if_neg (by omega)]

/-- The running sum at row `j`: the sum of the rows up to and with row `j`. -/
theorem running {R b C : ℕ} (hR : b + 1 = R) (x : FVec Ideal (shape2 R C) .f32) (f : ℕ → EReal) (c : Fin C)
    (hx : ∀ i : Fin R, x (ix2 i c) = f i.val) (init : FVec Ideal shape0 .f32) (hinit : ∀ i, init i = 0)
    (h : (shape2 R C).ReduceWindows (![R, 1] : Fin 2 → Nat) ![1, 1] ![b, 0] ![0, 0] (shape2 R C)) (hu : 0 < shape0.numel) (j : Fin R) :
    Host.reduceWindowAdd ![R, 1] ![1, 1] ![b, 0] ![0, 0] x init h hu (ix2 j c) = ∑ i ∈ Finset.range (j.val + 1), f i := by
  subst hR
  have hj := j.isLt
  have hc := c.isLt
  show Host.reduceWindow (fun a b : EReal => a + b) ![b + 1, 1] ![1, 1] ![b, 0] ![0, 0] x (fun _ : shape0.Idx => init (Shape.Idx.first hu)) h hu (ix2 j c) = _
  rw [hinit]
  unfold Host.reduceWindow
  refine (foldl_sum _ _ _).trans ?_
  rw [zero_add, ← Fin.sum_univ_def, ← window_sum f b j.val (by omega),
    ← Fin.sum_univ_eq_sum_range (fun n => if b ≤ j.val + n then f (j.val + n - b) else 0)]
  refine Fintype.sum_equiv (finCongr (numel_col (b + 1))) _ _ fun n => ?_
  have h0 : ((shape2 (b + 1) 1).rowMajor.symm n 0).val = n.val := by rw [symm_col]; rfl
  have h1 : ((shape2 (b + 1) 1).rowMajor.symm n 1).val = 0 := by rw [symm_col]; rfl
  show _ = if b ≤ j.val + n.val then f (j.val + n.val - b) else 0
  dsimp only
  split
  · next hin =>
    have hrow : b ≤ j.val * 1 + ((shape2 (b + 1) 1).rowMajor.symm n 0).val
        ∧ j.val * 1 + ((shape2 (b + 1) 1).rowMajor.symm n 0).val - b < b + 1 := hin 0
    rw [h0, Nat.mul_one] at hrow
    rw [if_pos hrow.1, ← hx ⟨j.val + n.val - b, hrow.2⟩]
    refine congrArg x ((eq_ix2 _).trans (congrArg₂ ix2 (Fin.ext ?_) (Fin.ext ?_)))
    · show j.val * 1 + ((shape2 (b + 1) 1).rowMajor.symm n 0).val - b = j.val + n.val - b
      rw [h0, Nat.mul_one]
    · show c.val * 1 + ((shape2 (b + 1) 1).rowMajor.symm n 1).val - 0 = c.val
      rw [h1]
      omega
  · next hin =>
    rw [if_neg fun hle => hin fun a => ?_]
    match a with
    | ⟨0, _⟩ =>
      show b ≤ j.val * 1 + ((shape2 (b + 1) 1).rowMajor.symm n 0).val
        ∧ j.val * 1 + ((shape2 (b + 1) 1).rowMajor.symm n 0).val - b < b + 1
      rw [h0]
      have : n.val < b + 1 := lt_of_lt_of_eq n.isLt (numel_col (b + 1))
      omega
    | ⟨1, _⟩ =>
      show 0 ≤ c.val * 1 + ((shape2 (b + 1) 1).rowMajor.symm n 1).val ∧ c.val * 1 + ((shape2 (b + 1) 1).rowMajor.symm n 1).val - 0 < C
      rw [h1]
      omega

end Cert.RouterRunning

end
-- ==== Proof.RouterFinite.lean ====
module

public import proofs.«01_k».proof.Pre_finite
public import Idealize.ShloMosaic.PureOps.Ideal
public import Idealize.ShloMosaic.Lib.ReduceAll

/-! # What the router's precondition says of its arguments -/

@[expose] public section

noncomputable section

namespace Cert.RouterFinite

open Idealize.ShloMosaic Cert.Pre_finite

/-- The bits of `∞`. -/
theorem pos_inf : Ideal.ofBits .bf16 0x7F80#16 = ⊤ := by
  simp [Ideal.ofBits, Ideal.ieee]

/-- Between the two infinities. -/
theorem between {x : EReal} (h : IntOp.andi (Ideal.cmp .olt (-Ideal.ofBits .bf16 0x7F80#16) x) (Ideal.cmp .olt x (Ideal.ofBits .bf16 0x7F80#16)) = 1#1) :
    x ≠ ⊥ ∧ x ≠ ⊤ := by
  have and_iff (a b : BitVec 1) : IntOp.andi a b = 1#1 ↔ a = 1#1 ∧ b = 1#1 := by revert a b; decide
  rw [pos_inf, EReal.neg_top] at h
  obtain ⟨l, u⟩ := (and_iff _ _).mp h
  have holds (p : Prop) [Decidable p] (hp : BitVec.ofBool (decide p) = 1#1) : p := by
    by_contra hn
    rw [decide_eq_false hn] at hp
    exact absurd hp (by decide)
  exact ⟨(holds _ l).ne', (holds _ u).ne⟩

/-- The precondition says that every entry of both arguments is a real number. -/
theorem decode [Facts] (a : FVec Ideal S8192x2048 .bf16) (b : FVec Ideal S2048x8 .bf16) (h : fn (F := Ideal) a b = fun _ => 1#1) :
    (∀ k, a k ≠ ⊥ ∧ a k ≠ ⊤) ∧ ∀ k, b k ≠ ⊥ ∧ b k ≠ ⊤ := by
  have and_iff (a b : BitVec 1) : IntOp.andi a b = 1#1 ↔ a = 1#1 ∧ b = 1#1 := by revert a b; decide
  have e := congrFun h (Shape.Idx.first Facts.h_S_)
  simp only [fn, andi, and_iff] at e
  obtain ⟨e1, e2⟩ := e
  haveI : Subsingleton S_.Idx := ⟨fun x y => funext fun a => a.elim0⟩
  exact ⟨fun k => between (Host.reduce_andi_all _ _ _ _ _ e1 k), fun k => between (Host.reduce_andi_all _ _ _ _ _ e2 k)⟩

/-- A sum of products of real numbers is a real number. -/
theorem sum_ne {n : ℕ} (f g : Fin n → EReal) (hf : ∀ k, f k ≠ ⊥ ∧ f k ≠ ⊤) (hg : ∀ k, g k ≠ ⊥ ∧ g k ≠ ⊤) :
    (∑ k, f k * g k) ≠ ⊥ ∧ (∑ k, f k * g k) ≠ ⊤ := by
  refine Finset.sum_induction _ (fun x : EReal => x ≠ ⊥ ∧ x ≠ ⊤) (fun a b ha hb => ?_) ⟨EReal.coe_ne_bot 0, EReal.coe_ne_top 0⟩ fun k _ => ?_
  · rw [← EReal.coe_toReal ha.2 ha.1, ← EReal.coe_toReal hb.2 hb.1, ← EReal.coe_add]
    exact ⟨EReal.coe_ne_bot _, EReal.coe_ne_top _⟩
  · rw [← EReal.coe_toReal (hf k).2 (hf k).1, ← EReal.coe_toReal (hg k).2 (hg k).1, ← EReal.coe_mul]
    exact ⟨EReal.coe_ne_bot _, EReal.coe_ne_top _⟩

end Cert.RouterFinite

end
-- ==== Proof.RouterRef.lean ====
module

public import proofs.«01_k».proof.Proof.Gen.RouterRefIdeal.Run
public import proofs.«01_k».proof.Proof.RouterTop
public import proofs.«01_k».proof.Proof.RouterRunning
public import proofs.«01_k».proof.Proof.RouterFinite
public import Idealize.ShloMosaic.Lib.Pipeline.ValueKit

/-! # The router's reference, read entry by entry -/

@[expose] public section

set_option maxRecDepth 131072

noncomputable section

namespace Cert.RouterRefIdeal.Read

open Cert.RouterRefIdeal Cert.RouterRefIdeal.Gen Idealize.ShloMosaic Idealize.ShloMosaic.TcCoe Idealize.SL.Sem
open Cert.RouterSpec Cert.RouterTop

/-- The scores of row `n`. -/
def sc (a : FVec Ideal S8192x2048 .bf16) (b : FVec Ideal S2048x8 .bf16) (n : ℕ) (i : Fin 8) : EReal :=
  ∑ d : Fin 2048, a (ix2 ⟨n % 8192, Nat.mod_lt _ (by omega)⟩ d) * b (ix2 d i)

/-- The matrix of scores. -/
def logits (a : FVec Ideal S8192x2048 .bf16) (b : FVec Ideal S2048x8 .bf16) : FVec Ideal S8192x8 .f32 :=
  Host.dotGeneral dot_S8192x2048_S2048x8_S8192x8_1_0_0_1_n_n none (extf .f32 a bitsLt_bf16_f32) (extf .f32 b bitsLt_bf16_f32)

theorem logits_at (a : FVec Ideal S8192x2048 .bf16) (b : FVec Ideal S2048x8 .bf16) (i : Fin 8192) (e : Fin 8) :
    logits a b (ix2 i e) = sc a b i.val e := by
  have hi : (⟨i.val % 8192, Nat.mod_lt _ (by omega)⟩ : Fin 8192) = i := Fin.ext (Nat.mod_eq_of_lt i.isLt)
  unfold logits sc
  rw [hi]
  pointwise []

variable (L : FVec Ideal S8192x8 .f32)

/-- A row of the matrix. -/
def row (i : Fin 8192) (e : Fin 8) : EReal := L (ix2 i e)

/-- The two greatest scores of every row, -/
def vals : FVec Ideal S8192x2 .f32 := (Host.topK S8192x2 1 (FloatOps.cmpfTotal .gt) L sliceFits_S8192x8_S8192x2).1
/-- and which they are. -/
def idxs : IVec S8192x2 32 := (Host.topK S8192x2 1 (FloatOps.cmpfTotal .gt) L sliceFits_S8192x8_S8192x2).2

theorem vals_at (i : Fin 8192) (k : Fin 2) : vals L (ix2 i k) = row L i (place (row L i) (nth k)) := top_val L _ i k
theorem idxs_at (i : Fin 8192) (k : Fin 2) : idxs L (ix2 i k) = BitVec.ofNat 32 (place (row L i) (nth k)).val := top_idx L _ i k

/-- The marks of both choices. -/
def hot : FVec Ideal S8192x2x128 .f32 :=
  uitofp .f32 (cmpi .eq (broadcastInDim S8192x2x128 ![0, 1, 2] bcast_S8192x2x1_S8192x2x128_0_1_2 (broadcastInDim S8192x2x1 ![0, 1] bcast_S8192x2_S8192x2x1_0_1 (idxs L)))
    (broadcastInDim S8192x2x128 ![0, 1, 2] bcast_S1x1x128_S8192x2x128_0_1_2 (iotaInDim S1x1x128 32 2)))

/-- A comparison as a number. -/
theorem bit_mark (p : Fin 8) (e : Fin 128) :
    (((IntOp.cmpi .eq (BitVec.ofNat 32 p.val) (BitVec.ofNat 32 e.val)).toNat : ℝ) : EReal) = mark p e := by
  have h := cmp_eq (a := p.val) (b := e.val) (by omega) (by omega)
  unfold mark
  by_cases he : e = lane p
  · rw [if_pos he, h.mpr (congrArg Fin.val he).symm]
    exact congrArg (fun r : ℝ => (r : EReal)) Nat.cast_one
  · rw [if_neg he]
    have hb : ∀ b : BitVec 1, ¬b = 1#1 → b = 0#1 := by decide
    rw [hb _ fun hc => he (Fin.ext (h.mp hc).symm)]
    exact congrArg (fun r : ℝ => (r : EReal)) Nat.cast_zero

theorem hot_at (i : Fin 8192) (k : Fin 2) (e : Fin 128) : hot L (ix3 i k e) = mark (place (row L i) (nth k)) e := by
  unfold hot
  pointwise [idxs_at]
  exact bit_mark _ e

/-- The numbers under the softmax, from the greatest of each row. -/
def expd : FVec Ideal S8192x2 .f32 :=
  Host.exp (subf (vals L) (broadcastInDim S8192x2 ![0, 1] bcast_S8192x1_S8192x2_0_1 (broadcastInDim S8192x1 ![0] bcast_S8192_S8192x1_0
    (maximumf (broadcastInDim S8192 ![] bcast_S_S8192 (constant S_ .f32 0xFF800000#32))
      (Host.reduce FloatOps.maximumf (vals L) (constant S_ .f32 0xFF800000#32) reducesTo_S8192x2_S8192_d1 h_S_)))))

theorem expd_at (i : Fin 8192) (k : Fin 2) :
    expd L (ix2 i k) = Ideal.exp (row L i (place (row L i) (nth k)) - row L i (first (row L i))) := by
  unfold expd
  pointwise [vals_at]
  have hb : Ideal.ofBits .f32 0xFF800000#32 = ⊥ := by simp [Ideal.ofBits, Ideal.ieee]
  have hm : Finset.univ.fold max ⊥ (fun x : Fin 2 => row L i (place (row L i) (nth x))) = row L i (first (row L i)) := by
    refine le_antisymm ((Finset.fold_max_le _).mpr ⟨bot_le, fun x _ => ?_⟩)
      ((Finset.le_fold_max _).mpr (Or.inr ⟨0, Finset.mem_univ _, le_rfl⟩))
    by_cases hx : place (row L i) (nth x) = first (row L i)
    · rw [hx]
    · exact (first_beats _ hx).le
  rw [hb, max_eq_right bot_le, hm]

/-- The exponential of zero. -/
theorem exp_zero : Ideal.exp ((0 : ℝ) : EReal) = 1 := by
  show ((Real.exp 0 : ℝ) : EReal) = 1
  rw [Real.exp_zero]
  rfl

/-- The softmax of the two. -/
def soft : FVec Ideal S8192x2 .f32 :=
  Host.divf (expd L) (broadcastInDim S8192x2 ![0, 1] bcast_S8192x1_S8192x2_0_1 (broadcastInDim S8192x1 ![0] bcast_S8192_S8192x1_0
    (Host.reduceAdd (expd L) (constant S_ .f32 0x00000000#32) reducesTo_S8192x2_S8192_d1 h_S_)))

theorem soft_at (i : Fin 8192) (k : Fin 2) (h : row L i (first (row L i)) ≠ ⊥ ∧ row L i (first (row L i)) ≠ ⊤) :
    soft L (ix2 i k) = Ideal.div (if k = 0 then 1 else odds (row L i)) (1 + odds (row L i)) := by
  have h0 : Ideal.exp (row L i (first (row L i)) - row L i (first (row L i))) = 1 := by
    rw [← EReal.coe_toReal h.2 h.1, ← EReal.coe_sub, sub_self]
    exact exp_zero
  unfold soft
  pointwise [expd_at]
  rw [Fin.sum_univ_two]
  show Ideal.div _ (Ideal.exp (row L i (first (row L i)) - row L i (first (row L i))) + odds (row L i)) = _
  rw [h0]
  match k with
  | ⟨0, _⟩ => exact congrArg (fun q => Ideal.div q _) h0
  | ⟨1, _⟩ => rfl

/-- The weights. -/
def combine : FVec Ideal S8192x128 .f32 :=
  Host.reduceAdd (mulf (hot L) (broadcastInDim S8192x2x128 ![0, 1, 2] bcast_S8192x2x1_S8192x2x128_0_1_2 (broadcastInDim S8192x2x1 ![0, 1] bcast_S8192x2_S8192x2x1_0_1 (soft L))))
    (constant S_ .f32 0x00000000#32) reducesTo_S8192x2x128_S8192x128_d1 h_S_

theorem combine_at (i : Fin 8192) (h : row L i (first (row L i)) ≠ ⊥ ∧ row L i (first (row L i)) ≠ ⊤) (e : Fin 128) : combine L (ix2 i e) = weight (row L i) e := by
  unfold combine
  pointwise [hot_at]
  simp only [soft_at L i _ h]
  rw [Fin.sum_univ_two]
  show mark (first (row L i)) e * Ideal.div 1 (1 + odds (row L i)) + mark (second (row L i)) e * Ideal.div (odds (row L i)) (1 + odds (row L i)) = _
  unfold mark weight
  rw [ite_mul, ite_mul, one_mul, one_mul, zero_mul, zero_mul]

/-- The first choices and the second. -/
def hot0 : FVec Ideal S8192x128 .f32 :=
  shapeCast _ (extractStridedSlice S8192x1x128 ![0, 0, 0] (hot L) slices_S8192x2x128_S8192x1x128_0_0_0) shapeCasts_S8192x1x128_S8192x128
def hot1 : FVec Ideal S8192x128 .f32 :=
  shapeCast _ (extractStridedSlice S8192x1x128 ![0, 1, 0] (hot L) slices_S8192x2x128_S8192x1x128_0_1_0) shapeCasts_S8192x1x128_S8192x128

theorem hot0_at (i : Fin 8192) (e : Fin 128) : hot0 L (ix2 i e) = mark (first (row L i)) e := by
  unfold hot0
  pointwise [hot_at]
  rfl

theorem hot1_at (i : Fin 8192) (e : Fin 128) : hot1 L (ix2 i e) = mark (second (row L i)) e := by
  unfold hot1
  pointwise [hot_at]
  rfl

/-- Both marks together. -/
def sel : FVec Ideal S8192x128 .f32 :=
  Host.reduceAdd (hot L) (constant S_ .f32 0x00000000#32) reducesTo_S8192x2x128_S8192x128_d1 h_S_

theorem sel_at (i : Fin 8192) (e : Fin 128) : sel L (ix2 i e) = chosen (row L i) e := by
  unfold sel
  pointwise [hot_at]
  rw [Fin.sum_univ_two]
  rfl

/-- The running counts, -/
def total : FVec Ideal S8192x128 .f32 :=
  Host.reduceWindowAdd ![8192, 1] ![1, 1] ![8191, 0] ![0, 0] (sel L) (broadcastInDim S_ ![] bcast_S_S_ (constant S_ .f32 0x00000000#32))
    reduceWindows_S8192x128_S8192x128_w8192s1p8191_0_w1s1p0_0 h_S_
/-- the counts of the rows before, -/
def before : FVec Ideal S8192x128 .f32 := subf (total L) (sel L)
/-- and the counts of all rows. -/
def all : FVec Ideal S8x128 .f32 :=
  broadcastInDim S8x128 ![1] bcast_S128_S8x128_1 (shapeCast _ (extractStridedSlice S1x128 ![8191, 0] (total L) slices_S8192x128_S1x128_8191_0) shapeCasts_S1x128_S128)

theorem total_at (X : ℕ → Fin 8 → EReal) (hX : ∀ i : Fin 8192, row L i = X i.val) (i : Fin 8192) (e : Fin 128) :
    total L (ix2 i e) = RouterSpec.count X (i.val + 1) e := by
  unfold RouterSpec.count
  refine Cert.RouterRunning.running (R := 8192) (b := 8191) rfl (sel L) (fun n => chosen (X n) e) e (fun i => ?_) _ (fun _ => ?_) _ _ i
  · exact (sel_at L i e).trans (congrArg (fun x => chosen x e) (hX i))
  · pointwise []

/-- A pair of marks is a real number. -/
theorem chosen_real (x : Fin 8 → EReal) (e : Fin 128) : ∃ r : ℝ, chosen x e = (r : EReal) := by
  have hm : ∀ i, ∃ r : ℝ, mark i e = (r : EReal) := fun i => by
    unfold mark
    split
    · exact ⟨1, rfl⟩
    · exact ⟨0, rfl⟩
  obtain ⟨a, ha⟩ := hm (first x)
  obtain ⟨b, hb⟩ := hm (second x)
  exact ⟨a + b, by rw [chosen, ha, hb, EReal.coe_add]⟩

theorem before_at (X : ℕ → Fin 8 → EReal) (hX : ∀ i : Fin 8192, row L i = X i.val) (i : Fin 8192) (e : Fin 128) :
    before L (ix2 i e) = RouterSpec.count X i.val e := by
  show total L (ix2 i e) - sel L (ix2 i e) = _
  rw [total_at L X hX, sel_at, hX]
  obtain ⟨r, hr⟩ := chosen_real (X i.val) e
  unfold RouterSpec.count
  rw [Finset.sum_range_succ, hr, EReal.add_sub_cancel_right]

theorem all_at (X : ℕ → Fin 8 → EReal) (hX : ∀ i : Fin 8192, row L i = X i.val) (p : Fin 8) (e : Fin 128) :
    all L (ix2 p e) = RouterSpec.count X 8192 e := by
  unfold all
  pointwise [total_at L X hX]

end Cert.RouterRefIdeal.Read

end
-- ==== Proof.RouterClaim.lean ====
module

public import proofs.«01_k».proof.Defs
public import proofs.«01_k».proof.Proof.Gen.Pre_finite
public import proofs.«01_k».proof.Proof.RouterArrays
public import proofs.«01_k».proof.Proof.RouterRef

/-! # The router: kernel and reference

Where every entry of the activations and of the gate is a real number, so is every score; then the kernel's two picks are
the first two experts in the reference's order, and everything else follows from the picks.
-/

@[expose] public section

set_option maxRecDepth 131072

noncomputable section

namespace Cert.RouterClaim

open Idealize.ShloMosaic Idealize.ShloMosaic.TcCoe Idealize.SL.Sem
open Cert.RouterSpec Cert.RouterIdeal.Val Cert.RouterRefIdeal.Read

/-- The reference ends, keeps its arguments, and has no counter that could move. -/
theorem frame_ref : Cert.quiescent_RouterRefIdeal (hRouterRefIdeal := Cert.RouterRefIdeal.Gen.facts) := fun m ρ _ =>
  (θ_run Cert.RouterRefIdeal.defs _ _).mono (fun r h => ⟨fun c => (h c).2.2.2.2.2, sem_eq_zero_of_no_sems (by decide) r.2⟩)
    (Cert.RouterRefIdeal.Value.run (F := Ideal) m ρ)

section
variable (m : (ℓ : Loc Cert.RouterIdeal.nD Cert.RouterIdeal.τ Cert.RouterIdeal.sig) → Buf (Elt Ideal) ℓ) (c : Dev Cert.RouterIdeal.nD)

/-- Under the precondition every score is a real number. -/
theorem scores_real (hp : Cert.Pre_RouterIdeal_finite (hPre_finite := Cert.Pre_finite.Gen.facts) m) (n : ℕ) (i : Fin 8) :
    rowScores m c n i ≠ ⊥ ∧ rowScores m c n i ≠ ⊤ := by
  have d := @Cert.RouterFinite.decode Cert.Pre_finite.Gen.facts _ _ (hp c)
  exact Cert.RouterFinite.sum_ne _ _ (fun k => d.1 _) (fun k => d.2 _)

/-- The reference's matrix of scores, over the kernel's arguments. -/
def mat : FVec Ideal Cert.RouterRefIdeal.S8192x8 .f32 :=
  logits (m ((c : Thread Cert.RouterIdeal.nD Cert.RouterIdeal.τ).loc Cert.RouterIdeal.main_arg0))
    (m ((c : Thread Cert.RouterIdeal.nD Cert.RouterIdeal.τ).loc Cert.RouterIdeal.main_arg1))

/-- Its rows are the kernel's. -/
theorem mat_row (i : Fin 8192) : row (mat m c) i = rowScores m c i.val :=
  funext fun e => logits_at _ _ i e

theorem eq2 (h : ∀ n i, rowScores m c n i ≠ ⊥ ∧ rowScores m c n i ≠ ⊤) : combine (mat m c) = arr2 m c := by
  funext j
  idx_vars j
  refine (combine_at _ j0 (by rw [mat_row]; exact h _ _) j1).trans ?_
  rw [mat_row]
  rfl

theorem eq3 : hot0 (mat m c) = arr3 m c := by
  funext j
  idx_vars j
  refine (hot0_at _ j0 j1).trans ?_
  rw [mat_row]
  rfl

theorem eq4 : hot1 (mat m c) = arr4 m c := by
  funext j
  idx_vars j
  refine (hot1_at _ j0 j1).trans ?_
  rw [mat_row]
  rfl

theorem eq5 : before (mat m c) = arr5 m c := by
  funext j
  idx_vars j
  exact before_at _ (rowScores m c) (mat_row m c) j0 j1

theorem eq6 : all (mat m c) = arr6 m c := by
  funext j
  idx_vars j
  exact all_at _ (rowScores m c) (mat_row m c) j0 j1
end

/-- Kernel and reference compute the same five arrays over the extended reals. -/
theorem algebraic : Cert.algebraic_RouterIdeal_RouterRefIdeal_pre_finite (hRouterIdeal := Cert.RouterIdeal.Gen.facts)
    (hRouterRefIdeal := Cert.RouterRefIdeal.Gen.facts) (hPre_finite := Cert.Pre_finite.Gen.facts) := by
  intro m ρ m' ρ' hp hag
  have hX := fun c n i => (scores_real m c hp n i).1
  refine ⟨fun c => arr2 m c, fun c => arr3 m c, fun c => arr4 m c, fun c => arr5 m c, fun c => arr6 m c,
    (θ_run _ _ _).mono (fun _ h c => ⟨(h c).1.trans (final2 m c (hX c)), (h c).2.1.trans (final3 m c (hX c)), (h c).2.2.1.trans (final4 m c (hX c)),
      (h c).2.2.2.1.trans (final5 m c (hX c)), (h c).2.2.2.2.1.trans (final6 m c (hX c)), (h c).2.2.2.2.2⟩)
      (Cert.RouterIdeal.Value.run (F := Ideal) m ρ),
    (θ_run _ _ _).mono (fun _ h c => ?_) (Cert.RouterRefIdeal.Value.run (F := Ideal) m' ρ')⟩
  obtain ⟨e0, e1⟩ := hag c
  obtain ⟨r2, r3, r4, r5, r6, ra⟩ := h c
  rw [e0, e1] at r2 r3 r4 r5 r6
  exact ⟨r2.trans (eq2 m c (scores_real m c hp)), r3.trans (eq3 m c), r4.trans (eq4 m c), r5.trans (eq5 m c), r6.trans (eq6 m c), ra⟩

end Cert.RouterClaim

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.Moe
public import proofs.«01_k».proof.Proof.Gen.Moe.Skeleton
public import proofs.«01_k».proof.Proof.Gen.Moe.Launch
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeRefIdeal
public import proofs.«01_k».proof.Proof.Gen.MoeRefIdeal.Run
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.Small
public import proofs.«01_k».proof.Proof.Gen.Small.Skeleton
public import proofs.«01_k».proof.Proof.Gen.Small.Launch
public import proofs.«01_k».proof.Proof.Gen.Small.Points
public import proofs.«01_k».proof.Proof.Gen.Small.Frame
public import proofs.«01_k».proof.Proof.Gen.SmallIdeal
public import proofs.«01_k».proof.Proof.Gen.SmallIdeal.Skeleton
public import proofs.«01_k».proof.Proof.Gen.SmallIdeal.Launch
public import proofs.«01_k».proof.Proof.Gen.SmallIdeal.Points
public import proofs.«01_k».proof.Proof.Gen.SmallIdeal.Frame
public import proofs.«01_k».proof.Proof.Gen.SmallIdeal.Value
public import proofs.«01_k».proof.Proof.Gen.SmallRefIdeal
public import proofs.«01_k».proof.Proof.Gen.SmallRefIdeal.Run
public import proofs.«01_k».proof.Proof.Gen.VProj
public import proofs.«01_k».proof.Proof.Gen.VProj.Skeleton
public import proofs.«01_k».proof.Proof.Gen.VProj.Launch
public import proofs.«01_k».proof.Proof.Gen.VProj.Points
public import proofs.«01_k».proof.Proof.Gen.VProj.Frame
public import proofs.«01_k».proof.Proof.Gen.VProjIdeal
public import proofs.«01_k».proof.Proof.Gen.VProjIdeal.Skeleton
public import proofs.«01_k».proof.Proof.Gen.VProjIdeal.Launch
public import proofs.«01_k».proof.Proof.Gen.VProjIdeal.Points
public import proofs.«01_k».proof.Proof.Gen.VProjIdeal.Frame
public import proofs.«01_k».proof.Proof.Gen.VProjIdeal.Value
public import proofs.«01_k».proof.Proof.Gen.VProjRefIdeal
public import proofs.«01_k».proof.Proof.Gen.VProjRefIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.RopeQ
public import proofs.«01_k».proof.Proof.Gen.RopeQ.Skeleton
public import proofs.«01_k».proof.Proof.Gen.RopeQ.Launch
public import proofs.«01_k».proof.Proof.Gen.RopeQ.Points
public import proofs.«01_k».proof.Proof.Gen.RopeQ.Frame
public import proofs.«01_k».proof.Proof.Gen.RopeQIdeal
public import proofs.«01_k».proof.Proof.Gen.RopeQIdeal.Skeleton
public import proofs.«01_k».proof.Proof.Gen.RopeQIdeal.Launch
public import proofs.«01_k».proof.Proof.Gen.RopeQIdeal.Points
public import proofs.«01_k».proof.Proof.Gen.RopeQIdeal.Frame
public import proofs.«01_k».proof.Proof.Gen.RopeQIdeal.Value
public import proofs.«01_k».proof.Proof.Gen.RopeQRefIdeal
public import proofs.«01_k».proof.Proof.Gen.RopeQRefIdeal.Run
public import proofs.«01_k».proof.Proof.Gen.RopeK
public import proofs.«01_k».proof.Proof.Gen.RopeK.Skeleton
public import proofs.«01_k».proof.Proof.Gen.RopeK.Launch
public import proofs.«01_k».proof.Proof.Gen.RopeK.Points
public import proofs.«01_k».proof.Proof.Gen.RopeK.Frame
public import proofs.«01_k».proof.Proof.Gen.RopeKIdeal
public import proofs.«01_k».proof.Proof.Gen.RopeKIdeal.Skeleton
public import proofs.«01_k».proof.Proof.Gen.RopeKIdeal.Launch
public import proofs.«01_k».proof.Proof.Gen.RopeKIdeal.Points
public import proofs.«01_k».proof.Proof.Gen.RopeKIdeal.Frame
public import proofs.«01_k».proof.Proof.Gen.RopeKIdeal.Value
public import proofs.«01_k».proof.Proof.Gen.RopeKRefIdeal
public import proofs.«01_k».proof.Proof.Gen.RopeKRefIdeal.Run
public import proofs.«01_k».proof.Proof.Gen.RopeIx
public import proofs.«01_k».proof.Proof.Gen.RopeIx.Skeleton
public import proofs.«01_k».proof.Proof.Gen.RopeIx.Launch
public import proofs.«01_k».proof.Proof.Gen.RopeIx.Points
public import proofs.«01_k».proof.Proof.Gen.RopeIx.Frame
public import proofs.«01_k».proof.Proof.Gen.RopeIxIdeal
public import proofs.«01_k».proof.Proof.Gen.RopeIxIdeal.Skeleton
public import proofs.«01_k».proof.Proof.Gen.RopeIxIdeal.Launch
public import proofs.«01_k».proof.Proof.Gen.RopeIxIdeal.Points
public import proofs.«01_k».proof.Proof.Gen.RopeIxIdeal.Frame
public import proofs.«01_k».proof.Proof.Gen.RopeIxIdeal.Value
public import proofs.«01_k».proof.Proof.Gen.RopeIxRefIdeal
public import proofs.«01_k».proof.Proof.Gen.RopeIxRefIdeal.Run
public import proofs.«01_k».proof.Proof.Gen.Pre_tables
public import proofs.«01_k».proof.Proof.Gen.Pre_finite
public import proofs.«01_k».proof.Proof.ScanClaim
public import proofs.«01_k».proof.Proof.FfnFrame
public import proofs.«01_k».proof.Proof.FfnClaim
public import proofs.«01_k».proof.Proof.MoeFrameClaim
public import proofs.«01_k».proof.Proof.MoeClaim
public import proofs.«01_k».proof.Proof.InProjClaim
public import proofs.«01_k».proof.Proof.SmallClaim
public import proofs.«01_k».proof.Proof.VProjClaim
public import proofs.«01_k».proof.Proof.MergeClaim
public import proofs.«01_k».proof.Proof.RopeQClaim
public import proofs.«01_k».proof.Proof.RopeKClaim
public import proofs.«01_k».proof.Proof.RopeIxClaim
public import proofs.«01_k».proof.Proof.Gen.RopeKix
public import proofs.«01_k».proof.Proof.Gen.RopeKix.Skeleton
public import proofs.«01_k».proof.Proof.Gen.RopeKix.Launch
public import proofs.«01_k».proof.Proof.Gen.RopeKix.Points
public import proofs.«01_k».proof.Proof.Gen.RopeKix.Frame
public import proofs.«01_k».proof.Proof.Gen.RopeKixIdeal
public import proofs.«01_k».proof.Proof.Gen.RopeKixIdeal.Skeleton
public import proofs.«01_k».proof.Proof.Gen.RopeKixIdeal.Launch
public import proofs.«01_k».proof.Proof.Gen.RopeKixIdeal.Points
public import proofs.«01_k».proof.Proof.Gen.RopeKixIdeal.Frame
public import proofs.«01_k».proof.Proof.Gen.RopeKixIdeal.Value
public import proofs.«01_k».proof.Proof.Gen.RopeKixRefIdeal
public import proofs.«01_k».proof.Proof.Gen.RopeKixRefIdeal.Run
public import proofs.«01_k».proof.Proof.RopeKixClaim
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.NormClaim
public import proofs.«01_k».proof.Proof.Gen.Router
public import proofs.«01_k».proof.Proof.Gen.Router.Skeleton
public import proofs.«01_k».proof.Proof.Gen.Router.Launch
public import proofs.«01_k».proof.Proof.Gen.Router.Points
public import proofs.«01_k».proof.Proof.Gen.Router.Frame
public import proofs.«01_k».proof.Proof.Gen.RouterIdeal
public import proofs.«01_k».proof.Proof.Gen.RouterIdeal.Skeleton
public import proofs.«01_k».proof.Proof.Gen.RouterIdeal.Launch
public import proofs.«01_k».proof.Proof.Gen.RouterIdeal.Points
public import proofs.«01_k».proof.Proof.Gen.RouterIdeal.Frame
public import proofs.«01_k».proof.Proof.Gen.RouterIdeal.Value
public import proofs.«01_k».proof.Proof.Gen.RouterRefIdeal
public import proofs.«01_k».proof.Proof.Gen.RouterRefIdeal.Run
public import proofs.«01_k».proof.Proof.RouterClaim
public import Idealize.ShloMosaic.Adequacy
public import Idealize.ShloMosaic.Init

@[expose] public section

noncomputable section

namespace Cert.Proof

open Idealize.ShloMosaic Idealize.SL.Sem Cert.Kernel

/-- Everything that is claimed. -/
theorem claim : Cert.Claim := ⟨Cert.Kernel.Gen.facts, Cert.KernelIdeal.Gen.facts, Cert.ReferenceIdeal.Gen.facts, Cert.Ffn.Gen.facts, Cert.FfnIdeal.Gen.facts, Cert.FfnRefIdeal.Gen.facts,
  Cert.Moe.Gen.facts, Cert.MoeIdeal.Gen.facts, Cert.MoeRefIdeal.Gen.facts,
  Cert.InProj.Gen.facts, Cert.InProjIdeal.Gen.facts, Cert.InProjRefIdeal.Gen.facts,
  Cert.Small.Gen.facts, Cert.SmallIdeal.Gen.facts, Cert.SmallRefIdeal.Gen.facts,
  Cert.VProj.Gen.facts, Cert.VProjIdeal.Gen.facts, Cert.VProjRefIdeal.Gen.facts,
  Cert.Merge.Gen.facts, Cert.MergeIdeal.Gen.facts, Cert.MergeRefIdeal.Gen.facts,
  Cert.RopeQ.Gen.facts, Cert.RopeQIdeal.Gen.facts, Cert.RopeQRefIdeal.Gen.facts,
  Cert.RopeK.Gen.facts, Cert.RopeKIdeal.Gen.facts, Cert.RopeKRefIdeal.Gen.facts,
  Cert.RopeIx.Gen.facts, Cert.RopeIxIdeal.Gen.facts, Cert.RopeIxRefIdeal.Gen.facts,
  Cert.RopeKix.Gen.facts, Cert.RopeKixIdeal.Gen.facts, Cert.RopeKixRefIdeal.Gen.facts,
  Cert.Norm.Gen.facts, Cert.NormIdeal.Gen.facts, Cert.NormRefIdeal.Gen.facts,
  Cert.Router.Gen.facts, Cert.RouterIdeal.Gen.facts, Cert.RouterRefIdeal.Gen.facts,
  Cert.Pre_tables.Gen.facts, Cert.Pre_finite.Gen.facts,
  fun m ρ _ => Cert.Kernel.Gen.frame m ρ,
  fun m ρ _ => Cert.KernelIdeal.Gen.frame m ρ,
  Cert.ScanClaim.frame_ref,
  fun m ρ _ => Cert.Ffn.Gen.frame m ρ,
  fun m ρ _ => Cert.FfnIdeal.Gen.frame m ρ,
  Cert.FfnClaim.frame_ref,
  Cert.MoeClaim.frame_bits,
  Cert.MoeClaim.frame_ideal,
  Cert.MoeClaim.frame_ref,
  fun m ρ _ => Cert.InProj.Gen.frame m ρ,
  fun m ρ _ => Cert.InProjIdeal.Gen.frame m ρ,
  Cert.InProjClaim.frame_ref,
  fun m ρ _ => Cert.Small.Gen.frame m ρ,
  fun m ρ _ => Cert.SmallIdeal.Gen.frame m ρ,
  Cert.SmallClaim.frame_ref,
  fun m ρ _ => Cert.VProj.Gen.frame m ρ,
  fun m ρ _ => Cert.VProjIdeal.Gen.frame m ρ,
  Cert.VProjClaim.frame_ref,
  fun m ρ _ => Cert.Merge.Gen.frame m ρ,
  fun m ρ _ => Cert.MergeIdeal.Gen.frame m ρ,
  Cert.MergeClaim.frame_ref,
  fun m ρ _ => Cert.RopeQ.Gen.frame m ρ,
  fun m ρ _ => Cert.RopeQIdeal.Gen.frame m ρ,
  Cert.RopeQClaim.frame_ref,
  fun m ρ _ => Cert.RopeK.Gen.frame m ρ,
  fun m ρ _ => Cert.RopeKIdeal.Gen.frame m ρ,
  Cert.RopeKClaim.frame_ref,
  fun m ρ _ => Cert.RopeIx.Gen.frame m ρ,
  fun m ρ _ => Cert.RopeIxIdeal.Gen.frame m ρ,
  Cert.RopeIxClaim.frame_ref,
  fun m ρ _ => Cert.RopeKix.Gen.frame m ρ,
  fun m ρ _ => Cert.RopeKixIdeal.Gen.frame m ρ,
  Cert.RopeKixClaim.frame_ref,
  fun m ρ _ => Cert.Norm.Gen.frame m ρ,
  fun m ρ _ => Cert.NormIdeal.Gen.frame m ρ,
  Cert.NormClaim.frame_ref,
  fun m ρ _ => Cert.Router.Gen.frame m ρ,
  fun m ρ _ => Cert.RouterIdeal.Gen.frame m ρ,
  fun m ρ _ => Cert.RouterIdeal.Gen.frame m ρ,
  Cert.RouterClaim.frame_ref,
  fun m ρ _ => Cert.RouterClaim.frame_ref m ρ trivial,
  trivial,
  Cert.ScanClaim.algebraic,
  trivial,
  Cert.FfnClaim.algebraic,
  trivial,
  Cert.MoeClaim.algebraic,
  trivial,
  Cert.InProjClaim.algebraic,
  trivial,
  Cert.SmallClaim.algebraic,
  trivial,
  Cert.VProjClaim.algebraic,
  trivial,
  Cert.MergeClaim.algebraic,
  trivial,
  Cert.RopeQClaim.algebraic,
  trivial,
  Cert.RopeKClaim.algebraic,
  trivial,
  Cert.RopeIxClaim.algebraic,
  trivial,
  Cert.RopeKixClaim.algebraic,
  trivial,
  Cert.NormClaim.algebraic,
  trivial,
  Cert.RouterClaim.algebraic⟩

end Cert.Proof

end
